-- ==== Defs.lean ====
def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_input_finite [hPre_input_finite : Cert.Pre_input_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_input_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).1 = (fun _ => 1#1)
    ∧ (Cert.Pre_input_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_input_finite [hPre_input_finite : Cert.Pre_input_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_input_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).1 = (fun _ => 1#1)
    ∧ (Cert.Pre_input_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2.2 = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_finite [hPre_mlp_finite : Cert.Pre_mlp_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.2.2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.2.2.2.2.2.1 = (fun _ => 1#1)
    ∧ (Cert.Pre_mlp_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5)) (m ((c.tc : Thread Cert.MlpBwdIdeal.nD Cert.MlpBwdIdeal.τ).loc Cert.MlpBwdIdeal.main_arg6)) (m ((c.tc : Thread Cert.MlpBwdIdeal.nD Cert.MlpBwdIdeal.τ).loc Cert.MlpBwdIdeal.main_arg7)) (m ((c.tc : Thread Cert.MlpBwdIdeal.nD Cert.MlpBwdIdeal.τ).loc Cert.MlpBwdIdeal.main_arg8)) (m ((c.tc : Thread Cert.MlpBwdIdeal.nD Cert.MlpBwdIdeal.τ).loc Cert.MlpBwdIdeal.main_arg9)) (m ((c.tc : Thread Cert.MlpBwdIdeal.nD Cert.MlpBwdIdeal.τ).loc Cert.MlpBwdIdeal.main_arg10))).2.2.2.2.2.2.2.2.2.2 = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_mlp_finite [hPre_mlp_finite : Cert.Pre_mlp_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.2.2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.2.2.2.2.2.1 = (fun _ => 1#1)
    ∧ (Cert.Pre_mlp_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4)) (m ((c.tc : Thread Cert.MlpBwdRefIdeal.nD Cert.MlpBwdRefIdeal.τ).loc Cert.MlpBwdRefIdeal.main_arg5)) (m ((c.tc : Thread Cert.MlpBwdRefIdeal.nD Cert.MlpBwdRefIdeal.τ).loc Cert.MlpBwdRefIdeal.main_arg6)) (m ((c.tc : Thread Cert.MlpBwdRefIdeal.nD Cert.MlpBwdRefIdeal.τ).loc Cert.MlpBwdRefIdeal.main_arg7)) (m ((c.tc : Thread Cert.MlpBwdRefIdeal.nD Cert.MlpBwdRefIdeal.τ).loc Cert.MlpBwdRefIdeal.main_arg8)) (m ((c.tc : Thread Cert.MlpBwdRefIdeal.nD Cert.MlpBwdRefIdeal.τ).loc Cert.MlpBwdRefIdeal.main_arg9)) (m ((c.tc : Thread Cert.MlpBwdRefIdeal.nD Cert.MlpBwdRefIdeal.τ).loc Cert.MlpBwdRefIdeal.main_arg10))).2.2.2.2.2.2.2.2.2.2 = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_mla_finite [hPre_mla_finite : Cert.Pre_mla_finite.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.2.2.2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4)) (m ((c.tc : Thread Cert.MlaBwdIdeal.nD Cert.MlaBwdIdeal.τ).loc Cert.MlaBwdIdeal.main_arg5)) (m ((c.tc : Thread Cert.MlaBwdIdeal.nD Cert.MlaBwdIdeal.τ).loc Cert.MlaBwdIdeal.main_arg6)) (m ((c.tc : Thread Cert.MlaBwdIdeal.nD Cert.MlaBwdIdeal.τ).loc Cert.MlaBwdIdeal.main_arg7)) (m ((c.tc : Thread Cert.MlaBwdIdeal.nD Cert.MlaBwdIdeal.τ).loc Cert.MlaBwdIdeal.main_arg8)) (m ((c.tc : Thread Cert.MlaBwdIdeal.nD Cert.MlaBwdIdeal.τ).loc Cert.MlaBwdIdeal.main_arg9))).2.2.2.2.2.2.2.2 = (fun _ => 1#1)

def Pre_MlaBwdRefIdeal (m : (ℓ : Loc Cert.MlaBwdRefIdeal.nD Cert.MlaBwdRefIdeal.τ Cert.MlaBwdRefIdeal.sig) → Buf (Elt Ideal) ℓ) : Prop :=
  True

def Pre_MlaBwdRefIdeal_mla_finite [hPre_mla_finite : Cert.Pre_mla_finite.Facts] (m : (ℓ : Loc Cert.MlaBwdRefIdeal.nD Cert.MlaBwdRefIdeal.τ Cert.MlaBwdRefIdeal.sig) → Buf (Elt Ideal) ℓ) : Prop :=
  ∀ c : Dev Cert.MlaBwdRefIdeal.nD,
    (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.2.2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.2.2.2.2.2.1 = (fun _ => 1#1)
    ∧ (Cert.Pre_mla_finite.fn (F := Ideal) (m ((c.tc : Thread Cert.MlaBwdRefIdeal.nD Cert.MlaBwdRefIdeal.τ).loc Cert.MlaBwdRefIdeal.main_arg0)) (m ((c.tc : Thread Cert.MlaBwdRefIdeal.nD Cert.MlaBwdRefIdeal.τ).loc Cert.MlaBwdRefIdeal.main_arg1)) (m ((c.tc : Thread Cert.MlaBwdRefIdeal.nD Cert.MlaBwdRefIdeal.τ).loc Cert.MlaBwdRefIdeal.main_arg2)) (m ((c.tc : Thread Cert.MlaBwdRefIdeal.nD Cert.MlaBwdRefIdeal.τ).loc Cert.MlaBwdRefIdeal.main_arg3)) (m ((c.tc : Thread Cert.MlaBwdRefIdeal.nD Cert.MlaBwdRefIdeal.τ).loc Cert.MlaBwdRefIdeal.main_arg4)) (m ((c.tc : Thread Cert.MlaBwdRefIdeal.nD Cert.MlaBwdRefIdeal.τ).loc Cert.MlaBwdRefIdeal.main_arg5)) (m ((c.tc : Thread Cert.MlaBwdRefIdeal.nD Cert.MlaBwdRefIdeal.τ).loc Cert.MlaBwdRefIdeal.main_arg6)) (m ((c.tc : Thread Cert.MlaBwdRefIdeal.nD Cert.MlaBwdRefIdeal.τ).loc Cert.MlaBwdRefIdeal.main_arg7)) (m ((c.tc : Thread Cert.MlaBwdRefIdeal.nD Cert.MlaBwdRefIdeal.τ).loc Cert.MlaBwdRefIdeal.main_arg8)) (m ((c.tc : Thread Cert.MlaBwdRefIdeal.nD Cert.MlaBwdRefIdeal.τ).loc Cert.MlaBwdRefIdeal.main_arg9))).2.2.2.2.2.2.2.2 = (fun _ => 1#1)

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdIdeal_mlf_finite [hPre_mlf_finite : Cert.Pre_mlf_finite.Facts] (m : (ℓ : Loc Cert.MlpFwdIdeal.nD Cert.MlpFwdIdeal.τ Cert.MlpFwdIdeal.sig) → Buf (Elt Ideal) ℓ) : Prop :=
  ∀ c : Dev Cert.MlpFwdIdeal.nD,
    (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.2.2.2.2.2.1 = (fun _ => 1#1)
    ∧ (Cert.Pre_mlf_finite.fn (F := Ideal) (m ((c.tc : Thread Cert.MlpFwdIdeal.nD Cert.MlpFwdIdeal.τ).loc Cert.MlpFwdIdeal.main_arg0)) (m ((c.tc : Thread Cert.MlpFwdIdeal.nD Cert.MlpFwdIdeal.τ).loc Cert.MlpFwdIdeal.main_arg1)) (m ((c.tc : Thread Cert.MlpFwdIdeal.nD Cert.MlpFwdIdeal.τ).loc Cert.MlpFwdIdeal.main_arg2)) (m ((c.tc : Thread Cert.MlpFwdIdeal.nD Cert.MlpFwdIdeal.τ).loc Cert.MlpFwdIdeal.main_arg3)) (m ((c.tc : Thread Cert.MlpFwdIdeal.nD Cert.MlpFwdIdeal.τ).loc Cert.MlpFwdIdeal.main_arg4)) (m ((c.tc : Thread Cert.MlpFwdIdeal.nD Cert.MlpFwdIdeal.τ).loc Cert.MlpFwdIdeal.main_arg5)) (m ((c.tc : Thread Cert.MlpFwdIdeal.nD Cert.MlpFwdIdeal.τ).loc Cert.MlpFwdIdeal.main_arg6)) (m ((c.tc : Thread Cert.MlpFwdIdeal.nD Cert.MlpFwdIdeal.τ).loc Cert.MlpFwdIdeal.main_arg7)) (m ((c.tc : Thread Cert.MlpFwdIdeal.nD Cert.MlpFwdIdeal.τ).loc Cert.MlpFwdIdeal.main_arg8)) (m ((c.tc : Thread Cert.MlpFwdIdeal.nD Cert.MlpFwdIdeal.τ).loc Cert.MlpFwdIdeal.main_arg9)) (m ((c.tc : Thread Cert.MlpFwdIdeal.nD Cert.MlpFwdIdeal.τ).loc Cert.MlpFwdIdeal.main_arg10)) (m ((c.tc : Thread Cert.MlpFwdIdeal.nD Cert.MlpFwdIdeal.τ).loc Cert.MlpFwdIdeal.main_arg11)) (m ((c.tc : Thread Cert.MlpFwdIdeal.nD Cert.MlpFwdIdeal.τ).loc Cert.MlpFwdIdeal.main_arg12))).2.2.2.2.2.2.2.2.2.2.2.2 = (fun _ => 1#1)

def Pre_MlpFwdRefIdeal (m : (ℓ : Loc Cert.MlpFwdRefIdeal.nD Cert.MlpFwdRefIdeal.τ Cert.MlpFwdRefIdeal.sig) → Buf (Elt Ideal) ℓ) : Prop :=
  True

def Pre_MlpFwdRefIdeal_mlf_finite [hPre_mlf_finite : Cert.Pre_mlf_finite.Facts] (m : (ℓ : Loc Cert.MlpFwdRefIdeal.nD Cert.MlpFwdRefIdeal.τ Cert.MlpFwdRefIdeal.sig) → Buf (Elt Ideal) ℓ) : Prop :=
  ∀ c : Dev Cert.MlpFwdRefIdeal.nD,
    (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.2.2.2.2.2.1 = (fun _ => 1#1)
    ∧ (Cert.Pre_mlf_finite.fn (F := Ideal) (m ((c.tc : Thread Cert.MlpFwdRefIdeal.nD Cert.MlpFwdRefIdeal.τ).loc Cert.MlpFwdRefIdeal.main_arg0)) (m ((c.tc : Thread Cert.MlpFwdRefIdeal.nD Cert.MlpFwdRefIdeal.τ).loc Cert.MlpFwdRefIdeal.main_arg1)) (m ((c.tc : Thread Cert.MlpFwdRefIdeal.nD Cert.MlpFwdRefIdeal.τ).loc Cert.MlpFwdRefIdeal.main_arg2)) (m ((c.tc : Thread Cert.MlpFwdRefIdeal.nD Cert.MlpFwdRefIdeal.τ).loc Cert.MlpFwdRefIdeal.main_arg3)) (m ((c.tc : Thread Cert.MlpFwdRefIdeal.nD Cert.MlpFwdRefIdeal.τ).loc Cert.MlpFwdRefIdeal.main_arg4)) (m ((c.tc : Thread Cert.MlpFwdRefIdeal.nD Cert.MlpFwdRefIdeal.τ).loc Cert.MlpFwdRefIdeal.main_arg5)) (m ((c.tc : Thread Cert.MlpFwdRefIdeal.nD Cert.MlpFwdRefIdeal.τ).loc Cert.MlpFwdRefIdeal.main_arg6)) (m ((c.tc : Thread Cert.MlpFwdRefIdeal.nD Cert.MlpFwdRefIdeal.τ).loc Cert.MlpFwdRefIdeal.main_arg7)) (m ((c.tc : Thread Cert.MlpFwdRefIdeal.nD Cert.MlpFwdRefIdeal.τ).loc Cert.MlpFwdRefIdeal.main_arg8)) (m ((c.tc : Thread Cert.MlpFwdRefIdeal.nD Cert.MlpFwdRefIdeal.τ).loc Cert.MlpFwdRefIdeal.main_arg9)) (m ((c.tc : Thread Cert.MlpFwdRefIdeal.nD Cert.MlpFwdRefIdeal.τ).loc Cert.MlpFwdRefIdeal.main_arg10)) (m ((c.tc : Thread Cert.MlpFwdRefIdeal.nD Cert.MlpFwdRefIdeal.τ).loc Cert.MlpFwdRefIdeal.main_arg11)) (m ((c.tc : Thread Cert.MlpFwdRefIdeal.nD Cert.MlpFwdRefIdeal.τ).loc Cert.MlpFwdRefIdeal.main_arg12))).2.2.2.2.2.2.2.2.2.2.2.2 = (fun _ => 1#1)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdIdeal_pre_input_finite [hInBwdIdeal : Cert.InBwdIdeal.Facts] [hPre_input_finite : Cert.Pre_input_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_input_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_InBwdRefIdeal_pre_input_finite [hInBwdRefIdeal : Cert.InBwdRefIdeal.Facts] [hPre_input_finite : Cert.Pre_input_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_input_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5)
      ∧ r.2.mem ((c.tc : Thread Cert.MlpBwd.nD Cert.MlpBwd.τ).loc Cert.MlpBwd.main_arg6) = m ((c.tc : Thread Cert.MlpBwd.nD Cert.MlpBwd.τ).loc Cert.MlpBwd.main_arg6)
      ∧ r.2.mem ((c.tc : Thread Cert.MlpBwd.nD Cert.MlpBwd.τ).loc Cert.MlpBwd.main_arg7) = m ((c.tc : Thread Cert.MlpBwd.nD Cert.MlpBwd.τ).loc Cert.MlpBwd.main_arg7)
      ∧ r.2.mem ((c.tc : Thread Cert.MlpBwd.nD Cert.MlpBwd.τ).loc Cert.MlpBwd.main_arg8) = m ((c.tc : Thread Cert.MlpBwd.nD Cert.MlpBwd.τ).loc Cert.MlpBwd.main_arg8)
      ∧ r.2.mem ((c.tc : Thread Cert.MlpBwd.nD Cert.MlpBwd.τ).loc Cert.MlpBwd.main_arg9) = m ((c.tc : Thread Cert.MlpBwd.nD Cert.MlpBwd.τ).loc Cert.MlpBwd.main_arg9)
      ∧ r.2.mem ((c.tc : Thread Cert.MlpBwd.nD Cert.MlpBwd.τ).loc Cert.MlpBwd.main_arg10) = m ((c.tc : Thread Cert.MlpBwd.nD Cert.MlpBwd.τ).loc Cert.MlpBwd.main_arg10))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
      ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
      ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
      ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9)
      ∧ r.2.mem ((c.tc : Thread Cert.MlpBwdIdeal.nD Cert.MlpBwdIdeal.τ).loc Cert.MlpBwdIdeal.main_arg10) = m ((c.tc : Thread Cert.MlpBwdIdeal.nD Cert.MlpBwdIdeal.τ).loc Cert.MlpBwdIdeal.main_arg10))
      ∧ r.2.sem = fun _ => 0)

def quiescent_MlpBwdIdeal_pre_mlp_finite [hMlpBwdIdeal : Cert.MlpBwdIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
      ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
      ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
      ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
      ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9)
      ∧ r.2.mem ((c.tc : Thread Cert.MlpBwdIdeal.nD Cert.MlpBwdIdeal.τ).loc Cert.MlpBwdIdeal.main_arg10) = m ((c.tc : Thread Cert.MlpBwdIdeal.nD Cert.MlpBwdIdeal.τ).loc Cert.MlpBwdIdeal.main_arg10))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5)
      ∧ r.2.mem ((c.tc : Thread Cert.MlpBwdRefIdeal.nD Cert.MlpBwdRefIdeal.τ).loc Cert.MlpBwdRefIdeal.main_arg6) = m ((c.tc : Thread Cert.MlpBwdRefIdeal.nD Cert.MlpBwdRefIdeal.τ).loc Cert.MlpBwdRefIdeal.main_arg6)
      ∧ r.2.mem ((c.tc : Thread Cert.MlpBwdRefIdeal.nD Cert.MlpBwdRefIdeal.τ).loc Cert.MlpBwdRefIdeal.main_arg7) = m ((c.tc : Thread Cert.MlpBwdRefIdeal.nD Cert.MlpBwdRefIdeal.τ).loc Cert.MlpBwdRefIdeal.main_arg7)
      ∧ r.2.mem ((c.tc : Thread Cert.MlpBwdRefIdeal.nD Cert.MlpBwdRefIdeal.τ).loc Cert.MlpBwdRefIdeal.main_arg8) = m ((c.tc : Thread Cert.MlpBwdRefIdeal.nD Cert.MlpBwdRefIdeal.τ).loc Cert.MlpBwdRefIdeal.main_arg8)
      ∧ r.2.mem ((c.tc : Thread Cert.MlpBwdRefIdeal.nD Cert.MlpBwdRefIdeal.τ).loc Cert.MlpBwdRefIdeal.main_arg9) = m ((c.tc : Thread Cert.MlpBwdRefIdeal.nD Cert.MlpBwdRefIdeal.τ).loc Cert.MlpBwdRefIdeal.main_arg9)
      ∧ r.2.mem ((c.tc : Thread Cert.MlpBwdRefIdeal.nD Cert.MlpBwdRefIdeal.τ).loc Cert.MlpBwdRefIdeal.main_arg10) = m ((c.tc : Thread Cert.MlpBwdRefIdeal.nD Cert.MlpBwdRefIdeal.τ).loc Cert.MlpBwdRefIdeal.main_arg10))
      ∧ r.2.sem = fun _ => 0)

def quiescent_MlpBwdRefIdeal_pre_mlp_finite [hMlpBwdRefIdeal : Cert.MlpBwdRefIdeal.Facts] [hPre_mlp_finite : Cert.Pre_mlp_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_mlp_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4)
      ∧ r.2.mem ((c.tc : Thread Cert.MlpBwdRefIdeal.nD Cert.MlpBwdRefIdeal.τ).loc Cert.MlpBwdRefIdeal.main_arg5) = m ((c.tc : Thread Cert.MlpBwdRefIdeal.nD Cert.MlpBwdRefIdeal.τ).loc Cert.MlpBwdRefIdeal.main_arg5)
      ∧ r.2.mem ((c.tc : Thread Cert.MlpBwdRefIdeal.nD Cert.MlpBwdRefIdeal.τ).loc Cert.MlpBwdRefIdeal.main_arg6) = m ((c.tc : Thread Cert.MlpBwdRefIdeal.nD Cert.MlpBwdRefIdeal.τ).loc Cert.MlpBwdRefIdeal.main_arg6)
      ∧ r.2.mem ((c.tc : Thread Cert.MlpBwdRefIdeal.nD Cert.MlpBwdRefIdeal.τ).loc Cert.MlpBwdRefIdeal.main_arg7) = m ((c.tc : Thread Cert.MlpBwdRefIdeal.nD Cert.MlpBwdRefIdeal.τ).loc Cert.MlpBwdRefIdeal.main_arg7)
      ∧ r.2.mem ((c.tc : Thread Cert.MlpBwdRefIdeal.nD Cert.MlpBwdRefIdeal.τ).loc Cert.MlpBwdRefIdeal.main_arg8) = m ((c.tc : Thread Cert.MlpBwdRefIdeal.nD Cert.MlpBwdRefIdeal.τ).loc Cert.MlpBwdRefIdeal.main_arg8)
      ∧ r.2.mem ((c.tc : Thread Cert.MlpBwdRefIdeal.nD Cert.MlpBwdRefIdeal.τ).loc Cert.MlpBwdRefIdeal.main_arg9) = m ((c.tc : Thread Cert.MlpBwdRefIdeal.nD Cert.MlpBwdRefIdeal.τ).loc Cert.MlpBwdRefIdeal.main_arg9)
      ∧ r.2.mem ((c.tc : Thread Cert.MlpBwdRefIdeal.nD Cert.MlpBwdRefIdeal.τ).loc Cert.MlpBwdRefIdeal.main_arg10) = m ((c.tc : Thread Cert.MlpBwdRefIdeal.nD Cert.MlpBwdRefIdeal.τ).loc Cert.MlpBwdRefIdeal.main_arg10))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4)
      ∧ r.2.mem ((c.tc : Thread Cert.MlaBwd.nD Cert.MlaBwd.τ).loc Cert.MlaBwd.main_arg5) = m ((c.tc : Thread Cert.MlaBwd.nD Cert.MlaBwd.τ).loc Cert.MlaBwd.main_arg5)
      ∧ r.2.mem ((c.tc : Thread Cert.MlaBwd.nD Cert.MlaBwd.τ).loc Cert.MlaBwd.main_arg6) = m ((c.tc : Thread Cert.MlaBwd.nD Cert.MlaBwd.τ).loc Cert.MlaBwd.main_arg6)
      ∧ r.2.mem ((c.tc : Thread Cert.MlaBwd.nD Cert.MlaBwd.τ).loc Cert.MlaBwd.main_arg7) = m ((c.tc : Thread Cert.MlaBwd.nD Cert.MlaBwd.τ).loc Cert.MlaBwd.main_arg7)
      ∧ r.2.mem ((c.tc : Thread Cert.MlaBwd.nD Cert.MlaBwd.τ).loc Cert.MlaBwd.main_arg8) = m ((c.tc : Thread Cert.MlaBwd.nD Cert.MlaBwd.τ).loc Cert.MlaBwd.main_arg8)
      ∧ r.2.mem ((c.tc : Thread Cert.MlaBwd.nD Cert.MlaBwd.τ).loc Cert.MlaBwd.main_arg9) = m ((c.tc : Thread Cert.MlaBwd.nD Cert.MlaBwd.τ).loc Cert.MlaBwd.main_arg9))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9))
      ∧ r.2.sem = fun _ => 0)

def quiescent_MlaBwdIdeal_pre_mla_finite [hMlaBwdIdeal : Cert.MlaBwdIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_mla_finite m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
      ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
      ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
      ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
      ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
      ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9))
      ∧ r.2.sem = fun _ => 0)

def quiescent_MlaBwdRefIdeal [hMlaBwdRefIdeal : Cert.MlaBwdRefIdeal.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5)
      ∧ r.2.mem ((c.tc : Thread Cert.MlaBwdRefIdeal.nD Cert.MlaBwdRefIdeal.τ).loc Cert.MlaBwdRefIdeal.main_arg6) = m ((c.tc : Thread Cert.MlaBwdRefIdeal.nD Cert.MlaBwdRefIdeal.τ).loc Cert.MlaBwdRefIdeal.main_arg6)
      ∧ r.2.mem ((c.tc : Thread Cert.MlaBwdRefIdeal.nD Cert.MlaBwdRefIdeal.τ).loc Cert.MlaBwdRefIdeal.main_arg7) = m ((c.tc : Thread Cert.MlaBwdRefIdeal.nD Cert.MlaBwdRefIdeal.τ).loc Cert.MlaBwdRefIdeal.main_arg7)
      ∧ r.2.mem ((c.tc : Thread Cert.MlaBwdRefIdeal.nD Cert.MlaBwdRefIdeal.τ).loc Cert.MlaBwdRefIdeal.main_arg8) = m ((c.tc : Thread Cert.MlaBwdRefIdeal.nD Cert.MlaBwdRefIdeal.τ).loc Cert.MlaBwdRefIdeal.main_arg8)
      ∧ r.2.mem ((c.tc : Thread Cert.MlaBwdRefIdeal.nD Cert.MlaBwdRefIdeal.τ).loc Cert.MlaBwdRefIdeal.main_arg9) = m ((c.tc : Thread Cert.MlaBwdRefIdeal.nD Cert.MlaBwdRefIdeal.τ).loc Cert.MlaBwdRefIdeal.main_arg9))
      ∧ r.2.sem = fun _ => 0)

def quiescent_MlaBwdRefIdeal_pre_mla_finite [hMlaBwdRefIdeal : Cert.MlaBwdRefIdeal.Facts] [hPre_mla_finite : Cert.Pre_mla_finite.Facts] : Prop :=
  ∀ (m : (ℓ : Loc Cert.MlaBwdRefIdeal.nD Cert.MlaBwdRefIdeal.τ Cert.MlaBwdRefIdeal.sig) → Buf (Elt Ideal) ℓ) (g : Dev Cert.MlaBwdRefIdeal.nD → PrngReg), Pre_MlaBwdRefIdeal_mla_finite m →
    θ_run (Cert.MlaBwdRefIdeal.defs (F := Ideal)) (onTc (τ := Cert.MlaBwdRefIdeal.τ) (Cert.MlaBwdRefIdeal.main (F := Ideal))) ⟨m, fun _ => 0, g⟩ (fun r => (∀ c : Dev Cert.MlaBwdRefIdeal.nD,
      r.2.mem ((c.tc : Thread Cert.MlaBwdRefIdeal.nD Cert.MlaBwdRefIdeal.τ).loc Cert.MlaBwdRefIdeal.main_arg0) = m ((c.tc : Thread Cert.MlaBwdRefIdeal.nD Cert.MlaBwdRefIdeal.τ).loc Cert.MlaBwdRefIdeal.main_arg0)
      ∧ r.2.mem ((c.tc : Thread Cert.MlaBwdRefIdeal.nD Cert.MlaBwdRefIdeal.τ).loc Cert.MlaBwdRefIdeal.main_arg1) = m ((c.tc : Thread Cert.MlaBwdRefIdeal.nD Cert.MlaBwdRefIdeal.τ).loc Cert.MlaBwdRefIdeal.main_arg1)
      ∧ r.2.mem ((c.tc : Thread Cert.MlaBwdRefIdeal.nD Cert.MlaBwdRefIdeal.τ).loc Cert.MlaBwdRefIdeal.main_arg2) = m ((c.tc : Thread Cert.MlaBwdRefIdeal.nD Cert.MlaBwdRefIdeal.τ).loc Cert.MlaBwdRefIdeal.main_arg2)
      ∧ r.2.mem ((c.tc : Thread Cert.MlaBwdRefIdeal.nD Cert.MlaBwdRefIdeal.τ).loc Cert.MlaBwdRefIdeal.main_arg3) = m ((c.tc : Thread Cert.MlaBwdRefIdeal.nD Cert.MlaBwdRefIdeal.τ).loc Cert.MlaBwdRefIdeal.main_arg3)
      ∧ r.2.mem ((c.tc : Thread Cert.MlaBwdRefIdeal.nD Cert.MlaBwdRefIdeal.τ).loc Cert.MlaBwdRefIdeal.main_arg4) = m ((c.tc : Thread Cert.MlaBwdRefIdeal.nD Cert.MlaBwdRefIdeal.τ).loc Cert.MlaBwdRefIdeal.main_arg4)
      ∧ r.2.mem ((c.tc : Thread Cert.MlaBwdRefIdeal.nD Cert.MlaBwdRefIdeal.τ).loc Cert.MlaBwdRefIdeal.main_arg5) = m ((c.tc : Thread Cert.MlaBwdRefIdeal.nD Cert.MlaBwdRefIdeal.τ).loc Cert.MlaBwdRefIdeal.main_arg5)
      ∧ r.2.mem ((c.tc : Thread Cert.MlaBwdRefIdeal.nD Cert.MlaBwdRefIdeal.τ).loc Cert.MlaBwdRefIdeal.main_arg6) = m ((c.tc : Thread Cert.MlaBwdRefIdeal.nD Cert.MlaBwdRefIdeal.τ).loc Cert.MlaBwdRefIdeal.main_arg6)
      ∧ r.2.mem ((c.tc : Thread Cert.MlaBwdRefIdeal.nD Cert.MlaBwdRefIdeal.τ).loc Cert.MlaBwdRefIdeal.main_arg7) = m ((c.tc : Thread Cert.MlaBwdRefIdeal.nD Cert.MlaBwdRefIdeal.τ).loc Cert.MlaBwdRefIdeal.main_arg7)
      ∧ r.2.mem ((c.tc : Thread Cert.MlaBwdRefIdeal.nD Cert.MlaBwdRefIdeal.τ).loc Cert.MlaBwdRefIdeal.main_arg8) = m ((c.tc : Thread Cert.MlaBwdRefIdeal.nD Cert.MlaBwdRefIdeal.τ).loc Cert.MlaBwdRefIdeal.main_arg8)
      ∧ r.2.mem ((c.tc : Thread Cert.MlaBwdRefIdeal.nD Cert.MlaBwdRefIdeal.τ).loc Cert.MlaBwdRefIdeal.main_arg9) = m ((c.tc : Thread Cert.MlaBwdRefIdeal.nD Cert.MlaBwdRefIdeal.τ).loc Cert.MlaBwdRefIdeal.main_arg9))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4)
      ∧ r.2.mem ((c.tc : Thread Cert.MlpFwd.nD Cert.MlpFwd.τ).loc Cert.MlpFwd.main_arg5) = m ((c.tc : Thread Cert.MlpFwd.nD Cert.MlpFwd.τ).loc Cert.MlpFwd.main_arg5)
      ∧ r.2.mem ((c.tc : Thread Cert.MlpFwd.nD Cert.MlpFwd.τ).loc Cert.MlpFwd.main_arg6) = m ((c.tc : Thread Cert.MlpFwd.nD Cert.MlpFwd.τ).loc Cert.MlpFwd.main_arg6)
      ∧ r.2.mem ((c.tc : Thread Cert.MlpFwd.nD Cert.MlpFwd.τ).loc Cert.MlpFwd.main_arg7) = m ((c.tc : Thread Cert.MlpFwd.nD Cert.MlpFwd.τ).loc Cert.MlpFwd.main_arg7)
      ∧ r.2.mem ((c.tc : Thread Cert.MlpFwd.nD Cert.MlpFwd.τ).loc Cert.MlpFwd.main_arg8) = m ((c.tc : Thread Cert.MlpFwd.nD Cert.MlpFwd.τ).loc Cert.MlpFwd.main_arg8)
      ∧ r.2.mem ((c.tc : Thread Cert.MlpFwd.nD Cert.MlpFwd.τ).loc Cert.MlpFwd.main_arg9) = m ((c.tc : Thread Cert.MlpFwd.nD Cert.MlpFwd.τ).loc Cert.MlpFwd.main_arg9)
      ∧ r.2.mem ((c.tc : Thread Cert.MlpFwd.nD Cert.MlpFwd.τ).loc Cert.MlpFwd.main_arg10) = m ((c.tc : Thread Cert.MlpFwd.nD Cert.MlpFwd.τ).loc Cert.MlpFwd.main_arg10)
      ∧ r.2.mem ((c.tc : Thread Cert.MlpFwd.nD Cert.MlpFwd.τ).loc Cert.MlpFwd.main_arg11) = m ((c.tc : Thread Cert.MlpFwd.nD Cert.MlpFwd.τ).loc Cert.MlpFwd.main_arg11)
      ∧ r.2.mem ((c.tc : Thread Cert.MlpFwd.nD Cert.MlpFwd.τ).loc Cert.MlpFwd.main_arg12) = m ((c.tc : Thread Cert.MlpFwd.nD Cert.MlpFwd.τ).loc Cert.MlpFwd.main_arg12))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
      ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7)
      ∧ r.2.mem ((c.tc : Thread Cert.MlpFwdIdeal.nD Cert.MlpFwdIdeal.τ).loc Cert.MlpFwdIdeal.main_arg8) = m ((c.tc : Thread Cert.MlpFwdIdeal.nD Cert.MlpFwdIdeal.τ).loc Cert.MlpFwdIdeal.main_arg8)
      ∧ r.2.mem ((c.tc : Thread Cert.MlpFwdIdeal.nD Cert.MlpFwdIdeal.τ).loc Cert.MlpFwdIdeal.main_arg9) = m ((c.tc : Thread Cert.MlpFwdIdeal.nD Cert.MlpFwdIdeal.τ).loc Cert.MlpFwdIdeal.main_arg9)
      ∧ r.2.mem ((c.tc : Thread Cert.MlpFwdIdeal.nD Cert.MlpFwdIdeal.τ).loc Cert.MlpFwdIdeal.main_arg10) = m ((c.tc : Thread Cert.MlpFwdIdeal.nD Cert.MlpFwdIdeal.τ).loc Cert.MlpFwdIdeal.main_arg10)
      ∧ r.2.mem ((c.tc : Thread Cert.MlpFwdIdeal.nD Cert.MlpFwdIdeal.τ).loc Cert.MlpFwdIdeal.main_arg11) = m ((c.tc : Thread Cert.MlpFwdIdeal.nD Cert.MlpFwdIdeal.τ).loc Cert.MlpFwdIdeal.main_arg11)
      ∧ r.2.mem ((c.tc : Thread Cert.MlpFwdIdeal.nD Cert.MlpFwdIdeal.τ).loc Cert.MlpFwdIdeal.main_arg12) = m ((c.tc : Thread Cert.MlpFwdIdeal.nD Cert.MlpFwdIdeal.τ).loc Cert.MlpFwdIdeal.main_arg12))
      ∧ r.2.sem = fun _ => 0)

def quiescent_MlpFwdIdeal_pre_mlf_finite [hMlpFwdIdeal : Cert.MlpFwdIdeal.Facts] [hPre_mlf_finite : Cert.Pre_mlf_finite.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal_mlf_finite m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
      ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
      ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
      ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7)
      ∧ r.2.mem ((c.tc : Thread Cert.MlpFwdIdeal.nD Cert.MlpFwdIdeal.τ).loc Cert.MlpFwdIdeal.main_arg8) = m ((c.tc : Thread Cert.MlpFwdIdeal.nD Cert.MlpFwdIdeal.τ).loc Cert.MlpFwdIdeal.main_arg8)
      ∧ r.2.mem ((c.tc : Thread Cert.MlpFwdIdeal.nD Cert.MlpFwdIdeal.τ).loc Cert.MlpFwdIdeal.main_arg9) = m ((c.tc : Thread Cert.MlpFwdIdeal.nD Cert.MlpFwdIdeal.τ).loc Cert.MlpFwdIdeal.main_arg9)
      ∧ r.2.mem ((c.tc : Thread Cert.MlpFwdIdeal.nD Cert.MlpFwdIdeal.τ).loc Cert.MlpFwdIdeal.main_arg10) = m ((c.tc : Thread Cert.MlpFwdIdeal.nD Cert.MlpFwdIdeal.τ).loc Cert.MlpFwdIdeal.main_arg10)
      ∧ r.2.mem ((c.tc : Thread Cert.MlpFwdIdeal.nD Cert.MlpFwdIdeal.τ).loc Cert.MlpFwdIdeal.main_arg11) = m ((c.tc : Thread Cert.MlpFwdIdeal.nD Cert.MlpFwdIdeal.τ).loc Cert.MlpFwdIdeal.main_arg11)
      ∧ r.2.mem ((c.tc : Thread Cert.MlpFwdIdeal.nD Cert.MlpFwdIdeal.τ).loc Cert.MlpFwdIdeal.main_arg12) = m ((c.tc : Thread Cert.MlpFwdIdeal.nD Cert.MlpFwdIdeal.τ).loc Cert.MlpFwdIdeal.main_arg12))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6)
      ∧ r.2.mem ((c.tc : Thread Cert.MlpFwdRefIdeal.nD Cert.MlpFwdRefIdeal.τ).loc Cert.MlpFwdRefIdeal.main_arg7) = m ((c.tc : Thread Cert.MlpFwdRefIdeal.nD Cert.MlpFwdRefIdeal.τ).loc Cert.MlpFwdRefIdeal.main_arg7)
      ∧ r.2.mem ((c.tc : Thread Cert.MlpFwdRefIdeal.nD Cert.MlpFwdRefIdeal.τ).loc Cert.MlpFwdRefIdeal.main_arg8) = m ((c.tc : Thread Cert.MlpFwdRefIdeal.nD Cert.MlpFwdRefIdeal.τ).loc Cert.MlpFwdRefIdeal.main_arg8)
      ∧ r.2.mem ((c.tc : Thread Cert.MlpFwdRefIdeal.nD Cert.MlpFwdRefIdeal.τ).loc Cert.MlpFwdRefIdeal.main_arg9) = m ((c.tc : Thread Cert.MlpFwdRefIdeal.nD Cert.MlpFwdRefIdeal.τ).loc Cert.MlpFwdRefIdeal.main_arg9)
      ∧ r.2.mem ((c.tc : Thread Cert.MlpFwdRefIdeal.nD Cert.MlpFwdRefIdeal.τ).loc Cert.MlpFwdRefIdeal.main_arg10) = m ((c.tc : Thread Cert.MlpFwdRefIdeal.nD Cert.MlpFwdRefIdeal.τ).loc Cert.MlpFwdRefIdeal.main_arg10)
      ∧ r.2.mem ((c.tc : Thread Cert.MlpFwdRefIdeal.nD Cert.MlpFwdRefIdeal.τ).loc Cert.MlpFwdRefIdeal.main_arg11) = m ((c.tc : Thread Cert.MlpFwdRefIdeal.nD Cert.MlpFwdRefIdeal.τ).loc Cert.MlpFwdRefIdeal.main_arg11)
      ∧ r.2.mem ((c.tc : Thread Cert.MlpFwdRefIdeal.nD Cert.MlpFwdRefIdeal.τ).loc Cert.MlpFwdRefIdeal.main_arg12) = m ((c.tc : Thread Cert.MlpFwdRefIdeal.nD Cert.MlpFwdRefIdeal.τ).loc Cert.MlpFwdRefIdeal.main_arg12))
      ∧ r.2.sem = fun _ => 0)

def quiescent_MlpFwdRefIdeal_pre_mlf_finite [hMlpFwdRefIdeal : Cert.MlpFwdRefIdeal.Facts] [hPre_mlf_finite : Cert.Pre_mlf_finite.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal_mlf_finite m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3)
      ∧ r.2.mem ((c.tc : Thread Cert.MlpFwdRefIdeal.nD Cert.MlpFwdRefIdeal.τ).loc Cert.MlpFwdRefIdeal.main_arg4) = m ((c.tc : Thread Cert.MlpFwdRefIdeal.nD Cert.MlpFwdRefIdeal.τ).loc Cert.MlpFwdRefIdeal.main_arg4)
      ∧ r.2.mem ((c.tc : Thread Cert.MlpFwdRefIdeal.nD Cert.MlpFwdRefIdeal.τ).loc Cert.MlpFwdRefIdeal.main_arg5) = m ((c.tc : Thread Cert.MlpFwdRefIdeal.nD Cert.MlpFwdRefIdeal.τ).loc Cert.MlpFwdRefIdeal.main_arg5)
      ∧ r.2.mem ((c.tc : Thread Cert.MlpFwdRefIdeal.nD Cert.MlpFwdRefIdeal.τ).loc Cert.MlpFwdRefIdeal.main_arg6) = m ((c.tc : Thread Cert.MlpFwdRefIdeal.nD Cert.MlpFwdRefIdeal.τ).loc Cert.MlpFwdRefIdeal.main_arg6)
      ∧ r.2.mem ((c.tc : Thread Cert.MlpFwdRefIdeal.nD Cert.MlpFwdRefIdeal.τ).loc Cert.MlpFwdRefIdeal.main_arg7) = m ((c.tc : Thread Cert.MlpFwdRefIdeal.nD Cert.MlpFwdRefIdeal.τ).loc Cert.MlpFwdRefIdeal.main_arg7)
      ∧ r.2.mem ((c.tc : Thread Cert.MlpFwdRefIdeal.nD Cert.MlpFwdRefIdeal.τ).loc Cert.MlpFwdRefIdeal.main_arg8) = m ((c.tc : Thread Cert.MlpFwdRefIdeal.nD Cert.MlpFwdRefIdeal.τ).loc Cert.MlpFwdRefIdeal.main_arg8)
      ∧ r.2.mem ((c.tc : Thread Cert.MlpFwdRefIdeal.nD Cert.MlpFwdRefIdeal.τ).loc Cert.MlpFwdRefIdeal.main_arg9) = m ((c.tc : Thread Cert.MlpFwdRefIdeal.nD Cert.MlpFwdRefIdeal.τ).loc Cert.MlpFwdRefIdeal.main_arg9)
      ∧ r.2.mem ((c.tc : Thread Cert.MlpFwdRefIdeal.nD Cert.MlpFwdRefIdeal.τ).loc Cert.MlpFwdRefIdeal.main_arg10) = m ((c.tc : Thread Cert.MlpFwdRefIdeal.nD Cert.MlpFwdRefIdeal.τ).loc Cert.MlpFwdRefIdeal.main_arg10)
      ∧ r.2.mem ((c.tc : Thread Cert.MlpFwdRefIdeal.nD Cert.MlpFwdRefIdeal.τ).loc Cert.MlpFwdRefIdeal.main_arg11) = m ((c.tc : Thread Cert.MlpFwdRefIdeal.nD Cert.MlpFwdRefIdeal.τ).loc Cert.MlpFwdRefIdeal.main_arg11)
      ∧ r.2.mem ((c.tc : Thread Cert.MlpFwdRefIdeal.nD Cert.MlpFwdRefIdeal.τ).loc Cert.MlpFwdRefIdeal.main_arg12) = m ((c.tc : Thread Cert.MlpFwdRefIdeal.nD Cert.MlpFwdRefIdeal.τ).loc Cert.MlpFwdRefIdeal.main_arg12))
      ∧ r.2.sem = fun _ => 0)

def preserves_InBwd_InBwdIdeal : Prop :=
  True

def algebraic_InBwdIdeal_InBwdRefIdeal_pre_input_finite [hInBwdIdeal : Cert.InBwdIdeal.Facts] [hInBwdRefIdeal : Cert.InBwdRefIdeal.Facts] [hPre_input_finite : Cert.Pre_input_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_input_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v42_0)) (v1 : (c : Dev Cert.InBwdIdeal.nD) → Buf (Elt Ideal) ((c.tc : Thread Cert.InBwdIdeal.nD Cert.InBwdIdeal.τ).loc Cert.InBwdIdeal.main_v42_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v42_0) = v0 c
          ∧ r.2.mem ((c.tc : Thread Cert.InBwdIdeal.nD Cert.InBwdIdeal.τ).loc Cert.InBwdIdeal.main_v42_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v62) = v0 c
          ∧ r.2.mem ((c.tc : Thread Cert.InBwdRefIdeal.nD Cert.InBwdRefIdeal.τ).loc Cert.InBwdRefIdeal.main_v63) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9))

def preserves_AttnBwd_AttnBwdIdeal : Prop :=
  IdealRules.named_const.Statement Cert.AttnBwdIdeal.κ "ln2" .f32 0x3F317218#32 ((Real.log 2 : ℝ) : EReal)

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v41_0)) (v1 : (c : Dev Cert.AttnBwdIdeal.nD) → Buf (Elt Ideal) ((c.tc : Thread Cert.AttnBwdIdeal.nD Cert.AttnBwdIdeal.τ).loc Cert.AttnBwdIdeal.main_v41_1)) (v2 : (c : Dev Cert.AttnBwdIdeal.nD) → Buf (Elt Ideal) ((c.tc : Thread Cert.AttnBwdIdeal.nD Cert.AttnBwdIdeal.τ).loc Cert.AttnBwdIdeal.main_v41_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v41_0) = v0 c
          ∧ r.2.mem ((c.tc : Thread Cert.AttnBwdIdeal.nD Cert.AttnBwdIdeal.τ).loc Cert.AttnBwdIdeal.main_v41_1) = v1 c
          ∧ r.2.mem ((c.tc : Thread Cert.AttnBwdIdeal.nD Cert.AttnBwdIdeal.τ).loc Cert.AttnBwdIdeal.main_v41_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v68) = v0 c
          ∧ r.2.mem ((c.tc : Thread Cert.AttnBwdRefIdeal.nD Cert.AttnBwdRefIdeal.τ).loc Cert.AttnBwdRefIdeal.main_v70) = v1 c
          ∧ r.2.mem ((c.tc : Thread Cert.AttnBwdRefIdeal.nD Cert.AttnBwdRefIdeal.τ).loc Cert.AttnBwdRefIdeal.main_v71) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_MlpBwd_MlpBwdIdeal : Prop :=
  True

def algebraic_MlpBwdIdeal_MlpBwdRefIdeal_pre_mlp_finite [hMlpBwdIdeal : Cert.MlpBwdIdeal.Facts] [hMlpBwdRefIdeal : Cert.MlpBwdRefIdeal.Facts] [hPre_mlp_finite : Cert.Pre_mlp_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_mlp_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)
      ∧ m' ((c.tc : Thread Cert.MlpBwdRefIdeal.nD Cert.MlpBwdRefIdeal.τ).loc Cert.MlpBwdRefIdeal.main_arg5) = m ((c.tc : Thread Cert.MlpBwdIdeal.nD Cert.MlpBwdIdeal.τ).loc Cert.MlpBwdIdeal.main_arg5)
      ∧ m' ((c.tc : Thread Cert.MlpBwdRefIdeal.nD Cert.MlpBwdRefIdeal.τ).loc Cert.MlpBwdRefIdeal.main_arg6) = m ((c.tc : Thread Cert.MlpBwdIdeal.nD Cert.MlpBwdIdeal.τ).loc Cert.MlpBwdIdeal.main_arg6)
      ∧ m' ((c.tc : Thread Cert.MlpBwdRefIdeal.nD Cert.MlpBwdRefIdeal.τ).loc Cert.MlpBwdRefIdeal.main_arg7) = m ((c.tc : Thread Cert.MlpBwdIdeal.nD Cert.MlpBwdIdeal.τ).loc Cert.MlpBwdIdeal.main_arg7)
      ∧ m' ((c.tc : Thread Cert.MlpBwdRefIdeal.nD Cert.MlpBwdRefIdeal.τ).loc Cert.MlpBwdRefIdeal.main_arg8) = m ((c.tc : Thread Cert.MlpBwdIdeal.nD Cert.MlpBwdIdeal.τ).loc Cert.MlpBwdIdeal.main_arg8)
      ∧ m' ((c.tc : Thread Cert.MlpBwdRefIdeal.nD Cert.MlpBwdRefIdeal.τ).loc Cert.MlpBwdRefIdeal.main_arg9) = m ((c.tc : Thread Cert.MlpBwdIdeal.nD Cert.MlpBwdIdeal.τ).loc Cert.MlpBwdIdeal.main_arg9)
      ∧ m' ((c.tc : Thread Cert.MlpBwdRefIdeal.nD Cert.MlpBwdRefIdeal.τ).loc Cert.MlpBwdRefIdeal.main_arg10) = m ((c.tc : Thread Cert.MlpBwdIdeal.nD Cert.MlpBwdIdeal.τ).loc Cert.MlpBwdIdeal.main_arg10)) →
    ∃ (v0 : (c : Dev Cert.MlpBwdIdeal.nD) → Buf (Elt Ideal) ((c.tc : Thread Cert.MlpBwdIdeal.nD Cert.MlpBwdIdeal.τ).loc Cert.MlpBwdIdeal.main_v48_0)) (v1 : (c : Dev Cert.MlpBwdIdeal.nD) → Buf (Elt Ideal) ((c.tc : Thread Cert.MlpBwdIdeal.nD Cert.MlpBwdIdeal.τ).loc Cert.MlpBwdIdeal.main_v48_1)) (v2 : (c : Dev Cert.MlpBwdIdeal.nD) → Buf (Elt Ideal) ((c.tc : Thread Cert.MlpBwdIdeal.nD Cert.MlpBwdIdeal.τ).loc Cert.MlpBwdIdeal.main_v48_2)) (v3 : (c : Dev Cert.MlpBwdIdeal.nD) → Buf (Elt Ideal) ((c.tc : Thread Cert.MlpBwdIdeal.nD Cert.MlpBwdIdeal.τ).loc Cert.MlpBwdIdeal.main_v48_3)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v48_0) = v0 c
          ∧ r.2.mem ((c.tc : Thread Cert.MlpBwdIdeal.nD Cert.MlpBwdIdeal.τ).loc Cert.MlpBwdIdeal.main_v48_1) = v1 c
          ∧ r.2.mem ((c.tc : Thread Cert.MlpBwdIdeal.nD Cert.MlpBwdIdeal.τ).loc Cert.MlpBwdIdeal.main_v48_2) = v2 c
          ∧ r.2.mem ((c.tc : Thread Cert.MlpBwdIdeal.nD Cert.MlpBwdIdeal.τ).loc Cert.MlpBwdIdeal.main_v48_3) = v3 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5)
          ∧ r.2.mem ((c.tc : Thread Cert.MlpBwdIdeal.nD Cert.MlpBwdIdeal.τ).loc Cert.MlpBwdIdeal.main_arg6) = m ((c.tc : Thread Cert.MlpBwdIdeal.nD Cert.MlpBwdIdeal.τ).loc Cert.MlpBwdIdeal.main_arg6)
          ∧ r.2.mem ((c.tc : Thread Cert.MlpBwdIdeal.nD Cert.MlpBwdIdeal.τ).loc Cert.MlpBwdIdeal.main_arg7) = m ((c.tc : Thread Cert.MlpBwdIdeal.nD Cert.MlpBwdIdeal.τ).loc Cert.MlpBwdIdeal.main_arg7)
          ∧ r.2.mem ((c.tc : Thread Cert.MlpBwdIdeal.nD Cert.MlpBwdIdeal.τ).loc Cert.MlpBwdIdeal.main_arg8) = m ((c.tc : Thread Cert.MlpBwdIdeal.nD Cert.MlpBwdIdeal.τ).loc Cert.MlpBwdIdeal.main_arg8)
          ∧ r.2.mem ((c.tc : Thread Cert.MlpBwdIdeal.nD Cert.MlpBwdIdeal.τ).loc Cert.MlpBwdIdeal.main_arg9) = m ((c.tc : Thread Cert.MlpBwdIdeal.nD Cert.MlpBwdIdeal.τ).loc Cert.MlpBwdIdeal.main_arg9)
          ∧ r.2.mem ((c.tc : Thread Cert.MlpBwdIdeal.nD Cert.MlpBwdIdeal.τ).loc Cert.MlpBwdIdeal.main_arg10) = m ((c.tc : Thread Cert.MlpBwdIdeal.nD Cert.MlpBwdIdeal.τ).loc Cert.MlpBwdIdeal.main_arg10))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v94) = v0 c
          ∧ r.2.mem ((c.tc : Thread Cert.MlpBwdRefIdeal.nD Cert.MlpBwdRefIdeal.τ).loc Cert.MlpBwdRefIdeal.main_v88) = v1 c
          ∧ r.2.mem ((c.tc : Thread Cert.MlpBwdRefIdeal.nD Cert.MlpBwdRefIdeal.τ).loc Cert.MlpBwdRefIdeal.main_v95) = v2 c
          ∧ r.2.mem ((c.tc : Thread Cert.MlpBwdRefIdeal.nD Cert.MlpBwdRefIdeal.τ).loc Cert.MlpBwdRefIdeal.main_v96) = v3 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4)
          ∧ r.2.mem ((c.tc : Thread Cert.MlpBwdRefIdeal.nD Cert.MlpBwdRefIdeal.τ).loc Cert.MlpBwdRefIdeal.main_arg5) = m' ((c.tc : Thread Cert.MlpBwdRefIdeal.nD Cert.MlpBwdRefIdeal.τ).loc Cert.MlpBwdRefIdeal.main_arg5)
          ∧ r.2.mem ((c.tc : Thread Cert.MlpBwdRefIdeal.nD Cert.MlpBwdRefIdeal.τ).loc Cert.MlpBwdRefIdeal.main_arg6) = m' ((c.tc : Thread Cert.MlpBwdRefIdeal.nD Cert.MlpBwdRefIdeal.τ).loc Cert.MlpBwdRefIdeal.main_arg6)
          ∧ r.2.mem ((c.tc : Thread Cert.MlpBwdRefIdeal.nD Cert.MlpBwdRefIdeal.τ).loc Cert.MlpBwdRefIdeal.main_arg7) = m' ((c.tc : Thread Cert.MlpBwdRefIdeal.nD Cert.MlpBwdRefIdeal.τ).loc Cert.MlpBwdRefIdeal.main_arg7)
          ∧ r.2.mem ((c.tc : Thread Cert.MlpBwdRefIdeal.nD Cert.MlpBwdRefIdeal.τ).loc Cert.MlpBwdRefIdeal.main_arg8) = m' ((c.tc : Thread Cert.MlpBwdRefIdeal.nD Cert.MlpBwdRefIdeal.τ).loc Cert.MlpBwdRefIdeal.main_arg8)
          ∧ r.2.mem ((c.tc : Thread Cert.MlpBwdRefIdeal.nD Cert.MlpBwdRefIdeal.τ).loc Cert.MlpBwdRefIdeal.main_arg9) = m' ((c.tc : Thread Cert.MlpBwdRefIdeal.nD Cert.MlpBwdRefIdeal.τ).loc Cert.MlpBwdRefIdeal.main_arg9)
          ∧ r.2.mem ((c.tc : Thread Cert.MlpBwdRefIdeal.nD Cert.MlpBwdRefIdeal.τ).loc Cert.MlpBwdRefIdeal.main_arg10) = m' ((c.tc : Thread Cert.MlpBwdRefIdeal.nD Cert.MlpBwdRefIdeal.τ).loc Cert.MlpBwdRefIdeal.main_arg10))

def preserves_MlaBwd_MlaBwdIdeal : Prop :=
  True

def algebraic_MlaBwdIdeal_MlaBwdRefIdeal_pre_mla_finite [hMlaBwdIdeal : Cert.MlaBwdIdeal.Facts] [hMlaBwdRefIdeal : Cert.MlaBwdRefIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaBwdRefIdeal.nD Cert.MlaBwdRefIdeal.τ Cert.MlaBwdRefIdeal.sig) → Buf (Elt Ideal) ℓ) (g' : Dev Cert.MlaBwdRefIdeal.nD → PrngReg), Pre_MlaBwdIdeal_mla_finite m →
    (∀ c : Dev Cert.MlaBwdIdeal.nD,
      m' ((c.tc : Thread Cert.MlaBwdRefIdeal.nD Cert.MlaBwdRefIdeal.τ).loc Cert.MlaBwdRefIdeal.main_arg0) = m ((c.tc : Thread Cert.MlaBwdIdeal.nD Cert.MlaBwdIdeal.τ).loc Cert.MlaBwdIdeal.main_arg0)
      ∧ m' ((c.tc : Thread Cert.MlaBwdRefIdeal.nD Cert.MlaBwdRefIdeal.τ).loc Cert.MlaBwdRefIdeal.main_arg1) = m ((c.tc : Thread Cert.MlaBwdIdeal.nD Cert.MlaBwdIdeal.τ).loc Cert.MlaBwdIdeal.main_arg1)
      ∧ m' ((c.tc : Thread Cert.MlaBwdRefIdeal.nD Cert.MlaBwdRefIdeal.τ).loc Cert.MlaBwdRefIdeal.main_arg2) = m ((c.tc : Thread Cert.MlaBwdIdeal.nD Cert.MlaBwdIdeal.τ).loc Cert.MlaBwdIdeal.main_arg2)
      ∧ m' ((c.tc : Thread Cert.MlaBwdRefIdeal.nD Cert.MlaBwdRefIdeal.τ).loc Cert.MlaBwdRefIdeal.main_arg3) = m ((c.tc : Thread Cert.MlaBwdIdeal.nD Cert.MlaBwdIdeal.τ).loc Cert.MlaBwdIdeal.main_arg3)
      ∧ m' ((c.tc : Thread Cert.MlaBwdRefIdeal.nD Cert.MlaBwdRefIdeal.τ).loc Cert.MlaBwdRefIdeal.main_arg4) = m ((c.tc : Thread Cert.MlaBwdIdeal.nD Cert.MlaBwdIdeal.τ).loc Cert.MlaBwdIdeal.main_arg4)
      ∧ m' ((c.tc : Thread Cert.MlaBwdRefIdeal.nD Cert.MlaBwdRefIdeal.τ).loc Cert.MlaBwdRefIdeal.main_arg5) = m ((c.tc : Thread Cert.MlaBwdIdeal.nD Cert.MlaBwdIdeal.τ).loc Cert.MlaBwdIdeal.main_arg5)
      ∧ m' ((c.tc : Thread Cert.MlaBwdRefIdeal.nD Cert.MlaBwdRefIdeal.τ).loc Cert.MlaBwdRefIdeal.main_arg6) = m ((c.tc : Thread Cert.MlaBwdIdeal.nD Cert.MlaBwdIdeal.τ).loc Cert.MlaBwdIdeal.main_arg6)
      ∧ m' ((c.tc : Thread Cert.MlaBwdRefIdeal.nD Cert.MlaBwdRefIdeal.τ).loc Cert.MlaBwdRefIdeal.main_arg7) = m ((c.tc : Thread Cert.MlaBwdIdeal.nD Cert.MlaBwdIdeal.τ).loc Cert.MlaBwdIdeal.main_arg7)
      ∧ m' ((c.tc : Thread Cert.MlaBwdRefIdeal.nD Cert.MlaBwdRefIdeal.τ).loc Cert.MlaBwdRefIdeal.main_arg8) = m ((c.tc : Thread Cert.MlaBwdIdeal.nD Cert.MlaBwdIdeal.τ).loc Cert.MlaBwdIdeal.main_arg8)
      ∧ m' ((c.tc : Thread Cert.MlaBwdRefIdeal.nD Cert.MlaBwdRefIdeal.τ).loc Cert.MlaBwdRefIdeal.main_arg9) = m ((c.tc : Thread Cert.MlaBwdIdeal.nD Cert.MlaBwdIdeal.τ).loc Cert.MlaBwdIdeal.main_arg9)) →
    ∃ (v0 : (c : Dev Cert.MlaBwdIdeal.nD) → Buf (Elt Ideal) ((c.tc : Thread Cert.MlaBwdIdeal.nD Cert.MlaBwdIdeal.τ).loc Cert.MlaBwdIdeal.main_v94_0)) (v1 : (c : Dev Cert.MlaBwdIdeal.nD) → Buf (Elt Ideal) ((c.tc : Thread Cert.MlaBwdIdeal.nD Cert.MlaBwdIdeal.τ).loc Cert.MlaBwdIdeal.main_v94_3)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v94_0) = v0 c
          ∧ r.2.mem ((c.tc : Thread Cert.MlaBwdIdeal.nD Cert.MlaBwdIdeal.τ).loc Cert.MlaBwdIdeal.main_v94_3) = v1 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4)
          ∧ r.2.mem ((c.tc : Thread Cert.MlaBwdIdeal.nD Cert.MlaBwdIdeal.τ).loc Cert.MlaBwdIdeal.main_arg5) = m ((c.tc : Thread Cert.MlaBwdIdeal.nD Cert.MlaBwdIdeal.τ).loc Cert.MlaBwdIdeal.main_arg5)
          ∧ r.2.mem ((c.tc : Thread Cert.MlaBwdIdeal.nD Cert.MlaBwdIdeal.τ).loc Cert.MlaBwdIdeal.main_arg6) = m ((c.tc : Thread Cert.MlaBwdIdeal.nD Cert.MlaBwdIdeal.τ).loc Cert.MlaBwdIdeal.main_arg6)
          ∧ r.2.mem ((c.tc : Thread Cert.MlaBwdIdeal.nD Cert.MlaBwdIdeal.τ).loc Cert.MlaBwdIdeal.main_arg7) = m ((c.tc : Thread Cert.MlaBwdIdeal.nD Cert.MlaBwdIdeal.τ).loc Cert.MlaBwdIdeal.main_arg7)
          ∧ r.2.mem ((c.tc : Thread Cert.MlaBwdIdeal.nD Cert.MlaBwdIdeal.τ).loc Cert.MlaBwdIdeal.main_arg8) = m ((c.tc : Thread Cert.MlaBwdIdeal.nD Cert.MlaBwdIdeal.τ).loc Cert.MlaBwdIdeal.main_arg8)
          ∧ r.2.mem ((c.tc : Thread Cert.MlaBwdIdeal.nD Cert.MlaBwdIdeal.τ).loc Cert.MlaBwdIdeal.main_arg9) = m ((c.tc : Thread Cert.MlaBwdIdeal.nD Cert.MlaBwdIdeal.τ).loc Cert.MlaBwdIdeal.main_arg9))
      ∧ θ_run (Cert.MlaBwdRefIdeal.defs (F := Ideal)) (onTc (τ := Cert.MlaBwdRefIdeal.τ) (Cert.MlaBwdRefIdeal.main (F := Ideal))) ⟨m', fun _ => 0, g'⟩ (fun r => ∀ c : Dev Cert.MlaBwdRefIdeal.nD,
          r.2.mem ((c.tc : Thread Cert.MlaBwdRefIdeal.nD Cert.MlaBwdRefIdeal.τ).loc Cert.MlaBwdRefIdeal.main_v162) = v0 c
          ∧ r.2.mem ((c.tc : Thread Cert.MlaBwdRefIdeal.nD Cert.MlaBwdRefIdeal.τ).loc Cert.MlaBwdRefIdeal.main_v163) = v1 c
          ∧ r.2.mem ((c.tc : Thread Cert.MlaBwdRefIdeal.nD Cert.MlaBwdRefIdeal.τ).loc Cert.MlaBwdRefIdeal.main_arg0) = m' ((c.tc : Thread Cert.MlaBwdRefIdeal.nD Cert.MlaBwdRefIdeal.τ).loc Cert.MlaBwdRefIdeal.main_arg0)
          ∧ r.2.mem ((c.tc : Thread Cert.MlaBwdRefIdeal.nD Cert.MlaBwdRefIdeal.τ).loc Cert.MlaBwdRefIdeal.main_arg1) = m' ((c.tc : Thread Cert.MlaBwdRefIdeal.nD Cert.MlaBwdRefIdeal.τ).loc Cert.MlaBwdRefIdeal.main_arg1)
          ∧ r.2.mem ((c.tc : Thread Cert.MlaBwdRefIdeal.nD Cert.MlaBwdRefIdeal.τ).loc Cert.MlaBwdRefIdeal.main_arg2) = m' ((c.tc : Thread Cert.MlaBwdRefIdeal.nD Cert.MlaBwdRefIdeal.τ).loc Cert.MlaBwdRefIdeal.main_arg2)
          ∧ r.2.mem ((c.tc : Thread Cert.MlaBwdRefIdeal.nD Cert.MlaBwdRefIdeal.τ).loc Cert.MlaBwdRefIdeal.main_arg3) = m' ((c.tc : Thread Cert.MlaBwdRefIdeal.nD Cert.MlaBwdRefIdeal.τ).loc Cert.MlaBwdRefIdeal.main_arg3)
          ∧ r.2.mem ((c.tc : Thread Cert.MlaBwdRefIdeal.nD Cert.MlaBwdRefIdeal.τ).loc Cert.MlaBwdRefIdeal.main_arg4) = m' ((c.tc : Thread Cert.MlaBwdRefIdeal.nD Cert.MlaBwdRefIdeal.τ).loc Cert.MlaBwdRefIdeal.main_arg4)
          ∧ r.2.mem ((c.tc : Thread Cert.MlaBwdRefIdeal.nD Cert.MlaBwdRefIdeal.τ).loc Cert.MlaBwdRefIdeal.main_arg5) = m' ((c.tc : Thread Cert.MlaBwdRefIdeal.nD Cert.MlaBwdRefIdeal.τ).loc Cert.MlaBwdRefIdeal.main_arg5)
          ∧ r.2.mem ((c.tc : Thread Cert.MlaBwdRefIdeal.nD Cert.MlaBwdRefIdeal.τ).loc Cert.MlaBwdRefIdeal.main_arg6) = m' ((c.tc : Thread Cert.MlaBwdRefIdeal.nD Cert.MlaBwdRefIdeal.τ).loc Cert.MlaBwdRefIdeal.main_arg6)
          ∧ r.2.mem ((c.tc : Thread Cert.MlaBwdRefIdeal.nD Cert.MlaBwdRefIdeal.τ).loc Cert.MlaBwdRefIdeal.main_arg7) = m' ((c.tc : Thread Cert.MlaBwdRefIdeal.nD Cert.MlaBwdRefIdeal.τ).loc Cert.MlaBwdRefIdeal.main_arg7)
          ∧ r.2.mem ((c.tc : Thread Cert.MlaBwdRefIdeal.nD Cert.MlaBwdRefIdeal.τ).loc Cert.MlaBwdRefIdeal.main_arg8) = m' ((c.tc : Thread Cert.MlaBwdRefIdeal.nD Cert.MlaBwdRefIdeal.τ).loc Cert.MlaBwdRefIdeal.main_arg8)
          ∧ r.2.mem ((c.tc : Thread Cert.MlaBwdRefIdeal.nD Cert.MlaBwdRefIdeal.τ).loc Cert.MlaBwdRefIdeal.main_arg9) = m' ((c.tc : Thread Cert.MlaBwdRefIdeal.nD Cert.MlaBwdRefIdeal.τ).loc Cert.MlaBwdRefIdeal.main_arg9))

def preserves_MlpFwd_MlpFwdIdeal : Prop :=
  True

def algebraic_MlpFwdIdeal_MlpFwdRefIdeal_pre_mlf_finite [hMlpFwdIdeal : Cert.MlpFwdIdeal.Facts] [hMlpFwdRefIdeal : Cert.MlpFwdRefIdeal.Facts] [hPre_mlf_finite : Cert.Pre_mlf_finite.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal_mlf_finite m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)
      ∧ m' ((c.tc : Thread Cert.MlpFwdRefIdeal.nD Cert.MlpFwdRefIdeal.τ).loc Cert.MlpFwdRefIdeal.main_arg4) = m ((c.tc : Thread Cert.MlpFwdIdeal.nD Cert.MlpFwdIdeal.τ).loc Cert.MlpFwdIdeal.main_arg4)
      ∧ m' ((c.tc : Thread Cert.MlpFwdRefIdeal.nD Cert.MlpFwdRefIdeal.τ).loc Cert.MlpFwdRefIdeal.main_arg5) = m ((c.tc : Thread Cert.MlpFwdIdeal.nD Cert.MlpFwdIdeal.τ).loc Cert.MlpFwdIdeal.main_arg5)
      ∧ m' ((c.tc : Thread Cert.MlpFwdRefIdeal.nD Cert.MlpFwdRefIdeal.τ).loc Cert.MlpFwdRefIdeal.main_arg6) = m ((c.tc : Thread Cert.MlpFwdIdeal.nD Cert.MlpFwdIdeal.τ).loc Cert.MlpFwdIdeal.main_arg6)
      ∧ m' ((c.tc : Thread Cert.MlpFwdRefIdeal.nD Cert.MlpFwdRefIdeal.τ).loc Cert.MlpFwdRefIdeal.main_arg7) = m ((c.tc : Thread Cert.MlpFwdIdeal.nD Cert.MlpFwdIdeal.τ).loc Cert.MlpFwdIdeal.main_arg7)
      ∧ m' ((c.tc : Thread Cert.MlpFwdRefIdeal.nD Cert.MlpFwdRefIdeal.τ).loc Cert.MlpFwdRefIdeal.main_arg8) = m ((c.tc : Thread Cert.MlpFwdIdeal.nD Cert.MlpFwdIdeal.τ).loc Cert.MlpFwdIdeal.main_arg8)
      ∧ m' ((c.tc : Thread Cert.MlpFwdRefIdeal.nD Cert.MlpFwdRefIdeal.τ).loc Cert.MlpFwdRefIdeal.main_arg9) = m ((c.tc : Thread Cert.MlpFwdIdeal.nD Cert.MlpFwdIdeal.τ).loc Cert.MlpFwdIdeal.main_arg9)
      ∧ m' ((c.tc : Thread Cert.MlpFwdRefIdeal.nD Cert.MlpFwdRefIdeal.τ).loc Cert.MlpFwdRefIdeal.main_arg10) = m ((c.tc : Thread Cert.MlpFwdIdeal.nD Cert.MlpFwdIdeal.τ).loc Cert.MlpFwdIdeal.main_arg10)
      ∧ m' ((c.tc : Thread Cert.MlpFwdRefIdeal.nD Cert.MlpFwdRefIdeal.τ).loc Cert.MlpFwdRefIdeal.main_arg11) = m ((c.tc : Thread Cert.MlpFwdIdeal.nD Cert.MlpFwdIdeal.τ).loc Cert.MlpFwdIdeal.main_arg11)
      ∧ m' ((c.tc : Thread Cert.MlpFwdRefIdeal.nD Cert.MlpFwdRefIdeal.τ).loc Cert.MlpFwdRefIdeal.main_arg12) = m ((c.tc : Thread Cert.MlpFwdIdeal.nD Cert.MlpFwdIdeal.τ).loc Cert.MlpFwdIdeal.main_arg12)) →
    ∃ (v0 : (c : Dev Cert.MlpFwdIdeal.nD) → Buf (Elt Ideal) ((c.tc : Thread Cert.MlpFwdIdeal.nD Cert.MlpFwdIdeal.τ).loc Cert.MlpFwdIdeal.main_v43_0)) (v1 : (c : Dev Cert.MlpFwdIdeal.nD) → Buf (Elt Ideal) ((c.tc : Thread Cert.MlpFwdIdeal.nD Cert.MlpFwdIdeal.τ).loc Cert.MlpFwdIdeal.main_v43_1)) (v2 : (c : Dev Cert.MlpFwdIdeal.nD) → Buf (Elt Ideal) ((c.tc : Thread Cert.MlpFwdIdeal.nD Cert.MlpFwdIdeal.τ).loc Cert.MlpFwdIdeal.main_v43_2)) (v3 : (c : Dev Cert.MlpFwdIdeal.nD) → Buf (Elt Ideal) ((c.tc : Thread Cert.MlpFwdIdeal.nD Cert.MlpFwdIdeal.τ).loc Cert.MlpFwdIdeal.main_v43_3)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v43_0) = v0 c
          ∧ r.2.mem ((c.tc : Thread Cert.MlpFwdIdeal.nD Cert.MlpFwdIdeal.τ).loc Cert.MlpFwdIdeal.main_v43_1) = v1 c
          ∧ r.2.mem ((c.tc : Thread Cert.MlpFwdIdeal.nD Cert.MlpFwdIdeal.τ).loc Cert.MlpFwdIdeal.main_v43_2) = v2 c
          ∧ r.2.mem ((c.tc : Thread Cert.MlpFwdIdeal.nD Cert.MlpFwdIdeal.τ).loc Cert.MlpFwdIdeal.main_v43_3) = v3 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4)
          ∧ r.2.mem ((c.tc : Thread Cert.MlpFwdIdeal.nD Cert.MlpFwdIdeal.τ).loc Cert.MlpFwdIdeal.main_arg5) = m ((c.tc : Thread Cert.MlpFwdIdeal.nD Cert.MlpFwdIdeal.τ).loc Cert.MlpFwdIdeal.main_arg5)
          ∧ r.2.mem ((c.tc : Thread Cert.MlpFwdIdeal.nD Cert.MlpFwdIdeal.τ).loc Cert.MlpFwdIdeal.main_arg6) = m ((c.tc : Thread Cert.MlpFwdIdeal.nD Cert.MlpFwdIdeal.τ).loc Cert.MlpFwdIdeal.main_arg6)
          ∧ r.2.mem ((c.tc : Thread Cert.MlpFwdIdeal.nD Cert.MlpFwdIdeal.τ).loc Cert.MlpFwdIdeal.main_arg7) = m ((c.tc : Thread Cert.MlpFwdIdeal.nD Cert.MlpFwdIdeal.τ).loc Cert.MlpFwdIdeal.main_arg7)
          ∧ r.2.mem ((c.tc : Thread Cert.MlpFwdIdeal.nD Cert.MlpFwdIdeal.τ).loc Cert.MlpFwdIdeal.main_arg8) = m ((c.tc : Thread Cert.MlpFwdIdeal.nD Cert.MlpFwdIdeal.τ).loc Cert.MlpFwdIdeal.main_arg8)
          ∧ r.2.mem ((c.tc : Thread Cert.MlpFwdIdeal.nD Cert.MlpFwdIdeal.τ).loc Cert.MlpFwdIdeal.main_arg9) = m ((c.tc : Thread Cert.MlpFwdIdeal.nD Cert.MlpFwdIdeal.τ).loc Cert.MlpFwdIdeal.main_arg9)
          ∧ r.2.mem ((c.tc : Thread Cert.MlpFwdIdeal.nD Cert.MlpFwdIdeal.τ).loc Cert.MlpFwdIdeal.main_arg10) = m ((c.tc : Thread Cert.MlpFwdIdeal.nD Cert.MlpFwdIdeal.τ).loc Cert.MlpFwdIdeal.main_arg10)
          ∧ r.2.mem ((c.tc : Thread Cert.MlpFwdIdeal.nD Cert.MlpFwdIdeal.τ).loc Cert.MlpFwdIdeal.main_arg11) = m ((c.tc : Thread Cert.MlpFwdIdeal.nD Cert.MlpFwdIdeal.τ).loc Cert.MlpFwdIdeal.main_arg11)
          ∧ r.2.mem ((c.tc : Thread Cert.MlpFwdIdeal.nD Cert.MlpFwdIdeal.τ).loc Cert.MlpFwdIdeal.main_arg12) = m ((c.tc : Thread Cert.MlpFwdIdeal.nD Cert.MlpFwdIdeal.τ).loc Cert.MlpFwdIdeal.main_arg12))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v116) = v0 c
          ∧ r.2.mem ((c.tc : Thread Cert.MlpFwdRefIdeal.nD Cert.MlpFwdRefIdeal.τ).loc Cert.MlpFwdRefIdeal.main_v110) = v1 c
          ∧ r.2.mem ((c.tc : Thread Cert.MlpFwdRefIdeal.nD Cert.MlpFwdRefIdeal.τ).loc Cert.MlpFwdRefIdeal.main_v117) = v2 c
          ∧ r.2.mem ((c.tc : Thread Cert.MlpFwdRefIdeal.nD Cert.MlpFwdRefIdeal.τ).loc Cert.MlpFwdRefIdeal.main_v119) = v3 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3)
          ∧ r.2.mem ((c.tc : Thread Cert.MlpFwdRefIdeal.nD Cert.MlpFwdRefIdeal.τ).loc Cert.MlpFwdRefIdeal.main_arg4) = m' ((c.tc : Thread Cert.MlpFwdRefIdeal.nD Cert.MlpFwdRefIdeal.τ).loc Cert.MlpFwdRefIdeal.main_arg4)
          ∧ r.2.mem ((c.tc : Thread Cert.MlpFwdRefIdeal.nD Cert.MlpFwdRefIdeal.τ).loc Cert.MlpFwdRefIdeal.main_arg5) = m' ((c.tc : Thread Cert.MlpFwdRefIdeal.nD Cert.MlpFwdRefIdeal.τ).loc Cert.MlpFwdRefIdeal.main_arg5)
          ∧ r.2.mem ((c.tc : Thread Cert.MlpFwdRefIdeal.nD Cert.MlpFwdRefIdeal.τ).loc Cert.MlpFwdRefIdeal.main_arg6) = m' ((c.tc : Thread Cert.MlpFwdRefIdeal.nD Cert.MlpFwdRefIdeal.τ).loc Cert.MlpFwdRefIdeal.main_arg6)
          ∧ r.2.mem ((c.tc : Thread Cert.MlpFwdRefIdeal.nD Cert.MlpFwdRefIdeal.τ).loc Cert.MlpFwdRefIdeal.main_arg7) = m' ((c.tc : Thread Cert.MlpFwdRefIdeal.nD Cert.MlpFwdRefIdeal.τ).loc Cert.MlpFwdRefIdeal.main_arg7)
          ∧ r.2.mem ((c.tc : Thread Cert.MlpFwdRefIdeal.nD Cert.MlpFwdRefIdeal.τ).loc Cert.MlpFwdRefIdeal.main_arg8) = m' ((c.tc : Thread Cert.MlpFwdRefIdeal.nD Cert.MlpFwdRefIdeal.τ).loc Cert.MlpFwdRefIdeal.main_arg8)
          ∧ r.2.mem ((c.tc : Thread Cert.MlpFwdRefIdeal.nD Cert.MlpFwdRefIdeal.τ).loc Cert.MlpFwdRefIdeal.main_arg9) = m' ((c.tc : Thread Cert.MlpFwdRefIdeal.nD Cert.MlpFwdRefIdeal.τ).loc Cert.MlpFwdRefIdeal.main_arg9)
          ∧ r.2.mem ((c.tc : Thread Cert.MlpFwdRefIdeal.nD Cert.MlpFwdRefIdeal.τ).loc Cert.MlpFwdRefIdeal.main_arg10) = m' ((c.tc : Thread Cert.MlpFwdRefIdeal.nD Cert.MlpFwdRefIdeal.τ).loc Cert.MlpFwdRefIdeal.main_arg10)
          ∧ r.2.mem ((c.tc : Thread Cert.MlpFwdRefIdeal.nD Cert.MlpFwdRefIdeal.τ).loc Cert.MlpFwdRefIdeal.main_arg11) = m' ((c.tc : Thread Cert.MlpFwdRefIdeal.nD Cert.MlpFwdRefIdeal.τ).loc Cert.MlpFwdRefIdeal.main_arg11)
          ∧ r.2.mem ((c.tc : Thread Cert.MlpFwdRefIdeal.nD Cert.MlpFwdRefIdeal.τ).loc Cert.MlpFwdRefIdeal.main_arg12) = m' ((c.tc : Thread Cert.MlpFwdRefIdeal.nD Cert.MlpFwdRefIdeal.τ).loc Cert.MlpFwdRefIdeal.main_arg12))

def Claim : Prop :=
  ∃ (hInBwd : Cert.InBwd.Facts) (hInBwdIdeal : Cert.InBwdIdeal.Facts) (hInBwdRefIdeal : Cert.InBwdRefIdeal.Facts) (hAttnBwd : Cert.AttnBwd.Facts) (hAttnBwdIdeal : Cert.AttnBwdIdeal.Facts) (hAttnBwdRefIdeal : Cert.AttnBwdRefIdeal.Facts) (hMlpBwd : Cert.MlpBwd.Facts) (hMlpBwdIdeal : Cert.MlpBwdIdeal.Facts) (hMlpBwdRefIdeal : Cert.MlpBwdRefIdeal.Facts) (hMlaBwd : Cert.MlaBwd.Facts) (hMlaBwdIdeal : Cert.MlaBwdIdeal.Facts) (hMlaBwdRefIdeal : Cert.MlaBwdRefIdeal.Facts) (hMlpFwd : Cert.MlpFwd.Facts) (hMlpFwdIdeal : Cert.MlpFwdIdeal.Facts) (hMlpFwdRefIdeal : Cert.MlpFwdRefIdeal.Facts) (hPre_input_finite : Cert.Pre_input_finite.Facts) (hPre_attn_finite : Cert.Pre_attn_finite.Facts) (hPre_mlp_finite : Cert.Pre_mlp_finite.Facts) (hPre_mla_finite : Cert.Pre_mla_finite.Facts) (hPre_mlf_finite : Cert.Pre_mlf_finite.Facts),
    quiescent_InBwd (hInBwd := hInBwd)
    ∧ quiescent_InBwdIdeal (hInBwdIdeal := hInBwdIdeal)
    ∧ quiescent_InBwdIdeal_pre_input_finite (hInBwdIdeal := hInBwdIdeal) (hPre_input_finite := hPre_input_finite)
    ∧ quiescent_InBwdRefIdeal (hInBwdRefIdeal := hInBwdRefIdeal)
    ∧ quiescent_InBwdRefIdeal_pre_input_finite (hInBwdRefIdeal := hInBwdRefIdeal) (hPre_input_finite := hPre_input_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_MlpBwd (hMlpBwd := hMlpBwd)
    ∧ quiescent_MlpBwdIdeal (hMlpBwdIdeal := hMlpBwdIdeal)
    ∧ quiescent_MlpBwdIdeal_pre_mlp_finite (hMlpBwdIdeal := hMlpBwdIdeal) (hPre_mlp_finite := hPre_mlp_finite)
    ∧ quiescent_MlpBwdRefIdeal (hMlpBwdRefIdeal := hMlpBwdRefIdeal)
    ∧ quiescent_MlpBwdRefIdeal_pre_mlp_finite (hMlpBwdRefIdeal := hMlpBwdRefIdeal) (hPre_mlp_finite := hPre_mlp_finite)
    ∧ quiescent_MlaBwd (hMlaBwd := hMlaBwd)
    ∧ quiescent_MlaBwdIdeal (hMlaBwdIdeal := hMlaBwdIdeal)
    ∧ quiescent_MlaBwdIdeal_pre_mla_finite (hMlaBwdIdeal := hMlaBwdIdeal) (hPre_mla_finite := hPre_mla_finite)
    ∧ quiescent_MlaBwdRefIdeal (hMlaBwdRefIdeal := hMlaBwdRefIdeal)
    ∧ quiescent_MlaBwdRefIdeal_pre_mla_finite (hMlaBwdRefIdeal := hMlaBwdRefIdeal) (hPre_mla_finite := hPre_mla_finite)
    ∧ quiescent_MlpFwd (hMlpFwd := hMlpFwd)
    ∧ quiescent_MlpFwdIdeal (hMlpFwdIdeal := hMlpFwdIdeal)
    ∧ quiescent_MlpFwdIdeal_pre_mlf_finite (hMlpFwdIdeal := hMlpFwdIdeal) (hPre_mlf_finite := hPre_mlf_finite)
    ∧ quiescent_MlpFwdRefIdeal (hMlpFwdRefIdeal := hMlpFwdRefIdeal)
    ∧ quiescent_MlpFwdRefIdeal_pre_mlf_finite (hMlpFwdRefIdeal := hMlpFwdRefIdeal) (hPre_mlf_finite := hPre_mlf_finite)
    ∧ preserves_InBwd_InBwdIdeal
    ∧ algebraic_InBwdIdeal_InBwdRefIdeal_pre_input_finite (hInBwdIdeal := hInBwdIdeal) (hInBwdRefIdeal := hInBwdRefIdeal) (hPre_input_finite := hPre_input_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_MlpBwd_MlpBwdIdeal
    ∧ algebraic_MlpBwdIdeal_MlpBwdRefIdeal_pre_mlp_finite (hMlpBwdIdeal := hMlpBwdIdeal) (hMlpBwdRefIdeal := hMlpBwdRefIdeal) (hPre_mlp_finite := hPre_mlp_finite)
    ∧ preserves_MlaBwd_MlaBwdIdeal
    ∧ algebraic_MlaBwdIdeal_MlaBwdRefIdeal_pre_mla_finite (hMlaBwdIdeal := hMlaBwdIdeal) (hMlaBwdRefIdeal := hMlaBwdRefIdeal) (hPre_mla_finite := hPre_mla_finite)
    ∧ preserves_MlpFwd_MlpFwdIdeal
    ∧ algebraic_MlpFwdIdeal_MlpFwdRefIdeal_pre_mlf_finite (hMlpFwdIdeal := hMlpFwdIdeal) (hMlpFwdRefIdeal := hMlpFwdRefIdeal) (hPre_mlf_finite := hPre_mlf_finite)
-- ==== Pre_attn_finite.lean ====
abbrev S4096x4x128 : Shape := ⟨3, ![4096, 4, 128]⟩
abbrev S4096x4x64 : Shape := ⟨3, ![4096, 4, 64]⟩
abbrev S4096x64 : Shape := ⟨2, ![4096, 64]⟩
abbrev S4096x1024 : Shape := ⟨2, ![4096, 1024]⟩
abbrev S_ : Shape := ⟨0, ![]⟩

class Facts : Prop where
  bcast_S_S4096x4x128 : S_.BroadcastsInDim S4096x4x128 (![] : Fin 0 → Fin S4096x4x128.rank)
  bcast_S_S4096x4x64 : S_.BroadcastsInDim S4096x4x64 (![] : Fin 0 → Fin S4096x4x64.rank)
  bcast_S_S4096x64 : S_.BroadcastsInDim S4096x64 (![] : Fin 0 → Fin S4096x64.rank)
  bcast_S_S4096x1024 : S_.BroadcastsInDim S4096x1024 (![] : Fin 0 → Fin S4096x1024.rank)

variable [Facts]

def fn {F : FTy → Type} [FloatOps F] (main_arg0 : FVec F S4096x4x128 .f32) (main_arg1 : FVec F S4096x4x64 .f32) (main_arg2 : FVec F S4096x4x128 .f32) (main_arg3 : FVec F S4096x64 .f32) (main_arg4 : FVec F S4096x4x128 .f32) (main_arg5 : FVec F S4096x1024 .f32) : IVec S4096x4x128 1 × IVec S4096x4x64 1 × IVec S4096x4x128 1 × IVec S4096x64 1 × IVec S4096x4x128 1 × IVec S4096x1024 1 :=
  let main_v0 : FVec F S4096x4x128 .f32 := Host.absf main_arg0
  let main_cst : FVec F S_ .f32 := constant S_ .f32 0x7F800000#32
  let main_v1 : FVec F S4096x4x128 .f32 := broadcastInDim S4096x4x128 ![] bcast_S_S4096x4x128 main_cst
  let main_v2 : IVec S4096x4x128 1 := cmpf .olt main_v0 main_v1
  let main_v3 : FVec F S4096x4x64 .f32 := Host.absf main_arg1
  let main_cst_0 : FVec F S_ .f32 := constant S_ .f32 0x7F800000#32
  let main_v4 : FVec F S4096x4x64 .f32 := broadcastInDim S4096x4x64 ![] bcast_S_S4096x4x64 main_cst_0
  let main_v5 : IVec S4096x4x64 1 := cmpf .olt main_v3 main_v4
  let main_v6 : FVec F S4096x4x128 .f32 := Host.absf main_arg2
  let main_cst_1 : FVec F S_ .f32 := constant S_ .f32 0x7F800000#32
  let main_v7 : FVec F S4096x4x128 .f32 := broadcastInDim S4096x4x128 ![] bcast_S_S4096x4x128 main_cst_1
  let main_v8 : IVec S4096x4x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x4x128 .f32 := Host.absf main_arg4
  let main_cst_3 : FVec F S_ .f32 := constant S_ .f32 0x7F800000#32
  let main_v13 : FVec F S4096x4x128 .f32 := broadcastInDim S4096x4x128 ![] bcast_S_S4096x4x128 main_cst_3
  let main_v14 : IVec S4096x4x128 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_input_finite.lean ====
abbrev S4096x1024 : Shape := ⟨2, ![4096, 1024]⟩
abbrev S1x1024 : Shape := ⟨2, ![1, 1024]⟩
abbrev S1024x2624 : Shape := ⟨2, ![1024, 2624]⟩
abbrev S4096 : Shape := ⟨1, ![4096]⟩
abbrev S4096x2048 : Shape := ⟨2, ![4096, 2048]⟩
abbrev S4096x256 : Shape := ⟨2, ![4096, 256]⟩
abbrev S4096x64 : Shape := ⟨2, ![4096, 64]⟩
abbrev S_ : Shape := ⟨0, ![]⟩

class Facts : Prop where
  bcast_S_S1024x2624 : S_.BroadcastsInDim S1024x2624 (![] : Fin 0 → Fin S1024x2624.rank)
  bcast_S_S4096x64 : S_.BroadcastsInDim S4096x64 (![] : Fin 0 → Fin S4096x64.rank)

variable [Facts]

def fn {F : FTy → Type} [FloatOps F] (main_arg0 : FVec F S4096x1024 .f32) (main_arg1 : FVec F S1x1024 .f32) (main_arg2 : FVec F S1x1024 .f32) (main_arg3 : FVec F S1024x2624 .f32) (main_arg4 : IVec S4096 32) (main_arg5 : FVec F S4096x2048 .f32) (main_arg6 : FVec F S4096x256 .f32) (main_arg7 : FVec F S4096x256 .f32) (main_arg8 : FVec F S4096x64 .f32) (main_arg9 : FVec F S4096x1024 .f32) : IVec S1024x2624 1 × IVec S4096x64 1 :=
  let main_v0 : FVec F S1024x2624 .f32 := Host.absf main_arg3
  let main_cst : FVec F S_ .f32 := constant S_ .f32 0x7F800000#32
  let main_v1 : FVec F S1024x2624 .f32 := broadcastInDim S1024x2624 ![] bcast_S_S1024x2624 main_cst
  let main_v2 : IVec S1024x2624 1 := cmpf .olt main_v0 main_v1
  let main_v3 : FVec F S4096x64 .f32 := Host.absf main_arg8
  let main_cst_0 : FVec F S_ .f32 := constant S_ .f32 0x7F800000#32
  let main_v4 : FVec F S4096x64 .f32 := broadcastInDim S4096x64 ![] bcast_S_S4096x64 main_cst_0
  let main_v5 : IVec S4096x64 1 := cmpf .olt main_v3 main_v4
  (main_v2, main_v5)
-- ==== Pre_mla_finite.lean ====
abbrev S4096x256 : Shape := ⟨2, ![4096, 256]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S4x4096x192 : Shape := ⟨3, ![4, 4096, 192]⟩
abbrev S4x4096x128 : Shape := ⟨3, ![4, 4096, 128]⟩
abbrev S_ : Shape := ⟨0, ![]⟩

class Facts : Prop where
  bcast_S_S4096x256 : S_.BroadcastsInDim S4096x256 (![] : Fin 0 → Fin S4096x256.rank)
  bcast_S_S1x256 : S_.BroadcastsInDim S1x256 (![] : Fin 0 → Fin S1x256.rank)
  bcast_S_S256x768 : S_.BroadcastsInDim S256x768 (![] : Fin 0 → Fin S256x768.rank)
  bcast_S_S256x1024 : S_.BroadcastsInDim S256x1024 (![] : Fin 0 → Fin S256x1024.rank)
  bcast_S_S4x4096x192 : S_.BroadcastsInDim S4x4096x192 (![] : Fin 0 → Fin S4x4096x192.rank)
  bcast_S_S4x4096x128 : S_.BroadcastsInDim S4x4096x128 (![] : Fin 0 → Fin S4x4096x128.rank)

variable [Facts]

def fn_part1 {F : FTy → Type} [FloatOps F] (main_arg7 : FVec F S4x4096x192 .f32) (main_arg8 : FVec F S4x4096x192 .f32) (main_arg9 : FVec F S4x4096x128 .f32) (main_v2 : IVec S4096x256 1) (main_v5 : IVec S4096x256 1) (main_v8 : IVec S1x256 1) (main_v11 : IVec S1x256 1) (main_v14 : IVec S256x768 1) (main_v17 : IVec S256x1024 1) : IVec S4096x256 1 × IVec S4096x256 1 × IVec S1x256 1 × IVec S1x256 1 × IVec S256x768 1 × IVec S256x1024 1 × IVec S4x4096x192 1 × IVec S4x4096x192 1 × IVec S4x4096x128 1 :=
  let main_v18 : FVec F S4x4096x192 .f32 := Host.absf main_arg7
  let main_cst_5 : FVec F S_ .f32 := constant S_ .f32 0x7F800000#32
  let main_v19 : FVec F S4x4096x192 .f32 := broadcastInDim S4x4096x192 ![] bcast_S_S4x4096x192 main_cst_5
  let main_v20 : IVec S4x4096x192 1 := cmpf .olt main_v18 main_v19
  let main_v21 : FVec F S4x4096x192 .f32 := Host.absf main_arg8
  let main_cst_6 : FVec F S_ .f32 := constant S_ .f32 0x7F800000#32
  let main_v22 : FVec F S4x4096x192 .f32 := broadcastInDim S4x4096x192 ![] bcast_S_S4x4096x192 main_cst_6
  let main_v23 : IVec S4x4096x192 1 := cmpf .olt main_v21 main_v22
  let main_v24 : FVec F S4x4096x128 .f32 := Host.absf main_arg9
  let main_cst_7 : FVec F S_ .f32 := constant S_ .f32 0x7F800000#32
  let main_v25 : FVec F S4x4096x128 .f32 := broadcastInDim S4x4096x128 ![] bcast_S_S4x4096x128 main_cst_7
  let main_v26 : IVec S4x4096x128 1 := cmpf .olt main_v24 main_v25
  (main_v2, main_v5, main_v8, main_v11, main_v14, main_v17, main_v20, main_v23, main_v26)

def fn {F : FTy → Type} [FloatOps F] (main_arg0 : FVec F S4096x256 .f32) (main_arg1 : FVec F S4096x256 .f32) (main_arg2 : IVec S4096 32) (main_arg3 : FVec F S1x256 .f32) (main_arg4 : FVec F S1x256 .f32) (main_arg5 : FVec F S256x768 .f32) (main_arg6 : FVec F S256x1024 .f32) (main_arg7 : FVec F S4x4096x192 .f32) (main_arg8 : FVec F S4x4096x192 .f32) (main_arg9 : FVec F S4x4096x128 .f32) : IVec S4096x256 1 × IVec S4096x256 1 × IVec S1x256 1 × IVec S1x256 1 × IVec S256x768 1 × IVec S256x1024 1 × IVec S4x4096x192 1 × IVec S4x4096x192 1 × IVec S4x4096x128 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S1x256 .f32 := Host.absf main_arg3
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S256x768 .f32 := Host.absf main_arg5
  let main_cst_3 : FVec F S_ .f32 := constant S_ .f32 0x7F800000#32
  let main_v13 : FVec F S256x768 .f32 := broadcastInDim S256x768 ![] bcast_S_S256x768 main_cst_3
  let main_v14 : IVec S256x768 1 := cmpf .olt main_v12 main_v13
  let main_v15 : FVec F S256x1024 .f32 := Host.absf main_arg6
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg7 main_arg8 main_arg9 main_v2 main_v5 main_v8 main_v11 main_v14 main_v17
-- ==== Pre_mlf_finite.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)

variable [Facts]

def fn_part2 {F : FTy → Type} [FloatOps F] (main_arg12 : FVec F S4096x1024 .f32) (main_v2 : IVec S4096x1024 1) (main_v5 : IVec S4096x1024 1) (main_v8 : IVec S1x1024 1) (main_v11 : IVec S1x1024 1) (main_v14 : IVec S1x1024 1) (main_v17 : IVec S1x1024 1) (main_v20 : IVec S1x1024 1) (main_v23 : IVec S1024x4096 1) (main_v26 : IVec S4096x1024 1) (main_v29 : IVec S1x1024 1) (main_v32 : IVec S1x1024 1) (main_v35 : IVec S1x1024 1) : IVec S4096x1024 1 × IVec S4096x1024 1 × IVec S1x1024 1 × IVec S1x1024 1 × IVec S1x1024 1 × IVec S1x1024 1 × IVec S1x1024 1 × IVec S1024x4096 1 × IVec S4096x1024 1 × IVec S1x1024 1 × IVec S1x1024 1 × IVec S1x1024 1 × IVec S4096x1024 1 :=
  let main_v36 : FVec F S4096x1024 .f32 := Host.absf main_arg12
  let main_cst_11 : FVec F S_ .f32 := constant S_ .f32 0x7F800000#32
  let main_v37 : FVec F S4096x1024 .f32 := broadcastInDim S4096x1024 ![] bcast_S_S4096x1024 main_cst_11
  let main_v38 : IVec S4096x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S1x1024 .f32) (main_arg7 : FVec F S1024x4096 .f32) (main_arg8 : FVec F S4096x1024 .f32) (main_arg9 : FVec F S1x1024 .f32) (main_arg10 : FVec F S1x1024 .f32) (main_arg11 : FVec F S1x1024 .f32) (main_arg12 : FVec F S4096x1024 .f32) (main_v2 : IVec S4096x1024 1) (main_v5 : IVec S4096x1024 1) (main_v8 : IVec S1x1024 1) (main_v11 : IVec S1x1024 1) (main_v14 : IVec S1x1024 1) (main_v17 : IVec S1x1024 1) : IVec S4096x1024 1 × IVec S4096x1024 1 × IVec S1x1024 1 × IVec S1x1024 1 × IVec S1x1024 1 × IVec S1x1024 1 × IVec S1x1024 1 × IVec S1024x4096 1 × IVec S4096x1024 1 × IVec S1x1024 1 × IVec S1x1024 1 × IVec S1x1024 1 × IVec S4096x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1024x4096 .f32 := Host.absf main_arg7
  let main_cst_6 : FVec F S_ .f32 := constant S_ .f32 0x7F800000#32
  let main_v22 : FVec F S1024x4096 .f32 := broadcastInDim S1024x4096 ![] bcast_S_S1024x4096 main_cst_6
  let main_v23 : IVec S1024x4096 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  let main_v33 : FVec F S1x1024 .f32 := Host.absf main_arg11
  let main_cst_10 : FVec F S_ .f32 := constant S_ .f32 0x7F800000#32
  let main_v34 : FVec F S1x1024 .f32 := broadcastInDim S1x1024 ![] bcast_S_S1x1024 main_cst_10
  let main_v35 : IVec S1x1024 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x4096 .f32) (main_arg8 : FVec F S4096x1024 .f32) (main_arg9 : FVec F S1x1024 .f32) (main_arg10 : FVec F S1x1024 .f32) (main_arg11 : FVec F S1x1024 .f32) (main_arg12 : FVec F S4096x1024 .f32) : IVec S4096x1024 1 × IVec S4096x1024 1 × IVec S1x1024 1 × IVec S1x1024 1 × IVec S1x1024 1 × IVec S1x1024 1 × IVec S1x1024 1 × IVec S1024x4096 1 × IVec S4096x1024 1 × IVec S1x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_arg11 main_arg12 main_v2 main_v5 main_v8 main_v11 main_v14 main_v17
-- ==== Pre_mlp_finite.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4096 : S_.BroadcastsInDim S1024x4096 (![] : Fin 0 → Fin S1024x4096.rank)

variable [Facts]

def fn_part1 {F : FTy → Type} [FloatOps F] (main_arg6 : FVec F S1x1024 .f32) (main_arg7 : FVec F S1024x4096 .f32) (main_arg8 : FVec F S4096x1024 .f32) (main_arg9 : FVec F S4096x1024 .f32) (main_arg10 : FVec F S4096x1024 .f32) (main_v2 : IVec S4096x1024 1) (main_v5 : IVec S4096x1024 1) (main_v8 : IVec S1x1024 1) (main_v11 : IVec S1x1024 1) (main_v14 : IVec S1x1024 1) (main_v17 : IVec S1x1024 1) : IVec S4096x1024 1 × IVec S4096x1024 1 × IVec S1x1024 1 × IVec S1x1024 1 × IVec S1x1024 1 × IVec S1x1024 1 × IVec S1x1024 1 × IVec S1024x4096 1 × IVec S4096x1024 1 × IVec S4096x1024 1 × IVec S4096x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1024x4096 .f32 := Host.absf main_arg7
  let main_cst_6 : FVec F S_ .f32 := constant S_ .f32 0x7F800000#32
  let main_v22 : FVec F S1024x4096 .f32 := broadcastInDim S1024x4096 ![] bcast_S_S1024x4096 main_cst_6
  let main_v23 : IVec S1024x4096 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  let main_v30 : FVec F S4096x1024 .f32 := Host.absf main_arg10
  let main_cst_9 : FVec F S_ .f32 := constant S_ .f32 0x7F800000#32
  let main_v31 : FVec F S4096x1024 .f32 := broadcastInDim S4096x1024 ![] bcast_S_S4096x1024 main_cst_9
  let main_v32 : IVec S4096x1024 1 := cmpf .olt main_v30 main_v31
  (main_v2, main_v5, main_v8, main_v11, main_v14, main_v17, main_v20, main_v23, main_v26, main_v29, main_v32)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x4096 .f32) (main_arg8 : FVec F S4096x1024 .f32) (main_arg9 : FVec F S4096x1024 .f32) (main_arg10 : FVec F S4096x1024 .f32) : IVec S4096x1024 1 × IVec S4096x1024 1 × IVec S1x1024 1 × IVec S1x1024 1 × IVec S1x1024 1 × IVec S1x1024 1 × IVec S1x1024 1 × IVec S1024x4096 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_v2 main_v5 main_v8 main_v11 main_v14 main_v17
-- ==== InBwd.lean ====
abbrev S4096x1024 : Shape := ⟨2, ![4096, 1024]⟩
abbrev S1x1024 : Shape := ⟨2, ![1, 1024]⟩
abbrev S1024x2624 : Shape := ⟨2, ![1024, 2624]⟩
abbrev S4096 : Shape := ⟨1, ![4096]⟩
abbrev S4096x2048 : Shape := ⟨2, ![4096, 2048]⟩
abbrev S4096x256 : Shape := ⟨2, ![4096, 256]⟩
abbrev S4096x64 : Shape := ⟨2, ![4096, 64]⟩
abbrev S2624x1024 : Shape := ⟨2, ![2624, 1024]⟩
abbrev S_ : Shape := ⟨0, ![]⟩
abbrev S128x1024 : Shape := ⟨2, ![128, 1024]⟩
abbrev S64x1024 : Shape := ⟨2, ![64, 1024]⟩
abbrev S2560x1024 : Shape := ⟨2, ![2560, 1024]⟩
abbrev S32x1024 : Shape := ⟨2, ![32, 1024]⟩
abbrev S3072x1024 : Shape := ⟨2, ![3072, 1024]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x2048 : Shape := ⟨2, ![1, 2048]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩
abbrev S1024 : Shape := ⟨1, ![1024]⟩

abbrev nBuf : Space → Nat
  | .hbm => 65
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2624, .f32⟩
  | .hbm, ⟨4, _⟩ => ⟨S4096, .i32⟩
  | .hbm, ⟨5, _⟩ => ⟨S4096x2048, .f32⟩
  | .hbm, ⟨6, _⟩ => ⟨S4096x256, .f32⟩
  | .hbm, ⟨7, _⟩ => ⟨S4096x256, .f32⟩
  | .hbm, ⟨8, _⟩ => ⟨S4096x64, .f32⟩
  | .hbm, ⟨9, _⟩ => ⟨S4096x1024, .f32⟩
  | .hbm, ⟨10, _⟩ => ⟨S2624x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S64x1024, .f32⟩
  | .hbm, ⟨15, _⟩ => ⟨S2560x1024, .f32⟩
  | .hbm, ⟨16, _⟩ => ⟨S64x1024, .f32⟩
  | .hbm, ⟨17, _⟩ => ⟨S64x1024, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S64x1024, .f32⟩
  | .hbm, ⟨22, _⟩ => ⟨S3072x1024, .f32⟩
  | .hbm, ⟨23, _⟩ => ⟨S3072x1024, .bf16⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S4096, .f32⟩
  | .hbm, ⟨41, _⟩ => ⟨S4096x1, .f32⟩
  | .hbm, ⟨42, _⟩ => ⟨S1x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x64, .f32⟩
  | .hbm, ⟨49, _⟩ => ⟨S4096x64, .f32⟩
  | .hbm, ⟨50, _⟩ => ⟨S_, .f32⟩
  | .hbm, ⟨51, _⟩ => ⟨S4096x128, .f32⟩
  | .hbm, ⟨52, _⟩ => ⟨S4096x64, .f32⟩
  | .hbm, ⟨53, _⟩ => ⟨S_, .f32⟩
  | .hbm, ⟨54, _⟩ => ⟨S4096x64, .f32⟩
  | .hbm, ⟨55, _⟩ => ⟨S_, .f32⟩
  | .hbm, ⟨56, _⟩ => ⟨S4096x128, .f32⟩
  | .hbm, ⟨57, _⟩ => ⟨S4096x64, .f32⟩
  | .hbm, ⟨58, _⟩ => ⟨S_, .f32⟩
  | .hbm, ⟨59, _⟩ => ⟨S4096x64, .f32⟩
  | .hbm, ⟨60, _⟩ => ⟨S4096x1024, .f32⟩
  | .hbm, ⟨61, _⟩ => ⟨S4096x1024, .bf16⟩
  | .hbm, ⟨62, _⟩ => ⟨S4096x2048, .bf16⟩
  | .hbm, ⟨63, _⟩ => ⟨S4096x1024, .f32⟩
  | .hbm, ⟨64, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S3072x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InBwdRefIdeal.lean ====
abbrev S4096x1024 : Shape := ⟨2, ![4096, 1024]⟩
abbrev S1x1024 : Shape := ⟨2, ![1, 1024]⟩
abbrev S1024x2624 : Shape := ⟨2, ![1024, 2624]⟩
abbrev S4096 : Shape := ⟨1, ![4096]⟩
abbrev S4096x2048 : Shape := ⟨2, ![4096, 2048]⟩
abbrev S4096x256 : Shape := ⟨2, ![4096, 256]⟩
abbrev S4096x64 : Shape := ⟨2, ![4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x2624 : Shape := ⟨2, ![4096, 2624]⟩
abbrev S1024 : Shape := ⟨1, ![1024]⟩
abbrev S1x2048 : Shape := ⟨2, ![1, 2048]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2624, .f32⟩
  | .hbm, ⟨4, _⟩ => ⟨S4096, .i32⟩
  | .hbm, ⟨5, _⟩ => ⟨S4096x2048, .f32⟩
  | .hbm, ⟨6, _⟩ => ⟨S4096x256, .f32⟩
  | .hbm, ⟨7, _⟩ => ⟨S4096x256, .f32⟩
  | .hbm, ⟨8, _⟩ => ⟨S4096x64, .f32⟩
  | .hbm, ⟨9, _⟩ => ⟨S4096x1024, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x2624, .f32⟩
  | .hbm, ⟨42, _⟩ => ⟨S4096x2048, .f32⟩
  | .hbm, ⟨43, _⟩ => ⟨S4096x256, .f32⟩
  | .hbm, ⟨44, _⟩ => ⟨S4096x256, .f32⟩
  | .hbm, ⟨45, _⟩ => ⟨S4096x64, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x64, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x64, .f32⟩
  | .hbm, ⟨71, _⟩ => ⟨S4096x2624, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== AttnBwd.lean ====
abbrev S4096x4x128 : Shape := ⟨3, ![4096, 4, 128]⟩
abbrev S4096x4x64 : Shape := ⟨3, ![4096, 4, 64]⟩
abbrev S4096x64 : Shape := ⟨2, ![4096, 64]⟩
abbrev S4096x1024 : Shape := ⟨2, ![4096, 1024]⟩
abbrev S_ : Shape := ⟨0, ![]⟩
abbrev S4096x4x256 : Shape := ⟨3, ![4096, 4, 256]⟩
abbrev S4096x1x64 : Shape := ⟨3, ![4096, 1, 64]⟩
abbrev S4x4096x256 : Shape := ⟨3, ![4, 4096, 256]⟩
abbrev S4x4096x128 : Shape := ⟨3, ![4, 4096, 128]⟩
abbrev S4x4096x4096 : Shape := ⟨3, ![4, 4096, 4096]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S1x1x1 : Shape := ⟨3, ![1, 1, 1]⟩
abbrev S4096x512 : Shape := ⟨2, ![4096, 512]⟩
abbrev S1x4096x256 : Shape := ⟨3, ![1, 4096, 256]⟩
abbrev S1x1024x256 : Shape := ⟨3, ![1, 1024, 256]⟩
abbrev S1x1024x128 : Shape := ⟨3, ![1, 1024, 128]⟩
abbrev S4096x128 : Shape := ⟨2, ![4096, 128]⟩
abbrev S1x4096x128 : Shape := ⟨3, ![1, 4096, 128]⟩
abbrev S4096x256 : Shape := ⟨2, ![4096, 256]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩
abbrev S1x512x256 : Shape := ⟨3, ![1, 512, 256]⟩
abbrev S512x256 : Shape := ⟨2, ![512, 256]⟩
abbrev S512x1024 : Shape := ⟨2, ![512, 1024]⟩
abbrev S1x512x1 : Shape := ⟨3, ![1, 512, 1]⟩

abbrev nBuf : Space → Nat
  | .hbm => 60
  | .vmem => 20
  | .smem => 0
  | _ => 0

abbrev bufTy : (tb : Table) → Fin (tcTables nBuf tb) → BufTy
  | .hbm, ⟨0, _⟩ => ⟨S4096x4x128, .f32⟩
  | .hbm, ⟨1, _⟩ => ⟨S4096x4x64, .f32⟩
  | .hbm, ⟨2, _⟩ => ⟨S4096x4x128, .f32⟩
  | .hbm, ⟨3, _⟩ => ⟨S4096x64, .f32⟩
  | .hbm, ⟨4, _⟩ => ⟨S4096x4x128, .f32⟩
  | .hbm, ⟨5, _⟩ => ⟨S4096x1024, .f32⟩
  | .hbm, ⟨6, _⟩ => ⟨S_, .f32⟩
  | .hbm, ⟨7, _⟩ => ⟨S4096x4x64, .f32⟩
  | .hbm, ⟨8, _⟩ => ⟨S4096x4x256, .f32⟩
  | .hbm, ⟨9, _⟩ => ⟨S4096x1x64, .f32⟩
  | .hbm, ⟨10, _⟩ => ⟨S4096x4x64, .f32⟩
  | .hbm, ⟨11, _⟩ => ⟨S_, .f32⟩
  | .hbm, ⟨12, _⟩ => ⟨S4096x4x64, .f32⟩
  | .hbm, ⟨13, _⟩ => ⟨S4096x4x256, .f32⟩
  | .hbm, ⟨14, _⟩ => ⟨S4x4096x256, .f32⟩
  | .hbm, ⟨15, _⟩ => ⟨S_, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S4x4096x128, .f32⟩
  | .hbm, ⟨20, _⟩ => ⟨S4x4096x4096, .f32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S1x4096x4096, .i1⟩
  | .hbm, ⟨25, _⟩ => ⟨S_, .f32⟩
  | .hbm, ⟨26, _⟩ => ⟨S_, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x128, .f32⟩
  | .hbm, ⟨40, _⟩ => ⟨S4x4096x128, .f32⟩
  | .hbm, ⟨41, _⟩ => ⟨S4x4096x128, .f32⟩
  | .hbm, ⟨42, _⟩ => ⟨S_, .f32⟩
  | .hbm, ⟨43, _⟩ => ⟨S1x1x1, .f32⟩
  | .hbm, ⟨44, _⟩ => ⟨S1x1x1, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x128, .f32⟩
  | .hbm, ⟨50, _⟩ => ⟨S4096x4x128, .f32⟩
  | .hbm, ⟨51, _⟩ => ⟨S4096x512, .f32⟩
  | .hbm, ⟨52, _⟩ => ⟨S4x4096x256, .f32⟩
  | .hbm, ⟨53, _⟩ => ⟨S4x4096x256, .f32⟩
  | .hbm, ⟨54, _⟩ => ⟨S4x4096x256, .bf16⟩
  | .hbm, ⟨55, _⟩ => ⟨S4x4096x256, .bf16⟩
  | .hbm, ⟨56, _⟩ => ⟨S4x4096x128, .bf16⟩
  | .hbm, ⟨57, _⟩ => ⟨S4x4096x256, .bf16⟩
  | .hbm, ⟨58, _⟩ => ⟨S4x4096x256, .bf16⟩
  | .hbm, ⟨59, _⟩ => ⟨S4x4096x128, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x256, .bf16⟩
  | .local _ .vmem, ⟨13, _⟩ => ⟨S1x4096x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x128, .bf16⟩
  | .local _ .vmem, ⟨17, _⟩ => ⟨S1x1024x128, .bf16⟩
  | .local _ .vmem, ⟨18, _⟩ => ⟨S4096x128, .f32⟩
  | .local _ .vmem, ⟨19, _⟩ => ⟨S4096x256, .f32⟩
  | _, _ => ⟨S4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_63 : BitVec 32 := 0#32
  let c8_i32_64 : BitVec 32 := 8#32
  let v140 : BitVec 32 := Scalar.addi c0_i32_63 c8_i32_64
  let c1_i32_65 : BitVec 32 := 1#32
  ⟨c0_i32_63, v140, c1_i32_65⟩
def k0_mult1 (k0_t1 : Fin k0_t1_loop.trips) : BitVec 32 :=
  let c0_i32_63 : BitVec 32 := 0#32
  let c1_i32_65 : BitVec 32 := 1#32
  let arg13 : BitVec 32 := Scf.iv c0_i32_63 c1_i32_65 k0_t1
  let c512_i32_67 : BitVec 32 := 512#32
  let v141 : BitVec 32 := Scalar.muli arg13 c512_i32_67
  v141
def k0_off1 (k0_t1 : Fin k0_t1_loop.trips) : Fin 2 → Nat :=
  let c0_i32_63 : BitVec 32 := 0#32
  let c1_i32_65 : BitVec 32 := 1#32
  let arg13 : BitVec 32 := Scf.iv c0_i32_63 c1_i32_65 k0_t1
  let c512_i32_67 : BitVec 32 := 512#32
  let v141 : BitVec 32 := Scalar.muli arg13 c512_i32_67
  let v142 : BitVec 32 := v141
  let v143 : Index := Scalar.indexCast v142
  let c0_68 : Index := 0#32
  ![v143.toNat, 0]
def k0_mult2 (i : grid0.Coords) : BitVec 32 :=
  let c2_i32 : BitVec 32 := 2#32
  let arg1 : BitVec 32 := BitVec.ofNat 32 (i 1).val
  let v9 : BitVec 32 := Scalar.muli c2_i32 arg1
  let c512_i32 : BitVec 32 := 512#32
  let v12 : BitVec 32 := Scalar.muli v9 c512_i32
  v12
def k0_mult3 (i : grid0.Coords) : BitVec 32 :=
  let c2_i32_7 : BitVec 32 := 2#32
  let arg1 : BitVec 32 := BitVec.ofNat 32 (i 1).val
  let v10 : BitVec 32 := Scalar.muli c2_i32_7 arg1
  let c1_i32 : BitVec 32 := 1#32
  let v11 : BitVec 32 := Scalar.addi v10 c1_i32
  let c512_i32_8 : BitVec 32 := 512#32
  let v14 : BitVec 32 := Scalar.muli v11 c512_i32_8
  v14
def k0_off2 (i : grid0.Coords) : Fin 3 → Nat :=
  let c0_9 : Index := 0#32
  let c2_i32 : BitVec 32 := 2#32
  let arg1 : BitVec 32 := BitVec.ofNat 32 (i 1).val
  let v9 : BitVec 32 := Scalar.muli c2_i32 arg1
  let c512_i32 : BitVec 32 := 512#32
  let v12 : BitVec 32 := Scalar.muli v9 c512_i32
  let v13 : BitVec 32 := v12
  let v16 : Index := Scalar.indexCast v13
  let c0_10 : Index := 0#32
  ![0, v16.toNat, 0]
def k0_off3 (i : grid0.Coords) : Fin 3 → Nat :=
  let c0_11 : Index := 0#32
  let c2_i32_7 : BitVec 32 := 2#32
  let arg1 : BitVec 32 := BitVec.ofNat 32 (i 1).val
  let v10 : BitVec 32 := Scalar.muli c2_i32_7 arg1
  let c1_i32 : BitVec 32 := 1#32
  let v11 : BitVec 32 := Scalar.addi v10 c1_i32
  let c512_i32_8 : BitVec 32 := 512#32
  let v14 : BitVec 32 := Scalar.muli v11 c512_i32_8
  let v15 : BitVec 32 := v14
  let v19 : Index := Scalar.indexCast v15
  let c0_12 : Index := 0#32
  ![0, v19.toNat, 0]
def k0_off4 (i : grid0.Coords) : Fin 2 → Nat :=
  let c2_i32 : BitVec 32 := 2#32
  let arg1 : BitVec 32 := BitVec.ofNat 32 (i 1).val
  let v9 : BitVec 32 := Scalar.muli c2_i32 arg1
  let c512_i32 : BitVec 32 := 512#32
  let v12 : BitVec 32 := Scalar.muli v9 c512_i32
  let v13 : BitVec 32 := v12
  let v22 : Index := Scalar.indexCast v13
  let c0_13 : Index := 0#32
  ![v22.toNat, 0]
def k0_off5 (i : grid0.Coords) : Fin 2 → Nat :=
  let c2_i32_7 : BitVec 32 := 2#32
  let arg1 : BitVec 32 := BitVec.ofNat 32 (i 1).val
  let v10 : BitVec 32 := Scalar.muli c2_i32_7 arg1
  let c1_i32 : BitVec 32 := 1#32
  let v11 : BitVec 32 := Scalar.addi v10 c1_i32
  let c512_i32_8 : BitVec 32 := 512#32
  let v14 : BitVec 32 := Scalar.muli v11 c512_i32_8
  let v15 : BitVec 32 := v14
  let v25 : Index := Scalar.indexCast v15
  let c0_14 : Index := 0#32
  ![v25.toNat, 0]
def k0_off6 (i : grid0.Coords) : Fin 3 → Nat :=
  let c0_19 : Index := 0#32
  let c2_i32 : BitVec 32 := 2#32
  let arg1 : BitVec 32 := BitVec.ofNat 32 (i 1).val
  let v9 : BitVec 32 := Scalar.muli c2_i32 arg1
  let c512_i32 : BitVec 32 := 512#32
  let v12 : BitVec 32 := Scalar.muli v9 c512_i32
  let v13 : BitVec 32 := v12
  let v32 : Index := Scalar.indexCast v13
  let c0_20 : Index := 0#32
  ![0, v32.toNat, 0]
def k0_off7 (i : grid0.Coords) : Fin 2 → Nat :=
  let c2_i32 : BitVec 32 := 2#32
  let arg1 : BitVec 32 := BitVec.ofNat 32 (i 1).val
  let v9 : BitVec 32 := Scalar.muli c2_i32 arg1
  let c512_i32 : BitVec 32 := 512#32
  let v12 : BitVec 32 := Scalar.muli v9 c512_i32
  let v13 : BitVec 32 := v12
  let v45 : Index := Scalar.indexCast v13
  let c0_23 : Index := 0#32
  ![v45.toNat, 0]
def k0_off8 (i : grid0.Coords) : Fin 2 → Nat :=
  let c2_i32 : BitVec 32 := 2#32
  let arg1 : BitVec 32 := BitVec.ofNat 32 (i 1).val
  let v9 : BitVec 32 := Scalar.muli c2_i32 arg1
  let c512_i32 : BitVec 32 := 512#32
  let v12 : BitVec 32 := Scalar.muli v9 c512_i32
  let v13 : BitVec 32 := v12
  let v51 : Index := Scalar.indexCast v13
  let c0_24 : Index := 0#32
  ![v51.toNat, 0]
def k0_off9 (i : grid0.Coords) : Fin 3 → Nat :=
  let c0_29 : Index := 0#32
  let c2_i32_7 : BitVec 32 := 2#32
  let arg1 : BitVec 32 := BitVec.ofNat 32 (i 1).val
  let v10 : BitVec 32 := Scalar.muli c2_i32_7 arg1
  let c1_i32 : BitVec 32 := 1#32
  let v11 : BitVec 32 := Scalar.addi v10 c1_i32
  let c512_i32_8 : BitVec 32 := 512#32
  let v14 : BitVec 32 := Scalar.muli v11 c512_i32_8
  let v15 : BitVec 32 := v14
  let v64 : Index := Scalar.indexCast v15
  let c0_30 : Index := 0#32
  ![0, v64.toNat, 0]
def k0_off10 (i : grid0.Coords) : Fin 2 → Nat :=
  let c2_i32_7 : BitVec 32 := 2#32
  let arg1 : BitVec 32 := BitVec.ofNat 32 (i 1).val
  let v10 : BitVec 32 := Scalar.muli c2_i32_7 arg1
  let c1_i32 : BitVec 32 := 1#32
  let v11 : BitVec 32 := Scalar.addi v10 c1_i32
  let c512_i32_8 : BitVec 32 := 512#32
  let v14 : BitVec 32 := Scalar.muli v11 c512_i32_8
  let v15 : BitVec 32 := v14
  let v77 : Index := Scalar.indexCast v15
  let c0_33 : Index := 0#32
  ![v77.toNat, 0]
def k0_off11 (i : grid0.Coords) : Fin 2 → Nat :=
  let c2_i32_7 : BitVec 32 := 2#32
  let arg1 : BitVec 32 := BitVec.ofNat 32 (i 1).val
  let v10 : BitVec 32 := Scalar.muli c2_i32_7 arg1
  let c1_i32 : BitVec 32 := 1#32
  let v11 : BitVec 32 := Scalar.addi v10 c1_i32
  let c512_i32_8 : BitVec 32 := 512#32
  let v14 : BitVec 32 := Scalar.muli v11 c512_i32_8
  let v15 : BitVec 32 := v14
  let v83 : Index := Scalar.indexCast v15
  let c0_34 : Index := 0#32
  ![v83.toNat, 0]
@[reducible] def k0_t2_loop (i : grid0.Coords) : Scf.Loop 32 :=
  let c0_i32_48 : BitVec 32 := 0#32
  let c8_i32 : BitVec 32 := 8#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_50 : BitVec 32 := 1#32
  ⟨c0_i32_48, v120, c1_i32_50⟩
def k0_mult4 (i : grid0.Coords) (k0_t2 : Fin (k0_t2_loop i).trips) : BitVec 32 :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c1_i32_50 : BitVec 32 := 1#32
  let arg13 : BitVec 32 := Scf.iv c0_i32_48 c1_i32_50 k0_t2
  let v136 : BitVec 32 := Scalar.muli c2_i32_60 arg13
  let v137 : BitVec 32 := Scalar.addi v97 v136
  let c512_i32_63 : BitVec 32 := 512#32
  let v141 : BitVec 32 := Scalar.muli v137 c512_i32_63
  v141
def k0_mult5 (i : grid0.Coords) (k0_t2 : Fin (k0_t2_loop i).trips) : BitVec 32 :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c1_i32_50 : BitVec 32 := 1#32
  let arg13 : BitVec 32 := Scf.iv c0_i32_48 c1_i32_50 k0_t2
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  v143
def k0_off12 (i : grid0.Coords) (k0_t2 : Fin (k0_t2_loop i).trips) : Fin 3 → Nat :=
  let c0_65 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c1_i32_50 : BitVec 32 := 1#32
  let arg13 : BitVec 32 := Scf.iv c0_i32_48 c1_i32_50 k0_t2
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v145 : Index := Scalar.indexCast v142
  let c0_66 : Index := 0#32
  ![0, v145.toNat, 0]
def k0_off13 (i : grid0.Coords) (k0_t2 : Fin (k0_t2_loop i).trips) : Fin 3 → Nat :=
  let c0_67 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c1_i32_50 : BitVec 32 := 1#32
  let arg13 : BitVec 32 := Scf.iv c0_i32_48 c1_i32_50 k0_t2
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v148 : Index := Scalar.indexCast v144
  let c0_68 : Index := 0#32
  ![0, v148.toNat, 0]
def k0_off14 (i : grid0.Coords) (k0_t2 : Fin (k0_t2_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c1_i32_50 : BitVec 32 := 1#32
  let arg13 : BitVec 32 := Scf.iv c0_i32_48 c1_i32_50 k0_t2
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v151 : Index := Scalar.indexCast v142
  let c0_69 : Index := 0#32
  ![v151.toNat, 0]
def k0_off15 (i : grid0.Coords) (k0_t2 : Fin (k0_t2_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c1_i32_50 : BitVec 32 := 1#32
  let arg13 : BitVec 32 := Scf.iv c0_i32_48 c1_i32_50 k0_t2
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v154 : Index := Scalar.indexCast v144
  let c0_70 : Index := 0#32
  ![v154.toNat, 0]
def k0_off16 (i : grid0.Coords) (k0_t2 : Fin (k0_t2_loop i).trips) : Fin 3 → Nat :=
  let c0_75 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c1_i32_50 : BitVec 32 := 1#32
  let arg13 : BitVec 32 := Scf.iv c0_i32_48 c1_i32_50 k0_t2
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v161 : Index := Scalar.indexCast v142
  let c0_76 : Index := 0#32
  ![0, v161.toNat, 0]
def k0_off17 (i : grid0.Coords) (k0_t2 : Fin (k0_t2_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c1_i32_50 : BitVec 32 := 1#32
  let arg13 : BitVec 32 := Scf.iv c0_i32_48 c1_i32_50 k0_t2
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v167 : Index := Scalar.indexCast v142
  let c0_77 : Index := 0#32
  ![v167.toNat, 0]
def k0_off18 (i : grid0.Coords) (k0_t2 : Fin (k0_t2_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c1_i32_50 : BitVec 32 := 1#32
  let arg13 : BitVec 32 := Scf.iv c0_i32_48 c1_i32_50 k0_t2
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v173 : Index := Scalar.indexCast v142
  let c0_78 : Index := 0#32
  ![v173.toNat, 0]
def k0_off19 (i : grid0.Coords) (k0_t2 : Fin (k0_t2_loop i).trips) : Fin 3 → Nat :=
  let c0_83 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c1_i32_50 : BitVec 32 := 1#32
  let arg13 : BitVec 32 := Scf.iv c0_i32_48 c1_i32_50 k0_t2
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v186 : Index := Scalar.indexCast v144
  let c0_84 : Index := 0#32
  ![0, v186.toNat, 0]
def k0_off20 (i : grid0.Coords) (k0_t2 : Fin (k0_t2_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c1_i32_50 : BitVec 32 := 1#32
  let arg13 : BitVec 32 := Scf.iv c0_i32_48 c1_i32_50 k0_t2
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v192 : Index := Scalar.indexCast v144
  let c0_85 : Index := 0#32
  ![v192.toNat, 0]
def k0_off21 (i : grid0.Coords) (k0_t2 : Fin (k0_t2_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c1_i32_50 : BitVec 32 := 1#32
  let arg13 : BitVec 32 := Scf.iv c0_i32_48 c1_i32_50 k0_t2
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v198 : Index := Scalar.indexCast v144
  let c0_86 : Index := 0#32
  ![v198.toNat, 0]
@[reducible] def k0_t3_loop (i : grid0.Coords) : Scf.Loop 32 :=
  let c0_i32_48 : BitVec 32 := 0#32
  let c8_i32 : BitVec 32 := 8#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let v117 : BitVec 32 := Scalar.addi c0_i32_48 v116
  let c1_i32_51 : BitVec 32 := 1#32
  ⟨v120, v117, c1_i32_51⟩
def k0_mult6 (i : grid0.Coords) (k0_t3 : Fin (k0_t3_loop i).trips) : BitVec 32 :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v136 : BitVec 32 := Scalar.muli c2_i32_60 arg13
  let v137 : BitVec 32 := Scalar.addi v97 v136
  let c512_i32_63 : BitVec 32 := 512#32
  let v141 : BitVec 32 := Scalar.muli v137 c512_i32_63
  v141
def k0_mult7 (i : grid0.Coords) (k0_t3 : Fin (k0_t3_loop i).trips) : BitVec 32 :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  v143
def k0_off22 (i : grid0.Coords) (k0_t3 : Fin (k0_t3_loop i).trips) : Fin 3 → Nat :=
  let c0_65 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v145 : Index := Scalar.indexCast v142
  let c0_66 : Index := 0#32
  ![0, v145.toNat, 0]
def k0_off23 (i : grid0.Coords) (k0_t3 : Fin (k0_t3_loop i).trips) : Fin 3 → Nat :=
  let c0_67 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v148 : Index := Scalar.indexCast v144
  let c0_68 : Index := 0#32
  ![0, v148.toNat, 0]
def k0_off24 (i : grid0.Coords) (k0_t3 : Fin (k0_t3_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v151 : Index := Scalar.indexCast v142
  let c0_69 : Index := 0#32
  ![v151.toNat, 0]
def k0_off25 (i : grid0.Coords) (k0_t3 : Fin (k0_t3_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v154 : Index := Scalar.indexCast v144
  let c0_70 : Index := 0#32
  ![v154.toNat, 0]
def k0_off26 (i : grid0.Coords) (k0_t3 : Fin (k0_t3_loop i).trips) : Fin 3 → Nat :=
  let c0_75 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v161 : Index := Scalar.indexCast v142
  let c0_76 : Index := 0#32
  ![0, v161.toNat, 0]
def k0_off27 (i : grid0.Coords) (k0_t3 : Fin (k0_t3_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v167 : Index := Scalar.indexCast v142
  let c0_77 : Index := 0#32
  ![v167.toNat, 0]
def k0_off28 (i : grid0.Coords) (k0_t3 : Fin (k0_t3_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_60 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v136 : BitVec 32 := Scalar.muli c2_i32_60 arg13
  let v137 : BitVec 32 := Scalar.addi v97 v136
  let c512_i32_63 : BitVec 32 := 512#32
  let v141 : BitVec 32 := Scalar.muli v137 c512_i32_63
  let v142 : BitVec 32 := v141
  let v173 : Index := Scalar.indexCast v142
  let c0_78 : Index := 0#32
  ![v173.toNat, 0]
def k0_off29 (i : grid0.Coords) (k0_t3 : Fin (k0_t3_loop i).trips) : Fin 3 → Nat :=
  let c0_83 : Index := 0#32
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v186 : Index := Scalar.indexCast v144
  let c0_84 : Index := 0#32
  ![0, v186.toNat, 0]
def k0_off30 (i : grid0.Coords) (k0_t3 : Fin (k0_t3_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v192 : Index := Scalar.indexCast v144
  let c0_85 : Index := 0#32
  ![v192.toNat, 0]
def k0_off31 (i : grid0.Coords) (k0_t3 : Fin (k0_t3_loop i).trips) : Fin 2 → Nat :=
  let c2_i32_39 : BitVec 32 := 2#32
  let arg1 : BitVec 32 := BitVec.ofNat 32 (i 1).val
  let v96 : BitVec 32 := Scalar.muli c2_i32_39 arg1
  let c2_i32_40 : BitVec 32 := 2#32
  let v97 : BitVec 32 := Scalar.addi v96 c2_i32_40
  let c2_i32_61 : BitVec 32 := 2#32
  let c0_i32_48 : BitVec 32 := 0#32
  let c8_i32 : BitVec 32 := 8#32
  let v98 : BitVec 32 := Scalar.subi c8_i32 v97
  let c0_i32_42 : BitVec 32 := 0#32
  let v100 : BitVec 1 := Scalar.cmpi .sgt v98 c0_i32_42
  let v101 : BitVec 32 := Scalar.extui v100
  let c0_i32_43 : BitVec 32 := 0#32
  let v102 : BitVec 1 := Scalar.cmpi .slt v98 c0_i32_43
  let v103 : BitVec 32 := Scalar.extui v102
  let v104 : BitVec 32 := Scalar.subi v101 v103
  let c2_i32_41 : BitVec 32 := 2#32
  let c0_i32_44 : BitVec 32 := 0#32
  let v105 : BitVec 1 := Scalar.cmpi .sgt c2_i32_41 c0_i32_44
  let v106 : BitVec 32 := Scalar.extui v105
  let c0_i32_45 : BitVec 32 := 0#32
  let v107 : BitVec 1 := Scalar.cmpi .slt c2_i32_41 c0_i32_45
  let v108 : BitVec 32 := Scalar.extui v107
  let v109 : BitVec 32 := Scalar.subi v106 v108
  let v110 : BitVec 1 := Scalar.cmpi .ne v104 v109
  let v111 : BitVec 32 := Scalar.remsi v98 c2_i32_41
  let c0_i32_46 : BitVec 32 := 0#32
  let v112 : BitVec 1 := Scalar.cmpi .ne v111 c0_i32_46
  let v113 : BitVec 1 := Scalar.andi v110 v112
  let v99 : BitVec 32 := Scalar.divsi v98 c2_i32_41
  let c1_i32_47 : BitVec 32 := 1#32
  let v114 : BitVec 32 := Scalar.subi v99 c1_i32_47
  let v115 : BitVec 32 := Scalar.select v113 v114 v99
  let v116 : BitVec 32 := Scalar.subi v115 c0_i32_48
  let c1_i32_49 : BitVec 32 := 1#32
  let v118 : BitVec 32 := Scalar.divsi v116 c1_i32_49
  let v119 : BitVec 32 := Scalar.muli v118 c1_i32_49
  let v120 : BitVec 32 := Scalar.addi c0_i32_48 v119
  let c1_i32_51 : BitVec 32 := 1#32
  let arg13 : BitVec 32 := Scf.iv v120 c1_i32_51 k0_t3
  let v138 : BitVec 32 := Scalar.muli c2_i32_61 arg13
  let v139 : BitVec 32 := Scalar.addi v97 v138
  let c1_i32_62 : BitVec 32 := 1#32
  let v140 : BitVec 32 := Scalar.addi v139 c1_i32_62
  let c512_i32_64 : BitVec 32 := 512#32
  let v143 : BitVec 32 := Scalar.muli v140 c512_i32_64
  let v144 : BitVec 32 := v143
  let v198 : Index := Scalar.indexCast v144
  let c0_86 : Index := 0#32
  ![v198.toNat, 0]
def k0_cond2 (i : grid0.Coords) : BitVec 1 :=
  let arg1 : BitVec 32 := BitVec.ofNat 32 (i 1).val
  let c3_i32 : BitVec 32 := 3#32
  let v133 : BitVec 1 := Scalar.cmpi .eq arg1 c3_i32
  let v134 : BitVec 32 := Scalar.extui v133
  let c0_i32_59 : BitVec 32 := 0#32
  let v135 : BitVec 1 := Scalar.cmpi .ne v134 c0_i32_59
  v135

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "ln2" => some ((Real.log 2 : ℝ) : EReal)
  | _ => none
-- ==== AttnBwdRefIdeal.lean ====
abbrev S4096x4x128 : Shape := ⟨3, ![4096, 4, 128]⟩
abbrev S4096x4x64 : Shape := ⟨3, ![4096, 4, 64]⟩
abbrev S4096x64 : Shape := ⟨2, ![4096, 64]⟩
abbrev S4096x1024 : Shape := ⟨2, ![4096, 1024]⟩
abbrev S4096x4x192 : Shape := ⟨3, ![4096, 4, 192]⟩
abbrev S4x4096x192 : Shape := ⟨3, ![4, 4096, 192]⟩
abbrev S_ : Shape := ⟨0, ![]⟩
abbrev S4096x1x64 : Shape := ⟨3, ![4096, 1, 64]⟩
abbrev S4096x512 : Shape := ⟨2, ![4096, 512]⟩
abbrev S4x4096x128 : Shape := ⟨3, ![4, 4096, 128]⟩
abbrev S4x4096x4096 : Shape := ⟨3, ![4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x256 : Shape := ⟨3, ![4, 4096, 256]⟩

abbrev nBuf : Space → Nat
  | .hbm => 103
  | .vmem => 0
  | .smem => 0
  | _ => 0

abbrev bufTy : (tb : Table) → Fin (tcTables nBuf tb) → BufTy
  | .hbm, ⟨0, _⟩ => ⟨S4096x4x128, .f32⟩
  | .hbm, ⟨1, _⟩ => ⟨S4096x4x64, .f32⟩
  | .hbm, ⟨2, _⟩ => ⟨S4096x4x128, .f32⟩
  | .hbm, ⟨3, _⟩ => ⟨S4096x64, .f32⟩
  | .hbm, ⟨4, _⟩ => ⟨S4096x4x128, .f32⟩
  | .hbm, ⟨5, _⟩ => ⟨S4096x1024, .f32⟩
  | .hbm, ⟨6, _⟩ => ⟨S4096x4x192, .f32⟩
  | .hbm, ⟨7, _⟩ => ⟨S4x4096x192, .f32⟩
  | .hbm, ⟨8, _⟩ => ⟨S_, .f32⟩
  | .hbm, ⟨9, _⟩ => ⟨S4x4096x192, .f32⟩
  | .hbm, ⟨10, _⟩ => ⟨S4x4096x192, .f32⟩
  | .hbm, ⟨11, _⟩ => ⟨S4096x1x64, .f32⟩
  | .hbm, ⟨12, _⟩ => ⟨S4096x4x64, .f32⟩
  | .hbm, ⟨13, _⟩ => ⟨S4096x4x192, .f32⟩
  | .hbm, ⟨14, _⟩ => ⟨S4x4096x192, .f32⟩
  | .hbm, ⟨15, _⟩ => ⟨S4096x512, .f32⟩
  | .hbm, ⟨16, _⟩ => ⟨S4096x4x128, .f32⟩
  | .hbm, ⟨17, _⟩ => ⟨S4x4096x128, .f32⟩
  | .hbm, ⟨18, _⟩ => ⟨S4x4096x128, .f32⟩
  | .hbm, ⟨19, _⟩ => ⟨S4x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4x4096x4096, .i1⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .i1⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .i1⟩
  | .hbm, ⟨47, _⟩ => ⟨S_, .f32⟩
  | .hbm, ⟨48, _⟩ => ⟨S4x4096, .f32⟩
  | .hbm, ⟨49, _⟩ => ⟨S4x4096, .i1⟩
  | .hbm, ⟨50, _⟩ => ⟨S_, .f32⟩
  | .hbm, ⟨51, _⟩ => ⟨S4x4096, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S4x4096, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x4096, .f32⟩
  | .hbm, ⟨66, _⟩ => ⟨S4x4096x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x128, .f32⟩
  | .hbm, ⟨72, _⟩ => ⟨S4x128x4096, .f32⟩
  | .hbm, ⟨73, _⟩ => ⟨S4x4096x128, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S4x4096x4096, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S4x4096x1, .f32⟩
  | .hbm, ⟨82, _⟩ => ⟨S4x4096x4096, .f32⟩
  | .hbm, ⟨83, _⟩ => ⟨S4x4096x4096, .f32⟩
  | .hbm, ⟨84, _⟩ => ⟨S_, .f32⟩
  | .hbm, ⟨85, _⟩ => ⟨S4x4096, .f32⟩
  | .hbm, ⟨86, _⟩ => ⟨S4x4096x4096, .f32⟩
  | .hbm, ⟨87, _⟩ => ⟨S4x4096x4096, .f32⟩
  | .hbm, ⟨88, _⟩ => ⟨S4x4096x4096, .f32⟩
  | .hbm, ⟨89, _⟩ => ⟨S_, .f32⟩
  | .hbm, ⟨90, _⟩ => ⟨S4x4096x4096, .f32⟩
  | .hbm, ⟨91, _⟩ => ⟨S4x4096x4096, .f32⟩
  | .hbm, ⟨92, _⟩ => ⟨S4x4096x192, .f32⟩
  | .hbm, ⟨93, _⟩ => ⟨S4x4096x192, .f32⟩
  | .hbm, ⟨94, _⟩ => ⟨S_, .i32⟩
  | .hbm, ⟨95, _⟩ => ⟨S_, .f32⟩
  | .hbm, ⟨96, _⟩ => ⟨S4x4096x256, .f32⟩
  | .hbm, ⟨97, _⟩ => ⟨S4x4096x256, .bf16⟩
  | .hbm, ⟨98, _⟩ => ⟨S_, .i32⟩
  | .hbm, ⟨99, _⟩ => ⟨S_, .f32⟩
  | .hbm, ⟨100, _⟩ => ⟨S4x4096x256, .f32⟩
  | .hbm, ⟨101, _⟩ => ⟨S4x4096x256, .bf16⟩
  | .hbm, ⟨102, _⟩ => ⟨S4x4096x128, .bf16⟩
  | _, _ => ⟨S4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_v19_1 : Ref sig .tc := ⟨.hbm, 28, rfl⟩
abbrev main_call0_v2 : Ref sig .tc := ⟨.hbm, 29, rfl⟩
abbrev main_v19_0 : Ref sig .tc := ⟨.hbm, 30, rfl⟩
abbrev main_call0_cst : Ref sig .tc := ⟨.hbm, 31, rfl⟩
abbrev main_v19_2 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_call3_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== MlpBwd.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S2x512x8x512 : Shape := ⟨4, ![2, 512, 8, 512]⟩
abbrev S2x8x512x512 : Shape := ⟨4, ![2, 8, 512, 512]⟩
abbrev S8x512x1024 : Shape := ⟨3, ![8, 512, 1024]⟩
abbrev S1x8x512x512 : Shape := ⟨4, ![1, 8, 512, 512]⟩
abbrev S8x512x512 : Shape := ⟨3, ![8, 512, 512]⟩
abbrev S4096x128 : Shape := ⟨2, ![4096, 128]⟩
abbrev S1x5120 : Shape := ⟨2, ![1, 5120]⟩
abbrev S512x1024 : Shape := ⟨2, ![512, 1024]⟩
abbrev S4x512x512 : Shape := ⟨3, ![4, 512, 512]⟩
abbrev S4x512x1024 : Shape := ⟨3, ![4, 512, 1024]⟩
abbrev S512x2048 : Shape := ⟨2, ![512, 2048]⟩
abbrev S512x128 : Shape := ⟨2, ![512, 128]⟩
abbrev S1x512x1024 : Shape := ⟨3, ![1, 512, 1024]⟩
abbrev S512x512 : Shape := ⟨2, ![512, 512]⟩
abbrev S1x512x512 : Shape := ⟨3, ![1, 512, 512]⟩
abbrev S1024 : Shape := ⟨1, ![1024]⟩
abbrev S512x1 : Shape := ⟨2, ![512, 1]⟩
abbrev S512 : Shape := ⟨1, ![512]⟩

abbrev nBuf : Space → Nat
  | .hbm => 72
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .bf16⟩
  | .hbm, ⟨57, _⟩ => ⟨S2x512x8x512, .f32⟩
  | .hbm, ⟨58, _⟩ => ⟨S2x8x512x512, .f32⟩
  | .hbm, ⟨59, _⟩ => ⟨S2x8x512x512, .bf16⟩
  | .hbm, ⟨60, _⟩ => ⟨S8x512x1024, .f32⟩
  | .hbm, ⟨61, _⟩ => ⟨S8x512x1024, .bf16⟩
  | .hbm, ⟨62, _⟩ => ⟨S4096x1024, .bf16⟩
  | .hbm, ⟨63, _⟩ => ⟨S1x8x512x512, .bf16⟩
  | .hbm, ⟨64, _⟩ => ⟨S8x512x512, .bf16⟩
  | .hbm, ⟨65, _⟩ => ⟨S1x8x512x512, .bf16⟩
  | .hbm, ⟨66, _⟩ => ⟨S8x512x512, .bf16⟩
  | .hbm, ⟨67, _⟩ => ⟨S4096x128, .f32⟩
  | .hbm, ⟨68, _⟩ => ⟨S4096x4096, .bf16⟩
  | .hbm, ⟨69, _⟩ => ⟨S4096x1024, .f32⟩
  | .hbm, ⟨70, _⟩ => ⟨S4096x1024, .bf16⟩
  | .hbm, ⟨71, _⟩ => ⟨S1x5120, .f32⟩
  | .local _ .vmem, ⟨0, _⟩ => ⟨S512x1024, .bf16⟩
  | .local _ .vmem, ⟨1, _⟩ => ⟨S512x1024, .bf16⟩
  | .local _ .vmem, ⟨2, _⟩ => ⟨S4x512x512, .bf16⟩
  | .local _ .vmem, ⟨3, _⟩ => ⟨S4x512x512, .bf16⟩
  | .local _ .vmem, ⟨4, _⟩ => ⟨S4x512x512, .bf16⟩
  | .local _ .vmem, ⟨5, _⟩ => ⟨S4x512x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x2048, .bf16⟩
  | .local _ .vmem, ⟨23, _⟩ => ⟨S512x2048, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1x5120, .f32⟩
  | .local _ .vmem, ⟨29, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev main_v48_2 : Ref sig .tc := ⟨.hbm, 70, rfl⟩
abbrev main_v48_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v90 : BitVec 1 := Scalar.cmpi .eq arg1 c1_i32
  let v91 : BitVec 32 := Scalar.extui v90
  let c0_i32_70 : BitVec 32 := 0#32
  let v92 : BitVec 1 := Scalar.cmpi .ne v91 c0_i32_70
  v92

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x5120 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== MlpBwdRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x5120 : Shape := ⟨2, ![1, 5120]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x4096, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S1x1024, .f32⟩
  | 16 => ⟨S1x1024, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S1x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S4096x4096, .f32⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .i1⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x1024, .f32⟩
  | 70 => ⟨S4096x4096, .f32⟩
  | 71 => ⟨S4096x4096, .f32⟩
  | 72 => ⟨S_, .f32⟩
  | 73 => ⟨S4096x4096, .f32⟩
  | 74 => ⟨S4096x4096, .f32⟩
  | 75 => ⟨S4096x1024, .f32⟩
  | 76 => ⟨S_, .f32⟩
  | 77 => ⟨S1024, .f32⟩
  | 78 => ⟨S1x1024, .f32⟩
  | 79 => ⟨S4096x1024, .f32⟩
  | 80 => ⟨S_, .f32⟩
  | 81 => ⟨S1024, .f32⟩
  | 82 => ⟨S1x1024, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S_, .f32⟩
  | 94 => ⟨S1024, .f32⟩
  | 95 => ⟨S1x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x4096, .bf16⟩
  | 5 => ⟨S4096x1024, .bf16⟩
  | 6 => ⟨S1x5120, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_cst_19 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_cst_22 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_23 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]
-- ==== MlaBwd.lean ====
abbrev S4096x256 : Shape := ⟨2, ![4096, 256]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S4x4096x192 : Shape := ⟨3, ![4, 4096, 192]⟩
abbrev S4x4096x128 : Shape := ⟨3, ![4, 4096, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x2048 : Shape := ⟨2, ![4096, 2048]⟩
abbrev S4096x512 : Shape := ⟨2, ![4096, 512]⟩
abbrev S4096x3072 : Shape := ⟨2, ![4096, 3072]⟩
abbrev S4x4096x64 : Shape := ⟨3, ![4, 4096, 64]⟩
abbrev S4x4096x256 : Shape := ⟨3, ![4, 4096, 256]⟩
abbrev S768x256 : Shape := ⟨2, ![768, 256]⟩
abbrev S64x256 : Shape := ⟨2, ![64, 256]⟩
abbrev S128x256 : Shape := ⟨2, ![128, 256]⟩
abbrev S192x256 : Shape := ⟨2, ![192, 256]⟩
abbrev S256x256 : Shape := ⟨2, ![256, 256]⟩
abbrev S32x256 : Shape := ⟨2, ![32, 256]⟩
abbrev S2048x256 : Shape := ⟨2, ![2048, 256]⟩
abbrev S256x128 : Shape := ⟨2, ![256, 128]⟩
abbrev S256x4x256 : Shape := ⟨3, ![256, 4, 256]⟩
abbrev S256x1x128 : Shape := ⟨3, ![256, 1, 128]⟩
abbrev S256x1536 : Shape := ⟨2, ![256, 1536]⟩
abbrev S4096x1024 : Shape := ⟨2, ![4096, 1024]⟩
abbrev S4096x1536 : Shape := ⟨2, ![4096, 1536]⟩
abbrev S1x512 : Shape := ⟨2, ![1, 512]⟩
abbrev S4x512x256 : Shape := ⟨3, ![4, 512, 256]⟩
abbrev S4x512x128 : Shape := ⟨3, ![4, 512, 128]⟩
abbrev S512x1024 : Shape := ⟨2, ![512, 1024]⟩
abbrev S512x256 : Shape := ⟨2, ![512, 256]⟩
abbrev S512x2048 : Shape := ⟨2, ![512, 2048]⟩
abbrev S512x1536 : Shape := ⟨2, ![512, 1536]⟩
abbrev S1x512x256 : Shape := ⟨3, ![1, 512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S256 : Shape := ⟨1, ![256]⟩

abbrev nBuf : Space → Nat
  | .hbm => 122
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .i32⟩
  | .hbm, ⟨3, _⟩ => ⟨S1x256, .f32⟩
  | .hbm, ⟨4, _⟩ => ⟨S1x256, .f32⟩
  | .hbm, ⟨5, _⟩ => ⟨S256x768, .f32⟩
  | .hbm, ⟨6, _⟩ => ⟨S256x1024, .f32⟩
  | .hbm, ⟨7, _⟩ => ⟨S4x4096x192, .f32⟩
  | .hbm, ⟨8, _⟩ => ⟨S4x4096x192, .f32⟩
  | .hbm, ⟨9, _⟩ => ⟨S4x4096x128, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S4096x64, .f32⟩
  | .hbm, ⟨36, _⟩ => ⟨S_, .f32⟩
  | .hbm, ⟨37, _⟩ => ⟨S4096x128, .f32⟩
  | .hbm, ⟨38, _⟩ => ⟨S4096x256, .f32⟩
  | .hbm, ⟨39, _⟩ => ⟨S_, .f32⟩
  | .hbm, ⟨40, _⟩ => ⟨S4096x128, .f32⟩
  | .hbm, ⟨41, _⟩ => ⟨S4096x256, .f32⟩
  | .hbm, ⟨42, _⟩ => ⟨S_, .f32⟩
  | .hbm, ⟨43, _⟩ => ⟨S4096x2048, .f32⟩
  | .hbm, ⟨44, _⟩ => ⟨S_, .f32⟩
  | .hbm, ⟨45, _⟩ => ⟨S4096x512, .f32⟩
  | .hbm, ⟨46, _⟩ => ⟨S4096x3072, .f32⟩
  | .hbm, ⟨47, _⟩ => ⟨S_, .f32⟩
  | .hbm, ⟨48, _⟩ => ⟨S4x4096x64, .f32⟩
  | .hbm, ⟨49, _⟩ => ⟨S4x4096x256, .f32⟩
  | .hbm, ⟨50, _⟩ => ⟨S4x4096x256, .bf16⟩
  | .hbm, ⟨51, _⟩ => ⟨S4x4096x256, .f32⟩
  | .hbm, ⟨52, _⟩ => ⟨S4x4096x256, .bf16⟩
  | .hbm, ⟨53, _⟩ => ⟨S4x4096x128, .bf16⟩
  | .hbm, ⟨54, _⟩ => ⟨S768x256, .f32⟩
  | .hbm, ⟨55, _⟩ => ⟨S768x256, .bf16⟩
  | .hbm, ⟨56, _⟩ => ⟨S_, .bf16⟩
  | .hbm, ⟨57, _⟩ => ⟨S64x256, .bf16⟩
  | .hbm, ⟨58, _⟩ => ⟨S_, .bf16⟩
  | .hbm, ⟨59, _⟩ => ⟨S128x256, .bf16⟩
  | .hbm, ⟨60, _⟩ => ⟨S192x256, .bf16⟩
  | .hbm, ⟨61, _⟩ => ⟨S256x256, .bf16⟩
  | .hbm, ⟨62, _⟩ => ⟨S192x256, .bf16⟩
  | .hbm, ⟨63, _⟩ => ⟨S256x256, .bf16⟩
  | .hbm, ⟨64, _⟩ => ⟨S192x256, .bf16⟩
  | .hbm, ⟨65, _⟩ => ⟨S256x256, .bf16⟩
  | .hbm, ⟨66, _⟩ => ⟨S192x256, .bf16⟩
  | .hbm, ⟨67, _⟩ => ⟨S256x256, .bf16⟩
  | .hbm, ⟨68, _⟩ => ⟨S64x256, .bf16⟩
  | .hbm, ⟨69, _⟩ => ⟨S32x256, .bf16⟩
  | .hbm, ⟨70, _⟩ => ⟨S32x256, .bf16⟩
  | .hbm, ⟨71, _⟩ => ⟨S32x256, .bf16⟩
  | .hbm, ⟨72, _⟩ => ⟨S64x256, .bf16⟩
  | .hbm, ⟨73, _⟩ => ⟨S256x256, .bf16⟩
  | .hbm, ⟨74, _⟩ => ⟨S64x256, .bf16⟩
  | .hbm, ⟨75, _⟩ => ⟨S32x256, .bf16⟩
  | .hbm, ⟨76, _⟩ => ⟨S32x256, .bf16⟩
  | .hbm, ⟨77, _⟩ => ⟨S32x256, .bf16⟩
  | .hbm, ⟨78, _⟩ => ⟨S64x256, .bf16⟩
  | .hbm, ⟨79, _⟩ => ⟨S256x256, .bf16⟩
  | .hbm, ⟨80, _⟩ => ⟨S64x256, .bf16⟩
  | .hbm, ⟨81, _⟩ => ⟨S32x256, .bf16⟩
  | .hbm, ⟨82, _⟩ => ⟨S32x256, .bf16⟩
  | .hbm, ⟨83, _⟩ => ⟨S32x256, .bf16⟩
  | .hbm, ⟨84, _⟩ => ⟨S64x256, .bf16⟩
  | .hbm, ⟨85, _⟩ => ⟨S256x256, .bf16⟩
  | .hbm, ⟨86, _⟩ => ⟨S64x256, .bf16⟩
  | .hbm, ⟨87, _⟩ => ⟨S32x256, .bf16⟩
  | .hbm, ⟨88, _⟩ => ⟨S32x256, .bf16⟩
  | .hbm, ⟨89, _⟩ => ⟨S32x256, .bf16⟩
  | .hbm, ⟨90, _⟩ => ⟨S64x256, .bf16⟩
  | .hbm, ⟨91, _⟩ => ⟨S256x256, .bf16⟩
  | .hbm, ⟨92, _⟩ => ⟨S2048x256, .bf16⟩
  | .hbm, ⟨93, _⟩ => ⟨S256x1024, .bf16⟩
  | .hbm, ⟨94, _⟩ => ⟨S_, .bf16⟩
  | .hbm, ⟨95, _⟩ => ⟨S256x128, .bf16⟩
  | .hbm, ⟨96, _⟩ => ⟨S256x4x256, .bf16⟩
  | .hbm, ⟨97, _⟩ => ⟨S256x1x128, .bf16⟩
  | .hbm, ⟨98, _⟩ => ⟨S256x128, .bf16⟩
  | .hbm, ⟨99, _⟩ => ⟨S256x256, .bf16⟩
  | .hbm, ⟨100, _⟩ => ⟨S256x1x128, .bf16⟩
  | .hbm, ⟨101, _⟩ => ⟨S256x128, .bf16⟩
  | .hbm, ⟨102, _⟩ => ⟨S256x256, .bf16⟩
  | .hbm, ⟨103, _⟩ => ⟨S256x1x128, .bf16⟩
  | .hbm, ⟨104, _⟩ => ⟨S256x128, .bf16⟩
  | .hbm, ⟨105, _⟩ => ⟨S256x256, .bf16⟩
  | .hbm, ⟨106, _⟩ => ⟨S256x1x128, .bf16⟩
  | .hbm, ⟨107, _⟩ => ⟨S256x128, .bf16⟩
  | .hbm, ⟨108, _⟩ => ⟨S256x256, .bf16⟩
  | .hbm, ⟨109, _⟩ => ⟨S256x1x128, .bf16⟩
  | .hbm, ⟨110, _⟩ => ⟨S256x128, .bf16⟩
  | .hbm, ⟨111, _⟩ => ⟨S256x1x128, .bf16⟩
  | .hbm, ⟨112, _⟩ => ⟨S256x128, .bf16⟩
  | .hbm, ⟨113, _⟩ => ⟨S256x1x128, .bf16⟩
  | .hbm, ⟨114, _⟩ => ⟨S256x128, .bf16⟩
  | .hbm, ⟨115, _⟩ => ⟨S256x1x128, .bf16⟩
  | .hbm, ⟨116, _⟩ => ⟨S256x128, .bf16⟩
  | .hbm, ⟨117, _⟩ => ⟨S256x1536, .bf16⟩
  | .hbm, ⟨118, _⟩ => ⟨S4096x1024, .bf16⟩
  | .hbm, ⟨119, _⟩ => ⟨S4096x2048, .bf16⟩
  | .hbm, ⟨120, _⟩ => ⟨S4096x1536, .bf16⟩
  | .hbm, ⟨121, _⟩ => ⟨S1x512, .f32⟩
  | .local _ .vmem, ⟨0, _⟩ => ⟨S4x512x256, .bf16⟩
  | .local _ .vmem, ⟨1, _⟩ => ⟨S4x512x256, .bf16⟩
  | .local _ .vmem, ⟨2, _⟩ => ⟨S4x512x256, .bf16⟩
  | .local _ .vmem, ⟨3, _⟩ => ⟨S4x512x256, .bf16⟩
  | .local _ .vmem, ⟨4, _⟩ => ⟨S4x512x128, .bf16⟩
  | .local _ .vmem, ⟨5, _⟩ => ⟨S4x512x128, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S2048x256, .bf16⟩
  | .local _ .vmem, ⟨13, _⟩ => ⟨S256x1536, .bf16⟩
  | .local _ .vmem, ⟨14, _⟩ => ⟨S1x256, .f32⟩
  | .local _ .vmem, ⟨15, _⟩ => ⟨S1x256, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S512x1536, .bf16⟩
  | .local _ .vmem, ⟨21, _⟩ => ⟨S512x1536, .bf16⟩
  | .local _ .vmem, ⟨22, _⟩ => ⟨S1x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94_0 : Ref sig .tc := ⟨.hbm, 118, rfl⟩
abbrev main_v94_1 : Ref sig .tc := ⟨.hbm, 119, rfl⟩
abbrev main_v94_2 : Ref sig .tc := ⟨.hbm, 120, rfl⟩
abbrev main_v94_3 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlaBwdRefIdeal.lean ====
abbrev S4096x256 : Shape := ⟨2, ![4096, 256]⟩
abbrev S4096 : Shape := ⟨1, ![4096]⟩
abbrev S1x256 : Shape := ⟨2, ![1, 256]⟩
abbrev S256x768 : Shape := ⟨2, ![256, 768]⟩
abbrev S256x1024 : Shape := ⟨2, ![256, 1024]⟩
abbrev S4x4096x192 : Shape := ⟨3, ![4, 4096, 192]⟩
abbrev S4x4096x128 : Shape := ⟨3, ![4, 4096, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x192 : Shape := ⟨2, ![4096, 192]⟩
abbrev S4096x768 : Shape := ⟨2, ![4096, 768]⟩
abbrev S4096x1024 : Shape := ⟨2, ![4096, 1024]⟩
abbrev S4096x4x192 : Shape := ⟨3, ![4096, 4, 192]⟩
abbrev S4096x4x64 : Shape := ⟨3, ![4096, 4, 64]⟩
abbrev S4096x1x32 : Shape := ⟨3, ![4096, 1, 32]⟩
abbrev S4096x4x32 : Shape := ⟨3, ![4096, 4, 32]⟩
abbrev S4096x4x128 : Shape := ⟨3, ![4096, 4, 128]⟩
abbrev S256 : Shape := ⟨1, ![256]⟩
abbrev S4096x4x256 : Shape := ⟨3, ![4096, 4, 256]⟩
abbrev S4x4096x256 : Shape := ⟨3, ![4, 4096, 256]⟩
abbrev S1x4096x192 : Shape := ⟨3, ![1, 4096, 192]⟩
abbrev S4096x64 : Shape := ⟨2, ![4096, 64]⟩
abbrev S1x512 : Shape := ⟨2, ![1, 512]⟩

abbrev nBuf : Space → Nat
  | .hbm => 206
  | .vmem => 0
  | .smem => 0
  | _ => 0

abbrev hbmTy0_0 (i : Nat) : BufTy := match i % 128 with
  | 0 => ⟨S4096x256, .f32⟩
  | 1 => ⟨S4096x256, .f32⟩
  | 2 => ⟨S4096, .i32⟩
  | 3 => ⟨S1x256, .f32⟩
  | 4 => ⟨S1x256, .f32⟩
  | 5 => ⟨S256x768, .f32⟩
  | 6 => ⟨S256x1024, .f32⟩
  | 7 => ⟨S4x4096x192, .f32⟩
  | 8 => ⟨S4x4096x192, .f32⟩
  | 9 => ⟨S4x4096x128, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4096, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x32, .f32⟩
  | 33 => ⟨S4096x32, .f32⟩
  | 34 => ⟨S_, .f32⟩
  | 35 => ⟨S4096x128, .f32⟩
  | 36 => ⟨S4096x192, .f32⟩
  | 37 => ⟨S_, .f32⟩
  | 38 => ⟨S4096x128, .f32⟩
  | 39 => ⟨S4096x192, .f32⟩
  | 40 => ⟨S4096x256, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x256, .f32⟩
  | 56 => ⟨S4096x256, .f32⟩
  | 57 => ⟨S4096x256, .f32⟩
  | 58 => ⟨S4096x256, .f32⟩
  | 59 => ⟨S4096x768, .f32⟩
  | 60 => ⟨S4096x256, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x256, .f32⟩
  | 76 => ⟨S4096x256, .f32⟩
  | 77 => ⟨S4096x256, .f32⟩
  | 78 => ⟨S4096x256, .f32⟩
  | 79 => ⟨S4096x1024, .f32⟩
  | 80 => ⟨S4096x4x192, .f32⟩
  | 81 => ⟨S4096x4x64, .f32⟩
  | 82 => ⟨S4096x1x32, .f32⟩
  | 83 => ⟨S4096x1x32, .f32⟩
  | 84 => ⟨S4096x4x32, .f32⟩
  | 85 => ⟨S4096x4x32, .f32⟩
  | 86 => ⟨S4096x4x32, .f32⟩
  | 87 => ⟨S4096x4x32, .f32⟩
  | 88 => ⟨S4096x4x32, .f32⟩
  | 89 => ⟨S4096x4x32, .f32⟩
  | 90 => ⟨S4096x4x32, .f32⟩
  | 91 => ⟨S4096x4x32, .f32⟩
  | 92 => ⟨S4096x4x32, .f32⟩
  | 93 => ⟨S4096x4x32, .f32⟩
  | 94 => ⟨S4096x4x32, .f32⟩
  | 95 => ⟨S4096x4x32, .f32⟩
  | 96 => ⟨S4096x4x64, .f32⟩
  | 97 => ⟨S4096x4x128, .f32⟩
  | 98 => ⟨S4096x4x192, .f32⟩
  | 99 => ⟨S4x4096x192, .f32⟩
  | 100 => ⟨S_, .f32⟩
  | 101 => ⟨S4x4096x192, .f32⟩
  | 102 => ⟨S4x4096x192, .f32⟩
  | 103 => ⟨S_, .f32⟩
  | 104 => ⟨S4x4096x192, .f32⟩
  | 105 => ⟨S4x4096x192, .f32⟩
  | 106 => ⟨S4096x4x192, .f32⟩
  | 107 => ⟨S4096x4x128, .f32⟩
  | 108 => ⟨S4096x4x64, .f32⟩
  | 109 => ⟨S_, .f32⟩
  | 110 => ⟨S4096x4x192, .f32⟩
  | 111 => ⟨S4096x4x32, .f32⟩
  | 112 => ⟨S4096x4x32, .f32⟩
  | 113 => ⟨S4096x4x32, .f32⟩
  | 114 => ⟨S4096x4x32, .f32⟩
  | 115 => ⟨S4096x4x32, .f32⟩
  | 116 => ⟨S4096x4x32, .f32⟩
  | 117 => ⟨S4096x4x32, .f32⟩
  | 118 => ⟨S4096x4x32, .f32⟩
  | 119 => ⟨S4096x4x32, .f32⟩
  | 120 => ⟨S4096x4x32, .f32⟩
  | 121 => ⟨S4096x4x32, .f32⟩
  | 122 => ⟨S4096x4x32, .f32⟩
  | 123 => ⟨S4096x4x32, .f32⟩
  | 124 => ⟨S4096x4x64, .f32⟩
  | 125 => ⟨S_, .f32⟩
  | 126 => ⟨S4096x4x192, .f32⟩
  | 127 => ⟨S4096x4x192, .f32⟩
  | _ => ⟨S4096x256, .f32⟩

abbrev hbmTy0_1 (i : Nat) : BufTy := match i % 128 with
  | 0 => ⟨S4096x768, .f32⟩
  | 1 => ⟨S4096x256, .f32⟩
  | 2 => ⟨S4096x256, .f32⟩
  | 3 => ⟨S_, .f32⟩
  | 4 => ⟨S256, .f32⟩
  | 5 => ⟨S1x256, .f32⟩
  | 6 => ⟨S4096x256, .f32⟩
  | 7 => ⟨S4096x256, .f32⟩
  | 8 => ⟨S4096x256, .f32⟩
  | 9 => ⟨S_, .f32⟩
  | 10 => ⟨S4096, .f32⟩
  | 11 => ⟨S4096x1, .f32⟩
  | 12 => ⟨S4096x256, .f32⟩
  | 13 => ⟨S4096x256, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096, .f32⟩
  | 20 => ⟨S4096x256, .f32⟩
  | 21 => ⟨S4096x256, .f32⟩
  | 22 => ⟨S4096x256, .f32⟩
  | 23 => ⟨S4096x256, .f32⟩
  | 24 => ⟨S4096x256, .f32⟩
  | 25 => ⟨S4096x4x256, .f32⟩
  | 26 => ⟨S4x4096x256, .f32⟩
  | 27 => ⟨S4x4096x128, .f32⟩
  | 28 => ⟨S4x4096x128, .f32⟩
  | 29 => ⟨S4x4096x128, .f32⟩
  | 30 => ⟨S_, .f32⟩
  | 31 => ⟨S4x4096x256, .f32⟩
  | 32 => ⟨S_, .f32⟩
  | 33 => ⟨S4x4096x256, .f32⟩
  | 34 => ⟨S4x4096x256, .f32⟩
  | 35 => ⟨S4096x4x256, .f32⟩
  | 36 => ⟨S4096x1024, .f32⟩
  | 37 => ⟨S4096x256, .f32⟩
  | 38 => ⟨S4096x256, .f32⟩
  | 39 => ⟨S_, .f32⟩
  | 40 => ⟨S256, .f32⟩
  | 41 => ⟨S1x256, .f32⟩
  | 42 => ⟨S4096x256, .f32⟩
  | 43 => ⟨S4096x256, .f32⟩
  | 44 => ⟨S4096x256, .f32⟩
  | 45 => ⟨S_, .f32⟩
  | 46 => ⟨S4096, .f32⟩
  | 47 => ⟨S4096x1, .f32⟩
  | 48 => ⟨S4096x256, .f32⟩
  | 49 => ⟨S4096x256, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096, .f32⟩
  | 56 => ⟨S4096x256, .f32⟩
  | 57 => ⟨S4096x256, .f32⟩
  | 58 => ⟨S4096x256, .f32⟩
  | 59 => ⟨S4096x256, .f32⟩
  | 60 => ⟨S4096x256, .f32⟩
  | 61 => ⟨S4096x192, .f32⟩
  | 62 => ⟨S4096x192, .f32⟩
  | 63 => ⟨S4096x192, .f32⟩
  | 64 => ⟨S1x4096x192, .f32⟩
  | 65 => ⟨S4x4096x192, .f32⟩
  | 66 => ⟨S_, .f32⟩
  | 67 => ⟨S4096x192, .f32⟩
  | 68 => ⟨S1x4096x192, .f32⟩
  | 69 => ⟨S_, .f32⟩
  | 70 => ⟨S4096x192, .f32⟩
  | 71 => ⟨S4096x192, .f32⟩
  | 72 => ⟨S4096x192, .f32⟩
  | 73 => ⟨S_, .f32⟩
  | 74 => ⟨S4096x64, .f32⟩
  | 75 => ⟨S4096x1024, .f32⟩
  | 76 => ⟨S4096x1024, .bf16⟩
  | 77 => ⟨S1x512, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_17 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_20 : Ref sig .tc := ⟨.hbm, 143, rfl⟩
abbrev main_v112 : Ref sig .tc := ⟨.hbm, 144, rfl⟩
abbrev main_v113 : Ref sig .tc := ⟨.hbm, 145, rfl⟩
abbrev main_cst_21 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_22 : Ref sig .tc := ⟨.hbm, 158, rfl⟩
abbrev main_v125 : Ref sig .tc := ⟨.hbm, 159, rfl⟩
abbrev main_cst_23 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_24 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_25 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_26 : Ref sig .tc := ⟨.hbm, 179, rfl⟩
abbrev main_v142 : Ref sig .tc := ⟨.hbm, 180, rfl⟩
abbrev main_v143 : Ref sig .tc := ⟨.hbm, 181, rfl⟩
abbrev main_cst_27 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_28 : Ref sig .tc := ⟨.hbm, 194, rfl⟩
abbrev main_v155 : Ref sig .tc := ⟨.hbm, 195, rfl⟩
abbrev main_v156 : Ref sig .tc := ⟨.hbm, 196, rfl⟩
abbrev main_cst_29 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_30 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩

abbrev nD : Nat := 1
abbrev τ : Topo := Topo.v7x

variable {F : FTy → Type} [FloatOps F]
-- ==== MlpFwd.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S2x512x8x512 : Shape := ⟨4, ![2, 512, 8, 512]⟩
abbrev S2x8x512x512 : Shape := ⟨4, ![2, 8, 512, 512]⟩
abbrev S8x512x1024 : Shape := ⟨3, ![8, 512, 1024]⟩
abbrev S1x8x512x512 : Shape := ⟨4, ![1, 8, 512, 512]⟩
abbrev S8x512x512 : Shape := ⟨3, ![8, 512, 512]⟩
abbrev S4096x4096 : Shape := ⟨2, ![4096, 4096]⟩
abbrev S1x3200 : Shape := ⟨2, ![1, 3200]⟩
abbrev S512x1024 : Shape := ⟨2, ![512, 1024]⟩
abbrev S4x512x512 : Shape := ⟨3, ![4, 512, 512]⟩
abbrev S4x512x1024 : Shape := ⟨3, ![4, 512, 1024]⟩
abbrev S512x2048 : Shape := ⟨2, ![512, 2048]⟩
abbrev S512x512 : Shape := ⟨2, ![512, 512]⟩
abbrev S1x512x512 : Shape := ⟨3, ![1, 512, 512]⟩
abbrev S1x512x1024 : Shape := ⟨3, ![1, 512, 1024]⟩
abbrev S512 : Shape := ⟨1, ![512]⟩
abbrev S512x1 : Shape := ⟨2, ![512, 1]⟩
abbrev S1x128 : Shape := ⟨2, ![1, 128]⟩
abbrev S1 : Shape := ⟨1, ![1]⟩
abbrev S1x1 : Shape := ⟨2, ![1, 1]⟩
abbrev S1024 : Shape := ⟨1, ![1024]⟩

abbrev nBuf : Space → Nat
  | .hbm => 68
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S2x512x8x512, .f32⟩
  | .hbm, ⟨56, _⟩ => ⟨S2x8x512x512, .f32⟩
  | .hbm, ⟨57, _⟩ => ⟨S2x8x512x512, .bf16⟩
  | .hbm, ⟨58, _⟩ => ⟨S8x512x1024, .f32⟩
  | .hbm, ⟨59, _⟩ => ⟨S8x512x1024, .bf16⟩
  | .hbm, ⟨60, _⟩ => ⟨S1x8x512x512, .bf16⟩
  | .hbm, ⟨61, _⟩ => ⟨S8x512x512, .bf16⟩
  | .hbm, ⟨62, _⟩ => ⟨S1x8x512x512, .bf16⟩
  | .hbm, ⟨63, _⟩ => ⟨S8x512x512, .bf16⟩
  | .hbm, ⟨64, _⟩ => ⟨S4096x4096, .bf16⟩
  | .hbm, ⟨65, _⟩ => ⟨S4096x1024, .f32⟩
  | .hbm, ⟨66, _⟩ => ⟨S4096x1024, .bf16⟩
  | .hbm, ⟨67, _⟩ => ⟨S1x3200, .f32⟩
  | .local _ .vmem, ⟨0, _⟩ => ⟨S512x1024, .bf16⟩
  | .local _ .vmem, ⟨1, _⟩ => ⟨S512x1024, .bf16⟩
  | .local _ .vmem, ⟨2, _⟩ => ⟨S4x512x512, .bf16⟩
  | .local _ .vmem, ⟨3, _⟩ => ⟨S4x512x512, .bf16⟩
  | .local _ .vmem, ⟨4, _⟩ => ⟨S4x512x512, .bf16⟩
  | .local _ .vmem, ⟨5, _⟩ => ⟨S4x512x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x3200, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_v43_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v90 : BitVec 1 := Scalar.cmpi .eq arg1 c1_i32
  let v91 : BitVec 32 := Scalar.extui v90
  let c0_i32_62 : BitVec 32 := 0#32
  let v92 : BitVec 1 := Scalar.cmpi .ne v91 c0_i32_62
  v92

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x3200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== MlpFwdRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x128 : Shape := ⟨2, ![1, 128]⟩
abbrev S1x3200 : Shape := ⟨2, ![1, 3200]⟩

abbrev nBuf : Space → Nat
  | .hbm => 168
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x4096, .f32⟩
  | 8 => ⟨S4096x1024, .f32⟩
  | 9 => ⟨S1x1024, .f32⟩
  | 10 => ⟨S1x1024, .f32⟩
  | 11 => ⟨S1x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S1x1024, .f32⟩
  | 18 => ⟨S1x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S1x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S4096x4096, .f32⟩
  | 55 => ⟨S_, .f32⟩
  | 56 => ⟨S4096x4096, .f32⟩
  | 57 => ⟨S4096x4096, .f32⟩
  | 58 => ⟨S_, .f32⟩
  | 59 => ⟨S4096x1024, .f32⟩
  | 60 => ⟨S4096x1024, .f32⟩
  | 61 => ⟨S4096x4096, .f32⟩
  | 62 => ⟨S4096x1024, .f32⟩
  | 63 => ⟨S_, .f32⟩
  | 64 => ⟨S1x1024, .f32⟩
  | 65 => ⟨S1x1024, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096, .f32⟩
  | 105 => ⟨S_, .f32⟩
  | 106 => ⟨S4096, .f32⟩
  | 107 => ⟨S4096, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S4096, .f32⟩
  | 116 => ⟨S_, .f32⟩
  | 117 => ⟨S4096, .f32⟩
  | 118 => ⟨S4096, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S_, .f32⟩
  | 126 => ⟨S1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S1024, .f32⟩
  | 35 => ⟨S1x1024, .f32⟩
  | 36 => ⟨S4096x4096, .bf16⟩
  | 37 => ⟨S4096x1024, .bf16⟩
  | 38 => ⟨S1x128, .f32⟩
  | 39 => ⟨S1x3200, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_cst_20 : Ref sig .tc := ⟨.hbm, 112, rfl⟩
abbrev main_cst_21 : Ref sig .tc := ⟨.hbm, 113, rfl⟩
abbrev main_v76 : Ref sig .tc := ⟨.hbm, 114, rfl⟩
abbrev main_v77 : Ref sig .tc := ⟨.hbm, 115, rfl⟩
abbrev main_cst_22 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_23 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_24 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_25 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_26 : Ref sig .tc := ⟨.hbm, 137, rfl⟩
abbrev main_v95 : Ref sig .tc := ⟨.hbm, 138, rfl⟩
abbrev main_v96 : Ref sig .tc := ⟨.hbm, 139, rfl⟩
abbrev main_cst_27 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_28 : Ref sig .tc := ⟨.hbm, 148, rfl⟩
abbrev main_v104 : Ref sig .tc := ⟨.hbm, 149, rfl⟩
abbrev main_v105 : Ref sig .tc := ⟨.hbm, 150, rfl⟩
abbrev main_cst_29 : Ref sig .tc := ⟨.hbm, 151, rfl⟩
abbrev main_v106 : Ref sig .tc := ⟨.hbm, 152, rfl⟩
abbrev main_v107 : Ref sig .tc := ⟨.hbm, 153, rfl⟩
abbrev main_cst_30 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_31 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩

abbrev nD : Nat := 1
abbrev τ : Topo := Topo.v7x

variable {F : FTy → Type} [FloatOps F]
-- ==== Proof.In.Pay.lean ====
module

public import proofs.«01_k».proof.Proof.Gen.InBwdIdeal.Value
public import Idealize.ShloMosaic.Lib.Pipeline.ValueKit

@[expose] public section

set_option maxRecDepth 16384

noncomputable section

namespace Cert.InBwdIdeal.Value

open Cert.InBwdIdeal Cert.InBwdIdeal.Gen Idealize.ShloMosaic Idealize.ShloMosaic.TcCoe Idealize.SL.Sem
open Idealize.ShloMosaic.Pipeline (Dat)

theorem pay3_apply (v3 : Vec Ideal S512x2048 .bf16) (v5 : Vec Ideal S2048x1024 .bf16) (v8 : Vec Ideal S512x1024 .bf16)
    (v10 : Vec Ideal S1024x1024 .bf16) (j : S512x1024.Idx) :
    (k0_pay3 v3 v5 v8 v10 j : EReal) = ∑ k, v3 (ix2 (j 0) k) * v5 (ix2 k (j 1)) + ∑ k, v8 (ix2 (j 0) k) * v10 (ix2 k (j 1)) := by
  pointwise [k0_pay3]

theorem pay4_apply (v3 : Vec Ideal S512x2048 .bf16) (v5 : Vec Ideal S2048x1024 .bf16) (v8 : Vec Ideal S512x1024 .bf16)
    (v10 : Vec Ideal S1024x1024 .bf16) (v14 : Vec Ideal S512x1024 .f32) (v17 : Vec Ideal S1x1024 .f32) (j : S512x1024.Idx) :
    (k0_pay4 v3 v5 v8 v10 v14 v17 j : EReal) =
      Ideal.ofBits FTy.f32 1066940400#32 * v14 j + k0_pay3 v3 v5 v8 v10 j * (1 + v17 (ix2 0 (j 1))) := by
  unfold k0_pay4
  generalize k0_pay3 v3 v5 v8 v10 = du
  pointwise

theorem pay5_apply (v3 : Vec Ideal S512x2048 .bf16) (v5 : Vec Ideal S2048x1024 .bf16) (v8 : Vec Ideal S512x1024 .bf16)
    (v10 : Vec Ideal S1024x1024 .bf16) (v24 : Vec Ideal S1x1024 .f32) (v26 : Vec Ideal S512x1024 .f32) (j : S1x1024.Idx) :
    (k0_pay5 v3 v5 v8 v10 v24 v26 j : EReal) = v24 j + ∑ x : Fin 512, k0_pay3 v3 v5 v8 v10 (ix2 x (j 1)) * v26 (ix2 x (j 1)) := by
  unfold k0_pay5
  generalize k0_pay3 v3 v5 v8 v10 = du
  pointwise

theorem pay1_apply (v13 : FVec Ideal S512x1024 .f32) (v32 : Vec Ideal S1x1024 .f32) (j : S1x1024.Idx) :
    (k0_pay1 v13 v32 j : EReal) = v32 j + ∑ x : Fin 512, v13 (ix2 x (j 1)) := by
  pointwise [k0_pay1]

theorem pay2_apply (j : S1x2048.Idx) : (k0_pay2 (F := Ideal) j : EReal) = 0 := by
  pointwise [k0_pay2]

end Cert.InBwdIdeal.Value
-- ==== Proof.In.Block.lean ====
module

public import proofs.«01_k».proof.Proof.Gen.InBwdIdeal.Value
public import Idealize.ShloMosaic.Lib.Pipeline.ValueKit
public import Idealize.ShloMosaic.Lib.Pipeline.ReadBack
public import proofs.«01_k».proof.Proof.In.Pay

@[expose] public section

set_option maxRecDepth 16384

noncomputable section

namespace Cert.InBwdIdeal.Value

open Cert.InBwdIdeal Cert.InBwdIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![0, 0] ∧ win0_6.index t = ![t.val, 0] ∧
    win0_7.index t = ![0, 0] := (by decide +kernel : ∀ t : Fin grid0.N, _)

/-- The gradient at the layer's input, before the modulation: the kernel's two products. -/
def du (c : Dev nD) (r : Fin 4096) (j : Fin 1024) : EReal :=
  ∑ k : Fin 2048, (show FVec Ideal S4096x2048 .bf16 from V m c main_v41) (ix2 r k) *
      (show FVec Ideal S3072x1024 .bf16 from V m c main_v11) (ix2 ⟨k.val, by omega⟩ j) +
    ∑ k : Fin 1024, (show FVec Ideal S4096x1024 .bf16 from V m c main_v40) (ix2 r k) *
      (show FVec Ideal S3072x1024 .bf16 from V m c main_v11) (ix2 ⟨2048 + k.val, by omega⟩ j)

/-- The block of it that grid point `t` computes. -/
def duBlk (c : Dev nD) (t : Fin cfg0.N) : FVec Ideal S512x1024 .f32 :=
  k0_pay3 (iblk m c 0 t) (View.ld (iblk m c 2 t) (Rect.unit ![0, 0] ![2048, 1024] inb_S3072x1024_S2048x1024_0_0)) (iblk m c 1 t)
    (View.ld (iblk m c 2 t) (Rect.unit ![2048, 0] ![1024, 1024] inb_S3072x1024_S1024x1024_2048_0))

theorem rows (t : Fin cfg0.N) (x : Fin 512) : 512 * t.val + x.val < 4096 := by
  have : t.val < 8 := t.isLt
  omega

theorem iblk0 (c : Dev nD) (t : Fin cfg0.N) (x : Fin 512) (k : Fin 2048) : (show FVec Ideal S512x2048 .bf16 from iblk m c 0 t) (ix2 x k) =
    (show FVec Ideal S4096x2048 .bf16 from V m c main_v41) (ix2 ⟨512 * t.val + x.val, rows t x⟩ k) := by
  unfold iblk
  generalize V m c = X
  blk_ext [idx t]

theorem iblk1 (c : Dev nD) (t : Fin cfg0.N) (x : Fin 512) (k : Fin 1024) : (show FVec Ideal S512x1024 .bf16 from iblk m c 1 t) (ix2 x k) =
    (show FVec Ideal S4096x1024 .bf16 from V m c main_v40) (ix2 ⟨512 * t.val + x.val, rows t x⟩ k) := by
  unfold iblk
  generalize V m c = X
  blk_ext [idx t]

theorem iblk2 (c : Dev nD) (t : Fin cfg0.N) : (show FVec Ideal S3072x1024 .bf16 from iblk m c 2 t) =
    (show FVec Ideal S3072x1024 .bf16 from V m c main_v11) := by
  funext y
  unfold iblk
  generalize V m c = X
  blk_ext [idx t]

theorem duBlk_apply (c : Dev nD) (t : Fin cfg0.N) (x : Fin 512) (j : Fin 1024) :
    duBlk m c t (ix2 x j) = du m c ⟨512 * t.val + x.val, rows t x⟩ j := by
  unfold duBlk
  rw [pay3_apply]
  unfold du
  refine congrArg₂ _ (Finset.sum_congr rfl fun k _ => ?_) (Finset.sum_congr rfl fun k _ => ?_)
  · refine congrArg₂ _ (iblk0 m c t x k) ?_
    rw [← iblk2 m c t]
    generalize iblk m c 2 t = X
    pointwise
  · refine congrArg₂ _ (iblk1 m c t x k) ?_
    rw [← iblk2 m c t]
    generalize iblk m c 2 t = X
    pointwise

/-- The block of `x` that grid point `t` reads. -/
abbrev xBlk (c : Dev nD) (t : Fin cfg0.N) : FVec Ideal S512x1024 .f32 := iblk m c 3 t

/-- What a grid point adds to the row of sums. -/
def part (c : Dev nD) (t : Fin cfg0.N) (j : Fin 2048) : EReal :=
  if h : j.val < 1024 then ∑ x : Fin 512, duBlk m c t (ix2 x ⟨j.val, h⟩)
  else ∑ x : Fin 512, duBlk m c t (ix2 x ⟨j.val - 1024, by omega⟩) * xBlk m c t (ix2 x ⟨j.val - 1024, by omega⟩)

theorem part_lo (c : Dev nD) (t : Fin cfg0.N) (j : Fin 2048) (i : Fin 1024) (h : j.val = i.val) :
    part m c t j = ∑ x : Fin 512, duBlk m c t (ix2 x i) := by
  unfold part
  rw [dif_pos (by omega)]
  simp only [h]

theorem part_hi (c : Dev nD) (t : Fin cfg0.N) (j : Fin 2048) (i : Fin 1024) (h : j.val = 1024 + i.val) :
    part m c t j = ∑ x : Fin 512, duBlk m c t (ix2 x i) * xBlk m c t (ix2 x i) := by
  unfold part
  rw [dif_neg (by omega)]
  simp only [h, Nat.add_sub_cancel_left]

theorem caseB7 (c : Dev nD) (t : Fin cfg0.N) (hn : ¬ t.val % 8 = 0) (y : S1x2048.Idx) :
    (show EReal from (outsAt0 m c t.val t.isLt).2 y) = (show EReal from (outsAt0 m c (t.val - 1) (by omega)).2 y) + part m c t (y 1) := by
  rw [outsAt0_B m c t hn]
  frame_out
  generalize hp : (outsAt0 m c (t.val - 1) _).2 = prev
  canon_tiles x h
  · rw [part_lo m c t (y 1) (x 1) h1]
    refine (pay1_apply _ _ x).trans (congrArg₂ _ ?_ rfl)
    pointwise [h0, h1]
    exact congrArg prev (by blk_ext [h0, h1])
  · rw [part_hi m c t (y 1) (x 1) h1]
    refine (pay5_apply _ _ _ _ _ _ x).trans (congrArg₂ _ ?_ rfl)
    pointwise [h0, h1]
    exact congrArg prev (by blk_ext [h0, h1])

theorem caseA7 (c : Dev nD) (t : Fin cfg0.N) (hn : t.val % 8 = 0) (y : S1x2048.Idx) :
    (show EReal from (outsAt0 m c t.val t.isLt).2 y) = part m c t (y 1) := by
  rw [outsAt0_A m c t hn]
  frame_out
  simp (disch := decide) only [↓ View.readCov_skip, ↓ View.readCov_cons_toLoadRect, ↓ View.readCov_fill]
  have zero : ∀ y : S1x2048.Idx, (k0_pay2 (F := Ideal) y : EReal) = 0 := pay2_apply
  refine View.canon_append_of_piecesOf (Val := Elt Ideal) (s := S1x2048) (e := .f32) (fun y => part m c t (y 1)) [_] [_, _] (And.intro (fun x => ?_) (And.intro (fun x => ?_) trivial)) y
    (View.cover_of_tiledL _ ![1, 1024] ?_ y)
  · refine (pay1_apply _ _ x).trans ((congrArg₂ _ (zero ((Rect.unit (s := S1x2048) _ ![1, 1024] _).idx x)) rfl).trans ((zero_add _).trans ?_))
    exact (part_lo m c t _ (x 1) (by simp)).symm
  · refine (pay5_apply _ _ _ _ _ _ x).trans ((congrArg₂ _ (zero ((Rect.unit (s := S1x2048) _ ![1, 1024] _).idx x)) rfl).trans ((zero_add _).trans ?_))
    exact (part_hi m c t _ (x 1) (by simp)).symm
  · rfl

theorem case6 (c : Dev nD) (t : Fin cfg0.N) (y : S512x1024.Idx) :
    (show EReal from (outsAt0 m c t.val t.isLt).1 y) = Ideal.ofBits FTy.f32 1066940400#32 * (show FVec Ideal S512x1024 .f32 from iblk m c 4 t) y
      + duBlk m c t y * (1 + (show FVec Ideal S1x1024 .f32 from iblk m c 5 t) (ix2 0 (y 1))) := by
  by_cases h0 : t.val % 8 = 0
  · rw [outsAt0_A m c t h0]
    frame_out
    exact pay4_apply _ _ _ _ _ _ y
  · rw [outsAt0_B m c t h0]
    frame_out
    exact pay4_apply _ _ _ _ _ _ y

theorem iblk3 (c : Dev nD) (t : Fin cfg0.N) (x : Fin 512) (j : Fin 1024) : xBlk m c t (ix2 x j) =
    (show FVec Ideal S4096x1024 .f32 from V m c main_arg0) (ix2 ⟨512 * t.val + x.val, rows t x⟩ j) := by
  unfold xBlk iblk
  generalize V m c = X
  blk_ext [idx t]

theorem iblk4 (c : Dev nD) (t : Fin cfg0.N) (x : Fin 512) (j : Fin 1024) : (show FVec Ideal S512x1024 .f32 from iblk m c 4 t) (ix2 x j) =
    (show FVec Ideal S4096x1024 .f32 from V m c main_arg9) (ix2 ⟨512 * t.val + x.val, rows t x⟩ j) := by
  unfold iblk
  generalize V m c = X
  blk_ext [idx t]

theorem iblk5 (c : Dev nD) (t : Fin cfg0.N) (j : Fin 1024) : (show FVec Ideal S1x1024 .f32 from iblk m c 5 t) (ix2 0 j) =
    (show FVec Ideal S1x1024 .f32 from V m c main_arg1) (ix2 0 j) := by
  unfold iblk
  generalize V m c = X
  blk_ext [idx t]

/-- The gradient at `x`, as the kernel leaves it. -/
theorem arr6 (c : Dev nD) : (dats m 0 c).arrAt 6 cfg0.N = (fun i : S4096x1024.Idx =>
    (Ideal.ofBits FTy.f32 1066940400#32 * (show FVec Ideal S4096x1024 .f32 from V m c main_arg9) i
      + du m c (i 0) (i 1) * (1 + (show FVec Ideal S1x1024 .f32 from V m c main_arg1) (ix2 0 (i 1))) : EReal)) := by
  refine (dats m 0 c).arrAt_eq_of_covers 6 _ (by decide +kernel) fun t hf y => ?_
  blk_simp
  rw [after0_6]
  refine (case6 m c t y).trans ?_
  obtain ⟨x, j, rfl⟩ : ∃ (x : Fin 512) (j : Fin 1024), y = ix2 x j := ⟨y 0, y 1, by ext a; match a with | ⟨0, _⟩ => rfl | ⟨1, _⟩ => rfl⟩
  have e : (win0_6.blk t).view.emb (ix2 x j) = (ix2 ⟨512 * t.val + x.val, rows t x⟩ j : S4096x1024.Idx) := by blk_ext [idx t]
  have e5 := iblk5 m c t j
  rw [e]
  exact congrArg₂ _ (congrArg (_ * ·) (iblk4 m c t x j)) (congrArg₂ _ (duBlk_apply m c t x j) (congrArg (1 + ·) e5))

/-- The row of sums, as the kernel leaves it. -/
theorem arr7 (c : Dev nD) : (dats m 0 c).arrAt 7 cfg0.N = (fun i : S1x2048.Idx => (∑ t : Fin cfg0.N, part m c t (i 1) : EReal)) := by
  refine (dats m 0 c).arrAt_eq_of_after_last 7 t0_7 (by decide +kernel) _ fun j => ?_
  blk_simp
  rw [after0_7]
  refine (Pipeline.eq_sum_fin_of_reset_step_apply_last (M := EReal) (fun n h => (outsAt0 m c n h).2) 8 (fun _ => 0) (fun t j => part m c t (j 1))
    (fun t h j => ?_) (fun t h j => ?_) (le_of_eq N_0) t0_7 rfl j).trans (zero_add _)
  · exact (caseA7 m c t h j).trans (zero_add _).symm
  · exact caseB7 m c t h j

end Cert.InBwdIdeal.Value
-- ==== Proof.In.Rope.lean ====
module
public import proofs.«01_k».proof.Proof.Gen.InBwdIdeal.Value
public import Idealize.ShloMosaic.Lib.Pipeline.ValueKit

/-! The rotary angle of a row and a column pair, and that its cosine and sine are real numbers. -/

@[expose] public section

noncomputable section
namespace Cert.InBwdIdeal.Value

open Idealize.ShloMosaic

/-- The angle of a position at the pair of columns `k`, as the host computes it. -/
def angle (p : BitVec 32) (k : ℕ) : EReal :=
  (FloatOps.sitofp (F := Ideal) FTy.f32 p : EReal) *
    Ideal.div 1 (Ideal.pow (Ideal.ofBits FTy.f32 1176256512#32)
      (Ideal.div (Ideal.ofBits FTy.f32 1073741824#32 * (FloatOps.sitofp (F := Ideal) FTy.f32 (BitVec.ofNat 32 k) : EReal))
        (Ideal.ofBits FTy.f32 1115684864#32)))

theorem angle_real (p : BitVec 32) (k : ℕ) : ∃ a : ℝ, angle p k = (a : EReal) := by
  have h1 : Ideal.ofBits FTy.f32 1176256512#32 = ((10000 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have h3 : Ideal.ofBits FTy.f32 1115684864#32 = ((64 : ℝ) : EReal) := by
    simp [Ideal.ofBits, Ideal.ieee, -EReal.coe_mul]; norm_num
  unfold angle
  rw [h1, h2, h3]
  simp only [show ∀ b : BitVec 32, (FloatOps.sitofp (F := Ideal) FTy.f32 b : EReal) = ((b.toInt : ℝ) : EReal)
    from fun _ => rfl, Ideal.div_coe (y := 64) (by norm_num), ← EReal.coe_mul, Ideal.pow_coe_coe]
  have hp : Real.rpow 10000 (2 * ((BitVec.ofNat 32 k).toInt : ℝ) * (1 / 64)) ≠ 0 := (Real.rpow_pos_of_pos (by norm_num) _).ne'
  rw [Ideal.div_coe hp, one_mul, ← EReal.coe_mul]
  exact ⟨_, rfl⟩

theorem cos_angle_real (p : BitVec 32) (k : ℕ) : ∃ a : ℝ, Ideal.cos (angle p k) = (a : EReal) := by
  obtain ⟨a, h⟩ := angle_real p k
  exact ⟨Real.cos a, by rw [h]; rfl⟩

theorem sin_angle_real (p : BitVec 32) (k : ℕ) : ∃ a : ℝ, Ideal.sin (angle p k) = (a : EReal) := by
  obtain ⟨a, h⟩ := angle_real p k
  exact ⟨Real.sin a, by rw [h]; rfl⟩

end Cert.InBwdIdeal.Value
-- ==== Proof.In.Entry.lean ====
module

public import proofs.«01_k».proof.Proof.Gen.InBwdIdeal.Value
public import Idealize.ShloMosaic.Lib.Pipeline.ValueKit
public import proofs.«01_k».proof.Proof.In.Rope
public import Idealize.ShloMosaic.Lib.StableHlo.ReadAt

@[expose] public section

set_option maxRecDepth 16384

noncomputable section

namespace Cert.InBwdIdeal.Value

open Cert.InBwdIdeal Cert.InBwdIdeal.Gen Idealize.ShloMosaic Idealize.ShloMosaic.TcCoe Idealize.SL.Sem
open Idealize.ShloMosaic.Pipeline (Dat)
variable (m : (ℓ : Loc nD τ sig) → Buf (Elt Ideal) ℓ)

theorem v41_apply (c : Dev nD) (r : Fin 4096) (k : Fin 2048) :
    (show FVec Ideal S4096x2048 .bf16 from V m c main_v41) (ix2 r k) = (show FVec Ideal S4096x2048 .f32 from m ((c : Thread nD τ).loc main_arg5)) (ix2 r k) := by
  unfold_abbrev_sides
  after_reads_simp
  pointwise

theorem v40_q (c : Dev nD) (r : Fin 4096) (k : Fin 256) :
    (show FVec Ideal S4096x1024 .bf16 from V m c main_v40) (ix2 r ⟨k.val, by omega⟩) = (show FVec Ideal S4096x256 .f32 from m ((c : Thread nD τ).loc main_arg6)) (ix2 r k) := by
  unfold_abbrev_sides
  after_reads_simp
  pointwise
  after_reads_simp

theorem v40_kv (c : Dev nD) (r : Fin 4096) (k : Fin 256) :
    (show FVec Ideal S4096x1024 .bf16 from V m c main_v40) (ix2 r ⟨256 + k.val, by omega⟩) = (show FVec Ideal S4096x256 .f32 from m ((c : Thread nD τ).loc main_arg7)) (ix2 r k) := by
  unfold_abbrev_sides
  after_reads_simp
  pointwise
  after_reads_simp

theorem v40_z1 (c : Dev nD) (r : Fin 4096) (k : Fin 128) :
    (show FVec Ideal S4096x1024 .bf16 from V m c main_v40) (ix2 r ⟨512 + k.val, by omega⟩) = (0 : EReal) := by
  unfold_abbrev_sides
  after_reads_simp
  pointwise
  simp (disch := omega) only [dif_pos, dif_neg]
  after_reads_simp
  pointwise
  rfl

theorem v40_c1 (c : Dev nD) (r : Fin 4096) (k : Fin 32) :
    (show FVec Ideal S4096x1024 .bf16 from V m c main_v40) (ix2 r ⟨640 + k.val, by omega⟩) = (show FVec Ideal S4096x64 .f32 from m ((c : Thread nD τ).loc main_arg8)) (ix2 r ⟨k.val, by omega⟩) * Ideal.cos (angle ((show IVec S4096 32 from m ((c : Thread nD τ).loc main_arg4)) (ix1 r)) k.val) := by
  unfold_abbrev_sides
  after_reads_simp
  pointwise
  simp (disch := omega) only [dif_pos, dif_neg]
  after_reads_simp
  pointwise
  simp (disch := omega) only [dif_pos, dif_neg]
  after_reads_simp
  pointwise
  simp only [show 640 + k.val - 256 - 256 - 128 = k.val by omega]
  rfl

theorem v40_c2 (c : Dev nD) (r : Fin 4096) (k : Fin 32) :
    (show FVec Ideal S4096x1024 .bf16 from V m c main_v40) (ix2 r ⟨672 + k.val, by omega⟩) = (show FVec Ideal S4096x64 .f32 from m ((c : Thread nD τ).loc main_arg8)) (ix2 r ⟨32 + k.val, by omega⟩) * Ideal.cos (angle ((show IVec S4096 32 from m ((c : Thread nD τ).loc main_arg4)) (ix1 r)) k.val) := by
  unfold_abbrev_sides
  after_reads_simp
  pointwise
  simp (disch := omega) only [dif_pos, dif_neg]
  after_reads_simp
  pointwise
  simp (disch := omega) only [dif_pos, dif_neg]
  after_reads_simp
  pointwise
  simp only [show 672 + k.val - 256 - 256 - 128 = 32 + k.val by omega]
  simp only [show 32 + k.val - 32 = k.val by omega]
  rfl

theorem v40_s1 (c : Dev nD) (r : Fin 4096) (k : Fin 32) :
    (show FVec Ideal S4096x1024 .bf16 from V m c main_v40) (ix2 r ⟨896 + k.val, by omega⟩) = (show FVec Ideal S4096x64 .f32 from m ((c : Thread nD τ).loc main_arg8)) (ix2 r ⟨k.val, by omega⟩) * Ideal.sin (angle ((show IVec S4096 32 from m ((c : Thread nD τ).loc main_arg4)) (ix1 r)) k.val) := by
  unfold_abbrev_sides
  after_reads_simp
  pointwise
  simp (disch := omega) only [dif_pos, dif_neg]
  after_reads_simp
  pointwise
  simp (disch := omega) only [dif_pos, dif_neg]
  after_reads_simp
  pointwise
  simp only [show 896 + k.val - 256 - 256 - 128 - 64 - 64 - 128 = k.val by omega]
  rfl

theorem v40_s2 (c : Dev nD) (r : Fin 4096) (k : Fin 32) :
    (show FVec Ideal S4096x1024 .bf16 from V m c main_v40) (ix2 r ⟨928 + k.val, by omega⟩) = (show FVec Ideal S4096x64 .f32 from m ((c : Thread nD τ).loc main_arg8)) (ix2 r ⟨32 + k.val, by omega⟩) * Ideal.sin (angle ((show IVec S4096 32 from m ((c : Thread nD τ).loc main_arg4)) (ix1 r)) k.val) := by
  unfold_abbrev_sides
  after_reads_simp
  pointwise
  simp (disch := omega) only [dif_pos, dif_neg]
  after_reads_simp
  pointwise
  simp (disch := omega) only [dif_pos, dif_neg]
  after_reads_simp
  pointwise
  simp only [show 928 + k.val - 256 - 256 - 128 - 64 - 64 - 128 = 32 + k.val by omega]
  simp only [show 32 + k.val - 32 = k.val by omega]
  rfl

theorem v40_z2 (c : Dev nD) (r : Fin 4096) (k : Fin 192) :
    (show FVec Ideal S4096x1024 .bf16 from V m c main_v40) (ix2 r ⟨704 + k.val, by omega⟩) = (0 : EReal) := by
  unfold_abbrev_sides
  after_reads_simp
  pointwise
  by_cases h : k.val < 64
  · simp (disch := omega) only [dif_pos, dif_neg]
    after_reads_simp
    pointwise
    rfl
  · simp (disch := omega) only [dif_pos, dif_neg]
    after_reads_simp
    pointwise
    rfl

theorem v40_z3 (c : Dev nD) (r : Fin 4096) (k : Fin 64) :
    (show FVec Ideal S4096x1024 .bf16 from V m c main_v40) (ix2 r ⟨960 + k.val, by omega⟩) = (0 : EReal) := by
  unfold_abbrev_sides
  after_reads_simp
  pointwise
  simp (disch := omega) only [dif_pos, dif_neg]
  after_reads_simp
  pointwise
  rfl

theorem v11_main (c : Dev nD) (j : Fin 1024) (k : Fin 2560) :
    (show FVec Ideal S3072x1024 .bf16 from V m c main_v11) (ix2 ⟨k.val, by omega⟩ j) = (show FVec Ideal S1024x2624 .f32 from m ((c : Thread nD τ).loc main_arg3)) (ix2 j ⟨k.val, by omega⟩) := by
  unfold_abbrev_sides
  after_reads_simp
  pointwise
  after_reads_simp
  pointwise

theorem v11_pe (c : Dev nD) (j : Fin 1024) (k : Fin 64) :
    (show FVec Ideal S3072x1024 .bf16 from V m c main_v11) (ix2 ⟨2688 + k.val, by omega⟩ j) = (show FVec Ideal S1024x2624 .f32 from m ((c : Thread nD τ).loc main_arg3)) (ix2 j ⟨2560 + k.val, by omega⟩) := by
  unfold_abbrev_sides
  after_reads_simp
  pointwise
  simp (disch := omega) only [dif_pos, dif_neg]
  after_reads_simp
  pointwise
  simp only [show 2560 + (2688 + k.val - 2560 - 128) = 2560 + k.val by omega]

theorem v11_r1 (c : Dev nD) (j : Fin 1024) (k : Fin 32) :
    (show FVec Ideal S3072x1024 .bf16 from V m c main_v11) (ix2 ⟨2944 + k.val, by omega⟩ j) = - (show FVec Ideal S1024x2624 .f32 from m ((c : Thread nD τ).loc main_arg3)) (ix2 j ⟨2592 + k.val, by omega⟩) := by
  unfold_abbrev_sides
  after_reads_simp
  pointwise
  simp (disch := omega) only [dif_pos, dif_neg]
  after_reads_simp
  pointwise
  simp (disch := omega) only [dif_pos, dif_neg]
  simp only [show 2560 + (32 + (2944 + k.val - 2560 - 128 - 64 - 64 - 128)) = 2592 + k.val by omega]
  rfl

theorem v11_r2 (c : Dev nD) (j : Fin 1024) (k : Fin 32) :
    (show FVec Ideal S3072x1024 .bf16 from V m c main_v11) (ix2 ⟨2976 + k.val, by omega⟩ j) = (show FVec Ideal S1024x2624 .f32 from m ((c : Thread nD τ).loc main_arg3)) (ix2 j ⟨2560 + k.val, by omega⟩) := by
  unfold_abbrev_sides
  after_reads_simp
  pointwise
  simp (disch := omega) only [dif_pos, dif_neg]
  after_reads_simp
  pointwise
  simp (disch := omega) only [dif_pos, dif_neg]
  simp only [show 2560 + (2976 + k.val - 2560 - 128 - 64 - 64 - 128 - 32) = 2560 + k.val by omega]

end Cert.InBwdIdeal.Value
-- ==== Proof.In.Ref.lean ====
module

public import proofs.«01_k».proof.Proof.Gen.InBwdRefIdeal.Read
public import proofs.«01_k».proof.Proof.In.Rope

@[expose] public section

set_option maxRecDepth 16384

noncomputable section

namespace Cert.InBwdRefIdeal.Read

open Cert.InBwdRefIdeal Cert.InBwdRefIdeal.Gen Idealize.ShloMosaic Idealize.ShloMosaic.TcCoe Idealize.SL.Sem
open Cert.InBwdIdeal.Value (angle)

variable (x0 : FVec Ideal S4096x1024 .f32) (x1 : FVec Ideal S1x1024 .f32) (x3 : FVec Ideal S1024x2624 .f32) (x4 : IVec S4096 32)
  (x5 : FVec Ideal S4096x2048 .f32) (x6 x7 : FVec Ideal S4096x256 .f32) (x8 : FVec Ideal S4096x64 .f32) (x9 : FVec Ideal S4096x1024 .f32)

theorem angle_apply (r : Fin 4096) (k : Fin 32) : (show EReal from val_main_v16 (F := Ideal) x4 (ix2 r k)) = angle (x4 (ix1 r)) k.val := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

theorem cos_apply (r : Fin 4096) (k : Fin 32) : (show EReal from val_main_v17 (F := Ideal) x4 (ix2 r k)) = Ideal.cos (angle (x4 (ix1 r)) k.val) :=
  congrArg Ideal.cos (angle_apply x4 r k)

theorem sin_apply (r : Fin 4096) (k : Fin 32) : (show EReal from val_main_v18 (F := Ideal) x4 (ix2 r k)) = Ideal.sin (angle (x4 (ix1 r)) k.val) :=
  congrArg Ideal.sin (angle_apply x4 r k)

theorem z_hg (r : Fin 4096) (k : Fin 2048) : (show EReal from val_main_v53 (F := Ideal) x4 x5 x6 x7 x8 (ix2 r ⟨k.val, by omega⟩)) = x5 (ix2 r k) := by
  unfold val_main_v53 val_main_v52
  pointwise

theorem z_m (r : Fin 4096) (k : Fin 512) : (show EReal from val_main_v53 (F := Ideal) x4 x5 x6 x7 x8 (ix2 r ⟨2048 + k.val, by omega⟩)) =
    if h : k.val < 256 then x6 (ix2 r ⟨k.val, h⟩) else x7 (ix2 r ⟨k.val - 256, by omega⟩) := by
  unfold val_main_v53 val_main_v52
  pointwise
  simp (disch := omega) only [dif_neg, Nat.add_sub_cancel_left]
  split
  · rfl
  · rw [dif_pos (by omega)]

theorem z_1 (r : Fin 4096) (k : Fin 32) : (show EReal from val_main_v53 (F := Ideal) x4 x5 x6 x7 x8 (ix2 r ⟨2560 + k.val, by omega⟩)) =
    x8 (ix2 r ⟨32 + k.val, by omega⟩) * Ideal.sin (angle (x4 (ix1 r)) k.val) + x8 (ix2 r ⟨k.val, by omega⟩) * Ideal.cos (angle (x4 (ix1 r)) k.val) := by
  unfold val_main_v53 val_main_v52
  pointwise
  simp (disch := omega) only [dif_pos, dif_neg]
  simp only [show 2560 + k.val - 2048 - 256 - 256 = k.val by omega]
  rw [← cos_apply, ← sin_apply]
  pointwise [val_main_v51, val_main_v50, val_main_v49, val_main_v48, val_main_v47, val_main_v46, val_main_v45, val_main_v44, val_main_v43]

theorem z_2 (r : Fin 4096) (k : Fin 32) : (show EReal from val_main_v53 (F := Ideal) x4 x5 x6 x7 x8 (ix2 r ⟨2592 + k.val, by omega⟩)) =
    x8 (ix2 r ⟨32 + k.val, by omega⟩) * Ideal.cos (angle (x4 (ix1 r)) k.val) + -x8 (ix2 r ⟨k.val, by omega⟩) * Ideal.sin (angle (x4 (ix1 r)) k.val) := by
  unfold val_main_v53 val_main_v52
  pointwise
  simp (disch := omega) only [dif_pos, dif_neg]
  simp only [show 2592 + k.val - 2048 - 256 - 256 - 32 = k.val by omega]
  rw [← cos_apply, ← sin_apply]
  pointwise [val_main_v51, val_main_v50, val_main_v49, val_main_v48, val_main_v47, val_main_v46, val_main_v45, val_main_v44, val_main_v43]

theorem du_apply (r : Fin 4096) (j : Fin 1024) : (show EReal from val_main_v54 (F := Ideal) x3 x4 x5 x6 x7 x8 (ix2 r j)) = ∑ k : Fin 2624, (show EReal from val_main_v53 (F := Ideal) x4 x5 x6 x7 x8 (ix2 r k)) * x3 (ix2 j k) := by
  unfold val_main_v54
  generalize val_main_v53 (F := Ideal) x4 x5 x6 x7 x8 = z
  pointwise

theorem v62_apply (r : Fin 4096) (j : Fin 1024) : (show EReal from val_main_v62 (F := Ideal) x1 x3 x4 x5 x6 x7 x8 x9 (ix2 r j)) =
    Ideal.ofBits FTy.f32 1066940400#32 * x9 (ix2 r j) + (show EReal from val_main_v54 (F := Ideal) x3 x4 x5 x6 x7 x8 (ix2 r j)) * (1 + x1 (ix2 0 j)) := by
  unfold val_main_v62 val_main_v61 val_main_v42
  generalize val_main_v54 (F := Ideal) x3 x4 x5 x6 x7 x8 = z
  pointwise [val_main_v60, val_main_v20, val_main_v41, val_main_v19, val_main_cst_4, val_main_cst_5, val_main_cst_6]

theorem v63_lo (j : Fin 1024) : (show EReal from val_main_v63 (F := Ideal) x0 x3 x4 x5 x6 x7 x8 (ix2 0 ⟨j.val, by omega⟩)) =
    ∑ r : Fin 4096, (show EReal from val_main_v54 (F := Ideal) x3 x4 x5 x6 x7 x8 (ix2 r j)) := by
  unfold val_main_v63 val_main_v59 val_main_v56 val_main_v55 val_main_v58 val_main_v57
  generalize val_main_v54 (F := Ideal) x3 x4 x5 x6 x7 x8 = z
  pointwise [val_main_cst_7, val_main_cst_8]

theorem v63_hi (j : Fin 1024) : (show EReal from val_main_v63 (F := Ideal) x0 x3 x4 x5 x6 x7 x8 (ix2 0 ⟨1024 + j.val, by omega⟩)) =
    ∑ r : Fin 4096, x0 (ix2 r j) * (show EReal from val_main_v54 (F := Ideal) x3 x4 x5 x6 x7 x8 (ix2 r j)) := by
  unfold val_main_v63 val_main_v59 val_main_v56 val_main_v55 val_main_v58 val_main_v57
  generalize val_main_v54 (F := Ideal) x3 x4 x5 x6 x7 x8 = z
  pointwise [val_main_cst_7, val_main_cst_8]

end Cert.InBwdRefIdeal.Read
-- ==== Proof.In.Sum.lean ====
module

public import Mathlib.Data.EReal.Basic
public import Mathlib.Data.EReal.Operations
public import Mathlib.Algebra.BigOperators.Fin
public import Mathlib.Tactic.Ring

/-! The kernel's two products, over padded columns and with the rotary part split in two, are the reference's one product. -/

@[expose] public section

namespace Cert.InBwdIdeal.Value

open Finset

theorem sum_split {n : ℕ} (a b : ℕ) (h : a + b = n) (f : Fin n → EReal) :
    ∑ k, f k = ∑ k : Fin a, f ⟨k.val, by omega⟩ + ∑ k : Fin b, f ⟨a + k.val, by omega⟩ := by
  subst h
  exact Fin.sum_univ_add f

theorem place {n : ℕ} (f : Fin n → EReal) (i j : Fin n) (h : i.val = j.val) {x : EReal} (hj : f j = x) : f i = x := by
  rw [Fin.ext h, hj]

/-- One pair of rotary columns. -/
theorem rope_pair {p q c s u v : EReal} (hp : ∃ a : ℝ, p = a) (hq : ∃ a : ℝ, q = a) (hc : ∃ a : ℝ, c = a) (hs : ∃ a : ℝ, s = a)
    (hu : ∃ a : ℝ, u = a) (hv : ∃ a : ℝ, v = a) :
    p * c * u + (q * c * v + (p * s * -v + q * s * u)) = (q * s + p * c) * u + (q * c + -p * s) * v := by
  obtain ⟨p, rfl⟩ := hp; obtain ⟨q, rfl⟩ := hq; obtain ⟨c, rfl⟩ := hc; obtain ⟨s, rfl⟩ := hs; obtain ⟨u, rfl⟩ := hu; obtain ⟨v, rfl⟩ := hv
  norm_cast
  ring

/-- A column of the first product, among the columns of the padded weights. -/
def lo (k : Fin 2048) : Fin 3072 := ⟨k.val, by omega⟩
/-- A column of the second product. -/
def hi (k : Fin 1024) : Fin 3072 := ⟨2048 + k.val, by omega⟩

theorem products_eq (A : Fin 2048 → EReal) (B : Fin 1024 → EReal) (W : Fin 3072 → EReal) (Z X : Fin 2624 → EReal) (p q c s : Fin 32 → EReal)
    (hA : ∀ k : Fin 2048, A k = Z ⟨k.val, by omega⟩)
    (hB : ∀ k : Fin 512, B ⟨k.val, by omega⟩ = Z ⟨2048 + k.val, by omega⟩)
    (hz1 : ∀ k : Fin 128, B ⟨512 + k.val, by omega⟩ = 0)
    (hc1 : ∀ k : Fin 32, B ⟨640 + k.val, by omega⟩ = p k * c k)
    (hc2 : ∀ k : Fin 32, B ⟨672 + k.val, by omega⟩ = q k * c k)
    (hz2 : ∀ k : Fin 192, B ⟨704 + k.val, by omega⟩ = 0)
    (hs1 : ∀ k : Fin 32, B ⟨896 + k.val, by omega⟩ = p k * s k)
    (hs2 : ∀ k : Fin 32, B ⟨928 + k.val, by omega⟩ = q k * s k)
    (hz3 : ∀ k : Fin 64, B ⟨960 + k.val, by omega⟩ = 0)
    (hW : ∀ k : Fin 2560, W ⟨k.val, by omega⟩ = X ⟨k.val, by omega⟩)
    (hP : ∀ k : Fin 64, W ⟨2688 + k.val, by omega⟩ = X ⟨2560 + k.val, by omega⟩)
    (hr1 : ∀ k : Fin 32, W ⟨2944 + k.val, by omega⟩ = -X ⟨2592 + k.val, by omega⟩)
    (hr2 : ∀ k : Fin 32, W ⟨2976 + k.val, by omega⟩ = X ⟨2560 + k.val, by omega⟩)
    (hZ1 : ∀ k : Fin 32, Z ⟨2560 + k.val, by omega⟩ = q k * s k + p k * c k)
    (hZ2 : ∀ k : Fin 32, Z ⟨2592 + k.val, by omega⟩ = q k * c k + -p k * s k)
    (fp : ∀ k : Fin 32, ∃ a : ℝ, p k = a) (fq : ∀ k : Fin 32, ∃ a : ℝ, q k = a) (fc : ∀ k : Fin 32, ∃ a : ℝ, c k = a) (fs : ∀ k : Fin 32, ∃ a : ℝ, s k = a)
    (fX : ∀ k : Fin 2624, ∃ a : ℝ, X k = a) :
    ∑ k : Fin 2048, A k * W (lo k) + ∑ k : Fin 1024, B k * W (hi k) = ∑ k : Fin 2624, Z k * X k := by
  have eB : ∑ k : Fin 1024, B k * W (hi k) =
      ∑ k : Fin 512, Z ⟨2048 + k.val, by omega⟩ * X ⟨2048 + k.val, by omega⟩ +
        (∑ k : Fin 32, p k * c k * X ⟨2560 + k.val, by omega⟩ + (∑ k : Fin 32, q k * c k * X ⟨2592 + k.val, by omega⟩ +
          (∑ k : Fin 32, p k * s k * -X ⟨2592 + k.val, by omega⟩ + ∑ k : Fin 32, q k * s k * X ⟨2560 + k.val, by omega⟩))) := by
    rw [sum_split 512 512 (by norm_num)]
    refine congrArg₂ _ (Finset.sum_congr rfl fun k _ => congrArg₂ _ (hB k) (hW ⟨2048 + k.val, by omega⟩)) ?_
    rw [sum_split 128 384 (by norm_num), Finset.sum_eq_zero fun k _ => by rw [hz1 k, zero_mul], zero_add, sum_split 32 352 (by norm_num)]
    refine congrArg₂ _ (Finset.sum_congr rfl fun k _ => ?_) ?_
    · refine congrArg₂ _ (place B _ _ (by simp <;> omega) (hc1 k)) (place W _ _ (by simp [hi] <;> omega) (hP ⟨k.val, by omega⟩))
    rw [sum_split 32 320 (by norm_num)]
    refine congrArg₂ _ (Finset.sum_congr rfl fun k _ => ?_) ?_
    · refine congrArg₂ _ (place B _ _ (by simp <;> omega) (hc2 k)) (place W _ _ (by simp [hi] <;> omega) ((hP ⟨32 + k.val, by omega⟩).trans (congrArg X (Fin.ext (by simp <;> omega)))))
    rw [sum_split 192 128 (by norm_num), Finset.sum_eq_zero fun k _ => by rw [place B _ _ (by simp <;> omega) (hz2 k), zero_mul], zero_add, sum_split 32 96 (by norm_num)]
    refine congrArg₂ _ (Finset.sum_congr rfl fun k _ => ?_) ?_
    · refine congrArg₂ _ (place B _ _ (by simp <;> omega) (hs1 k)) (place W _ _ (by simp [hi] <;> omega) (hr1 k))
    rw [sum_split 32 64 (by norm_num), Finset.sum_eq_zero (s := (Finset.univ : Finset (Fin 64))) fun k _ => by rw [place B _ _ (by simp <;> omega) (hz3 k), zero_mul], add_zero]
    refine Finset.sum_congr rfl fun k _ => ?_
    refine congrArg₂ _ (place B _ _ (by simp <;> omega) (hs2 k)) (place W _ _ (by simp [hi] <;> omega) (hr2 k))
  have eZ : ∑ k, Z k * X k = ∑ k : Fin 2048, Z ⟨k.val, by omega⟩ * X ⟨k.val, by omega⟩ +
      (∑ k : Fin 512, Z ⟨2048 + k.val, by omega⟩ * X ⟨2048 + k.val, by omega⟩ +
        (∑ k : Fin 32, (q k * s k + p k * c k) * X ⟨2560 + k.val, by omega⟩ +
          ∑ k : Fin 32, (q k * c k + -p k * s k) * X ⟨2592 + k.val, by omega⟩)) := by
    rw [sum_split 2048 576 (by norm_num), sum_split (n := 576) 512 64 (by norm_num), sum_split (n := 64) 32 32 (by norm_num)]
    refine congrArg (_ + ·) (congrArg (_ + ·) (congrArg₂ _ (Finset.sum_congr rfl fun k _ => ?_) (Finset.sum_congr rfl fun k _ => ?_)))
    · exact congrArg₂ _ (place Z _ _ (by simp <;> omega) (hZ1 k)) (congrArg X (Fin.ext (by simp <;> omega)))
    · exact congrArg₂ _ (place Z _ _ (by simp <;> omega) (hZ2 k)) (congrArg X (Fin.ext (by simp <;> omega)))
  rw [eB, eZ, Finset.sum_congr rfl fun k _ => congrArg₂ _ (hA k) (hW ⟨k.val, by omega⟩)]
  refine congrArg (_ + ·) (congrArg (_ + ·) ?_)
  simp only [← Finset.sum_add_distrib]
  exact Finset.sum_congr rfl fun k _ => rope_pair (fp k) (fq k) (fc k) (fs k) (fX _) (fX _)

end Cert.InBwdIdeal.Value
-- ==== Proof.Common.Real.lean ====
module

public import Idealize.ShloMosaic.PureOps.Ideal

/-! What a precondition `abs(x) < inf` says of an element. -/

@[expose] public section

namespace Cert.Common

open Idealize.ShloMosaic

/-- An element whose absolute value is below the infinity is a real. -/
theorem real_of_lt {x : EReal} (h : Ideal.cmp .olt ((FloatOps.absf (F := Ideal) (φ := FTy.f32) x : EReal)) (Ideal.ofBits FTy.f32 0x7F800000#32) = 1#1) :
    ∃ a : ℝ, x = a := by
  have hi : Ideal.ofBits FTy.f32 0x7F800000#32 = ⊤ := by simp [Ideal.ofBits, Ideal.ieee]
  rw [hi] at h
  change Ideal.cmp .olt (max x (-x)) ⊤ = 1#1 at h
  induction x with
  | bot => exact absurd h (by simp [Ideal.cmp])
  | top => exact absurd h (by simp [Ideal.cmp])
  | coe a => exact ⟨a, rfl⟩

end Cert.Common
-- ==== Proof.In.Claim.lean ====
module

public import proofs.«01_k».proof.Defs
public import proofs.«01_k».proof.Proof.Gen.Pre_input_finite
public import proofs.«01_k».proof.Proof.In.Block
public import proofs.«01_k».proof.Proof.In.Entry
public import proofs.«01_k».proof.Proof.In.Ref
public import proofs.«01_k».proof.Proof.In.Sum
public import proofs.«01_k».proof.Proof.Common.Real

/-! The input layer's backward call computes the reference's gradients. -/

@[expose] public section

set_option maxRecDepth 16384

noncomputable section

namespace Cert.InBwdIdeal.Value

open Cert.InBwdIdeal Cert.InBwdIdeal.Gen Idealize.ShloMosaic Idealize.ShloMosaic.TcCoe Idealize.SL.Sem
open Cert.Common (real_of_lt)
open Cert.InBwdRefIdeal.Read (val_main_v53 val_main_v54 val_main_v62 val_main_v63)

variable (m : (ℓ : Loc nD τ sig) → Buf (Elt Ideal) ℓ)

/-- The kernel's arguments, as arrays. -/
abbrev a0 (c : Dev nD) : FVec Ideal S4096x1024 .f32 := m ((c : Thread nD τ).loc main_arg0)
abbrev a1 (c : Dev nD) : FVec Ideal S1x1024 .f32 := m ((c : Thread nD τ).loc main_arg1)
abbrev a3 (c : Dev nD) : FVec Ideal S1024x2624 .f32 := m ((c : Thread nD τ).loc main_arg3)
abbrev a4 (c : Dev nD) : IVec S4096 32 := m ((c : Thread nD τ).loc main_arg4)
abbrev a5 (c : Dev nD) : FVec Ideal S4096x2048 .f32 := m ((c : Thread nD τ).loc main_arg5)
abbrev a6 (c : Dev nD) : FVec Ideal S4096x256 .f32 := m ((c : Thread nD τ).loc main_arg6)
abbrev a7 (c : Dev nD) : FVec Ideal S4096x256 .f32 := m ((c : Thread nD τ).loc main_arg7)
abbrev a8 (c : Dev nD) : FVec Ideal S4096x64 .f32 := m ((c : Thread nD τ).loc main_arg8)
abbrev a9 (c : Dev nD) : FVec Ideal S4096x1024 .f32 := m ((c : Thread nD τ).loc main_arg9)

/-- The reference's gradient at the modulated input. -/
abbrev refDu (c : Dev nD) (r : Fin 4096) (j : Fin 1024) : EReal :=
  val_main_v54 (F := Ideal) (a3 m c) (a4 m c) (a5 m c) (a6 m c) (a7 m c) (a8 m c) (ix2 r j)

/-- The kernel's two products over the packed rows are the reference's one product over the weight's columns. -/
theorem du_eq (c : Dev nD) (hw : ∀ i, ∃ a : ℝ, a3 m c i = (a : EReal)) (hd : ∀ i, ∃ a : ℝ, a8 m c i = (a : EReal)) (r : Fin 4096) (j : Fin 1024) :
    du m c r j = refDu m c r j := by
  refine Eq.trans ?_ (Cert.InBwdRefIdeal.Read.du_apply (a3 m c) (a4 m c) (a5 m c) (a6 m c) (a7 m c) (a8 m c) r j).symm
  refine products_eq (fun k => (show FVec Ideal S4096x2048 .bf16 from V m c main_v41) (ix2 r k))
    (fun k => (show FVec Ideal S4096x1024 .bf16 from V m c main_v40) (ix2 r k))
    (fun k => (show FVec Ideal S3072x1024 .bf16 from V m c main_v11) (ix2 k j))
    (fun k => val_main_v53 (F := Ideal) (a4 m c) (a5 m c) (a6 m c) (a7 m c) (a8 m c) (ix2 r k)) (fun k => a3 m c (ix2 j k))
    (fun k => a8 m c (ix2 r ⟨k.val, by omega⟩)) (fun k => a8 m c (ix2 r ⟨32 + k.val, by omega⟩))
    (fun k => Ideal.cos (angle (a4 m c (ix1 r)) k.val)) (fun k => Ideal.sin (angle (a4 m c (ix1 r)) k.val))
    (fun k => (v41_apply m c r k).trans (Cert.InBwdRefIdeal.Read.z_hg _ _ _ _ _ r k).symm)
    (fun k => Eq.trans ?_ (Cert.InBwdRefIdeal.Read.z_m _ _ _ _ _ r k).symm) (v40_z1 m c r) (v40_c1 m c r) (v40_c2 m c r) (v40_z2 m c r) (v40_s1 m c r) (v40_s2 m c r)
    (v40_z3 m c r) (v11_main m c j) (v11_pe m c j) (v11_r1 m c j) (v11_r2 m c j)
    (Cert.InBwdRefIdeal.Read.z_1 _ _ _ _ _ r) (Cert.InBwdRefIdeal.Read.z_2 _ _ _ _ _ r)
    (fun _ => hd _) (fun _ => hd _) (fun _ => cos_angle_real _ _) (fun _ => sin_angle_real _ _) (fun _ => hw _)
  split
  · rename_i h
    exact v40_q m c r ⟨k.val, h⟩
  · rename_i h
    refine Eq.trans ?_ (v40_kv m c r ⟨k.val - 256, by omega⟩)
    exact congrArg (fun k => (show FVec Ideal S4096x1024 .bf16 from V m c main_v40) (ix2 r k)) (Fin.ext (show k.val = 256 + (k.val - 256) by omega))

/-- The first result: the gradient at the layer's input. -/
theorem result0 (c : Dev nD) (hw : ∀ i, ∃ a : ℝ, a3 m c i = (a : EReal)) (hd : ∀ i, ∃ a : ℝ, a8 m c i = (a : EReal)) :
    (dats m 0 c).arrAt 6 cfg0.N =
      val_main_v62 (F := Ideal) (a1 m c) (a3 m c) (a4 m c) (a5 m c) (a6 m c) (a7 m c) (a8 m c) (a9 m c) := by
  rw [arr6]
  funext i
  obtain ⟨r, j, rfl⟩ : ∃ (x : Fin 4096) (j : Fin 1024), i = ix2 x j := ⟨i 0, i 1, by ext a; match a with | ⟨0, _⟩ => rfl | ⟨1, _⟩ => rfl⟩
  refine Eq.trans ?_ (Cert.InBwdRefIdeal.Read.v62_apply (a1 m c) (a3 m c) (a4 m c) (a5 m c) (a6 m c) (a7 m c) (a8 m c) (a9 m c) r j).symm
  have e := du_eq m c hw hd r j
  have e9 : V m c main_arg9 = m ((c : Thread nD τ).loc main_arg9) := by
    unfold_abbrev_sides
    after_reads_simp
  have e1 : V m c main_arg1 = m ((c : Thread nD τ).loc main_arg1) := by
    unfold_abbrev_sides
    after_reads_simp
  rw [e9, e1]
  exact congrArg (_ + ·) (congrArg (· * _) e)

/-- The second result: the gradients at the shift and the scale, beside each other. -/
theorem result1 (c : Dev nD) (hw : ∀ i, ∃ a : ℝ, a3 m c i = (a : EReal)) (hd : ∀ i, ∃ a : ℝ, a8 m c i = (a : EReal)) :
    (dats m 0 c).arrAt 7 cfg0.N =
      val_main_v63 (F := Ideal) (a0 m c) (a3 m c) (a4 m c) (a5 m c) (a6 m c) (a7 m c) (a8 m c) := by
  rw [arr7]
  funext i
  have e0 : V m c main_arg0 = m ((c : Thread nD τ).loc main_arg0) := by
    unfold_abbrev_sides
    after_reads_simp
  obtain ⟨j, rfl⟩ : ∃ (j : Fin 2048), i = ix2 0 j := ⟨i 1, by ext a; match a with | ⟨0, _⟩ => exact congrArg Fin.val (Subsingleton.elim (α := Fin 1) _ _) | ⟨1, _⟩ => rfl⟩
  show (∑ t : Fin cfg0.N, part m c t j : EReal) = _
  have rowsum : ∀ f : Fin 4096 → EReal, ∑ t : Fin cfg0.N, ∑ x : Fin 512, f ⟨512 * t.val + x.val, rows t x⟩ = ∑ r, f r := fun f =>
    Fin.sum_mul_add_congr fun t x h => congrArg f (Fin.ext (show 512 * t.val + x.val = t.val * 512 + x.val by omega))
  by_cases h : j.val < 1024
  · rw [Fin.sum_fin_congr fun t => part_lo m c t j ⟨j.val, h⟩ rfl]
    simp only [duBlk_apply, du_eq m c hw hd]
    exact (rowsum fun r => refDu m c r ⟨j.val, h⟩).trans (Cert.InBwdRefIdeal.Read.v63_lo _ _ _ _ _ _ _ ⟨j.val, h⟩).symm
  · have hj : j.val = 1024 + (j.val - 1024) := by omega
    rw [Fin.sum_fin_congr fun t => part_hi m c t j ⟨j.val - 1024, by omega⟩ hj]
    simp only [duBlk_apply, du_eq m c hw hd, iblk3, e0]
    refine (rowsum fun r => refDu m c r ⟨j.val - 1024, by omega⟩ * a0 m c (ix2 r ⟨j.val - 1024, by omega⟩)).trans ?_
    simp only [mul_comm (refDu m c _ _)]
    refine (Cert.InBwdRefIdeal.Read.v63_hi _ _ _ _ _ _ _ ⟨j.val - 1024, by omega⟩).symm.trans ?_
    exact congrArg (fun k => val_main_v63 (F := Ideal) (a0 m c) (a3 m c) (a4 m c) (a5 m c) (a6 m c) (a7 m c) (a8 m c) (ix2 0 k)) (Fin.ext hj.symm)

/-- The call's value claim: for finite weights and rotary gradients it computes the derivative of the layer. -/
theorem algebraic : Cert.algebraic_InBwdIdeal_InBwdRefIdeal_pre_input_finite := by
  intro m g m' g' hpre hagree
  have hw : ∀ c i, ∃ a : ℝ, a3 m c i = (a : EReal) := fun c i => real_of_lt (congrFun (hpre c).1 i)
  have hd : ∀ c i, ∃ a : ℝ, a8 m c i = (a : EReal) := fun c i => real_of_lt (congrFun (hpre c).2 i)
  refine ⟨_, _, run_blocks m g, ?_⟩
  refine (θ_run _ _ _).mono (fun r h c => ?_) (Cert.InBwdRefIdeal.Value.run m' g')
  obtain ⟨h0, h1, h2⟩ := h c
  obtain ⟨e0, e1, e2, e3, e4, e5, e6, e7, e8, e9⟩ := hagree c
  refine ⟨h0.trans ?_, h1.trans ?_, h2⟩
  · rw [Cert.InBwdRefIdeal.Read.val_main_v62_eq, e1, e3, e4, e5, e6, e7, e8, e9]
    exact (result0 m c (hw c) (hd c)).symm
  · rw [Cert.InBwdRefIdeal.Read.val_main_v63_eq, e0, e3, e4, e5, e6, e7, e8]
    exact (result1 m c (hw c) (hd c)).symm

end Cert.InBwdIdeal.Value
-- ==== Proof.Attn.Loop2.lean ====
module

public import proofs.«01_k».proof.Proof.Gen.AttnBwdIdeal.Frame
public import proofs.«01_k».proof.Proof.Gen.AttnBwdIdeal.Skeleton
public import Idealize.ShloMosaic.Lib.VecWindow

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

section Loop2

variable (i : grid0.Coords) (k : Fin (k0_t2_loop i).trips) (v4 : FVec F S1024x256 .bf16) (v6 : FVec F S1024x128 .bf16)
    (x0 : Vec F S1x4096x256 .bf16) (x3 : Vec F S4096x128 .f32) (x5 : Vec F S1x4096x128 .f32) (s : Vec F S4096x128 .f32)

/-- The query rows of the trip's first query block, and of its second. -/
def q₁ : Vec F S1x512x256 .bf16 := window x0 (k0_off12 i k) S1x512x256.size (k0_off12_inb i k)
def q₂ : Vec F S1x512x256 .bf16 := window x0 (k0_off13 i k) S1x512x256.size (k0_off13_inb i k)
/-- The rows of the output's gradient. -/
def o₁ : Vec F S512x128 .f32 := window x3 (k0_off14 i k) S512x128.size (k0_off14_inb i k)
def o₂ : Vec F S512x128 .f32 := window x3 (k0_off15 i k) S512x128.size (k0_off15_inb i k)
/-- The rows of the logarithm of the softmax's denominator. -/
def l₁ : Vec F S1x512x1 .f32 := window x5 (k0_off16 i k) S1x512x1.size (k0_off16_inb i k)
def l₂ : Vec F S1x512x1 .f32 := window x5 (k0_off19 i k) S1x512x1.size (k0_off19_inb i k)
/-- The rows of `delta`. -/
def d₁ : Vec F S512x1 .f32 := window s (k0_off17 i k) S512x1.size (k0_off17_inb i k)
def d₂ : Vec F S512x1 .f32 := window s (k0_off20 i k) S512x1.size (k0_off20_inb i k)

/-- The accumulated gradient of the queries after the trip's first query block. -/
def dq₁ (y : Vec F S4096x256 .f32) : Vec F S4096x256 .f32 :=
  put y (k0_off18 i k) S512x256.size
    (k0_pay1 v4 (k0_pay23 v4 v6 (q₁ i k x0) (o₁ i k x3) (l₁ i k x5) (d₁ i k s))
      (window y (k0_off18 i k) S512x256.size (k0_off18_inb i k)) (constant S512x256 .f32 0x00000000#32))

/-- The accumulated gradient of the queries after the trip. -/
def dq₂ (y : Vec F S4096x256 .f32) : Vec F S4096x256 .f32 :=
  put (dq₁ i k v4 v6 x0 x3 x5 s y) (k0_off21 i k) S512x256.size
    (k0_pay4 v4 (k0_pay20 v4 (q₂ i k x0)) (k0_pay21 v6 (o₂ i k x3)) (l₂ i k x5) (d₂ i k s)
      (window y (k0_off21 i k) S512x256.size (k0_off21_inb i k)))

/-- The gradients of the keys and of the values after the trip. -/
def dkv (acc : FVec F S1024x256 .f32 × FVec F S1024x128 .f32) : FVec F S1024x256 .f32 × FVec F S1024x128 .f32 :=
  (k0_pay5 acc.1 (k0_pay16 (q₁ i k x0)) (k0_pay17 (q₂ i k x0)) (k0_pay20 v4 (q₂ i k x0)) (k0_pay21 v6 (o₂ i k x3))
      (k0_pay23 v4 v6 (q₁ i k x0) (o₁ i k x3) (l₁ i k x5) (d₁ i k s)) (l₂ i k x5) (d₂ i k s),
   k0_pay6 acc.2 (k0_pay18 (o₁ i k x3)) (k0_pay19 (o₂ i k x3)) (k0_pay20 v4 (q₂ i k x0)) (k0_pay22 v4 (q₁ i k x0) (l₁ i k x5)) (l₂ i k x5))

end Loop2

/-- One trip of the loop over the later query blocks. -/
theorem trip2 (c : Dev nD) (i : grid0.Coords) (k : Fin (k0_t2_loop i).trips)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (v4 : FVec F S1024x256 .bf16) (v6 : FVec F S1024x128 .bf16) (v97 c0 : BitVec 32)
    (x0 : Vec F S1x4096x256 .bf16) (x3 : Vec F S4096x128 .f32) (x5 : Vec F S1x4096x128 .f32) (s : Vec F S4096x128 .f32)
    (acc : FVec F S1024x256 .f32 × FVec F S1024x128 .f32) (y : Vec F S4096x256 .f32) (E : Set ℕ) :
    (iprop(owns (c : Thread nD τ) arg2 fullShare x0 ∗ owns (c : Thread nD τ) arg5 fullShare x3 ∗ owns (c : Thread nD τ) arg7 fullShare x5
        ∗ owns (c : Thread nD τ) arg11 fullShare s ∗ owns (c : Thread nD τ) arg12 fullShare y) : sProp 𝕄)
      ⊢ wp frame (wpE (defs₀ (F := F)) Variants.none c none) E (k0_t2_body i arg2 harg2 arg3 harg3 arg4 harg4 arg5 harg5 arg6 harg6 arg7 harg7 arg8 harg8 arg9 harg9 arg10 harg10 arg11 harg11 arg12 harg12 v4 v6 v97 c0 k acc)
          (fun r => iprop(⌜r = dkv i k v4 v6 x0 x3 x5 s acc⌝ ∗ owns (c : Thread nD τ) arg2 fullShare x0 ∗ owns (c : Thread nD τ) arg5 fullShare x3
            ∗ owns (c : Thread nD τ) arg7 fullShare x5 ∗ owns (c : Thread nD τ) arg11 fullShare s
            ∗ owns (c : Thread nD τ) arg12 fullShare (dq₂ i k v4 v6 x0 x3 x5 s y))) := by
  unfold k0_t2_body owns
  iintro ⟨⟨%f0, %hf0, H0⟩, ⟨%f3, %hf3, H3⟩, ⟨%f5, %hf5, H5⟩, ⟨%fs, %hfs, HS⟩, ⟨%fy, %hfy, HY⟩⟩
  sl_exec
  sl_step
  subst hf0 hf3 hf5 hfs hfy
  isplitr; · ipureintro; rfl
  isplitl [H0]; · iexists _; isplitr; · ipureintro; rfl
                  iexact H0
  isplitl [H3]; · iexists _; isplitr; · ipureintro; rfl
                  iexact H3
  isplitl [H5]; · iexists _; isplitr; · ipureintro; rfl
                  iexact H5
  isplitl [HS]; · iexists _; isplitr; · ipureintro; rfl
                  iexact HS
  iexists _; isplitr
  swap; · iexact HY
  ipureintro
  rw [View.read_writes_cons_put _ _ _ _ _ rfl, View.read_writes_cons_put _ _ _ _ _ rfl, View.writes_nil]
  rfl

end Cert.AttnBwdIdeal.Run
-- ==== Proof.Attn.Loops.lean ====
module

public import proofs.«01_k».proof.Proof.Attn.Loop2
public import proofs.«01_k».proof.Proof.Gen.AttnBwdIdeal.Skeleton

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

section Loop2

variable (i : grid0.Coords) (v4 : FVec F S1024x256 .bf16) (v6 : FVec F S1024x128 .bf16)
    (x0 : Vec F S1x4096x256 .bf16) (x3 : Vec F S4096x128 .f32) (x5 : Vec F S1x4096x128 .f32) (s : Vec F S4096x128 .f32)

/-- What the loop over the later query blocks has accumulated before trip `k`. -/
def st2 (init : (FVec F S1024x256 .f32 × FVec F S1024x128 .f32) × Vec F S4096x256 .f32) :
    ℕ → (FVec F S1024x256 .f32 × FVec F S1024x128 .f32) × Vec F S4096x256 .f32
  | 0 => init
  | k + 1 => if h : k < (k0_t2_loop i).trips then
      (dkv i ⟨k, h⟩ v4 v6 x0 x3 x5 s (st2 init k).1, dq₂ i ⟨k, h⟩ v4 v6 x0 x3 x5 s (st2 init k).2)
    else st2 init k

theorem st2_succ (init : (FVec F S1024x256 .f32 × FVec F S1024x128 .f32) × Vec F S4096x256 .f32) (k : Fin (k0_t2_loop i).trips) :
    st2 i v4 v6 x0 x3 x5 s init (k.val + 1)
      = (dkv i k v4 v6 x0 x3 x5 s (st2 i v4 v6 x0 x3 x5 s init k.val).1, dq₂ i k v4 v6 x0 x3 x5 s (st2 i v4 v6 x0 x3 x5 s init k.val).2) :=
  dif_pos k.isLt

end Loop2

/-- The loop over the later query blocks. -/
theorem loop2 (c : Dev nD) (i : grid0.Coords)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (v4 : FVec F S1024x256 .bf16) (v6 : FVec F S1024x128 .bf16) (v97 c0 : BitVec 32)
    (x0 : Vec F S1x4096x256 .bf16) (x3 : Vec F S4096x128 .f32) (x5 : Vec F S1x4096x128 .f32) (s : Vec F S4096x128 .f32)
    (acc : FVec F S1024x256 .f32 × FVec F S1024x128 .f32) (y : Vec F S4096x256 .f32) (E : Set ℕ) :
    (iprop(owns (c : Thread nD τ) arg2 fullShare x0 ∗ owns (c : Thread nD τ) arg5 fullShare x3 ∗ owns (c : Thread nD τ) arg7 fullShare x5
        ∗ owns (c : Thread nD τ) arg11 fullShare s ∗ owns (c : Thread nD τ) arg12 fullShare y) : sProp 𝕄)
      ⊢ wp frame (wpE (defs₀ (F := F)) Variants.none c none) E
          (Scf.Loop.for (k0_t2_loop i) (k0_t2_ok i) acc (k0_t2_body i arg2 harg2 arg3 harg3 arg4 harg4 arg5 harg5 arg6 harg6 arg7 harg7 arg8 harg8 arg9 harg9 arg10 harg10 arg11 harg11 arg12 harg12 v4 v6 v97 c0))
          (fun r => iprop(⌜r = (st2 i v4 v6 x0 x3 x5 s (acc, y) (k0_t2_loop i).trips).1⌝
            ∗ owns (c : Thread nD τ) arg2 fullShare x0 ∗ owns (c : Thread nD τ) arg5 fullShare x3
            ∗ owns (c : Thread nD τ) arg7 fullShare x5 ∗ owns (c : Thread nD τ) arg11 fullShare s
            ∗ owns (c : Thread nD τ) arg12 fullShare (st2 i v4 v6 x0 x3 x5 s (acc, y) (k0_t2_loop i).trips).2)) := by
  iintro ⟨H0, H3, H5, HS, HY⟩
  iapply (Scf.wp_for frame (wpE (defs₀ (F := F)) Variants.none c none) E (k0_t2_loop i).lb (k0_t2_loop i).ub (k0_t2_loop i).st (k0_t2_ok i) acc
    (k0_t2_body i arg2 harg2 arg3 harg3 arg4 harg4 arg5 harg5 arg6 harg6 arg7 harg7 arg8 harg8 arg9 harg9 arg10 harg10 arg11 harg11 arg12 harg12 v4 v6 v97 c0)
    (fun k r => iprop(⌜r = (st2 i v4 v6 x0 x3 x5 s (acc, y) k).1⌝
            ∗ owns (c : Thread nD τ) arg2 fullShare x0 ∗ owns (c : Thread nD τ) arg5 fullShare x3
            ∗ owns (c : Thread nD τ) arg7 fullShare x5 ∗ owns (c : Thread nD τ) arg11 fullShare s
            ∗ owns (c : Thread nD τ) arg12 fullShare (st2 i v4 v6 x0 x3 x5 s (acc, y) k).2))
    (fun k r => by
      iintro ⟨%hr, H⟩
      subst hr
      rw [st2_succ i v4 v6 x0 x3 x5 s (acc, y) k]
      iapply (trip2 c i k arg2 harg2 arg3 harg3 arg4 harg4 arg5 harg5 arg6 harg6 arg7 harg7 arg8 harg8 arg9 harg9 arg10 harg10 arg11 harg11 arg12 harg12 v4 v6 v97 c0 x0 x3 x5 s _ _ E)
      iexact H))
  isplitl [H0 H3 H5 HS HY]
  · isplitr; · ipureintro; rfl
    isplitl [H0]; · iexact H0
    isplitl [H3]; · iexact H3
    isplitl [H5]; · iexact H5
    isplitl [HS]; · iexact HS
    iexact HY
  · iintro %r H; iexact H

/-- The loop over a last unpaired query block makes no trip. -/
theorem trips3 : ∀ i : grid0.Coords, (k0_t3_loop i).trips = 0 := by decide +kernel

/-- So it changes nothing. -/
theorem loop3 (c : Dev nD) (i : grid0.Coords)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (v4 : FVec F S1024x256 .bf16) (v6 : FVec F S1024x128 .bf16) (v97 c0 : BitVec 32)
    (acc : FVec F S1024x256 .f32 × FVec F S1024x128 .f32) (E : Set ℕ) (R : sProp 𝕄) :
    R ⊢ wp frame (wpE (defs₀ (F := F)) Variants.none c none) E
          (Scf.Loop.for (k0_t3_loop i) (k0_t3_ok i) acc (k0_t3_body i arg2 harg2 arg3 harg3 arg4 harg4 arg5 harg5 arg6 harg6 arg7 harg7 arg8 harg8 arg9 harg9 arg10 harg10 arg11 harg11 arg12 harg12 v4 v6 v97 c0))
          (fun r => iprop(⌜r = acc⌝ ∗ R)) := by
  iintro H
  iapply (Scf.wp_for frame (wpE (defs₀ (F := F)) Variants.none c none) E (k0_t3_loop i).lb (k0_t3_loop i).ub (k0_t3_loop i).st (k0_t3_ok i) acc
    (k0_t3_body i arg2 harg2 arg3 harg3 arg4 harg4 arg5 harg5 arg6 harg6 arg7 harg7 arg8 harg8 arg9 harg9 arg10 harg10 arg11 harg11 arg12 harg12 v4 v6 v97 c0) (fun _ r => iprop(⌜r = acc⌝ ∗ R))
    (fun k r => absurd (lt_of_lt_of_eq k.isLt (trips3 i)) (Nat.not_lt_zero _)))
  isplitl [H]
  · isplitr; · ipureintro; rfl
    iexact H
  · iintro %r H; iexact H

theorem trips1 : k0_t1_loop.trips = 8 := by decide

/-- The rows `delta` gets from trip `k` of its loop. -/
def deltaBlk (i : grid0.Coords) (h : k0_cond1 i = 1#1) (x3 x4 : Vec F S4096x128 .f32) (k : Fin k0_t1_loop.trips) : Vec F S512x128 .f32 :=
  k0_pay33 (window x3 (k0_off1 k) S512x128.size (k0_off1_inb i k h)) (window x4 (k0_off1 k) S512x128.size (k0_off1_inb i k h))

/-- The trip that writes row `y 0`. -/
def blkOf (y : S4096x128.Idx) : Fin k0_t1_loop.trips :=
  ⟨(y 0).val / 512, by rw [trips1]; have : (y 0).val < 4096 := (y 0).isLt; omega⟩

theorem blkOf_mem (y : S4096x128.Idx) (a : Fin 2) :
    k0_off1 (blkOf y) a ≤ (y a).val ∧ (y a).val < k0_off1 (blkOf y) a + S512x128.size a := by
  rw [k0_off1_eq]
  match a with
  | ⟨0, _⟩ => show 512 * ((y 0).val / 512) ≤ (y 0).val ∧ (y 0).val < 512 * ((y 0).val / 512) + 512; omega
  | ⟨1, _⟩ => have : (y 1).val < 128 := (y 1).isLt
              show 0 ≤ (y 1).val ∧ (y 1).val < 0 + 128; omega

/-- `delta`, all its rows. -/
def delta (i : grid0.Coords) (h : k0_cond1 i = 1#1) (x3 x4 : Vec F S4096x128 .f32) : Vec F S4096x128 .f32 :=
  fun y => deltaBlk i h x3 x4 (blkOf y) (Rect.unitLocal (s := S4096x128) (off := k0_off1 (blkOf y)) (size := S512x128.size) y (blkOf_mem y))

/-- A trip writes its rows of `delta` and leaves the others. -/
theorem put_delta (i : grid0.Coords) (h : k0_cond1 i = 1#1) (x3 x4 d : Vec F S4096x128 .f32) (k : Fin k0_t1_loop.trips)
    (hd : ∀ y : S4096x128.Idx, (y 0).val < 512 * k.val → d y = delta i h x3 x4 y) (y : S4096x128.Idx) (hy : (y 0).val < 512 * (k.val + 1)) :
    put d (k0_off1 k) S512x128.size (deltaBlk i h x3 x4 k) y = delta i h x3 x4 y := by
  unfold put
  by_cases hm : ∀ a, k0_off1 k a ≤ (y a).val ∧ (y a).val < k0_off1 k a + S512x128.size a
  · rw [dif_pos hm]
    have hk : k = blkOf y := by
      have h0 := hm 0
      rw [k0_off1_eq] at h0
      have h1 : 512 * k.val ≤ (y 0).val := h0.1
      exact Fin.ext (by show k.val = (y 0).val / 512; omega)
    subst hk
    rfl
  · rw [dif_neg hm]
    refine hd y ?_
    by_contra hlt
    refine hm fun a => ?_
    rw [k0_off1_eq]
    match a with
    | ⟨0, _⟩ => show 512 * k.val ≤ (y 0).val ∧ (y 0).val < 512 * k.val + 512; omega
    | ⟨1, _⟩ => have : (y 1).val < 128 := (y 1).isLt
                show 0 ≤ (y 1).val ∧ (y 1).val < 0 + 128; omega

/-- One trip of the loop that fills `delta`. -/
theorem trip1 (c : Dev nD) (i : grid0.Coords) (h : k0_cond1 i = 1#1) (k : Fin k0_t1_loop.trips)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (x3 x4 d : Vec F S4096x128 .f32) (u : Unit) (E : Set ℕ) :
    (iprop(owns (c : Thread nD τ) arg5 fullShare x3 ∗ owns (c : Thread nD τ) arg6 fullShare x4 ∗ owns (c : Thread nD τ) arg11 fullShare d) : sProp 𝕄)
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 h k u)
          (fun _ => iprop(owns (c : Thread nD τ) arg5 fullShare x3 ∗ owns (c : Thread nD τ) arg6 fullShare x4
            ∗ owns (c : Thread nD τ) arg11 fullShare (put d (k0_off1 k) S512x128.size (deltaBlk i h x3 x4 k)))) := by
  unfold k0_t1_body owns
  iintro ⟨⟨%f3, %hf3, H3⟩, ⟨%f4, %hf4, H4⟩, ⟨%fs, %hfs, HS⟩⟩
  sl_exec
  sl_step
  subst hf3 hf4 hfs
  isplitl [H3]; · iexists _; isplitr; · ipureintro; rfl
                  iexact H3
  isplitl [H4]; · iexists _; isplitr; · ipureintro; rfl
                  iexact H4
  iexists _; isplitr
  swap; · iexact HS
  ipureintro
  rw [View.read_writes_cons_put _ _ _ _ _ rfl, View.writes_nil]
  rfl

/-- The loop that fills `delta`, whatever the buffer held. -/
theorem loop1 (c : Dev nD) (i : grid0.Coords) (h : k0_cond1 i = 1#1)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (x3 x4 d : Vec F S4096x128 .f32) (E : Set ℕ) :
    (iprop(owns (c : Thread nD τ) arg5 fullShare x3 ∗ owns (c : Thread nD τ) arg6 fullShare x4 ∗ owns (c : Thread nD τ) arg11 fullShare d) : sProp 𝕄)
      ⊢ wp frame (wpE (defs₀ (F := F)) Variants.none c none) E (Scf.Loop.for k0_t1_loop (k0_t1_ok i h) ⟨⟩ (k0_t1_body i arg2 harg2 arg3 harg3 arg4 harg4 arg5 harg5 arg6 harg6 arg7 harg7 arg8 harg8 arg9 harg9 arg10 harg10 arg11 harg11 arg12 harg12 h))
          (fun _ => iprop(owns (c : Thread nD τ) arg5 fullShare x3 ∗ owns (c : Thread nD τ) arg6 fullShare x4
            ∗ owns (c : Thread nD τ) arg11 fullShare (delta i h x3 x4))) := by
  iintro ⟨H3, H4, HS⟩
  iapply (Scf.wp_for frame (wpE (defs₀ (F := F)) Variants.none c none) E k0_t1_loop.lb k0_t1_loop.ub k0_t1_loop.st (k0_t1_ok i h) ⟨⟩
    (k0_t1_body i arg2 harg2 arg3 harg3 arg4 harg4 arg5 harg5 arg6 harg6 arg7 harg7 arg8 harg8 arg9 harg9 arg10 harg10 arg11 harg11 arg12 harg12 h)
    (fun k _ => iprop(∃ e, ⌜∀ y : S4096x128.Idx, (y 0).val < 512 * k → e y = delta i h x3 x4 y⌝
      ∗ owns (c : Thread nD τ) arg5 fullShare x3 ∗ owns (c : Thread nD τ) arg6 fullShare x4 ∗ owns (c : Thread nD τ) arg11 fullShare e))
    (fun k u => by
      iintro ⟨%e, %he, H⟩
      iapply (wp_wand_r frame (wpE (defs₀ (F := F)) Variants.none c none) E)
      isplitl [H]
      · iapply (trip1 c i h k arg2 harg2 arg3 harg3 arg4 harg4 arg5 harg5 arg6 harg6 arg7 harg7 arg8 harg8 arg9 harg9 arg10 harg10 arg11 harg11 arg12 harg12 x3 x4 e u E); iexact H
      · iintro %r H
        iexists _
        isplitr
        · ipureintro; exact put_delta i h x3 x4 e k he
        iexact H))
  isplitl [H3 H4 HS]
  · iexists d
    isplitr; · ipureintro; intro y hy; omega
    isplitl [H3]; · iexact H3
    isplitl [H4]; · iexact H4
    iexact HS
  · iintro %r ⟨%e, %he, H3, H4, HS⟩
    obtain rfl : e = delta i h x3 x4 := funext fun y => he y (by
      have : (y 0).val < 4096 := (y 0).isLt
      rw [show Scf.trips k0_t1_loop.lb k0_t1_loop.ub k0_t1_loop.st = 8 from trips1]; omega)
    isplitl [H3]; · iexact H3
    isplitl [H4]; · iexact H4
    iexact HS

end Cert.AttnBwdIdeal.Run
-- ==== Proof.Attn.Body.lean ====
module

public import proofs.«01_k».proof.Proof.Attn.Loops
public import proofs.«01_k».proof.Proof.Gen.AttnBwdIdeal.Skeleton

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

section Values

variable (i : grid0.Coords)
    (x0 : Vec F S1x4096x256 .bf16) (x1 : Vec F S1x1024x256 .bf16) (x2 : Vec F S1x1024x128 .bf16) (x3 x4 : Vec F S4096x128 .f32)
    (x5 : Vec F S1x4096x128 .f32) (s : Vec F S4096x128 .f32) (y : Vec F S4096x256 .f32)

/-- `delta` as the body uses it: filled at a head's first key block, else what the buffer holds. -/
def deltaAt : Vec F S4096x128 .f32 := if h : k0_cond1 i = 1#1 then delta i h x3 x4 else s

/-- The accumulated gradient of the queries as the body finds it: zero at a head's first key block. -/
def dqAt : Vec F S4096x256 .f32 := if k0_cond1 i = 1#1 then k0_pay32 (F := F) else y

/-- The key block and the value block, whole. -/
def kb : Vec F S1x1024x256 .bf16 := window x1 ![0, 0, 0] S1x1024x256.size inb_S1x1024x256_S1x1024x256_0_0_0
def vb : Vec F S1x1024x128 .bf16 := window x2 ![0, 0, 0] S1x1024x128.size inb_S1x1024x128_S1x1024x128_0_0_0
/-- The rows of the queries and of the output's gradient at the key block's own rows: its two halves. -/
def qa : Vec F S1x512x256 .bf16 := window x0 (k0_off2 i) S1x512x256.size (k0_off2_inb i)
def qb : Vec F S1x512x256 .bf16 := window x0 (k0_off3 i) S1x512x256.size (k0_off3_inb i)
def oa : Vec F S512x128 .f32 := window x3 (k0_off4 i) S512x128.size (k0_off4_inb i)
def ob : Vec F S512x128 .f32 := window x3 (k0_off5 i) S512x128.size (k0_off5_inb i)
def la : Vec F S1x512x1 .f32 := window x5 (k0_off6 i) S1x512x1.size (k0_off6_inb i)
def lb : Vec F S1x512x1 .f32 := window x5 (k0_off9 i) S1x512x1.size (k0_off9_inb i)
def da : Vec F S512x1 .f32 := window s (k0_off7 i) S512x1.size (k0_off7_inb i)
def db : Vec F S512x1 .f32 := window s (k0_off10 i) S512x1.size (k0_off10_inb i)

/-- The gradient of the queries after the key block's first half of rows, and after both. -/
def dqa : Vec F S4096x256 .f32 :=
  put y (k0_off8 i) S512x256.size
    (k0_pay48 (k0_pay34 (kb x1)) (k0_pay42 (kb x1) (qa i x0)) (k0_pay44 (vb x2) (oa i x3)) (la i x5) (da i s)
      (window y (k0_off8 i) S512x256.size (k0_off8_inb i)))
def dqb : Vec F S4096x256 .f32 :=
  put (dqa i x0 x1 x2 x3 x5 s y) (k0_off11 i) S512x256.size
    (k0_pay53 (k0_pay34 (kb x1)) (k0_pay45 (vb x2) (ob i x3)) (k0_pay51 (k0_pay43 (kb x1) (qb i x0)) (lb i x5)) (db i s)
      (window y (k0_off11 i) S512x256.size (k0_off11_inb i)))

/-- The gradients of the keys and of the values after those rows. -/
def dka : FVec F S1024x256 .f32 :=
  k0_pay54 (k0_pay39 (qb i x0)) (k0_pay45 (vb x2) (ob i x3))
    (k0_pay49 (k0_pay36 (F := F)) (k0_pay38 (qa i x0)) (k0_pay42 (kb x1) (qa i x0)) (k0_pay44 (vb x2) (oa i x3)) (la i x5) (da i s))
    (k0_pay51 (k0_pay43 (kb x1) (qb i x0)) (lb i x5)) (db i s)
def dva : FVec F S1024x128 .f32 :=
  k0_pay55 (k0_pay41 (ob i x3)) (k0_pay50 (k0_pay37 (F := F)) (k0_pay40 (oa i x3)) (k0_pay42 (kb x1) (qa i x0)) (la i x5))
    (k0_pay51 (k0_pay43 (kb x1) (qb i x0)) (lb i x5))

/-- Everything the body has accumulated, the later query blocks included. -/
def total : (FVec F S1024x256 .f32 × FVec F S1024x128 .f32) × Vec F S4096x256 .f32 :=
  st2 i (k0_pay34 (kb x1)) (k0_pay35 (vb x2)) x0 x3 x5 s
    ((dka (F := F) i x0 x1 x2 x3 x5 s, dva (F := F) i x0 x1 x3 x5), dqb i x0 x1 x2 x3 x5 s y) (k0_t2_loop i).trips

/-- The scratch buffers after the body: `delta` and the accumulated gradient of the queries. -/
def step (p : Vec F S4096x128 .f32 × Vec F S4096x256 .f32) : Vec F S4096x128 .f32 × Vec F S4096x256 .f32 :=
  (deltaAt i x3 x4 p.1, (total i x0 x1 x2 x3 x5 (deltaAt i x3 x4 p.1) (dqAt i p.2)).2)

/-- The blocks the body stores: the gradient of the keys, -/
def outK (p : Vec F S4096x128 .f32 × Vec F S4096x256 .f32) : Vec F S1x1024x256 .bf16 :=
  k0_pay13 (total i x0 x1 x2 x3 x5 (deltaAt i x3 x4 p.1) (dqAt i p.2)).1.1
/-- of the values, -/
def outV (p : Vec F S4096x128 .f32 × Vec F S4096x256 .f32) : Vec F S1x1024x128 .bf16 :=
  k0_pay14 (total i x0 x1 x2 x3 x5 (deltaAt i x3 x4 p.1) (dqAt i p.2)).1.2
/-- and, at a head's last key block, of the queries. -/
def outQ (p : Vec F S4096x128 .f32 × Vec F S4096x256 .f32) : Vec F S1x4096x256 .bf16 :=
  k0_pay15 (window (step i x0 x1 x2 x3 x4 x5 p).2 ![0, 0] S4096x256.size inb_S4096x256_S4096x256_0_0)

end Values

theorem part3 (c : Dev nD) (i : grid0.Coords)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (x0 : Vec F S1x4096x256 .bf16) (x1 : Vec F S1x1024x256 .bf16) (x2 : Vec F S1x1024x128 .bf16) (x3 x4 d : Vec F S4096x128 .f32)
    (y : Vec F S4096x256 .f32) (E : Set ℕ) :
    (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4
      ∗ owns (c : Thread nD τ) arg11 fullShare d ∗ owns (c : Thread nD τ) arg12 fullShare y) : sProp 𝕄)
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12)
        (fun r => iprop(⌜r = ⟨BitVec.ofNat 32 (i 1).val, k0_pay34 (kb x1), k0_pay35 (vb x2), k0_pay36 (F := F), k0_pay37 (F := F),
            Scalar.muli (Scalar.muli 2#32 (BitVec.ofNat 32 (i 1).val)) 512#32,
            Scalar.muli (Scalar.addi (Scalar.muli 2#32 (BitVec.ofNat 32 (i 1).val)) 1#32) 512#32,
            k0_pay38 (qa i x0), k0_pay39 (qb i x0), k0_pay40 (oa i x3), k0_pay41 (ob i x3), k0_pay42 (kb x1) (qa i x0), k0_pay43 (kb x1) (qb i x0),
            k0_pay44 (vb x2) (oa i x3), k0_pay45 (vb x2) (ob i x3)⟩⌝
          ∗ owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg11 fullShare (deltaAt i x3 x4 d) ∗ owns (c : Thread nD τ) arg12 fullShare (dqAt i y))) := by
  simp only [k0_part3_eq_skeleton]
  unfold k0_part3_skel
  by_cases h : k0_cond1 i = 1#1
  · unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, ⟨%fy, %hfy, HY⟩⟩
    sl_exec (disch := sl_exact h)
    subst hf0 hf1 hf2 hf3 hf4 hfs hfy
    rw [wp_bind]
    iapply (wp_wand_r frame (wpE (defs₀ (F := F)) Variants.none c none) E)
    isplitl [H3 H4 HS]
    · iapply (loop1 c i h arg2 harg2 arg3 harg3 arg4 harg4 arg5 harg5 arg6 harg6 arg7 harg7 arg8 harg8 arg9 harg9 arg10 harg10 arg11 harg11 arg12 harg12 (arg5.view.read (Elt F) f3) (arg6.view.read (Elt F) f4) (arg11.view.read (Elt F) fs) E)
      unfold owns
      isplitl [H3]; · iexists _; isplitr; · ipureintro; rfl
                      iexact H3
      isplitl [H4]; · iexists _; isplitr; · ipureintro; rfl
                      iexact H4
      iexists _; isplitr; · ipureintro; rfl
      iexact HS
    · unfold owns
      iintro %u ⟨⟨%g3, %hg3, H3⟩, ⟨%g4, %hg4, H4⟩, ⟨%gs, %hgs, HS⟩⟩
      rw [← hg3, ← hg4]
      sl_exec
      sl_step
      isplitr; · ipureintro; rfl
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      isplitl [H4]; · iexists _; isplitr; · ipureintro; rfl
                      iexact H4
      isplitl [HS]
      · iexists _; isplitr
        swap; · iexact HS
        ipureintro; rw [hgs, deltaAt, dif_pos h, hg3, hg4]
      iexists _; isplitr
      swap; · iexact HY
      ipureintro; rw [dqAt, if_pos h]; exact View.read_writes_full _ _ _ _ _
  · unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, ⟨%fy, %hfy, HY⟩⟩
    sl_exec (disch := sl_exact h)
    sl_step
    subst hf0 hf1 hf2 hf3 hf4 hfs hfy
    isplitr; · ipureintro; rfl
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [HS]; · iexists _; isplitr; · ipureintro; rw [deltaAt, dif_neg h]
                    iexact HS
    iexists _; isplitr; · ipureintro; rw [dqAt, if_neg h]
    iexact HY

-- (the body's triple is one run over some two hundred statements, two loops and a branch)
set_option maxHeartbeats 1000000 in
/-- The body, from any contents of its outputs and of its scratch. -/
theorem body (c : Dev nD) (i : grid0.Coords)
    (arg2 : Memref sig .tc .vmem S1x4096x256 .bf16) (harg2 : arg2.IsWhole)
    (arg3 : Memref sig .tc .vmem S1x1024x256 .bf16) (harg3 : arg3.IsWhole)
    (arg4 : Memref sig .tc .vmem S1x1024x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S1x4096x128 .f32) (harg7 : arg7.IsWhole)
    (arg8 : Memref sig .tc .vmem S1x4096x256 .bf16) (harg8 : arg8.IsWhole)
    (arg9 : Memref sig .tc .vmem S1x1024x256 .bf16) (harg9 : arg9.IsWhole)
    (arg10 : Memref sig .tc .vmem S1x1024x128 .bf16) (harg10 : arg10.IsWhole)
    (arg11 : Memref sig .tc .vmem S4096x128 .f32) (harg11 : arg11.IsWhole)
    (arg12 : Memref sig .tc .vmem S4096x256 .f32) (harg12 : arg12.IsWhole)
    (x0 : Vec F S1x4096x256 .bf16) (x1 : Vec F S1x1024x256 .bf16) (x2 : Vec F S1x1024x128 .bf16) (x3 x4 : Vec F S4096x128 .f32)
    (x5 : Vec F S1x4096x128 .f32) (w8 : Vec F S1x4096x256 .bf16) (w9 : Vec F S1x1024x256 .bf16) (w10 : Vec F S1x1024x128 .bf16)
    (p : Vec F S4096x128 .f32 × Vec F S4096x256 .f32) (E : Set ℕ) :
    (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare w8 ∗ owns (c : Thread nD τ) arg9 fullShare w9 ∗ owns (c : Thread nD τ) arg10 fullShare w10
      ∗ owns (c : Thread nD τ) arg11 fullShare p.1 ∗ owns (c : Thread nD τ) arg12 fullShare p.2) : sProp 𝕄)
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12)
        (fun _ => iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare (if k0_cond2 i = 1#1 then outQ i x0 x1 x2 x3 x4 x5 p else w8)
          ∗ owns (c : Thread nD τ) arg9 fullShare (outK i x0 x1 x2 x3 x4 x5 p)
          ∗ owns (c : Thread nD τ) arg10 fullShare (outV i x0 x1 x2 x3 x4 x5 p)
          ∗ owns (c : Thread nD τ) arg11 fullShare (step i x0 x1 x2 x3 x4 x5 p).1
          ∗ owns (c : Thread nD τ) arg12 fullShare (step i x0 x1 x2 x3 x4 x5 p).2)) := by
  simp only [cc0_attn_bwd_eq_skeleton]
  unfold cc0_attn_bwd_skel
  simp only [k0_part4_eq_skeleton, k0_part5_eq_skeleton]
  iintro ⟨H0, H1, H2, H3, H4, H5, H8, H9, H10, HS, HY⟩
  rw [wp_bind]
  iapply (wp_wand_r frame (wpE (defs₀ (F := F)) Variants.none c none) E)
  isplitl [H0 H1 H2 H3 H4 HS HY]
  · iapply (part3 c i arg2 harg2 arg3 harg3 arg4 harg4 arg5 harg5 arg6 harg6 arg7 harg7 arg8 harg8 arg9 harg9 arg10 harg10 arg11 harg11 arg12 harg12 x0 x1 x2 x3 x4 p.1 p.2 E)
    isplitl [H0]; · iexact H0
    isplitl [H1]; · iexact H1
    isplitl [H2]; · iexact H2
    isplitl [H3]; · iexact H3
    isplitl [H4]; · iexact H4
    isplitl [HS]; · iexact HS
    iexact HY
  iintro %r ⟨%hr, H0, H1, H2, H3, H4, HS, HY⟩
  subst hr
  dsimp only
  generalize hs : deltaAt i x3 x4 p.1 = s
  generalize hy : dqAt i p.2 = y
  unfold owns
  icases H0 with ⟨%f0, %hf0, H0⟩; icases H3 with ⟨%f3, %hf3, H3⟩; icases H5 with ⟨%f5, %hf5, H5⟩
  icases HS with ⟨%fs, %hfs, HS⟩; icases HY with ⟨%fy, %hfy, HY⟩
  sl_exec
  subst hf0 hf3 hf5 hfs
  rw [show body.sl.r_3 c i arg7 arg11 (arg2.view.read (Elt F) f0) x1 x2 (arg5.view.read (Elt F) f3) f5 fs
      = dka i (arg2.view.read (Elt F) f0) x1 x2 (arg5.view.read (Elt F) f3) (arg7.view.read (Elt F) f5) (arg11.view.read (Elt F) fs) from rfl,
    show body.sl.r_4 c i arg7 (arg2.view.read (Elt F) f0) x1 (arg5.view.read (Elt F) f3) f5
      = dva i (arg2.view.read (Elt F) f0) x1 (arg5.view.read (Elt F) f3) (arg7.view.read (Elt F) f5) from rfl]
  rw [wp_bind]
  iapply (wp_wand_r frame (wpE (defs₀ (F := F)) Variants.none c none) E)
  isplitl [H0 H3 H5 HS HY]
  · iapply (loop2 c i arg2 harg2 arg3 harg3 arg4 harg4 arg5 harg5 arg6 harg6 arg7 harg7 arg8 harg8 arg9 harg9 arg10 harg10 arg11 harg11 arg12 harg12 (k0_pay34 (kb x1)) (k0_pay35 (vb x2)) _ _ (arg2.view.read (Elt F) f0) (arg5.view.read (Elt F) f3)
      (arg7.view.read (Elt F) f5) (arg11.view.read (Elt F) fs) _
      (dqb i (arg2.view.read (Elt F) f0) x1 x2 (arg5.view.read (Elt F) f3) (arg7.view.read (Elt F) f5) (arg11.view.read (Elt F) fs) y) E)
    unfold owns
    isplitl [H0]; · iexists _; isplitr; · ipureintro; rfl
                    iexact H0
    isplitl [H3]; · iexists _; isplitr; · ipureintro; rfl
                    iexact H3
    isplitl [H5]; · iexists _; isplitr; · ipureintro; rfl
                    iexact H5
    isplitl [HS]; · iexists _; isplitr; · ipureintro; rfl
                    iexact HS
    iexists _; isplitr
    swap; · iexact HY
    ipureintro
    subst hfy
    rw [View.read_writes_cons_put _ _ _ _ _ rfl, View.read_writes_cons_put _ _ _ _ _ rfl, View.writes_nil]
    rfl
  iintro %r ⟨%hr, H0, H3, H5, HS, HY⟩
  subst hr
  rw [wp_bind]
  iapply (wp_wand_r frame (wpE (defs₀ (F := F)) Variants.none c none) E)
  isplitl [HS]
  · iapply (loop3 c i arg2 harg2 arg3 harg3 arg4 harg4 arg5 harg5 arg6 harg6 arg7 harg7 arg8 harg8 arg9 harg9 arg10 harg10 arg11 harg11 arg12 harg12 _ _ _ _ _ E (iprop(owns (c : Thread nD τ) arg11 fullShare (arg11.view.read (Elt F) fs)) : sProp 𝕄))
    iexact HS
  iintro %r ⟨%hr, HS⟩
  subst hr
  unfold owns
  icases HY with ⟨%gy, %hgy, HY⟩
  icases H8 with ⟨%f8, %hf8, H8⟩; icases H9 with ⟨%f9, %hf9, H9⟩; icases H10 with ⟨%f10, %hf10, H10⟩
  by_cases h : k0_cond2 i = 1#1
  · sl_exec (disch := sl_exact h)
    sl_step
    rw [if_pos h]
    isplitl [H0]; · iexact H0
    isplitl [H1]; · iexact H1
    isplitl [H2]; · iexact H2
    isplitl [H3]; · iexact H3
    isplitl [H4]; · iexact H4
    isplitl [H5]; · iexact H5
    isplitl [H8]
    · iexists _; isplitr
      swap; · iexact H8
      ipureintro
      rw [View.read_writes_full]
      rw [outQ]
      rw [step]
      rw [hs]
      rw [hy]
      exact congrArg (fun v => k0_pay15 (window v ![0, 0] S4096x256.size inb_S4096x256_S4096x256_0_0)) hgy
    isplitl [H9]
    · iexists _; isplitr
      swap; · iexact H9
      ipureintro
      rw [outK]
      rw [hs]
      rw [hy]
      exact View.read_writes_full _ _ _ _ _
    isplitl [H10]
    · iexists _; isplitr
      swap; · iexact H10
      ipureintro
      rw [outV]
      rw [hs]
      rw [hy]
      exact View.read_writes_full _ _ _ _ _
    isplitl [HS]
    · rw [step]
      rw [hs]
      iexact HS
    iexists _; isplitr
    · ipureintro
      rw [step]
      rw [hs]
      rw [hy]
      exact hgy
    iexact HY
  · sl_exec (disch := sl_exact h)
    sl_step
    rw [if_neg h]
    isplitl [H0]; · iexact H0
    isplitl [H1]; · iexact H1
    isplitl [H2]; · iexact H2
    isplitl [H3]; · iexact H3
    isplitl [H4]; · iexact H4
    isplitl [H5]; · iexact H5
    isplitl [H8]
    · iexists _; isplitr
      swap; · iexact H8
      ipureintro; exact hf8
    isplitl [H9]
    · iexists _; isplitr
      swap; · iexact H9
      ipureintro
      rw [outK]
      rw [hs]
      rw [hy]
      exact View.read_writes_full _ _ _ _ _
    isplitl [H10]
    · iexists _; isplitr
      swap; · iexact H10
      ipureintro
      rw [outV]
      rw [hs]
      rw [hy]
      exact View.read_writes_full _ _ _ _ _
    isplitl [HS]
    · rw [step]
      rw [hs]
      iexact HS
    iexists _; isplitr
    · ipureintro
      rw [step]
      rw [hs]
      rw [hy]
      exact hgy
    iexact HY

end Cert.AttnBwdIdeal.Run
-- ==== Proof.Attn.Frame.lean ====
module

public import proofs.«01_k».proof.Proof.Attn.Body
public import proofs.«01_k».proof.Proof.Gen.AttnBwdIdeal.Frame
public import Idealize.ShloMosaic.Lib.Pipeline.FrameBody
public import Idealize.ShloMosaic.Lib.WordCmp
public import Idealize.ShloMosaic.Lib.Claim

@[expose] public section

set_option maxRecDepth 16384

noncomputable section

namespace Cert.AttnBwdIdeal.Run

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch buffers hold -/

section First
variable (i : grid0.Coords) (x0 : Vec F S1x4096x256 .bf16) (x1 : Vec F S1x1024x256 .bf16) (x2 : Vec F S1x1024x128 .bf16) (x3 x4 : Vec F S4096x128 .f32)
    (x5 : Vec F S1x4096x128 .f32) (p p' : Vec F S4096x128 .f32 × Vec F S4096x256 .f32)

/-- At a head's first key block nothing the scratch buffers held before is read. -/
theorem step_first (h : k0_cond1 i = 1#1) : step i x0 x1 x2 x3 x4 x5 p = step i x0 x1 x2 x3 x4 x5 p' := by
  unfold step deltaAt dqAt; rw [dif_pos h, dif_pos h, if_pos h, if_pos h]
theorem outK_first (h : k0_cond1 i = 1#1) : outK i x0 x1 x2 x3 x4 x5 p = outK i x0 x1 x2 x3 x4 x5 p' := by
  unfold outK deltaAt dqAt; rw [dif_pos h, dif_pos h, if_pos h, if_pos h]
theorem outV_first (h : k0_cond1 i = 1#1) : outV i x0 x1 x2 x3 x4 x5 p = outV i x0 x1 x2 x3 x4 x5 p' := by
  unfold outV deltaAt dqAt; rw [dif_pos h, dif_pos h, if_pos h, if_pos h]
theorem outQ_first (h : k0_cond1 i = 1#1) : outQ i x0 x1 x2 x3 x4 x5 p = outQ i x0 x1 x2 x3 x4 x5 p' := by
  unfold outQ; rw [step_first i x0 x1 x2 x3 x4 x5 p p' h]
end First

/-- A point's step of the two scratch buffers, at the point's blocks. -/
def stepAt (c : Dev nD) (t : Fin cfg0.N) (p : Vec F S4096x128 .f32 × Vec F S4096x256 .f32) : Vec F S4096x128 .f32 × Vec F S4096x256 .f32 :=
  step (grid0.coords t) (iblk m c 0 t) (iblk m c 1 t) (iblk m c 2 t) (iblk m c 3 t) (iblk m c 4 t) (iblk m c 5 t) p

/-- What the two scratch buffers hold before point `n`; before the first, nothing that is read. -/
def scr (c : Dev nD) : ℕ → Vec F S4096x128 .f32 × Vec F S4096x256 .f32
  | 0 => (constant S4096x128 .f32 0x00000000#32, k0_pay32 (F := F))
  | n + 1 => if h : n < cfg0.N then stepAt m c ⟨n, h⟩ (scr c n) else scr c n

theorem scr_succ (c : Dev nD) (t : Fin cfg0.N) : scr m c (t.val + 1) = stepAt m c t (scr m c t.val) := dif_pos t.isLt

/-- The blocks a point stores: the gradients of the queries, the keys and the values. -/
def blkQ (c : Dev nD) (t : Fin cfg0.N) : Vec F S1x4096x256 .bf16 := outQ (grid0.coords t) (iblk m c 0 t) (iblk m c 1 t) (iblk m c 2 t) (iblk m c 3 t) (iblk m c 4 t) (iblk m c 5 t) (scr m c t.val)
def blkK (c : Dev nD) (t : Fin cfg0.N) : Vec F S1x1024x256 .bf16 := outK (grid0.coords t) (iblk m c 0 t) (iblk m c 1 t) (iblk m c 2 t) (iblk m c 3 t) (iblk m c 4 t) (iblk m c 5 t) (scr m c t.val)
def blkV (c : Dev nD) (t : Fin cfg0.N) : Vec F S1x1024x128 .bf16 := outV (grid0.coords t) (iblk m c 0 t) (iblk m c 1 t) (iblk m c 2 t) (iblk m c 3 t) (iblk m c 4 t) (iblk m c 5 t) (scr m c t.val)

/-! ## The pipeline's proof data -/

/-- The windows' buffers at a point, and the two scratch buffers. -/
abbrev ms0_0 (t : Fin cfg0.N) : Memref sig .tc .vmem S1x4096x256 .bf16 := win0_0.stage (cfg0.slots t 0)
abbrev ms0_1 (t : Fin cfg0.N) : Memref sig .tc .vmem S1x1024x256 .bf16 := win0_1.stage (cfg0.slots t 1)
abbrev ms0_2 (t : Fin cfg0.N) : Memref sig .tc .vmem S1x1024x128 .bf16 := win0_2.stage (cfg0.slots t 2)
abbrev ms0_3 (t : Fin cfg0.N) : Memref sig .tc .vmem S4096x128 .f32 := win0_3.stage (cfg0.slots t 3)
abbrev ms0_4 (t : Fin cfg0.N) : Memref sig .tc .vmem S4096x128 .f32 := win0_4.stage (cfg0.slots t 4)
abbrev ms0_5 (t : Fin cfg0.N) : Memref sig .tc .vmem S1x4096x128 .f32 := win0_5.stage (cfg0.slots t 5)
abbrev ms0_6 (t : Fin cfg0.N) : Memref sig .tc .vmem S1x4096x256 .bf16 := win0_6.stage (cfg0.slots t 6)
abbrev ms0_7 (t : Fin cfg0.N) : Memref sig .tc .vmem S1x1024x256 .bf16 := win0_7.stage (cfg0.slots t 7)
abbrev ms0_8 (t : Fin cfg0.N) : Memref sig .tc .vmem S1x1024x128 .bf16 := win0_8.stage (cfg0.slots t 8)
abbrev scM0 : Memref sig .tc .vmem S4096x128 .f32 := Memref.whole cc0_scratch0
abbrev scM1 : Memref sig .tc .vmem S4096x256 .f32 := Memref.whole cc0_scratch1

/-- What the launch hands the region: the two scratch buffers at anything, and the generator's register. -/
theorem PhiA0_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before the first point the scratch buffers hold anything; before a later one, what `scr` says. -/
def PhiS (c : Dev nD) : ℕ → sProp 𝕄
  | 0 => Pipeline.ΦA spec0 c
  | n + 1 => iprop(iprop(owns (c : Thread nD τ) scM0 fullShare (scr m c (n + 1)).1 ∗ owns (c : Thread nD τ) scM1 fullShare (scr m c (n + 1)).2) ∗ (∃ r, prngReg c r))

theorem PhiS_pos (c : Dev nD) (n : ℕ) (hz : n ≠ 0) : PhiS m c n
    = iprop(iprop(owns (c : Thread nD τ) scM0 fullShare (scr m c n).1 ∗ owns (c : Thread nD τ) scM1 fullShare (scr m c n).2) ∗ (∃ r, prngReg c r)) := by
  cases n with
  | zero => exact absurd rfl hz
  | succ n => rfl

/-- Inputs stay at their blocks; the outputs hold the point's gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkQ m c t
    | ⟨7, _⟩ => blkK m c t
    | ⟨8, _⟩ => blkV m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blkQ m c t := by dsimp only [dats]
theorem after0_7 (c : Dev nD) (t : Fin cfg0.N) : (dats m 0 c).after 7 t = blkK m c t := by dsimp only [dats]
theorem after0_8 (c : Dev nD) (t : Fin cfg0.N) : (dats m 0 c).after 8 t = blkV m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

/-- At the grid's first point the body starts a head. -/
theorem first_point : ∀ t : Fin cfg0.N, t.val = 0 → k0_cond1 (grid0.coords t) = 1#1 := by decide +kernel
/-- The queries' gradient is stored, and written back, exactly at a head's last key block. -/
theorem live6 : ∀ t : Fin cfg0.N, k0_cond2 (grid0.coords t) = 1#1 → cfg0.idle 6 (grid0.coords t) = false := by decide +kernel
theorem idle6 : ∀ t : Fin cfg0.N, ¬ k0_cond2 (grid0.coords t) = 1#1 → cfg0.idle 6 (grid0.coords t) = true := by decide +kernel
theorem noFlush6 : ∀ t : Fin cfg0.N, ¬ k0_cond2 (grid0.coords t) = 1#1 → (cfg0.win 6).flush t = false := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

/-- The scratch buffers before a point, at contents from which the point's step is `scr`'s. -/
theorem Phi_open (c : Dev nD) (t : Fin cfg0.N) : PhiS m c t.val ⊢
    iprop(∃ p : Vec F S4096x128 .f32 × Vec F S4096x256 .f32,
      ⌜stepAt m c t p = scr m c (t.val + 1) ∧ outK (grid0.coords t) (iblk m c 0 t) (iblk m c 1 t) (iblk m c 2 t) (iblk m c 3 t) (iblk m c 4 t) (iblk m c 5 t) p = blkK m c t
        ∧ outV (grid0.coords t) (iblk m c 0 t) (iblk m c 1 t) (iblk m c 2 t) (iblk m c 3 t) (iblk m c 4 t) (iblk m c 5 t) p = blkV m c t ∧ outQ (grid0.coords t) (iblk m c 0 t) (iblk m c 1 t) (iblk m c 2 t) (iblk m c 3 t) (iblk m c 4 t) (iblk m c 5 t) p = blkQ m c t⌝
      ∗ owns (c : Thread nD τ) scM0 fullShare p.1 ∗ owns (c : Thread nD τ) scM1 fullShare p.2 ∗ (∃ r, prngReg c r)) := by
  by_cases hz : t.val = 0
  · rw [show PhiS m c t.val = Pipeline.ΦA spec0 c from by rw [hz]; rfl, PhiA0_eq]
    have h := first_point t hz
    iintro ⟨⟨⟨%d0, HS⟩, ⟨%d1, HY⟩⟩, Hg⟩
    iexists (d0, d1)
    isplitr
    · ipureintro
      rw [scr_succ]
      exact ⟨step_first _ _ _ _ _ _ _ _ _ h, outK_first _ _ _ _ _ _ _ _ _ h, outV_first _ _ _ _ _ _ _ _ _ h, outQ_first _ _ _ _ _ _ _ _ _ h⟩
    isplitl [HS]; · iexact HS
    isplitl [HY]; · iexact HY
    iexact Hg
  · rw [PhiS_pos m c _ hz]
    iintro ⟨⟨HS, HY⟩, Hg⟩
    iexists (scr m c t.val)
    isplitr
    · ipureintro
      rw [scr_succ]
      exact ⟨rfl, rfl, rfl, rfl⟩
    isplitl [HS]; · iexact HS
    isplitl [HY]; · iexact HY
    iexact Hg

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) from rfl, show (dats m 0 c).Φ t.castSucc = PhiS m c t.val from rfl, PhiS_pos m c (t.val + 1) (Nat.succ_ne_zero _)]
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 4 t = owns (c : Thread nD τ) (ms0_4 t) fullShare ((dats m 0 c).after 4 t) from by
    unfold Dat.leavesExact; rw [show cfg0.idle 4 (grid0.coords t) = false from rfl], after0_4]
  rw [show (dats m 0 c).leavesExact 5 t = owns (c : Thread nD τ) (ms0_5 t) fullShare ((dats m 0 c).after 5 t) from by
    unfold Dat.leavesExact; rw [show cfg0.idle 5 (grid0.coords t) = false from rfl], after0_5]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 8 t = owns (c : Thread nD τ) (ms0_8 t) fullShare ((dats m 0 c).after 8 t) from by
    unfold Dat.leavesExact; rw [show cfg0.idle 8 (grid0.coords t) = false from rfl], after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  icases (Phi_open m c t) $$ HΦ with ⟨%p, %hp, HS, HY, Hg⟩
  obtain ⟨hp, hk, hv, hq⟩ := hp
  iapply (wp_wand_r frame (wpE (defs₀ (F := F)) Variants.none c none) Set.univ)
  isplitl [H0 H1 H2 H3 H4 H5 H6 H7 H8 HS HY]
  · iapply (body c (grid0.coords t) _ _ _ _ _ _ _ _ _ _ _ _ _ _ _ _ _ _ _ _ _ _ (iblk m c 0 t) (iblk m c 1 t) (iblk m c 2 t) (iblk m c 3 t) (iblk m c 4 t) (iblk m c 5 t) _ _ _ p Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iexact HY
  iintro %u ⟨H0, H1, H2, H3, H4, H5, H6, H7, H8, HS, HY⟩
  rw [← hp, ← hk, ← hv]
  isplitl [HS HY Hg]
  · isplitl [HS HY]
    · isplitl [HS]; · iexact HS
      iexact HY
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h : k0_cond2 (grid0.coords t) = 1#1
    · rw [if_pos h, hq]
      rw [show (dats m 0 c).leavesExact 6 t = owns (c : Thread nD τ) (ms0_6 t) fullShare ((dats m 0 c).after 6 t) from by
        unfold Dat.leavesExact; rw [live6 t h], after0_6]
      iexact H6
    · rw [if_neg h, Dat.leavesExact_idle (dats m 0 c) 6 t (idle6 t h) (noFlush6 t h)]
      iexists _; iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, PhiS_pos m c cfg0.N (by rw [show cfg0.N = 16 from N_0]; decide), PhiA0_eq]
  iintro ⟨⟨HS, HY⟩, Hg⟩
  isplitl [HS HY]
  · isplitl [HS]
    · iexists _; iexact HS
    iexists _; iexact HY
  iexact Hg

/-! ## The run and the frame -/

-- the library theorem's implicit arguments are found by unfolding plain definitions in a metavariable's type
set_option backward.isDefEq.respectTransparency.types false in
/-- The launch: every array as the proof data computes it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays at the end of the run. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter ends at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.AttnBwdIdeal.Run
-- ==== Proof.Attn.Bits.lean ====
module

public import proofs.«01_k».proof.Defs
public import proofs.«01_k».proof.Proof.Attn.Frame
public import proofs.«01_k».proof.Proof.Gen.AttnBwd
public import proofs.«01_k».proof.Proof.Gen.AttnBwdIdeal

@[expose] public section

set_option maxRecDepth 16384

noncomputable section

namespace Cert.AttnBwdIdeal.Run

open Idealize.ShloMosaic Idealize.SL.Sem

/-- Where only the machine's own numbers are meant, a named constant is its printed bits. -/
@[reducible] def namedBits : Named Bits := ⟨fun _ _ {φ} bits => FloatOps.ofBits φ bits⟩

theorem frame_bits : Cert.quiescent_AttnBwd := by
  letI := namedBits
  have h := fun m ρ (_ : True) => frame_attn (F := Bits) m ρ
  refine Eq.mp ?_ h
  sl_kernel_rfl

end Cert.AttnBwdIdeal.Run
-- ==== Proof.Attn.Model.lean ====
module

public import Idealize.ShloMosaic.Lib.Pointwise
public import Idealize.ShloMosaic.Lib.VecWindow

/-! One attention head over the reals, and what it is for an array over the extended reals to hold a real table. -/

@[expose] public section

noncomputable section

namespace Cert.AttnBwdIdeal.Value

open Finset Idealize.ShloMosaic
open Idealize.ShloMosaic.VecWindow (window put)

/-- One head of the attention: queries (scaled), keys, values, the output's gradient, by row and column; by row, the logarithm of the
softmax's denominator and the sum of the output times its gradient. -/
structure Head where
  q : ℕ → ℕ → ℝ
  k : ℕ → ℕ → ℝ
  v : ℕ → ℕ → ℝ
  o : ℕ → ℕ → ℝ
  l : ℕ → ℝ
  d : ℕ → ℝ

namespace Head
variable (H : Head)

/-- The score of query row `r` and key row `k`. -/
def sc (r k : ℕ) : ℝ := ∑ d ∈ range 256, H.q r d * H.k k d
/-- The probability: zero for a key after the query. -/
def p (r k : ℕ) : ℝ := if k ≤ r then Real.exp (H.sc r k - H.l r) else 0
/-- The probability's gradient. -/
def dp (r k : ℕ) : ℝ := ∑ d ∈ range 128, H.o r d * H.v k d
/-- The score's gradient. -/
def ds (r k : ℕ) : ℝ := H.p r k * (H.dp r k - H.d r)

theorem ds_zero {r k : ℕ} (h : r < k) : H.ds r k = 0 := by
  unfold ds p; rw [if_neg (by omega), zero_mul]
theorem p_zero {r k : ℕ} (h : r < k) : H.p r k = 0 := by
  unfold p; rw [if_neg (by omega)]
end Head

/-- The array of rank two holds the real table `f`. -/
def Is2 {n m : ℕ} (x : (⟨2, ![n, m]⟩ : Shape).Idx → EReal) (f : ℕ → ℕ → ℝ) : Prop :=
  ∀ (a : Fin n) (b : Fin m), x (ix2 a b) = ((f a.val b.val : ℝ) : EReal)

/-- The array of rank three, its first axis of size one, holds the real table `f`. -/
def Is3 {n m : ℕ} (x : (⟨3, ![1, n, m]⟩ : Shape).Idx → EReal) (f : ℕ → ℕ → ℝ) : Prop :=
  ∀ (a : Fin n) (b : Fin m), x (ix3 0 a b) = ((f a.val b.val : ℝ) : EReal)

theorem Is2.congr {n m : ℕ} {x : (⟨2, ![n, m]⟩ : Shape).Idx → EReal} {f g : ℕ → ℕ → ℝ} (h : Is2 x f)
    (e : ∀ r < n, ∀ d < m, f r d = g r d) : Is2 x g := fun a b => by
  rw [h a b, e _ a.isLt _ b.isLt]

theorem sum_coe {n : ℕ} {x y : Fin n → EReal} {f g : ℕ → ℝ} (hx : ∀ i, x i = ((f i.val : ℝ) : EReal)) (hy : ∀ i, y i = ((g i.val : ℝ) : EReal)) :
    ∑ i, x i * y i = ((∑ i ∈ range n, f i * g i : ℝ) : EReal) := by
  rw [← Fin.sum_univ_eq_sum_range (fun i => f i * g i) n, Finset.sum_congr rfl fun i _ => show x i * y i = ((f i.val * g i.val : ℝ) : EReal) by
    rw [hx, hy, EReal.coe_mul]]
  exact (map_sum (⟨⟨Real.toEReal, EReal.coe_zero⟩, EReal.coe_add⟩ : ℝ →+ EReal) _ _).symm

/-- A window of rows and columns of a table. -/
theorem Is2.window {N M n m a b : ℕ} {x : (⟨2, ![N, M]⟩ : Shape).Idx → EReal} {f : ℕ → ℕ → ℝ} (h : Is2 x f)
    {off : Fin 2 → ℕ} (ho : off = ![a, b]) (inb : ∀ i, off i + (![n, m] : Fin 2 → ℕ) i ≤ (⟨2, ![N, M]⟩ : Shape).size i) :
    Is2 (n := n) (m := m) (window x off ![n, m] inb) (fun r d => f (a + r) (b + d)) := by
  subst ho
  intro r d
  have hr : a + r.val < N := lt_of_lt_of_le (Nat.add_lt_add_left r.isLt a) (inb 0)
  have hd : b + d.val < M := lt_of_lt_of_le (Nat.add_lt_add_left d.isLt b) (inb 1)
  refine Eq.trans (congrArg x (show _ = ix2 ⟨a + r.val, hr⟩ ⟨b + d.val, hd⟩ from ?_)) (h _ _)
  funext i
  match i with
  | ⟨0, _⟩ => exact Fin.ext (congrArg (a + ·) (Nat.one_mul r.val))
  | ⟨1, _⟩ => exact Fin.ext (congrArg (b + ·) (Nat.one_mul d.val))

theorem Is3.window {N M n m a b : ℕ} {x : (⟨3, ![1, N, M]⟩ : Shape).Idx → EReal} {f : ℕ → ℕ → ℝ} (h : Is3 x f)
    {off : Fin 3 → ℕ} (ho : off = ![0, a, b]) (inb : ∀ i, off i + (![1, n, m] : Fin 3 → ℕ) i ≤ (⟨3, ![1, N, M]⟩ : Shape).size i) :
    Is3 (n := n) (m := m) (window x off ![1, n, m] inb) (fun r d => f (a + r) (b + d)) := by
  subst ho
  intro r d
  have hr : a + r.val < N := lt_of_lt_of_le (Nat.add_lt_add_left r.isLt a) (inb 1)
  have hd : b + d.val < M := lt_of_lt_of_le (Nat.add_lt_add_left d.isLt b) (inb 2)
  refine Eq.trans (congrArg x (show _ = ix3 0 ⟨a + r.val, hr⟩ ⟨b + d.val, hd⟩ from ?_)) (h _ _)
  funext i
  match i with
  | ⟨0, _⟩ => rfl
  | ⟨1, _⟩ => exact Fin.ext (congrArg (a + ·) (Nat.one_mul r.val))
  | ⟨2, _⟩ => exact Fin.ext (congrArg (b + ·) (Nat.one_mul d.val))

/-- Whole rows put into a table. -/
theorem Is2.put {N M n a : ℕ} {x : (⟨2, ![N, M]⟩ : Shape).Idx → EReal} {w : (⟨2, ![n, M]⟩ : Shape).Idx → EReal} {f g : ℕ → ℕ → ℝ}
    (h : Is2 x f) (hw : Is2 w g) {off : Fin 2 → ℕ} (ho : off = ![a, 0]) :
    Is2 (put x off ![n, M] w) (fun r d => if a ≤ r ∧ r < a + n then g (r - a) d else f r d) := by
  subst ho
  intro r d
  have hd : (0 : ℕ) + d.val = d.val := Nat.zero_add _
  by_cases hr : a ≤ r.val ∧ r.val < a + n
  · refine Eq.trans (dif_pos (fun i => ?_)) ?_
    · match i with
      | ⟨0, _⟩ => exact hr
      | ⟨1, _⟩ => exact ⟨Nat.zero_le _, lt_of_lt_of_eq d.isLt (Nat.zero_add M).symm⟩
    · refine Eq.trans (congrArg w (show _ = ix2 (⟨r.val - a, by omega⟩ : Fin n) d from ?_)) ?_
      · funext i
        match i with
        | ⟨0, _⟩ => rfl
        | ⟨1, _⟩ => rfl
      · rw [hw]; simp only [if_pos hr]
  · refine Eq.trans (dif_neg (fun c => hr (c 0))) ?_
    rw [h]; simp only [if_neg hr]

end Cert.AttnBwdIdeal.Value
-- ==== Proof.Attn.Pay.lean ====
module

public import proofs.«01_k».proof.Proof.Gen.AttnBwdIdeal.Skeleton
public import proofs.«01_k».proof.Proof.Attn.Model
public import Mathlib.Analysis.SpecialFunctions.Pow.Real
public import Idealize.ShloMosaic.Lib.WordCmp

/-! The kernel's payloads on arrays that hold real tables. -/

@[expose] public section

set_option maxRecDepth 16384

noncomputable section

namespace Cert.AttnBwdIdeal.Value

open Finset Idealize.ShloMosaic Idealize.ShloMosaic.TcCoe Idealize.SL.Sem
open Cert.AttnBwdIdeal Cert.AttnBwdIdeal.Gen

variable {f g a b : ℕ → ℕ → ℝ} {l e : ℕ → ℝ}

/-! Casts of a block to two axes. -/

theorem is2_rows {x : Vec Ideal S1x512x256 .bf16} (h : Is3 (n := 512) (m := 256) x f) :
    Is2 (n := 512) (m := 256) (k0_pay16 x) f := fun r d => by
  rw [← h r d]; pointwise [k0_pay16]
theorem is2_keys {x : Vec Ideal S1x1024x256 .bf16} (h : Is3 (n := 1024) (m := 256) x f) :
    Is2 (n := 1024) (m := 256) (k0_pay34 x) f := fun r d => by
  rw [← h r d]; pointwise [k0_pay34]
theorem is2_vals {x : Vec Ideal S1x1024x128 .bf16} (h : Is3 (n := 1024) (m := 128) x f) :
    Is2 (n := 1024) (m := 128) (k0_pay35 x) f := fun r d => by
  rw [← h r d]; pointwise [k0_pay35]
theorem is2_grad {x : Vec Ideal S512x128 .f32} (h : Is2 (n := 512) (m := 128) x f) :
    Is2 (n := 512) (m := 128) (k0_pay18 x) f := h

/-! The products of a tile. -/

theorem score {x : Vec Ideal S1x512x256 .bf16} {y : FVec Ideal S1024x256 .bf16} (hx : Is3 (n := 512) (m := 256) x f) (hy : Is2 (n := 1024) (m := 256) y g) :
    Is2 (n := 512) (m := 1024) (k0_pay20 y x) (fun r k => ∑ d ∈ range 256, f r d * g k d) := fun r k => by
  have e : k0_pay20 y x (ix2 r k) = ∑ d : Fin 256, x (ix3 0 r d) * y (ix2 k d) := by pointwise [k0_pay20, k0_pay17]
  exact e.trans (sum_coe (fun d => hx r d) (fun d => hy k d))

theorem grad {x : Vec Ideal S512x128 .f32} {y : FVec Ideal S1024x128 .bf16} (hx : Is2 (n := 512) (m := 128) x f) (hy : Is2 (n := 1024) (m := 128) y g) :
    Is2 (n := 512) (m := 1024) (k0_pay21 y x) (fun r k => ∑ d ∈ range 128, f r d * g k d) := fun r k => by
  have e : k0_pay21 y x (ix2 r k) = ∑ d : Fin 128, x (ix2 r d) * y (ix2 k d) := by pointwise [k0_pay21, k0_pay19]
  exact e.trans (sum_coe (fun d => hx r d) (fun d => hy k d))

/-- The power of two of a difference in units of `log 2` is the exponential of the difference. -/
theorem exp2_units (s t : ℝ) :
    FloatOps.exp2 (F := Ideal) (φ := .f32) (((s / Real.log 2 : ℝ) : EReal) - ((t / Real.log 2 : ℝ) : EReal)) = ((Real.exp (s - t) : ℝ) : EReal) := by
  rw [← EReal.coe_sub]
  refine (Ideal.exp2_coe _).trans (congrArg _ ?_)
  show (2 : ℝ) ^ (s / Real.log 2 - t / Real.log 2) = _
  rw [Real.rpow_def_of_pos two_pos, ← sub_div, mul_div_cancel₀ _ (Real.log_pos one_lt_two).ne']

/-- The probabilities of a tile away from the diagonal. -/
theorem prob {s : FVec Ideal S512x1024 .f32} {x : Vec Ideal S1x512x1 .f32} (hs : Is2 (n := 512) (m := 1024) s (fun r k => f r k / Real.log 2))
    (hx : ∀ r : Fin 512, x (ix3 0 r 0) = ((l r.val / Real.log 2 : ℝ) : EReal)) :
    Is2 (n := 512) (m := 1024) (k0_pay2 s x) (fun r k => Real.exp (f r k - l r)) := fun r k => by
  have e : k0_pay2 s x (ix2 r k) = FloatOps.exp2 (F := Ideal) (φ := .f32) (s (ix2 r k) - x (ix3 0 r 0)) := by pointwise [k0_pay2]
  rw [e, hs r k, hx r, exp2_units]

theorem word_add (a b : ℕ) : IntOp.addi (BitVec.ofNat 32 a) (BitVec.ofNat 32 b) = BitVec.ofNat 32 (a + b) := (BitVec.ofNat_add a b).symm

/-- Those of the key block's first half of rows, -/
theorem prob_low {s : FVec Ideal S512x1024 .f32} {x : Vec Ideal S1x512x1 .f32} (hs : Is2 (n := 512) (m := 1024) s (fun r k => f r k / Real.log 2))
    (hx : ∀ r : Fin 512, x (ix3 0 r 0) = ((l r.val / Real.log 2 : ℝ) : EReal)) :
    Is2 (n := 512) (m := 1024) (k0_pay46 s x) (fun r k => if k ≤ r then Real.exp (f r k - l r) else 0) := fun r k => by
  have e : k0_pay46 s x (ix2 r k) = if k.val ≤ r.val then k0_pay2 s x (ix2 r k) else 0 := by
    pointwise [k0_pay46, k0_pay2]
    rw [word_add r.val 0, Nat.add_zero]
    word_cmp
  rw [e, prob hs hx r k]
  by_cases h : k.val ≤ r.val
  · simp only [if_pos h]
  · simp only [if_neg h]; rfl

/-- and of its second half. -/
theorem prob_high {s : FVec Ideal S512x1024 .f32} {x : Vec Ideal S1x512x1 .f32} (hs : Is2 (n := 512) (m := 1024) s (fun r k => f r k / Real.log 2))
    (hx : ∀ r : Fin 512, x (ix3 0 r 0) = ((l r.val / Real.log 2 : ℝ) : EReal)) :
    Is2 (n := 512) (m := 1024) (k0_pay51 s x) (fun r k => if k ≤ 512 + r then Real.exp (f r k - l r) else 0) := fun r k => by
  have e : k0_pay51 s x (ix2 r k) = if k.val ≤ r.val + 512 then k0_pay2 s x (ix2 r k) else 0 := by
    pointwise [k0_pay51, k0_pay2]
    rw [word_add r.val 512]
    word_cmp
  rw [e, prob hs hx r k, add_comm]
  by_cases h : k.val ≤ 512 + r.val
  · simp only [if_pos h]
  · simp only [if_neg h]; rfl

/-- A tile of the scores' gradient, from the probabilities, -/
def dsOf (p z : FVec Ideal S512x1024 .f32) (x : Vec Ideal S512x1 .f32) : FVec Ideal S512x1024 .bf16 :=
  truncf .bf16 (mulf p (subf z (broadcastTo S512x1024 x broadcasts_S512x1_S512x1024))) bitsLt_bf16_f32
/-- and what it adds to the gradients of the keys and of the values. -/
def dkAcc (acc : FVec Ideal S1024x256 .f32) (z : FVec Ideal S512x1024 .bf16) (x : FVec Ideal S512x256 .bf16) : FVec Ideal S1024x256 .f32 :=
  addf acc (matmul dot_S512x1024_S512x256_S1024x256_0_0_1_1_n_n none z x (constant S1024x256 .f32 0x00000000#32))
def dvAcc (acc : FVec Ideal S1024x128 .f32) (z : FVec Ideal S512x1024 .f32) (x : FVec Ideal S512x128 .bf16) : FVec Ideal S1024x128 .f32 :=
  addf acc (matmul dot_S512x1024_S512x128_S1024x128_0_0_1_1_n_n none (truncf .bf16 z bitsLt_bf16_f32) x (constant S1024x128 .f32 0x00000000#32))

theorem ds_tile {p z : FVec Ideal S512x1024 .f32} {x : Vec Ideal S512x1 .f32} (hp : Is2 (n := 512) (m := 1024) p f)
    (hz : Is2 (n := 512) (m := 1024) z g) (hx : ∀ r : Fin 512, x (ix2 r 0) = ((e r.val : ℝ) : EReal)) :
    Is2 (n := 512) (m := 1024) (dsOf p z x) (fun r k => f r k * (g r k - e r)) := fun r k => by
  have h : dsOf p z x (ix2 r k) = p (ix2 r k) * (z (ix2 r k) - x (ix2 r 0)) := by pointwise [dsOf]
  rw [h, hp r k, hz r k, hx r, ← EReal.coe_sub, ← EReal.coe_mul]

theorem dq_acc {z : FVec Ideal S512x1024 .bf16} {x : FVec Ideal S1024x256 .bf16} {y : Vec Ideal S512x256 .f32} (hz : Is2 (n := 512) (m := 1024) z f)
    (hx : Is2 (n := 1024) (m := 256) x g) (hy : Is2 (n := 512) (m := 256) y a) :
    Is2 (n := 512) (m := 256) (k0_pay1 x z y (constant S512x256 .f32 0x00000000#32)) (fun r d => a r d + ∑ k ∈ range 1024, f r k * g k d) := fun r d => by
  have h : k0_pay1 x z y (constant S512x256 .f32 0x00000000#32) (ix2 r d) = y (ix2 r d) + ∑ k : Fin 1024, z (ix2 r k) * x (ix2 k d) := by
    pointwise [k0_pay1]
  rw [h, hy r d, sum_coe (fun k => hz r k) (fun k => hx k d) (f := fun k => f r.val k) (g := fun k => g k d.val), ← EReal.coe_add]

theorem dk_acc {z : FVec Ideal S512x1024 .bf16} {x : FVec Ideal S512x256 .bf16} {y : FVec Ideal S1024x256 .f32} (hz : Is2 (n := 512) (m := 1024) z f)
    (hx : Is2 (n := 512) (m := 256) x g) (hy : Is2 (n := 1024) (m := 256) y a) :
    Is2 (n := 1024) (m := 256) (dkAcc y z x) (fun k d => a k d + ∑ r ∈ range 512, f r k * g r d) := fun k d => by
  have h : dkAcc y z x (ix2 k d) = y (ix2 k d) + ∑ r : Fin 512, z (ix2 r k) * x (ix2 r d) := by pointwise [dkAcc]
  rw [h, hy k d, sum_coe (fun r => hz r k) (fun r => hx r d) (f := fun r => f r k.val) (g := fun r => g r d.val), ← EReal.coe_add]

theorem dv_acc {z : FVec Ideal S512x1024 .f32} {x : FVec Ideal S512x128 .bf16} {y : FVec Ideal S1024x128 .f32} (hz : Is2 (n := 512) (m := 1024) z f)
    (hx : Is2 (n := 512) (m := 128) x g) (hy : Is2 (n := 1024) (m := 128) y a) :
    Is2 (n := 1024) (m := 128) (dvAcc y z x) (fun k d => a k d + ∑ r ∈ range 512, f r k * g r d) := fun k d => by
  have h : dvAcc y z x (ix2 k d) = y (ix2 k d) + ∑ r : Fin 512, z (ix2 r k) * x (ix2 r d) := by pointwise [dvAcc]
  rw [h, hy k d, sum_coe (fun r => hz r k) (fun r => hx r d) (f := fun r => f r k.val) (g := fun r => g r d.val), ← EReal.coe_add]

/-! The payloads of the body are these. -/

section Same
variable (v3 : Vec Ideal S1x1024x256 .bf16) (v5 : Vec Ideal S1x1024x128 .bf16) (v4 : FVec Ideal S1024x256 .bf16) (v6 : FVec Ideal S1024x128 .bf16)
  (q q' : Vec Ideal S1x512x256 .bf16) (o : Vec Ideal S512x128 .f32) (s s' z z' p : FVec Ideal S512x1024 .f32) (x x' : Vec Ideal S1x512x1 .f32)
  (w w' : Vec Ideal S512x1 .f32) (y : Vec Ideal S512x256 .f32) (b b' : FVec Ideal S512x256 .bf16) (c c' : FVec Ideal S512x128 .bf16)
  (u : FVec Ideal S1024x256 .f32) (t : FVec Ideal S1024x128 .f32) (g' : FVec Ideal S512x1024 .bf16)

theorem pay42_eq : k0_pay42 v3 q = k0_pay20 (k0_pay34 v3) q := rfl
theorem pay43_eq : k0_pay43 v3 q = k0_pay20 (k0_pay34 v3) q := rfl
theorem pay44_eq : k0_pay44 v5 o = k0_pay21 (k0_pay35 v5) o := rfl
theorem pay45_eq : k0_pay45 v5 o = k0_pay21 (k0_pay35 v5) o := rfl
theorem pay22_eq : k0_pay22 v4 q x = k0_pay2 (k0_pay20 v4 q) x := rfl
theorem pay23_eq : k0_pay23 v4 v6 q o x w = dsOf (k0_pay2 (k0_pay20 v4 q) x) (k0_pay21 v6 o) w := rfl
theorem pay48_eq : k0_pay48 v4 s z x w y = k0_pay1 v4 (dsOf (k0_pay46 s x) z w) y (constant S512x256 .f32 0x00000000#32) := rfl
theorem pay53_eq : k0_pay53 v4 z p w y = k0_pay1 v4 (dsOf p z w) y (constant S512x256 .f32 0x00000000#32) := rfl
theorem pay4_eq : k0_pay4 v4 s z x w y = k0_pay1 v4 (dsOf (k0_pay2 s x) z w) y (constant S512x256 .f32 0x00000000#32) := rfl
theorem pay49_eq : k0_pay49 u b s z x w = dkAcc u (dsOf (k0_pay46 s x) z w) b := rfl
theorem pay54_eq : k0_pay54 b z u p w = dkAcc u (dsOf p z w) b := rfl
theorem pay5_eq : k0_pay5 u b b' s z g' x w = dkAcc (dkAcc u g' b) (dsOf (k0_pay2 s x) z w) b' := rfl
theorem pay50_eq : k0_pay50 t c s x = dvAcc t (k0_pay46 s x) c := rfl
theorem pay55_eq : k0_pay55 c t p = dvAcc t p c := rfl
theorem pay6_eq : k0_pay6 t c c' s p x = dvAcc (dvAcc t p c) (k0_pay2 s x) c' := rfl
end Same

end Cert.AttnBwdIdeal.Value
-- ==== Proof.Attn.Tile.lean ====
module

public import proofs.«01_k».proof.Proof.Attn.Pay
public import proofs.«01_k».proof.Proof.Attn.Body

/-! What the body accumulates at one grid point, over the reals. -/

@[expose] public section

set_option maxRecDepth 16384

noncomputable section

namespace Cert.AttnBwdIdeal.Value

open Finset Idealize.ShloMosaic Idealize.ShloMosaic.TcCoe Idealize.SL.Sem
open Cert.AttnBwdIdeal Cert.AttnBwdIdeal.Gen Cert.AttnBwdIdeal.Run
open Idealize.ShloMosaic.VecWindow (window put)

/-- After the query rows from `B` to `R`: the gradients of the keys (in units of `log 2`), of the values and of the queries that the key
block at row `B` has accumulated, the queries' over what stood there before. -/
structure Inv (H : Head) (B R : ℕ) (f : ℕ → ℕ → ℝ) (dk : FVec Ideal S1024x256 .f32) (dv : FVec Ideal S1024x128 .f32)
    (y : Vec Ideal S4096x256 .f32) : Prop where
  dk : Is2 (n := 1024) (m := 256) dk (fun k d => ∑ r ∈ Ico B R, H.ds r (B + k) * (H.q r d / Real.log 2))
  dv : Is2 (n := 1024) (m := 128) dv (fun k d => ∑ r ∈ Ico B R, H.p r (B + k) * H.o r d)
  dq : Is2 (n := 4096) (m := 256) y (fun r d => f r d + if B ≤ r ∧ r < R then ∑ k ∈ range 1024, H.ds r (B + k) * H.k (B + k) d else 0)

variable {H : Head} {B R : ℕ} {f : ℕ → ℕ → ℝ} {dk : FVec Ideal S1024x256 .f32} {dv : FVec Ideal S1024x128 .f32} {y : Vec Ideal S4096x256 .f32}

theorem sum_next (hR : B ≤ R) (g : ℕ → ℝ) : ∑ r ∈ Ico B R, g r + ∑ i ∈ range 512, g (R + i) = ∑ r ∈ Ico B (R + 512), g r := by
  rw [← Finset.sum_Ico_consecutive g hR (Nat.le_add_right R 512), Finset.sum_Ico_eq_sum_range g R (R + 512), Nat.add_sub_cancel_left]

/-- One tile of 512 query rows. -/
theorem Inv.tile (h : Inv H B R f dk dv y) (hR : B ≤ R)
    {v4 : FVec Ideal S1024x256 .bf16} (h4 : Is2 (n := 1024) (m := 256) v4 (fun k d => H.k (B + k) d))
    {p z : FVec Ideal S512x1024 .f32} (hp : Is2 (n := 512) (m := 1024) p (fun r k => H.p (R + r) (B + k)))
    (hz : Is2 (n := 512) (m := 1024) z (fun r k => H.dp (R + r) (B + k)))
    {w : Vec Ideal S512x1 .f32} (hw : ∀ r : Fin 512, w (ix2 r 0) = ((H.d (R + r.val) : ℝ) : EReal))
    {qc : FVec Ideal S512x256 .bf16} (hq : Is2 (n := 512) (m := 256) qc (fun r d => H.q (R + r) d / Real.log 2))
    {oc : FVec Ideal S512x128 .bf16} (ho : Is2 (n := 512) (m := 128) oc (fun r d => H.o (R + r) d))
    {yw : Vec Ideal S512x256 .f32} (hy : Is2 (n := 512) (m := 256) yw (fun r d => f (R + r) d)) {off : Fin 2 → ℕ} (hoff : off = ![R, 0]) :
    Inv H B (R + 512) f (dkAcc dk (dsOf p z w) qc) (dvAcc dv p oc)
      (put y off S512x256.size (k0_pay1 v4 (dsOf p z w) yw (constant S512x256 .f32 0x00000000#32))) := by
  have hds : Is2 (n := 512) (m := 1024) (dsOf p z w) (fun r k => H.ds (R + r) (B + k)) := ds_tile (e := fun r => H.d (R + r)) hp hz hw
  refine ⟨(dk_acc hds hq h.dk).congr fun k _ d _ => ?_, (dv_acc hp ho h.dv).congr fun k _ d _ => ?_,
    (Is2.put h.dq (dq_acc hds h4 hy) hoff).congr fun r _ d _ => ?_⟩
  · exact sum_next hR (fun r => H.ds r (B + k) * (H.q r d / Real.log 2))
  · exact sum_next hR (fun r => H.p r (B + k) * H.o r d)
  · by_cases c : R ≤ r ∧ r < R + 512
    · have e : R + (r - R) = r := by omega
      simp only [if_pos c, if_pos (show B ≤ r ∧ r < R + 512 by omega), e]
    · simp only [if_neg c]
      by_cases c' : B ≤ r ∧ r < R
      · simp only [if_pos c', if_pos (show B ≤ r ∧ r < R + 512 by omega)]
      · simp only [if_neg c', if_neg (show ¬(B ≤ r ∧ r < R + 512) by omega)]

/-- The blocks a grid point reads hold a head's tables. -/
structure Blocks (H : Head) (B : ℕ) (x0 : Vec Ideal S1x4096x256 .bf16) (x1 : Vec Ideal S1x1024x256 .bf16) (x2 : Vec Ideal S1x1024x128 .bf16)
    (x3 : Vec Ideal S4096x128 .f32) (x5 : Vec Ideal S1x4096x128 .f32) (s : Vec Ideal S4096x128 .f32) : Prop where
  q : Is3 (n := 4096) (m := 256) x0 (fun r d => H.q r d / Real.log 2)
  k : Is3 (n := 1024) (m := 256) x1 (fun k d => H.k (B + k) d)
  v : Is3 (n := 1024) (m := 128) x2 (fun k d => H.v (B + k) d)
  o : Is2 (n := 4096) (m := 128) x3 (fun r d => H.o r d)
  l : Is3 (n := 4096) (m := 128) x5 (fun r _ => H.l r / Real.log 2)
  d : Is2 (n := 4096) (m := 128) s (fun r _ => H.d r)

section Tiles
variable {q : Vec Ideal S1x512x256 .bf16} {o : Vec Ideal S512x128 .f32} {v4 : FVec Ideal S1024x256 .bf16} {v6 : FVec Ideal S1024x128 .bf16}
  {x : Vec Ideal S1x512x1 .f32}

theorem tile_score (hq : Is3 (n := 512) (m := 256) q (fun r d => H.q (R + r) d / Real.log 2))
    (h4 : Is2 (n := 1024) (m := 256) v4 (fun k d => H.k (B + k) d)) :
    Is2 (n := 512) (m := 1024) (k0_pay20 v4 q) (fun r k => H.sc (R + r) (B + k) / Real.log 2) :=
  (score hq h4).congr fun r _ k _ => by
    simp only [Head.sc, Finset.sum_div, div_mul_eq_mul_div]

theorem tile_grad (ho : Is2 (n := 512) (m := 128) o (fun r d => H.o (R + r) d)) (h6 : Is2 (n := 1024) (m := 128) v6 (fun k d => H.v (B + k) d)) :
    Is2 (n := 512) (m := 1024) (k0_pay21 v6 o) (fun r k => H.dp (R + r) (B + k)) := grad ho h6

variable {s : FVec Ideal S512x1024 .f32}

theorem tile_prob (hs : Is2 (n := 512) (m := 1024) s (fun r k => H.sc (R + r) (B + k) / Real.log 2))
    (hx : Is3 (n := 512) (m := 1) x (fun r _ => H.l (R + r) / Real.log 2)) (hR : B + 1024 ≤ R) :
    Is2 (n := 512) (m := 1024) (k0_pay2 s x) (fun r k => H.p (R + r) (B + k)) :=
  (prob (l := fun r => H.l (R + r)) hs (fun r => hx r 0)).congr fun r _ k _ => by
    rw [Head.p, if_pos (by omega)]

theorem tile_low (hs : Is2 (n := 512) (m := 1024) s (fun r k => H.sc (B + r) (B + k) / Real.log 2))
    (hx : Is3 (n := 512) (m := 1) x (fun r _ => H.l (B + r) / Real.log 2)) :
    Is2 (n := 512) (m := 1024) (k0_pay46 s x) (fun r k => H.p (B + r) (B + k)) :=
  (prob_low (l := fun r => H.l (B + r)) hs (fun r => hx r 0)).congr fun r _ k _ => by
    simp only [Head.p, Nat.add_le_add_iff_left]

theorem tile_high (hs : Is2 (n := 512) (m := 1024) s (fun r k => H.sc (B + 512 + r) (B + k) / Real.log 2))
    (hx : Is3 (n := 512) (m := 1) x (fun r _ => H.l (B + 512 + r) / Real.log 2)) :
    Is2 (n := 512) (m := 1024) (k0_pay51 s x) (fun r k => H.p (B + 512 + r) (B + k)) :=
  (prob_high (l := fun r => H.l (B + 512 + r)) hs (fun r => hx r 0)).congr fun r _ k _ => by
    simp only [Head.p, Nat.add_assoc, Nat.add_le_add_iff_left]
end Tiles

section Point
variable (i : grid0.Coords) {x0 : Vec Ideal S1x4096x256 .bf16} {x1 : Vec Ideal S1x1024x256 .bf16} {x2 : Vec Ideal S1x1024x128 .bf16}
  {x3 : Vec Ideal S4096x128 .f32} {x5 : Vec Ideal S1x4096x128 .f32} {s : Vec Ideal S4096x128 .f32}

/-- The rows of a block from row `R` on. -/
theorem rows_q (b : Blocks H B x0 x1 x2 x3 x5 s) {off : Fin 3 → ℕ} (ho : off = ![0, R, 0]) (inb : ∀ a, off a + S1x512x256.size a ≤ S1x4096x256.size a) :
    Is3 (n := 512) (m := 256) (window x0 off S1x512x256.size inb) (fun r d => H.q (R + r) d / Real.log 2) := by
  have h := b.q.window ho inb
  simp only [Nat.zero_add] at h
  exact h
theorem rows_l (b : Blocks H B x0 x1 x2 x3 x5 s) {off : Fin 3 → ℕ} (ho : off = ![0, R, 0]) (inb : ∀ a, off a + S1x512x1.size a ≤ S1x4096x128.size a) :
    Is3 (n := 512) (m := 1) (window x5 off S1x512x1.size inb) (fun r _ => H.l (R + r) / Real.log 2) := b.l.window ho inb
theorem rows_o (b : Blocks H B x0 x1 x2 x3 x5 s) {off : Fin 2 → ℕ} (ho : off = ![R, 0]) (inb : ∀ a, off a + S512x128.size a ≤ S4096x128.size a) :
    Is2 (n := 512) (m := 128) (window x3 off S512x128.size inb) (fun r d => H.o (R + r) d) := by
  have h := b.o.window ho inb
  simp only [Nat.zero_add] at h
  exact h
theorem rows_d (b : Blocks H B x0 x1 x2 x3 x5 s) {off : Fin 2 → ℕ} (ho : off = ![R, 0]) (inb : ∀ a, off a + S512x1.size a ≤ S4096x128.size a)
    (r : Fin 512) : window s off S512x1.size inb (ix2 r 0) = ((H.d (R + r.val) : ℝ) : EReal) := (b.d.window (n := 512) (m := 1) ho inb) r 0
theorem rows_y (h : Is2 (n := 4096) (m := 256) y f) {off : Fin 2 → ℕ} (ho : off = ![R, 0]) (inb : ∀ a, off a + S512x256.size a ≤ S4096x256.size a) :
    Is2 (n := 512) (m := 256) (window y off S512x256.size inb) (fun r d => f (R + r) d) := by
  have h := h.window ho inb
  simp only [Nat.zero_add] at h
  exact h
theorem keys (b : Blocks H B x0 x1 x2 x3 x5 s) : Is2 (n := 1024) (m := 256) (k0_pay34 (kb x1)) (fun k d => H.k (B + k) d) := by
  have h := b.k.window (a := 0) (b := 0) (n := 1024) (m := 256) rfl inb_S1x1024x256_S1x1024x256_0_0_0
  simp only [Nat.zero_add] at h
  exact is2_keys h
theorem vals (b : Blocks H B x0 x1 x2 x3 x5 s) : Is2 (n := 1024) (m := 128) (k0_pay35 (vb x2)) (fun k d => H.v (B + k) d) := by
  have h := b.v.window (a := 0) (b := 0) (n := 1024) (m := 128) rfl inb_S1x1024x128_S1x1024x128_0_0_0
  simp only [Nat.zero_add] at h
  exact is2_vals h

theorem Inv.start (hy : Is2 (n := 4096) (m := 256) y f) : Inv H B B f (k0_pay36 (F := Ideal)) (k0_pay37 (F := Ideal)) y where
  dk k d := by
    have e : k0_pay36 (F := Ideal) (ix2 k d) = 0 := by pointwise [k0_pay36]
    rw [e]
    simp only [Finset.Ico_self, Finset.sum_empty, EReal.coe_zero]
  dv k d := by
    have e : k0_pay37 (F := Ideal) (ix2 k d) = 0 := by pointwise [k0_pay37]
    rw [e]
    simp only [Finset.Ico_self, Finset.sum_empty, EReal.coe_zero]
  dq := hy.congr fun r _ d _ => by rw [if_neg (by omega), add_zero]

/-- The key block's own rows: both halves of the diagonal tile. -/
theorem Inv.diag (hB : B = 1024 * (i 1).val) (b : Blocks H B x0 x1 x2 x3 x5 s) (hy : Is2 (n := 4096) (m := 256) y f) :
    Inv H B (B + 512 + 512) f (dka i x0 x1 x2 x3 x5 s) (dva (F := Ideal) i x0 x1 x3 x5) (dqb i x0 x1 x2 x3 x5 s y) := by
  subst hB
  have h4 := keys b
  have h6 := vals b
  have h1 := (Inv.start (H := H) (B := 1024 * (i 1).val) hy).tile le_rfl h4
    (tile_low (tile_score (rows_q b (k0_off2_eq i) (k0_off2_inb i)) h4) (rows_l b (k0_off6_eq i) (k0_off6_inb i)))
    (tile_grad (rows_o b (k0_off4_eq i) (k0_off4_inb i)) h6) (rows_d b (k0_off7_eq i) (k0_off7_inb i))
    (is2_rows (rows_q b (k0_off2_eq i) (k0_off2_inb i))) (is2_grad (rows_o b (k0_off4_eq i) (k0_off4_inb i)))
    (rows_y hy (k0_off8_eq i) (k0_off8_inb i)) (k0_off8_eq i)
  exact h1.tile (Nat.le_add_right _ _) h4
    (tile_high (tile_score (rows_q b (k0_off3_eq i) (k0_off3_inb i)) h4) (rows_l b (k0_off9_eq i) (k0_off9_inb i)))
    (tile_grad (rows_o b (k0_off5_eq i) (k0_off5_inb i)) h6) (rows_d b (k0_off10_eq i) (k0_off10_inb i))
    (is2_rows (rows_q b (k0_off3_eq i) (k0_off3_inb i))) (is2_grad (rows_o b (k0_off5_eq i) (k0_off5_inb i)))
    (rows_y hy (k0_off11_eq i) (k0_off11_inb i)) (k0_off11_eq i)

/-- One trip of the loop over the later query rows. -/
theorem Inv.trip (k : Fin (k0_t2_loop i).trips) (hB : B = 1024 * (i 1).val) (b : Blocks H B x0 x1 x2 x3 x5 s)
    (h : Inv H B (1024 * (i 1).val + 1024 * k.val + 1024) f dk dv y) :
    Inv H B (1024 * (i 1).val + 1024 * k.val + 1024 + 512 + 512) f
      (dkv i k (k0_pay34 (kb x1)) (k0_pay35 (vb x2)) x0 x3 x5 s (dk, dv)).1 (dkv i k (k0_pay34 (kb x1)) (k0_pay35 (vb x2)) x0 x3 x5 s (dk, dv)).2
      (dq₂ i k (k0_pay34 (kb x1)) (k0_pay35 (vb x2)) x0 x3 x5 s y) := by
  have h4 := keys b
  have h6 := vals b
  have hy : ∀ R', 1024 * (i 1).val + 1024 * k.val + 1024 ≤ R' → ∀ {off : Fin 2 → ℕ}, off = ![R', 0] →
      ∀ inb : ∀ a, off a + S512x256.size a ≤ S4096x256.size a,
      Is2 (n := 512) (m := 256) (window y off S512x256.size inb) (fun r d => f (R' + r) d) := fun R' hR' off ho inb =>
    (rows_y h.dq ho inb).congr fun r _ d _ => by rw [if_neg (by omega), add_zero]
  have h1 := h.tile (by omega) h4
    (tile_prob (tile_score (rows_q b (k0_off12_eq i k) (k0_off12_inb i k)) h4) (rows_l b (k0_off16_eq i k) (k0_off16_inb i k)) (by omega))
    (tile_grad (rows_o b (k0_off14_eq i k) (k0_off14_inb i k)) h6) (rows_d b (k0_off17_eq i k) (k0_off17_inb i k))
    (is2_rows (rows_q b (k0_off12_eq i k) (k0_off12_inb i k))) (is2_grad (rows_o b (k0_off14_eq i k) (k0_off14_inb i k)))
    (hy _ le_rfl (k0_off18_eq i k) (k0_off18_inb i k)) (k0_off18_eq i k)
  exact h1.tile (by omega) h4
    (tile_prob (tile_score (rows_q b (k0_off13_eq i k) (k0_off13_inb i k)) h4) (rows_l b (k0_off19_eq i k) (k0_off19_inb i k)) (by omega))
    (tile_grad (rows_o b (k0_off15_eq i k) (k0_off15_inb i k)) h6) (rows_d b (k0_off20_eq i k) (k0_off20_inb i k))
    (is2_rows (rows_q b (k0_off13_eq i k) (k0_off13_inb i k))) (is2_grad (rows_o b (k0_off15_eq i k) (k0_off15_inb i k)))
    (hy _ (Nat.le_add_right _ _) (k0_off21_eq i k) (k0_off21_inb i k)) (k0_off21_eq i k)

theorem trips2 : ∀ i : grid0.Coords, 1024 * (i 1).val + 1024 * (k0_t2_loop i).trips + 1024 = 4096 := by decide +kernel

/-- After a number of trips. -/
theorem Inv.loop (hB : B = 1024 * (i 1).val) (b : Blocks H B x0 x1 x2 x3 x5 s) (hy : Is2 (n := 4096) (m := 256) y f) (n : ℕ) (hn : n ≤ (k0_t2_loop i).trips) :
    Inv H B (1024 * (i 1).val + 1024 * n + 1024) f
      (st2 i (k0_pay34 (kb x1)) (k0_pay35 (vb x2)) x0 x3 x5 s
        ((dka (F := Ideal) i x0 x1 x2 x3 x5 s, dva (F := Ideal) i x0 x1 x3 x5), dqb i x0 x1 x2 x3 x5 s y) n).1.1
      (st2 i (k0_pay34 (kb x1)) (k0_pay35 (vb x2)) x0 x3 x5 s
        ((dka (F := Ideal) i x0 x1 x2 x3 x5 s, dva (F := Ideal) i x0 x1 x3 x5), dqb i x0 x1 x2 x3 x5 s y) n).1.2
      (st2 i (k0_pay34 (kb x1)) (k0_pay35 (vb x2)) x0 x3 x5 s
        ((dka (F := Ideal) i x0 x1 x2 x3 x5 s, dva (F := Ideal) i x0 x1 x3 x5), dqb i x0 x1 x2 x3 x5 s y) n).2 := by
  induction n with
  | zero =>
    have h := Inv.diag i hB b hy
    rw [hB] at h ⊢
    exact h
  | succ n ih =>
    have h := Inv.trip i ⟨n, hn⟩ hB b (ih (by omega))
    rw [show 1024 * (i 1).val + 1024 * (n + 1) + 1024 = 1024 * (i 1).val + 1024 * n + 1024 + 512 + 512 by omega]
    rw [st2_succ i _ _ _ _ _ _ _ ⟨n, hn⟩]
    exact h

/-- Everything the body accumulates: all rows from the key block's first on. -/
theorem Inv.total (hB : B = 1024 * (i 1).val) (b : Blocks H B x0 x1 x2 x3 x5 s) (hy : Is2 (n := 4096) (m := 256) y f) :
    Inv H B 4096 f (total i x0 x1 x2 x3 x5 s y).1.1 (total i x0 x1 x2 x3 x5 s y).1.2 (total i x0 x1 x2 x3 x5 s y).2 := by
  have h := Inv.loop i hB b hy _ le_rfl
  rw [trips2] at h
  exact h
end Point

end Cert.AttnBwdIdeal.Value
-- ==== Proof.Attn.Scratch.lean ====
module

public import proofs.«01_k».proof.Proof.Attn.Tile
public import proofs.«01_k».proof.Proof.Attn.Frame

/-! What the scratch buffers and the stored blocks hold along the grid, over the reals. -/

@[expose] public section

set_option maxRecDepth 16384

noncomputable section

namespace Cert.AttnBwdIdeal.Value

open Finset Idealize.ShloMosaic Idealize.ShloMosaic.TcCoe Idealize.SL.Sem
open Cert.AttnBwdIdeal Cert.AttnBwdIdeal.Gen Cert.AttnBwdIdeal.Run
open Idealize.ShloMosaic.VecWindow (window put)

/-- The sums of the output times its gradient. -/
theorem is2_delta (i : grid0.Coords) (h : k0_cond1 i = 1#1) {x3 x4 : Vec Ideal S4096x128 .f32} {f g : ℕ → ℕ → ℝ}
    (h3 : Is2 (n := 4096) (m := 128) x3 f) (h4 : Is2 (n := 4096) (m := 128) x4 g) :
    Is2 (n := 4096) (m := 128) (delta i h x3 x4) (fun r _ => ∑ d ∈ range 128, f r d * g r d) := fun r d => by
  have e : ∀ (a b : Vec Ideal S512x128 .f32) (r : Fin 512) (d : Fin 128), k0_pay33 a b (ix2 r d) = ∑ d' : Fin 128, a (ix2 r d') * b (ix2 r d') :=
    fun a b r d => by pointwise [k0_pay33]
  have hk : r.val / 512 < 8 := by omega
  have w3 := h3.window (n := 512) (m := 128) (k0_off1_eq (blkOf (ix2 r d))) (k0_off1_inb i (blkOf (ix2 r d)) h)
  have w4 := h4.window (n := 512) (m := 128) (k0_off1_eq (blkOf (ix2 r d))) (k0_off1_inb i (blkOf (ix2 r d)) h)
  have hi : Rect.unitLocal (s := S4096x128) (off := k0_off1 (blkOf (ix2 r d))) (size := S512x128.size) (ix2 r d) (blkOf_mem (ix2 r d))
      = ix2 (⟨r.val % 512, by omega⟩ : Fin 512) d := by
    funext a
    have ho := k0_off1_eq (blkOf (ix2 r d))
    match a with
    | ⟨0, _⟩ =>
      refine Fin.ext ?_
      show r.val - k0_off1 (blkOf (ix2 r d)) 0 = r.val % 512
      rw [ho]
      show r.val - 512 * (r.val / 512) = r.val % 512
      omega
    | ⟨1, _⟩ =>
      refine Fin.ext ?_
      show d.val - k0_off1 (blkOf (ix2 r d)) 1 = d.val
      rw [ho]
      rfl
  show deltaBlk i h x3 x4 (blkOf (ix2 r d)) (Rect.unitLocal (s := S4096x128) (off := k0_off1 (blkOf (ix2 r d))) (size := S512x128.size) (ix2 r d) (blkOf_mem (ix2 r d))) = _
  rw [hi]
  refine (e _ _ _ d).trans ((sum_coe (f := fun d' => f (512 * (blkOf (ix2 r d)).val + r.val % 512) (0 + d'))
    (g := fun d' => g (512 * (blkOf (ix2 r d)).val + r.val % 512) (0 + d')) (fun d' => w3 ⟨r.val % 512, by omega⟩ d') (fun d' => w4 ⟨r.val % 512, by omega⟩ d')).trans ?_)
  have hr : 512 * (blkOf (ix2 r d)).val + r.val % 512 = r.val := Nat.div_add_mod r.val 512
  simp only [hr, Nat.zero_add]

/-- The blocks of a point of head `H` and key block `B`, the output among them. -/
structure Point (H : Head) (B : ℕ) (out : ℕ → ℕ → ℝ) (x0 : Vec Ideal S1x4096x256 .bf16) (x1 : Vec Ideal S1x1024x256 .bf16) (x2 : Vec Ideal S1x1024x128 .bf16)
    (x3 x4 : Vec Ideal S4096x128 .f32) (x5 : Vec Ideal S1x4096x128 .f32) : Prop where
  q : Is3 (n := 4096) (m := 256) x0 (fun r d => H.q r d / Real.log 2)
  k : Is3 (n := 1024) (m := 256) x1 (fun k d => H.k (B + k) d)
  v : Is3 (n := 1024) (m := 128) x2 (fun k d => H.v (B + k) d)
  o : Is2 (n := 4096) (m := 128) x3 (fun r d => H.o r d)
  outs : Is2 (n := 4096) (m := 128) x4 out
  l : Is3 (n := 4096) (m := 128) x5 (fun r _ => H.l r / Real.log 2)
  delta : ∀ r, H.d r = ∑ d ∈ range 128, H.o r d * out r d

section Outs
variable {H : Head} {B : ℕ} {out : ℕ → ℕ → ℝ} {i : grid0.Coords} {x0 : Vec Ideal S1x4096x256 .bf16} {x1 : Vec Ideal S1x1024x256 .bf16}
  {x2 : Vec Ideal S1x1024x128 .bf16} {x3 x4 : Vec Ideal S4096x128 .f32} {x5 : Vec Ideal S1x4096x128 .f32}
  {p : Vec Ideal S4096x128 .f32 × Vec Ideal S4096x256 .f32}

theorem Point.blocks (b : Point H B out x0 x1 x2 x3 x4 x5) (hp : k0_cond1 i ≠ 1#1 → Is2 (n := 4096) (m := 128) p.1 (fun r _ => H.d r)) :
    Blocks H B x0 x1 x2 x3 x5 (deltaAt i x3 x4 p.1) where
  q := b.q
  k := b.k
  v := b.v
  o := b.o
  l := b.l
  d := by
    unfold deltaAt
    by_cases h : k0_cond1 i = 1#1
    · rw [dif_pos h]
      exact (is2_delta i h b.o b.outs).congr fun r _ _ _ => (b.delta r).symm
    · rw [dif_neg h]
      exact hp h

/-- What the queries' gradient holds before a key block: the sum over the keys before it. -/
def before (H : Head) (B : ℕ) (r d : ℕ) : ℝ := ∑ k ∈ range B, H.ds r k * H.k k d

theorem is2_dqAt (hB : k0_cond1 i = 1#1 → B = 0) (hp : k0_cond1 i ≠ 1#1 → Is2 (n := 4096) (m := 256) p.2 (before H B)) :
    Is2 (n := 4096) (m := 256) (dqAt i p.2) (before H B) := by
  unfold dqAt
  by_cases h : k0_cond1 i = 1#1
  · rw [if_pos h, hB h]
    intro r d
    have e : k0_pay32 (F := Ideal) (ix2 r d) = 0 := by pointwise [k0_pay32]
    rw [e]
    simp only [before, Finset.range_zero, Finset.sum_empty, EReal.coe_zero]
  · rw [if_neg h]
    exact hp h

variable (hi : B = 1024 * (i 1).val) (hB : k0_cond1 i = 1#1 → B = 0) (b : Point H B out x0 x1 x2 x3 x4 x5)
  (hp1 : k0_cond1 i ≠ 1#1 → Is2 (n := 4096) (m := 128) p.1 (fun r _ => H.d r))
  (hp2 : k0_cond1 i ≠ 1#1 → Is2 (n := 4096) (m := 256) p.2 (before H B))
include hi hB b hp1 hp2

theorem is2_step1 : Is2 (n := 4096) (m := 128) (step i x0 x1 x2 x3 x4 x5 p).1 (fun r _ => H.d r) := (b.blocks hp1).d

theorem is2_step2 : Is2 (n := 4096) (m := 256) (step i x0 x1 x2 x3 x4 x5 p).2 (before H (B + 1024)) :=
  (Inv.total i hi (b.blocks hp1) (is2_dqAt hB hp2)).dq.congr fun r hr d _ => by
    unfold before
    rw [Finset.sum_range_add]
    congr 1
    by_cases h : B ≤ r
    · rw [if_pos ⟨h, hr⟩]
    · rw [if_neg (fun c => h c.1)]
      exact (Finset.sum_eq_zero fun k _ => by rw [H.ds_zero (by omega), zero_mul]).symm

/-- A sum over the rows from `B` on of terms that vanish before. -/
theorem sum_from {g : ℕ → ℝ} (hg : ∀ r < B, g r = 0) (hB4 : B ≤ 4096) : ∑ r ∈ Ico B 4096, g r = ∑ r ∈ range 4096, g r := by
  rw [Finset.range_eq_Ico, ← Finset.sum_Ico_consecutive g (Nat.zero_le B) hB4, Finset.sum_eq_zero (s := Ico 0 B) fun r hr => hg r (Finset.mem_Ico.1 hr).2, zero_add]

theorem is3_outK : Is3 (n := 1024) (m := 256) (outK i x0 x1 x2 x3 x4 x5 p) (fun k d => ∑ r ∈ range 4096, H.ds r (B + k) * H.q r d) := fun k d => by
  have h := (Inv.total i hi (b.blocks hp1) (is2_dqAt hB hp2)).dk k d
  have e : ∀ x : FVec Ideal S1024x256 .f32, k0_pay13 x (ix3 0 k d) = x (ix2 k d) * ((Real.log 2 : ℝ) : EReal) := fun x => by
    pointwise [k0_pay13]
    rfl
  have hj : (i 1).val < 4 := (i 1).isLt
  unfold outK
  rw [e, h, ← EReal.coe_mul, Finset.sum_mul]
  refine congrArg _ (Eq.trans ?_ (sum_from (g := fun r => H.ds r (B + k.val) * H.q r d.val) hi hB b hp1 hp2 (fun r hr => ?_) (by omega)))
  · exact Finset.sum_congr rfl fun r _ => by rw [mul_assoc, div_mul_cancel₀ _ (Real.log_pos one_lt_two).ne']
  · simp only [H.ds_zero (show r < B + k.val by omega), zero_mul]

theorem is3_outV : Is3 (n := 1024) (m := 128) (outV i x0 x1 x2 x3 x4 x5 p) (fun k d => ∑ r ∈ range 4096, H.p r (B + k) * H.o r d) := fun k d => by
  have h := (Inv.total i hi (b.blocks hp1) (is2_dqAt hB hp2)).dv k d
  have e : ∀ x : FVec Ideal S1024x128 .f32, k0_pay14 x (ix3 0 k d) = x (ix2 k d) := fun x => by pointwise [k0_pay14]
  have hj : (i 1).val < 4 := (i 1).isLt
  unfold outV
  rw [e, h]
  refine congrArg _ (sum_from (g := fun r => H.p r (B + k.val) * H.o r d.val) hi hB b hp1 hp2 (fun r hr => ?_) (by omega))
  simp only [H.p_zero (show r < B + k.val by omega), zero_mul]

theorem is3_outQ : Is3 (n := 4096) (m := 256) (outQ i x0 x1 x2 x3 x4 x5 p) (before H (B + 1024)) := fun r d => by
  have h := ((is2_step2 hi hB b hp1 hp2).window (a := 0) (b := 0) (n := 4096) (m := 256) rfl inb_S4096x256_S4096x256_0_0) r d
  have e : ∀ x : Vec Ideal S4096x256 .f32, k0_pay15 x (ix3 0 r d) = x (ix2 r d) := fun x => by pointwise [k0_pay15]
  simp only [Nat.zero_add] at h
  exact (e _).trans h
end Outs

end Cert.AttnBwdIdeal.Value
-- ==== Proof.Attn.Grid.lean ====
module

public import proofs.«01_k».proof.Proof.Attn.Scratch

/-! The scratch buffers along the grid, by induction on the point. -/

@[expose] public section

set_option maxRecDepth 16384

noncomputable section

namespace Cert.AttnBwdIdeal.Value

open Finset Idealize.ShloMosaic Idealize.ShloMosaic.TcCoe Idealize.SL.Sem
open Cert.AttnBwdIdeal Cert.AttnBwdIdeal.Gen Cert.AttnBwdIdeal.Run

theorem point_key : ∀ t : Fin cfg0.N, (grid0.coords t 1).val = t.val % 4 := (by decide +kernel : ∀ t : Fin grid0.N, _)
theorem point_first : ∀ t : Fin cfg0.N, k0_cond1 (grid0.coords t) = 1#1 ↔ t.val % 4 = 0 := (by decide +kernel : ∀ t : Fin grid0.N, _)

variable (m : (ℓ : Loc nD τ sig) → Buf (Elt Ideal) ℓ) (c : Dev nD) (H : ℕ → Head) (out : ℕ → ℕ → ℕ → ℝ)

/-- The blocks of point `t` are those of head `t / 4` and key block `t % 4`. -/
def PointAt (t : Fin cfg0.N) : Prop :=
  Point (H (t.val / 4)) (1024 * (t.val % 4)) (out (t.val / 4)) (iblk (F := Ideal) m c 0 t) (iblk m c 1 t) (iblk m c 2 t) (iblk m c 3 t) (iblk m c 4 t) (iblk m c 5 t)

variable {m c H out}
variable (hpt : ∀ t : Fin cfg0.N, PointAt m c H out t)
include hpt

/-- Before a point that does not start a head the scratch buffers hold the head's `delta` and the sum over the keys so far. -/
theorem scr_holds (n : ℕ) (hn : n < cfg0.N) (h4 : n % 4 ≠ 0) :
    Is2 (n := 4096) (m := 128) (scr (F := Ideal) m c n).1 (fun r _ => (H (n / 4)).d r)
      ∧ Is2 (n := 4096) (m := 256) (scr (F := Ideal) m c n).2 (before (H (n / 4)) (1024 * (n % 4))) := by
  induction n with
  | zero => exact absurd rfl h4
  | succ n ih =>
    have hn' : n < cfg0.N := by omega
    have e := scr_succ (F := Ideal) m c ⟨n, hn'⟩
    have hd : (n + 1) / 4 = n / 4 := by omega
    have hm : 1024 * ((n + 1) % 4) = 1024 * (n % 4) + 1024 := by omega
    have hc := point_first ⟨n, hn'⟩
    have i1 : 1024 * (n % 4) = 1024 * (grid0.coords ⟨n, hn'⟩ 1).val := by rw [point_key]
    have i2 : k0_cond1 (grid0.coords ⟨n, hn'⟩) = 1#1 → 1024 * (n % 4) = 0 := fun h => by rw [hc.1 h]
    have hp : k0_cond1 (grid0.coords ⟨n, hn'⟩) ≠ 1#1 → _ := fun h => ih hn' fun c => h (hc.2 c)
    rw [hd, hm]
    rw [show (scr (F := Ideal) m c (n + 1)) = _ from e]
    exact ⟨is2_step1 i1 i2 (hpt ⟨n, hn'⟩) (fun h => (hp h).1) (fun h => (hp h).2),
      is2_step2 i1 i2 (hpt ⟨n, hn'⟩) (fun h => (hp h).1) (fun h => (hp h).2)⟩

theorem scr_at (t : Fin cfg0.N) (h : k0_cond1 (grid0.coords t) ≠ 1#1) :
    Is2 (n := 4096) (m := 128) (scr (F := Ideal) m c t.val).1 (fun r _ => (H (t.val / 4)).d r)
      ∧ Is2 (n := 4096) (m := 256) (scr (F := Ideal) m c t.val).2 (before (H (t.val / 4)) (1024 * (t.val % 4))) :=
  scr_holds hpt t.val t.isLt fun e => h ((point_first t).2 e)

/-- The stored blocks: the gradients of the keys, -/
theorem blkK_holds (t : Fin cfg0.N) : Is3 (n := 1024) (m := 256) (blkK (F := Ideal) m c t)
    (fun k d => ∑ r ∈ range 4096, (H (t.val / 4)).ds r (1024 * (t.val % 4) + k) * (H (t.val / 4)).q r d) :=
  is3_outK (by rw [point_key]) (fun h => by rw [(point_first t).1 h]) (hpt t) (fun h => (scr_at hpt t h).1) (fun h => (scr_at hpt t h).2)

/-- of the values, -/
theorem blkV_holds (t : Fin cfg0.N) : Is3 (n := 1024) (m := 128) (blkV (F := Ideal) m c t)
    (fun k d => ∑ r ∈ range 4096, (H (t.val / 4)).p r (1024 * (t.val % 4) + k) * (H (t.val / 4)).o r d) :=
  is3_outV (by rw [point_key]) (fun h => by rw [(point_first t).1 h]) (hpt t) (fun h => (scr_at hpt t h).1) (fun h => (scr_at hpt t h).2)

/-- and of the queries. -/
theorem blkQ_holds (t : Fin cfg0.N) : Is3 (n := 4096) (m := 256) (blkQ (F := Ideal) m c t)
    (before (H (t.val / 4)) (1024 * (t.val % 4) + 1024)) :=
  is3_outQ (by rw [point_key]) (fun h => by rw [(point_first t).1 h]) (hpt t) (fun h => (scr_at hpt t h).1) (fun h => (scr_at hpt t h).2)

end Cert.AttnBwdIdeal.Value
-- ==== Proof.Attn.Soft.lean ====
module

public import proofs.«01_k».proof.Proof.Attn.Model
public import Mathlib.Analysis.SpecialFunctions.Log.Basic

/-! The softmax of a head's scores, over the reals and as the programs compute it. -/

@[expose] public section

noncomputable section

namespace Cert.AttnBwdIdeal.Value

open Finset Idealize.ShloMosaic

namespace Head
variable (H : Head)

/-- The largest score of a row, over the keys not after it. -/
def top (r : ℕ) : ℝ := (range (r + 1)).sup' ⟨0, by simp⟩ (H.sc r)
/-- The exponentials the softmax divides, -/
def u (r k : ℕ) : ℝ := if k ≤ r then Real.exp (H.sc r k - H.top r) else 0
/-- their sum, -/
def z (r : ℕ) : ℝ := ∑ k ∈ range 4096, H.u r k
/-- and the attention's output. -/
def out (r d : ℕ) : ℝ := (∑ k ∈ range 4096, H.u r k * H.v k d) / H.z r

theorem u_nonneg (r k : ℕ) : 0 ≤ H.u r k := by
  unfold u; split_ifs
  · exact (Real.exp_pos _).le
  · exact le_rfl

theorem z_pos {r : ℕ} (h : r < 4096) : 0 < H.z r :=
  Finset.sum_pos' (fun k _ => H.u_nonneg r k) ⟨r, Finset.mem_range.2 h, by unfold u; rw [if_pos le_rfl]; exact Real.exp_pos _⟩

/-- The row's saved numbers are those of the softmax. -/
structure Soft : Prop where
  l : ∀ r, H.l r = H.top r + Real.log (H.z r)
  d : ∀ r, H.d r = ∑ d ∈ range 128, H.o r d * H.out r d

variable {H}

theorem Soft.p (h : H.Soft) {r : ℕ} (hr : r < 4096) (k : ℕ) : H.p r k = H.u r k / H.z r := by
  unfold Head.p u
  by_cases c : k ≤ r
  · rw [if_pos c, if_pos c, h.l, ← sub_sub, Real.exp_sub _ (Real.log _), Real.exp_log (H.z_pos hr)]
  · rw [if_neg c, if_neg c, zero_div]

theorem Soft.d_eq (h : H.Soft) {r : ℕ} (hr : r < 4096) : H.d r = ∑ k ∈ range 4096, H.p r k * H.dp r k := by
  rw [h.d]
  simp only [out, h.p hr, dp, Finset.mul_sum, Finset.sum_div]
  rw [Finset.sum_comm]
  refine Finset.sum_congr rfl fun k _ => Finset.sum_congr rfl fun d _ => ?_
  ring

/-- The scores' gradient by the rule of the quotient. -/
theorem Soft.ds_eq (h : H.Soft) {r : ℕ} (hr : r < 4096) (k : ℕ) :
    (-(∑ k' ∈ range 4096, H.dp r k' * (1 / (H.z r * H.z r)) * H.u r k') + H.dp r k / H.z r) * H.u r k = H.ds r k := by
  have hz := (H.z_pos hr).ne'
  have e : ∑ k' ∈ range 4096, H.dp r k' * (1 / (H.z r * H.z r)) * H.u r k' = H.d r / H.z r := by
    rw [h.d_eq hr, Finset.sum_div]
    refine Finset.sum_congr rfl fun k' _ => ?_
    rw [h.p hr]
    field_simp
  rw [e, ds, h.p hr]
  field_simp
  ring
end Head

/-! As the programs compute it. -/

variable {H : Head} {r : ℕ}

/-- A masked score. -/
def msk (H : Head) (r k : ℕ) : EReal := if k ≤ r then ((H.sc r k : ℝ) : EReal) else ⊥

theorem fold_top (hr : r < 4096) {s : Fin 4096 → EReal} (hs : ∀ k, s k = msk H r k.val) :
    Finset.univ.fold max (⊥ : EReal) s = ((H.top r : ℝ) : EReal) := by
  rw [show s = fun k : Fin 4096 => msk H r k.val from funext hs]
  show Finset.univ.sup (fun k : Fin 4096 => msk H r k.val) = _
  refine le_antisymm (Finset.sup_le fun k _ => ?_) ?_
  · unfold msk
    split_ifs with c
    · exact EReal.coe_le_coe_iff.2 (Finset.le_sup' (H.sc r) (Finset.mem_range.2 (Nat.lt_succ_of_le c)))
    · exact bot_le
  · obtain ⟨k, hk, e⟩ := Finset.exists_mem_eq_sup' (⟨0, by simp⟩ : (range (r + 1)).Nonempty) (H.sc r)
    have hk' : k ≤ r := Nat.lt_succ_iff.1 (Finset.mem_range.1 hk)
    refine le_trans (le_of_eq ?_) (Finset.le_sup (Finset.mem_univ (⟨k, by omega⟩ : Fin 4096)))
    show ((H.top r : ℝ) : EReal) = msk H r k
    rw [msk, if_pos hk', Head.top, e]

theorem exp_msk (k : ℕ) : Ideal.exp (msk H r k - ((H.top r : ℝ) : EReal)) = ((H.u r k : ℝ) : EReal) := by
  unfold msk Head.u
  by_cases c : k ≤ r
  · rw [if_pos c, if_pos c, ← EReal.coe_sub]; rfl
  · rw [if_neg c, if_neg c, EReal.bot_sub]; rfl

theorem sum_real {n : ℕ} {x : Fin n → EReal} {f : ℕ → ℝ} (hx : ∀ i, x i = ((f i.val : ℝ) : EReal)) :
    ∑ i, x i = ((∑ i ∈ range n, f i : ℝ) : EReal) := by
  rw [← Fin.sum_univ_eq_sum_range f n, Finset.sum_congr rfl fun i _ => hx i]
  exact (map_sum (⟨⟨Real.toEReal, EReal.coe_zero⟩, EReal.coe_add⟩ : ℝ →+ EReal) _ _).symm

theorem div_real {a b : ℝ} (h : b ≠ 0) : Ideal.div (a : EReal) (b : EReal) = ((a / b : ℝ) : EReal) := by
  rw [Ideal.div_coe h, ← EReal.coe_mul, mul_one_div]

theorem log_real {a : ℝ} (h : 0 < a) : Ideal.log (a : EReal) = ((Real.log a : ℝ) : EReal) := by
  rw [Ideal.log_coe, if_neg (not_le.2 h)]

end Cert.AttnBwdIdeal.Value
-- ==== Proof.Attn.Args.lean ====
module

public import proofs.«01_k».proof.Proof.Attn.Soft

/-! The heads' real tables, from the arguments. -/

@[expose] public section

noncomputable section

namespace Cert.AttnBwdIdeal.Value

open Finset Idealize.ShloMosaic

/-- The reals of an array of rank three, zero outside it, -/
def t3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0
/-- and of rank two. -/
def t2 {a b : ℕ} (x : (⟨2, ![a, b]⟩ : Shape).Idx → EReal) (i j : ℕ) : ℝ :=
  if h : i < a ∧ j < b then (x (ix2 ⟨i, h.1⟩ ⟨j, h.2⟩)).toReal else 0

theorem t3_eq {a b c : ℕ} {x : (⟨3, ![a, b, c]⟩ : Shape).Idx → EReal} (hx : ∀ i, ∃ r : ℝ, x i = r) (i : Fin a) (j : Fin b) (k : Fin c) :
    x (ix3 i j k) = ((t3 x i j k : ℝ) : EReal) := by
  obtain ⟨r, e⟩ := hx (ix3 i j k)
  rw [t3, dif_pos ⟨i.isLt, j.isLt, k.isLt⟩]
  show x (ix3 i j k) = ((x (ix3 i j k)).toReal : EReal)
  rw [e, EReal.toReal_coe]
theorem t2_eq {a b : ℕ} {x : (⟨2, ![a, b]⟩ : Shape).Idx → EReal} (hx : ∀ i, ∃ r : ℝ, x i = r) (i : Fin a) (j : Fin b) :
    x (ix2 i j) = ((t2 x i j : ℝ) : EReal) := by
  obtain ⟨r, e⟩ := hx (ix2 i j)
  rw [t2, dif_pos ⟨i.isLt, j.isLt⟩]
  show x (ix2 i j) = ((x (ix2 i j)).toReal : EReal)
  rw [e, EReal.toReal_coe]

/-- The scores' scale, as both programs have it. -/
def scale : ℝ := (Ideal.ofBits FTy.f32 0x3D93CD3A#32).toReal
theorem scale_eq : Ideal.ofBits FTy.f32 0x3D93CD3A#32 = ((scale : ℝ) : EReal) := by
  have h : ∃ r : ℝ, Ideal.ofBits FTy.f32 0x3D93CD3A#32 = (r : EReal) := by
    simp [Ideal.ofBits, Ideal.ieee, -EReal.coe_mul]
  obtain ⟨r, e⟩ := h
  rw [scale, e, EReal.toReal_coe]

theorem ninf_eq : Ideal.ofBits FTy.f32 0xFF800000#32 = ⊥ := by simp [Ideal.ofBits, Ideal.ieee]

/-- The host's maximum over the last of three axes, read at an index. -/
theorem reduceMax_at {p n l : ℕ} {u : Shape} (x : FVec Ideal ⟨3, ![p, n, l]⟩ .f32) (init : FVec Ideal u .f32)
    (h' : (⟨3, ![p, n, l]⟩ : Shape).ReducesTo [2] ⟨2, ![p, n]⟩) (h : (⟨3, ![p, n, l]⟩ : Shape).Reduces [2] ⟨2, ![p, n]⟩)
    (hu : 0 < u.numel) (a : Fin p) (r : Fin n) :
    Host.reduce FloatOps.maximumf x init h' hu (ix2 a r)
      = Finset.univ.fold max (init (Shape.Idx.first hu)) fun k : Fin l => x (ix3 a r k) := by
  rw [Host.reduce_eq_fold_single FloatOps.maximumf x _ h' h hu]
  have e : (x ∘ h.lift (ix2 a r)) = fun k : Fin l => x (ix3 a r k) :=
    funext fun k => congrArg x (funext fun b => Fin.ext (by match b with | ⟨0, _⟩ => rfl | ⟨1, _⟩ => rfl | ⟨2, _⟩ => rfl))
  exact congrArg (fun f => Finset.fold max (init (Shape.Idx.first hu)) f (Finset.univ : Finset (Fin l))) e

variable (x0 : (⟨3, ![4096, 4, 128]⟩ : Shape).Idx → EReal) (x1 : (⟨3, ![4096, 4, 64]⟩ : Shape).Idx → EReal)
  (x2 : (⟨3, ![4096, 4, 128]⟩ : Shape).Idx → EReal) (x3 : (⟨2, ![4096, 64]⟩ : Shape).Idx → EReal)
  (x4 : (⟨3, ![4096, 4, 128]⟩ : Shape).Idx → EReal) (x5 : (⟨2, ![4096, 1024]⟩ : Shape).Idx → EReal)

/-- Head `h` of the arguments; the columns past 192 are zero. -/
def bare (h : ℕ) : Head where
  q r d := (if d < 128 then t3 x0 r h d else if d < 192 then t3 x1 r h (d - 128) else 0) * scale
  k r d := if d < 128 then t3 x2 r h d else if d < 192 then t2 x3 r (d - 128) else 0
  v r d := t3 x4 r h d
  o r d := t2 x5 r (512 + 128 * h + d)
  l _ := 0
  d _ := 0
/-- The same with the softmax's row numbers. -/
def head (h : ℕ) : Head :=
  { bare x0 x1 x2 x3 x4 x5 h with
    l := fun r => (bare x0 x1 x2 x3 x4 x5 h).top r + Real.log ((bare x0 x1 x2 x3 x4 x5 h).z r)
    d := fun r => ∑ d ∈ range 128, (bare x0 x1 x2 x3 x4 x5 h).o r d * (bare x0 x1 x2 x3 x4 x5 h).out r d }

theorem head_soft (h : ℕ) : (head x0 x1 x2 x3 x4 x5 h).Soft := ⟨fun _ => rfl, fun _ => rfl⟩

/-- A score is the sum over the first 192 columns. -/
theorem head_sc (h r k : ℕ) : (head x0 x1 x2 x3 x4 x5 h).sc r k
    = ∑ d ∈ range 192, (head x0 x1 x2 x3 x4 x5 h).q r d * (head x0 x1 x2 x3 x4 x5 h).k k d := by
  unfold Head.sc
  rw [show (256 : ℕ) = 192 + 64 from rfl, Finset.sum_range_add, Finset.sum_eq_zero (s := range 64) fun d _ => ?_, add_zero]
  show _ * (if 192 + d < 128 then _ else if 192 + d < 192 then _ else 0) = 0
  rw [if_neg (by omega), if_neg (by omega), mul_zero]

theorem head_q_zero (h r d : ℕ) (hd : 192 ≤ d) : (head x0 x1 x2 x3 x4 x5 h).q r d = 0 := by
  show (if d < 128 then _ else if d < 192 then _ else 0) * scale = 0
  rw [if_neg (by omega), if_neg (by omega), zero_mul]
theorem head_k_zero (h r d : ℕ) (hd : 192 ≤ d) : (head x0 x1 x2 x3 x4 x5 h).k r d = 0 := by
  show (if d < 128 then _ else if d < 192 then _ else 0) = 0
  rw [if_neg (by omega), if_neg (by omega)]

/-- Every element of the arguments is a real. -/
structure Finite : Prop where
  h0 : ∀ i, ∃ r : ℝ, x0 i = r
  h1 : ∀ i, ∃ r : ℝ, x1 i = r
  h2 : ∀ i, ∃ r : ℝ, x2 i = r
  h3 : ∀ i, ∃ r : ℝ, x3 i = r
  h4 : ∀ i, ∃ r : ℝ, x4 i = r
  h5 : ∀ i, ∃ r : ℝ, x5 i = r

variable {x0 x1 x2 x3 x4 x5}

/-- The queries and keys as they are put together from their parts. -/
theorem Finite.q (f : Finite x0 x1 x2 x3 x4 x5) (h : Fin 4) (r : Fin 4096) {d : ℕ} (hd : d < 192) :
    (if c : d < 128 then x0 (ix3 r h ⟨d, c⟩) else x1 (ix3 r h ⟨d - 128, by omega⟩)) * Ideal.ofBits FTy.f32 0x3D93CD3A#32
      = (((head x0 x1 x2 x3 x4 x5 h).q r d : ℝ) : EReal) := by
  show _ = (((if d < 128 then t3 x0 r h d else if d < 192 then t3 x1 r h (d - 128) else 0) * scale : ℝ) : EReal)
  rw [scale_eq]
  by_cases c : d < 128
  · rw [dif_pos c, if_pos c, t3_eq f.h0, ← EReal.coe_mul]
  · rw [dif_neg c, if_neg c, if_pos hd, t3_eq f.h1, ← EReal.coe_mul]

theorem Finite.k (f : Finite x0 x1 x2 x3 x4 x5) (h : Fin 4) (r : Fin 4096) {d : ℕ} (hd : d < 192) :
    (if c : d < 128 then x2 (ix3 r h ⟨d, c⟩) else x3 (ix2 r ⟨d - 128, by omega⟩)) = (((head x0 x1 x2 x3 x4 x5 h).k r d : ℝ) : EReal) := by
  show _ = ((if d < 128 then t3 x2 r h d else if d < 192 then t2 x3 r (d - 128) else 0 : ℝ) : EReal)
  by_cases c : d < 128
  · rw [dif_pos c, if_pos c, t3_eq f.h2]
  · rw [dif_neg c, if_neg c, if_pos hd, t2_eq f.h3]

end Cert.AttnBwdIdeal.Value
-- ==== Proof.Attn.Host.lean ====
module

public import proofs.«01_k».proof.Proof.Attn.Grid
public import proofs.«01_k».proof.Proof.Attn.Args
public import Idealize.ShloMosaic.Lib.Pipeline.ValueKit
public import Idealize.ShloMosaic.Lib.StableHlo.ReadAt
public import Idealize.ShloMosaic.Lib.WordCmp

/-! What the host's lines leave for the kernel: the queries, keys and values, head by head, and the lines' own vectors. -/

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
variable (m : (ℓ : Loc nD τ sig) → Buf (Elt Ideal) ℓ)

abbrev a0 (c : Dev nD) : FVec Ideal S4096x4x128 .f32 := m ((c : Thread nD τ).loc main_arg0)
abbrev a1 (c : Dev nD) : FVec Ideal S4096x4x64 .f32 := m ((c : Thread nD τ).loc main_arg1)
abbrev a2 (c : Dev nD) : FVec Ideal S4096x4x128 .f32 := m ((c : Thread nD τ).loc main_arg2)
abbrev a3 (c : Dev nD) : FVec Ideal S4096x64 .f32 := m ((c : Thread nD τ).loc main_arg3)
abbrev a4 (c : Dev nD) : FVec Ideal S4096x4x128 .f32 := m ((c : Thread nD τ).loc main_arg4)
abbrev a5 (c : Dev nD) : FVec Ideal S4096x1024 .f32 := m ((c : Thread nD τ).loc main_arg5)
/-- The heads of the arguments core `c` starts with. -/
abbrev heads (c : Dev nD) : ℕ → Head := head (a0 m c) (a1 m c) (a2 m c) (a3 m c) (a4 m c) (a5 m c)
/-- Those arguments are real. -/
abbrev Fin' (c : Dev nD) : Prop := Finite (a0 m c) (a1 m c) (a2 m c) (a3 m c) (a4 m c) (a5 m c)

abbrev q8 (c : Dev nD) : FVec Ideal S4x4096x256 .f32 := V m c main_v8
abbrev k9 (c : Dev nD) : FVec Ideal S4x4096x256 .f32 := V m c main_v9
abbrev v10 (c : Dev nD) : FVec Ideal S4x4096x128 .f32 := V m c main_v10
abbrev s11 (c : Dev nD) : FVec Ideal S4x4096x4096 .f32 := V m c main_v11
abbrev s16 (c : Dev nD) : FVec Ideal S4x4096x4096 .f32 := V m c main_v16
abbrev t17 (c : Dev nD) : FVec Ideal S4x4096 .f32 := V m c main_v17
abbrev u21 (c : Dev nD) : FVec Ideal S4x4096x4096 .f32 := V m c main_v21
abbrev z23 (c : Dev nD) : FVec Ideal S4x4096x1 .f32 := V m c main_v23
abbrev g28 (c : Dev nD) : FVec Ideal S1x1x1 .f32 := V m c main_v28

section Lines

theorem s11_eq (c : Dev nD) : s11 m c = Host.dotGeneral dot_S4x4096x256_S4x4096x256_S4x4096x4096_2_2_1_1_0_0 none (q8 m c) (k9 m c) := by
  unfold_abbrev_sides
  after_reads_simp
  rfl

theorem s16_eq (c : Dev nD) : s16 m c = select
    (broadcastInDim S4x4096x4096 ![0, 1, 2] bcast_S1x4096x4096_S4x4096x4096_0_1_2
      (broadcastInDim S1x4096x4096 ![1, 2] bcast_S4096x4096_S1x4096x4096_1_2
        (cmpi CmpIPredicate.sle (iotaInDim S4096x4096 32 1) (iotaInDim S4096x4096 32 0))))
    (s11 m c) (broadcastInDim S4x4096x4096 ![] bcast_S_S4x4096x4096 (constant S_ FTy.f32 0xFF800000#32)) := by
  unfold_abbrev_sides
  after_reads_simp
  rfl

theorem t17_eq (c : Dev nD) : t17 m c =
    Host.reduce FloatOps.maximumf (s16 m c) (constant S_ .f32 0xFF800000#32) reducesTo_S4x4096x4096_S4x4096_d2 h_S_ := by
  unfold_abbrev_sides
  after_reads_simp

theorem u21_eq (c : Dev nD) : u21 m c = Host.exp (subf (s16 m c)
    (broadcastInDim S4x4096x4096 ![0, 1, 2] bcast_S4x4096x1_S4x4096x4096_0_1_2
      (broadcastInDim S4x4096x1 ![0, 1] bcast_S4x4096_S4x4096x1_0_1 (t17 m c)))) := by
  unfold_abbrev_sides
  after_reads_simp

theorem z23_eq (c : Dev nD) : z23 m c = broadcastInDim S4x4096x1 ![0, 1] bcast_S4x4096_S4x4096x1_0_1
    (Host.reduceAdd (u21 m c) (constant S_ .f32 0x00000000#32) reducesTo_S4x4096x4096_S4x4096_d2 h_S_) := by
  unfold_abbrev_sides
  after_reads_simp

theorem v35_eq (c : Dev nD) : (show FVec Ideal S4096x512 .f32 from V m c main_v35) = shapeCast S4096x512
    (transpose S4096x4x128 [1, 0, 2]
      (Host.divf (Host.dotGeneral dot_S4x4096x4096_S4x4096x128_S4x4096x128_2_1_1_2_0_0 none (u21 m c) (v10 m c))
        (broadcastInDim S4x4096x128 ![0, 1, 2] bcast_S4x4096x1_S4x4096x128_0_1_2 (z23 m c)))
      transposes_S4x4096x128_S4096x4x128_1_0_2) shapeCasts_S4096x4x128_S4096x512 := by
  unfold_abbrev_sides
  after_reads_simp
  rfl

theorem v33_eq (c : Dev nD) : (show FVec Ideal S4x4096x128 .f32 from V m c main_v33) =
    broadcastInDim S4x4096x128 ![0, 1, 2] bcast_S4x4096x1_S4x4096x128_0_1_2
      (Host.divf (addf (broadcastInDim S4x4096x1 ![0, 1] bcast_S4x4096_S4x4096x1_0_1 (t17 m c)) (Host.log (z23 m c)))
        (broadcastInDim S4x4096x1 ![0, 1, 2] bcast_S1x1x1_S4x4096x1_0_1_2 (g28 m c))) := by
  unfold_abbrev_sides
  after_reads_simp

theorem v38_eq (c : Dev nD) : (show FVec Ideal S4x4096x256 .bf16 from V m c main_v38) =
    truncf .bf16 (Host.divf (q8 m c) (broadcastInDim S4x4096x256 ![0, 1, 2] bcast_S1x1x1_S4x4096x256_0_1_2 (g28 m c))) bitsLt_bf16_f32 := by
  unfold_abbrev_sides
  after_reads_simp

theorem v39_eq (c : Dev nD) : (show FVec Ideal S4x4096x256 .bf16 from V m c main_v39) = truncf .bf16 (k9 m c) bitsLt_bf16_f32 := by
  unfold_abbrev_sides
  after_reads_simp

theorem v40_eq (c : Dev nD) : (show FVec Ideal S4x4096x128 .bf16 from V m c main_v40) = truncf .bf16 (v10 m c) bitsLt_bf16_f32 := by
  unfold_abbrev_sides
  after_reads_simp

theorem arg5_eq (c : Dev nD) : V m c main_arg5 = m ((c : Thread nD τ).loc main_arg5) := by
  unfold_abbrev_sides
  after_reads_simp

end Lines

section Reads

variable {m} {c : Dev nD} (f : Fin' m c) (h : Fin 4) (r k : Fin 4096)

theorem g28_apply : g28 m c (ix3 0 0 0) = ((Real.log 2 : ℝ) : EReal) := by
  show (show FVec Ideal S1x1x1 .f32 from V m c main_v28) (ix3 0 0 0) = _
  unfold_abbrev_sides
  after_reads_simp
  pointwise
  rw [show Ideal.ofBits FTy.f32 1073741824#32 = ((2 : ℝ) : EReal) by simp [Ideal.ofBits, Ideal.ieee, -EReal.coe_mul]; norm_num]
  exact log_real two_pos

include f

theorem q8_apply (d : Fin 256) : q8 m c (ix3 h r d) = (((heads m c h).q r d : ℝ) : EReal) := by
  have e := fun hd => f.q h r (d := d) hd
  show (show FVec Ideal S4x4096x256 .f32 from V m c main_v8) (ix3 h r d) = _
  unfold_abbrev_sides
  after_reads_simp
  pointwise
  after_reads_simp
  pointwise
  by_cases hd : d.val < 192
  · rw [← e hd]
    congr 1
    by_cases h1 : d.val < 128
    · rw [dif_pos h1, dif_pos h1]
    · rw [dif_neg h1, dif_neg h1, dif_pos (by omega)]
  · rw [dif_neg (by omega), dif_neg (by omega), head_q_zero _ _ _ _ _ _ _ _ _ (by omega), zero_mul]
    rfl

theorem k9_apply (d : Fin 256) : k9 m c (ix3 h r d) = (((heads m c h).k r d : ℝ) : EReal) := by
  have e := fun hd => f.k h r (d := d) hd
  show (show FVec Ideal S4x4096x256 .f32 from V m c main_v9) (ix3 h r d) = _
  unfold_abbrev_sides
  after_reads_simp
  pointwise
  after_reads_simp
  pointwise
  by_cases hd : d.val < 192
  · rw [← e hd]
    by_cases h1 : d.val < 128
    · rw [dif_pos h1, dif_pos h1]
    · rw [dif_neg h1, dif_neg h1, dif_pos (by omega)]
  · rw [dif_neg (by omega), dif_neg (by omega), head_k_zero _ _ _ _ _ _ _ _ _ (by omega)]
    rfl

theorem v10_apply (d : Fin 128) : v10 m c (ix3 h r d) = (((heads m c h).v r d : ℝ) : EReal) := by
  have e := t3_eq f.h4 r h d
  show (show FVec Ideal S4x4096x128 .f32 from V m c main_v10) (ix3 h r d) = _
  unfold_abbrev_sides
  after_reads_simp
  pointwise
  exact e

theorem s11_apply : s11 m c (ix3 h r k) = (((heads m c h).sc r k : ℝ) : EReal) := by
  have e := fun d => q8_apply f h r d
  have e' := fun d => k9_apply f h k d
  rw [s11_eq]
  generalize q8 m c = a at *
  generalize k9 m c = b at *
  pointwise
  exact sum_coe e e'

theorem s16_apply : s16 m c (ix3 h r k) = msk (heads m c h) r k := by
  have e := s11_apply f h r k
  rw [s16_eq]
  generalize s11 m c = a at *
  pointwise
  word_cmp
  rw [e]
  unfold msk
  rw [show Ideal.ofBits FTy.f32 4286578688#32 = ⊥ from ninf_eq]

theorem t17_apply : t17 m c (ix2 h r) = (((heads m c h).top r : ℝ) : EReal) := by
  have e := fun k => s16_apply f h r k
  rw [t17_eq]
  generalize s16 m c = a at *
  refine (reduceMax_at a _ _ (by decide) _ h r).trans ?_
  rw [show constant (F := Ideal) S_ FTy.f32 0xFF800000#32 _ = ⊥ from ninf_eq]
  exact fold_top r.isLt e

theorem u21_apply : u21 m c (ix3 h r k) = (((heads m c h).u r k : ℝ) : EReal) := by
  have e := s16_apply f h r k
  have e' := t17_apply f h r
  rw [u21_eq]
  generalize s16 m c = a at *
  generalize t17 m c = b at *
  pointwise
  rw [e, e']
  exact exp_msk _

theorem z23_apply : z23 m c (ix3 h r 0) = (((heads m c h).z r : ℝ) : EReal) := by
  have e := fun k => u21_apply f h r k
  rw [z23_eq]
  generalize u21 m c = a at *
  pointwise
  exact sum_real e

end Reads

end Cert.AttnBwdIdeal.Value
-- ==== Proof.Attn.Host2.lean ====
module

public import proofs.«01_k».proof.Proof.Attn.Host
public import Idealize.ShloMosaic.Lib.Pipeline.ValueKit
public import Idealize.ShloMosaic.Lib.StableHlo.ReadAt
public import Idealize.ShloMosaic.Lib.WordCmp

/-! The kernel's arguments, read at an index. -/

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
variable {m : (ℓ : Loc nD τ sig) → Buf (Elt Ideal) ℓ} {c : Dev nD} (f : Fin' m c) (h : Fin 4) (r k : Fin 4096)

include f

/-- The scaled query, in units of the exponential of two. -/
theorem v38_apply (d : Fin 256) : (show FVec Ideal S4x4096x256 .bf16 from V m c main_v38) (ix3 h r d)
    = (((heads m c h).q r d / Real.log 2 : ℝ) : EReal) := by
  have e := q8_apply f h r d
  have e' := g28_apply (m := m) (c := c)
  rw [v38_eq]
  generalize q8 m c = a at *
  generalize g28 m c = b at *
  pointwise
  rw [e, e']
  exact div_real (Real.log_pos one_lt_two).ne'

theorem v39_apply (d : Fin 256) : (show FVec Ideal S4x4096x256 .bf16 from V m c main_v39) (ix3 h r d) = (((heads m c h).k r d : ℝ) : EReal) := by
  rw [v39_eq]
  exact k9_apply f h r d

theorem v40_apply (d : Fin 128) : (show FVec Ideal S4x4096x128 .bf16 from V m c main_v40) (ix3 h r d) = (((heads m c h).v r d : ℝ) : EReal) := by
  rw [v40_eq]
  exact v10_apply f h r d

/-- The head's output, its columns beside those of the other heads. -/
theorem v35_apply (d : Fin 128) : (show FVec Ideal S4096x512 .f32 from V m c main_v35) (ix2 r ⟨128 * h.val + d.val, by omega⟩)
    = (((heads m c h).out r d : ℝ) : EReal) := by
  have e := fun k => u21_apply f h r k
  have e' := fun k => v10_apply f h k d
  have e'' := z23_apply f h r
  rw [v35_eq]
  generalize u21 m c = a at *
  generalize v10 m c = b at *
  generalize z23 m c = g at *
  pointwise
  rw [e'', sum_coe (g := fun k => (heads m c h).v k d) e e']
  exact div_real (Head.z_pos _ r.isLt).ne'

end Cert.AttnBwdIdeal.Value
-- ==== Proof.Attn.Host3.lean ====
module

public import proofs.«01_k».proof.Proof.Attn.Host
public import Idealize.ShloMosaic.Lib.Pipeline.ValueKit
public import Idealize.ShloMosaic.Lib.StableHlo.ReadAt
public import Idealize.ShloMosaic.Lib.WordCmp

/-! The kernel's arguments, read at an index. -/

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
variable {m : (ℓ : Loc nD τ sig) → Buf (Elt Ideal) ℓ} {c : Dev nD} (f : Fin' m c) (h : Fin 4) (r k : Fin 4096)

theorem v33_at (a : FVec Ideal S4x4096 .f32) (b : FVec Ideal S4x4096x1 .f32) (g : FVec Ideal S1x1x1 .f32) (d : Fin 128) :
    broadcastInDim S4x4096x128 ![0, 1, 2] bcast_S4x4096x1_S4x4096x128_0_1_2
      (Host.divf (addf (broadcastInDim S4x4096x1 ![0, 1] bcast_S4x4096_S4x4096x1_0_1 a) (Host.log b))
        (broadcastInDim S4x4096x1 ![0, 1, 2] bcast_S1x1x1_S4x4096x1_0_1_2 g)) (ix3 h r d)
      = Ideal.div (a (ix2 h r) + Ideal.log (b (ix3 h r 0))) (g (ix3 0 0 0)) := by
  pointwise

include f in
/-- The row's logarithm of the sum of exponentials, in the same units. -/
theorem v33_apply (d : Fin 128) : (show FVec Ideal S4x4096x128 .f32 from V m c main_v33) (ix3 h r d)
    = (((heads m c h).l r / Real.log 2 : ℝ) : EReal) := by
  rw [v33_eq]
  refine (v33_at h r _ _ _ d).trans ?_
  rw [t17_apply f h r, z23_apply f h r, g28_apply, log_real (Head.z_pos _ r.isLt), ← EReal.coe_add, (head_soft _ _ _ _ _ _ _).l r]
  exact div_real (Real.log_pos one_lt_two).ne'

end Cert.AttnBwdIdeal.Value
-- ==== Proof.Attn.Blocks.lean ====
module

public import proofs.«01_k».proof.Proof.Attn.Host2
public import proofs.«01_k».proof.Proof.Attn.Host3

/-! The blocks each point of the grid reads, and that they are those of its head and key block. -/

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
variable (m : (ℓ : Loc nD τ sig) → Buf (Elt Ideal) ℓ) (c : Dev nD) (t : Fin cfg0.N)

/-- Where each window stands at point `t`. -/
theorem idx : ∀ t : Fin cfg0.N, win0_0.index t = ![t.val / 4, 0, 0] ∧ win0_1.index t = ![t.val / 4, t.val % 4, 0] ∧
    win0_2.index t = ![t.val / 4, t.val % 4, 0] ∧ win0_3.index t = ![0, 4 + t.val / 4] ∧ win0_4.index t = ![0, t.val / 4] ∧
    win0_5.index t = ![t.val / 4, 0, 0] ∧ win0_6.index t = ![t.val / 4, 0, 0] ∧ win0_7.index t = ![t.val / 4, t.val % 4, 0] ∧
    win0_8.index t = ![t.val / 4, t.val % 4, 0] := (by decide +kernel : ∀ t : Fin grid0.N, _)

theorem hd_lt : t.val / 4 < 4 := by have : t.val < 16 := t.isLt; omega
theorem key_lt (k : Fin 1024) : 1024 * (t.val % 4) + k.val < 4096 := by omega
theorem col_lt (d : Fin 128) : 128 * (t.val / 4) + d.val < 512 := by have : t.val < 16 := t.isLt; omega
theorem col_lt' (d : Fin 128) : 512 + 128 * (t.val / 4) + d.val < 1024 := by have : t.val < 16 := t.isLt; omega

theorem iblk0 (r : Fin 4096) (d : Fin 256) : (show FVec Ideal S1x4096x256 .bf16 from iblk m c 0 t) (ix3 0 r d) =
    (show FVec Ideal S4x4096x256 .bf16 from V m c main_v38) (ix3 ⟨t.val / 4, hd_lt t⟩ r d) := by
  unfold iblk
  generalize V m c = X
  blk_ext [idx t]

theorem iblk1 (k : Fin 1024) (d : Fin 256) : (show FVec Ideal S1x1024x256 .bf16 from iblk m c 1 t) (ix3 0 k d) =
    (show FVec Ideal S4x4096x256 .bf16 from V m c main_v39) (ix3 ⟨t.val / 4, hd_lt t⟩ ⟨1024 * (t.val % 4) + k.val, key_lt t k⟩ d) := by
  unfold iblk
  generalize V m c = X
  blk_ext [idx t]

theorem iblk2 (k : Fin 1024) (d : Fin 128) : (show FVec Ideal S1x1024x128 .bf16 from iblk m c 2 t) (ix3 0 k d) =
    (show FVec Ideal S4x4096x128 .bf16 from V m c main_v40) (ix3 ⟨t.val / 4, hd_lt t⟩ ⟨1024 * (t.val % 4) + k.val, key_lt t k⟩ d) := by
  unfold iblk
  generalize V m c = X
  blk_ext [idx t]

theorem iblk3 (r : Fin 4096) (d : Fin 128) : (show FVec Ideal S4096x128 .f32 from iblk m c 3 t) (ix2 r d) =
    (show FVec Ideal S4096x1024 .f32 from V m c main_arg5) (ix2 r ⟨512 + 128 * (t.val / 4) + d.val, col_lt' t d⟩) := by
  unfold iblk
  generalize V m c = X
  blk_ext [idx t]

theorem iblk4 (r : Fin 4096) (d : Fin 128) : (show FVec Ideal S4096x128 .f32 from iblk m c 4 t) (ix2 r d) =
    (show FVec Ideal S4096x512 .f32 from V m c main_v35) (ix2 r ⟨128 * (t.val / 4) + d.val, col_lt t d⟩) := by
  unfold iblk
  generalize V m c = X
  blk_ext [idx t]

theorem iblk5 (r : Fin 4096) (d : Fin 128) : (show FVec Ideal S1x4096x128 .f32 from iblk m c 5 t) (ix3 0 r d) =
    (show FVec Ideal S4x4096x128 .f32 from V m c main_v33) (ix3 ⟨t.val / 4, hd_lt t⟩ r d) := by
  unfold iblk
  generalize V m c = X
  blk_ext [idx t]

/-- The blocks of point `t` are those of head `t / 4` and key block `t % 4` of the arguments. -/
theorem point_at {m : (ℓ : Loc nD τ sig) → Buf (Elt Ideal) ℓ} {c : Dev nD} (f : Fin' m c) (t : Fin cfg0.N) :
    PointAt m c (heads m c) (fun h => (heads m c h).out) t where
  q r d := (iblk0 m c t r d).trans (v38_apply f ⟨t.val / 4, hd_lt t⟩ r d)
  k k d := (iblk1 m c t k d).trans (v39_apply f ⟨t.val / 4, hd_lt t⟩ ⟨1024 * (t.val % 4) + k.val, key_lt t k⟩ d)
  v k d := (iblk2 m c t k d).trans (v40_apply f ⟨t.val / 4, hd_lt t⟩ ⟨1024 * (t.val % 4) + k.val, key_lt t k⟩ d)
  o r d := by
    refine (iblk3 m c t r d).trans ?_
    rw [arg5_eq]
    exact t2_eq f.h5 r ⟨512 + 128 * (t.val / 4) + d.val, col_lt' t d⟩
  outs r d := (iblk4 m c t r d).trans (v35_apply f ⟨t.val / 4, hd_lt t⟩ r d)
  l r d := (iblk5 m c t r d).trans (v33_apply f ⟨t.val / 4, hd_lt t⟩ r d)
  delta r := (head_soft _ _ _ _ _ _ _).d r

end Cert.AttnBwdIdeal.Value
-- ==== Proof.Attn.Ref.lean ====
module

public import proofs.«01_k».proof.Proof.Gen.AttnBwdRefIdeal.Read
public import proofs.«01_k».proof.Proof.Attn.Args
public import Idealize.ShloMosaic.Lib.WordCmp

/-! The reference's lines, read at an index, as the heads' real tables. -/

@[expose] public section

set_option maxRecDepth 16384

noncomputable section

namespace Cert.AttnBwdRefIdeal.Read

open Finset Cert.AttnBwdRefIdeal Idealize.ShloMosaic Idealize.ShloMosaic.TcCoe Idealize.SL.Sem
open Cert.AttnBwdIdeal.Value (Head head Finite msk fold_top exp_msk sum_real sum_coe div_real)

variable {x0 : FVec Ideal S4096x4x128 .f32} {x1 : FVec Ideal S4096x4x64 .f32} {x2 : FVec Ideal S4096x4x128 .f32}
  {x3 : FVec Ideal S4096x64 .f32} {x4 : FVec Ideal S4096x4x128 .f32} {x5 : FVec Ideal S4096x1024 .f32}
variable (f : Finite x0 x1 x2 x3 x4 x5) (h : Fin 4) (r k : Fin 4096)

include f

theorem q_eq (d : Fin 192) : val_main_v3 (F := Ideal) x0 x1 (ix3 h r d) = (((head x0 x1 x2 x3 x4 x5 h).q r d : ℝ) : EReal) := by
  rw [← f.q h r d.isLt]
  pointwise [val_main_v3, val_main_v2, val_main_v1, val_main_v0, val_main_cst]

theorem k_eq (d : Fin 192) : val_main_v7 (F := Ideal) x2 x3 (ix3 h r d) = (((head x0 x1 x2 x3 x4 x5 h).k r d : ℝ) : EReal) := by
  rw [← f.k h r d.isLt]
  pointwise [val_main_v7, val_main_v6, val_main_v5, val_main_v4]

theorem o_eq (d : Fin 128) : val_main_v10 (F := Ideal) x5 (ix3 h r d) = (((head x0 x1 x2 x3 x4 x5 h).o r d : ℝ) : EReal) := by
  pointwise [val_main_v10, val_main_v9, val_main_v8]
  show _ = ((Cert.AttnBwdIdeal.Value.t2 x5 r (512 + 128 * h + d) : ℝ) : EReal)
  rw [Cert.AttnBwdIdeal.Value.t2_eq f.h5]
  congr 2
  show 512 + (h.val * 128 + d.val) = _
  omega

theorem v_eq (d : Fin 128) : val_main_v11 (F := Ideal) x4 (ix3 h r d) = (((head x0 x1 x2 x3 x4 x5 h).v r d : ℝ) : EReal) := by
  pointwise [val_main_v11]
  exact Cert.AttnBwdIdeal.Value.t3_eq f.h4 r h d

theorem sc_eq : val_main_v12 (F := Ideal) x0 x1 x2 x3 (ix3 h r k) = (((head x0 x1 x2 x3 x4 x5 h).sc r k : ℝ) : EReal) := by
  have e := fun d => q_eq f h r d
  have e' := fun d => k_eq f h k d
  unfold val_main_v12
  generalize val_main_v3 (F := Ideal) x0 x1 = a at *
  generalize val_main_v7 (F := Ideal) x2 x3 = b at *
  pointwise
  rw [Cert.AttnBwdIdeal.Value.head_sc]
  exact sum_coe e e'

theorem msk_eq : val_main_v19_0 (F := Ideal) x0 x1 x2 x3 (ix3 h r k) = msk (head x0 x1 x2 x3 x4 x5 h) r k := by
  have e := sc_eq f h r k
  unfold val_main_v19_0
  generalize val_main_v12 (F := Ideal) x0 x1 x2 x3 = a at *
  pointwise [val_main_v19_1, val_main_v18, val_main_v17, val_main_v16, val_main_v15, val_main_v14, val_main_v13, val_main_call0_v2, val_main_call0_v0, val_main_cst_0]
  word_cmp
  rw [e]
  unfold msk
  rw [show id (constant (F := Ideal) S_ FTy.f32 4286578688#32) ix0 = ⊥ from Cert.AttnBwdIdeal.Value.ninf_eq]

theorem top_eq : val_main_v20 (F := Ideal) x0 x1 x2 x3 (ix2 h r) = (((head x0 x1 x2 x3 x4 x5 h).top r : ℝ) : EReal) := by
  have e := fun k => msk_eq f h r k
  unfold val_main_v20
  generalize val_main_v19_0 (F := Ideal) x0 x1 x2 x3 = a at *
  refine (Cert.AttnBwdIdeal.Value.reduceMax_at a _ _ (by decide) _ h r).trans ?_
  rw [show val_main_cst_1 (F := Ideal) _ = ⊥ from Cert.AttnBwdIdeal.Value.ninf_eq]
  exact fold_top r.isLt e

end Cert.AttnBwdRefIdeal.Read
-- ==== Proof.Attn.Ref2.lean ====
module

public import proofs.«01_k».proof.Proof.Attn.Ref
public import Idealize.ShloMosaic.Lib.WordCmp

/-! The reference's softmax and its gradient, read at an index. -/

@[expose] public section

set_option maxRecDepth 16384

noncomputable section

namespace Cert.AttnBwdRefIdeal.Read

open Finset Cert.AttnBwdRefIdeal Idealize.ShloMosaic Idealize.ShloMosaic.TcCoe Idealize.SL.Sem
open Cert.AttnBwdIdeal.Value (Head head Finite msk fold_top exp_msk sum_real sum_coe div_real)

variable {x0 : FVec Ideal S4096x4x128 .f32} {x1 : FVec Ideal S4096x4x64 .f32} {x2 : FVec Ideal S4096x4x128 .f32}
  {x3 : FVec Ideal S4096x64 .f32} {x4 : FVec Ideal S4096x4x128 .f32} {x5 : FVec Ideal S4096x1024 .f32}
variable (f : Finite x0 x1 x2 x3 x4 x5) (h : Fin 4) (r k : Fin 4096)

theorem max_bot (x : EReal) : FloatOps.maximumf (F := Ideal) (φ := .f32) (FloatOps.ofBits .f32 0xFF800000#32) x = x := by
  refine (congrArg (max · x) ?_).trans (max_eq_right bot_le)
  exact Cert.AttnBwdIdeal.Value.ninf_eq
theorem zero_bits : FloatOps.ofBits (F := Ideal) .f32 0x00000000#32 = (0 : EReal) := by simp [Ideal.ofBits, Ideal.ieee]

include f

theorem max_eq : val_main_v27 (F := Ideal) x0 x1 x2 x3 (ix2 h r) = (((head x0 x1 x2 x3 x4 x5 h).top r : ℝ) : EReal) := by
  rw [val_main_v27_apply, top_eq f h r, val_main_v26_apply, val_main_cst_3_apply]
  exact max_bot _

theorem u_eq : val_main_v40 (F := Ideal) x0 x1 x2 x3 (ix3 h r k) = (((head x0 x1 x2 x3 x4 x5 h).u r k : ℝ) : EReal) := by
  have e := msk_eq f h r k
  have e' := max_eq f h r
  unfold val_main_v40 val_main_v39 val_main_v38 val_main_v37
  generalize val_main_v19_0 (F := Ideal) x0 x1 x2 x3 = a at *
  generalize val_main_v27 (F := Ideal) x0 x1 x2 x3 = b at *
  pointwise
  rw [e, e']
  exact exp_msk _

theorem z_eq : val_main_v42 (F := Ideal) x0 x1 x2 x3 (ix3 h r 0) = (((head x0 x1 x2 x3 x4 x5 h).z r : ℝ) : EReal) := by
  have e := fun k => u_eq f h r k
  unfold val_main_v42 val_main_v41
  generalize val_main_v40 (F := Ideal) x0 x1 x2 x3 = a at *
  pointwise
  rw [show val_main_cst_9 (F := Ideal) _ = 0 from zero_bits, zero_add]
  exact sum_real e

theorem p_eq : val_main_v44 (F := Ideal) x0 x1 x2 x3 (ix3 h r k) = (((head x0 x1 x2 x3 x4 x5 h).p r k : ℝ) : EReal) := by
  have e := u_eq f h r k
  have e' := z_eq f h r
  unfold val_main_v44 val_main_v43
  generalize val_main_v40 (F := Ideal) x0 x1 x2 x3 = a at *
  generalize val_main_v42 (F := Ideal) x0 x1 x2 x3 = b at *
  pointwise
  rw [e, e', (Cert.AttnBwdIdeal.Value.head_soft _ _ _ _ _ _ _).p r.isLt]
  exact div_real (Head.z_pos _ r.isLt).ne'

theorem dp_eq : val_main_v51 (F := Ideal) x4 x5 (ix3 h r k) = (((head x0 x1 x2 x3 x4 x5 h).dp r k : ℝ) : EReal) := by
  have e := fun d => o_eq f h r d
  have e' := fun d => v_eq f h k d
  unfold val_main_v51
  generalize val_main_v10 (F := Ideal) x5 = a at *
  generalize val_main_v11 (F := Ideal) x4 = b at *
  pointwise
  exact sum_coe e e'

theorem w_eq : val_main_v47 (F := Ideal) x0 x1 x2 x3 (ix3 h r 0) = ((1 / ((head x0 x1 x2 x3 x4 x5 h).z r * (head x0 x1 x2 x3 x4 x5 h).z r) : ℝ) : EReal) := by
  have e := z_eq f h r
  unfold val_main_v47 val_main_v45
  generalize val_main_v42 (F := Ideal) x0 x1 x2 x3 = b at *
  pointwise [val_main_v46, val_main_cst_10]
  rw [e, ← EReal.coe_mul]
  exact div_real (a := 1) (mul_pos (Head.z_pos _ r.isLt) (Head.z_pos _ r.isLt)).ne'

theorem row_eq : val_main_v57 (F := Ideal) x0 x1 x2 x3 x4 x5 (ix3 h r 0)
    = ((-(∑ k ∈ range 4096, (head x0 x1 x2 x3 x4 x5 h).dp r k * (1 / ((head x0 x1 x2 x3 x4 x5 h).z r * (head x0 x1 x2 x3 x4 x5 h).z r)) * (head x0 x1 x2 x3 x4 x5 h).u r k) : ℝ) : EReal) := by
  have e := fun k => u_eq f h r k
  have e' := fun k => dp_eq f h r k
  have e'' := w_eq f h r
  unfold val_main_v57 val_main_v56 val_main_v55 val_main_v54 val_main_v53 val_main_v52
  generalize val_main_v40 (F := Ideal) x0 x1 x2 x3 = a at *
  generalize val_main_v51 (F := Ideal) x4 x5 = b at *
  generalize val_main_v47 (F := Ideal) x0 x1 x2 x3 = c at *
  pointwise
  rw [show val_main_cst_11 (F := Ideal) _ = 0 from zero_bits, zero_add, EReal.coe_neg]
  refine congrArg Neg.neg (sum_real fun k => ?_)
  rw [e, e', e'', ← EReal.coe_mul, ← EReal.coe_mul]

theorem ds_eq : val_main_v64 (F := Ideal) x0 x1 x2 x3 x4 x5 (ix3 h r k) = (((head x0 x1 x2 x3 x4 x5 h).ds r k : ℝ) : EReal) := by
  have e := u_eq f h r k
  have e' := dp_eq f h r k
  have e'' := row_eq f h r
  have e3 := z_eq f h r
  unfold val_main_v64 val_main_v63 val_main_v62 val_main_v61 val_main_v60 val_main_v59 val_main_v58
  generalize val_main_v40 (F := Ideal) x0 x1 x2 x3 = a at *
  generalize val_main_v51 (F := Ideal) x4 x5 = b at *
  generalize val_main_v57 (F := Ideal) x0 x1 x2 x3 x4 x5 = c at *
  generalize val_main_v42 (F := Ideal) x0 x1 x2 x3 = d at *
  pointwise [val_main_v19_1, val_main_v18, val_main_v17, val_main_v16, val_main_v15, val_main_v14, val_main_v13]
  word_cmp
  rw [show val_main_cst_12 (F := Ideal) _ = 0 from zero_bits, zero_add (∑ x, c (ix3 h r x)), Fin.sum_univ_one, e, e', e3]
  rw [show c (ix3 h r 0) = _ from e'', div_real (Head.z_pos _ r.isLt).ne', ← EReal.coe_add, ← EReal.coe_mul, add_comm,
    (Cert.AttnBwdIdeal.Value.head_soft _ _ _ _ _ _ _).ds_eq r.isLt]
  split_ifs with hk
  · rfl
  · rw [Head.ds_zero _ (by omega)]
    exact zero_bits

end Cert.AttnBwdRefIdeal.Read
-- ==== Proof.Attn.Ref3.lean ====
module

public import proofs.«01_k».proof.Proof.Attn.Ref2
public import Idealize.ShloMosaic.Lib.WordCmp

/-! The reference's results, read at an index. -/

@[expose] public section

set_option maxRecDepth 16384

noncomputable section

namespace Cert.AttnBwdRefIdeal.Read

open Finset Cert.AttnBwdRefIdeal Idealize.ShloMosaic Idealize.ShloMosaic.TcCoe Idealize.SL.Sem
open Cert.AttnBwdIdeal.Value (Head head Finite msk fold_top exp_msk sum_real sum_coe div_real)

variable {x0 : FVec Ideal S4096x4x128 .f32} {x1 : FVec Ideal S4096x4x64 .f32} {x2 : FVec Ideal S4096x4x128 .f32}
  {x3 : FVec Ideal S4096x64 .f32} {x4 : FVec Ideal S4096x4x128 .f32} {x5 : FVec Ideal S4096x1024 .f32}
variable (f : Finite x0 x1 x2 x3 x4 x5) (h : Fin 4) (r k : Fin 4096)

theorem sitofp_zero : FloatOps.sitofp (F := Ideal) FTy.f32 0#32 = (0 : EReal) := by
  show ((((0#32 : BitVec 32).toInt : ℤ) : ℝ) : EReal) = 0
  simp
theorem pad_zero2 : val_main_call2_v0 (F := Ideal) (Shape.Idx.first Gen.h_S_) = (0 : EReal) := by
  pointwise [val_main_call2_v0, val_main_c]
  exact sitofp_zero
theorem pad_zero3 : val_main_call3_v0 (F := Ideal) (Shape.Idx.first Gen.h_S_) = (0 : EReal) := by
  pointwise [val_main_call3_v0, val_main_c_13]
  exact sitofp_zero

include f

theorem dv_eq (d : Fin 128) : val_main_v71 (F := Ideal) x0 x1 x2 x3 x5 (ix3 h k d)
    = ((∑ r ∈ range 4096, (head x0 x1 x2 x3 x4 x5 h).p r k * (head x0 x1 x2 x3 x4 x5 h).o r d : ℝ) : EReal) := by
  have e := fun r => p_eq f h r k
  have e' := fun r => o_eq f h r d
  unfold val_main_v71 val_main_v50 val_main_v49
  generalize val_main_v44 (F := Ideal) x0 x1 x2 x3 = a at *
  generalize val_main_v10 (F := Ideal) x5 = b at *
  pointwise
  refine (Finset.sum_congr rfl fun r _ => mul_comm _ _).trans (sum_coe e e')

theorem dk_eq (d : Fin 256) : val_main_v70 (F := Ideal) x0 x1 x2 x3 x4 x5 (ix3 h k d)
    = ((∑ r ∈ range 4096, (head x0 x1 x2 x3 x4 x5 h).ds r k * (head x0 x1 x2 x3 x4 x5 h).q r d : ℝ) : EReal) := by
  have e := fun r => ds_eq f h r k
  have e' := fun r d => q_eq f h r d
  unfold val_main_v70 val_main_v69 val_main_v65
  generalize val_main_v64 (F := Ideal) x0 x1 x2 x3 x4 x5 = a at *
  generalize val_main_v3 (F := Ideal) x0 x1 = b at *
  pointwise
  split_ifs with hd
  · exact sum_coe (g := fun r => (head x0 x1 x2 x3 x4 x5 h).q r d) e fun r => e' r ⟨d, hd⟩
  · rw [Finset.sum_eq_zero fun r _ => by rw [Cert.AttnBwdIdeal.Value.head_q_zero _ _ _ _ _ _ _ _ _ (Nat.le_of_not_lt hd), mul_zero]]
    exact pad_zero3

theorem dq_eq (d : Fin 256) : val_main_v68 (F := Ideal) x0 x1 x2 x3 x4 x5 (ix3 h r d)
    = ((∑ k ∈ range 4096, (head x0 x1 x2 x3 x4 x5 h).ds r k * (head x0 x1 x2 x3 x4 x5 h).k k d : ℝ) : EReal) := by
  have e := fun k => ds_eq f h r k
  have e' := fun k d => k_eq f h k d
  unfold val_main_v68 val_main_v67 val_main_v66
  generalize val_main_v64 (F := Ideal) x0 x1 x2 x3 x4 x5 = a at *
  generalize val_main_v7 (F := Ideal) x2 x3 = b at *
  pointwise
  split_ifs with hd
  · exact sum_coe (g := fun r => (head x0 x1 x2 x3 x4 x5 h).k r d) e fun r => e' r ⟨d, hd⟩
  · rw [Finset.sum_eq_zero fun r _ => by rw [Cert.AttnBwdIdeal.Value.head_k_zero _ _ _ _ _ _ _ _ _ (Nat.le_of_not_lt hd), mul_zero]]
    exact pad_zero2

end Cert.AttnBwdRefIdeal.Read
-- ==== Proof.Attn.Arrays.lean ====
module

public import proofs.«01_k».proof.Proof.Attn.Blocks
public import proofs.«01_k».proof.Proof.Attn.Ref3

/-! The arrays the kernel leaves are the reference's results. -/

@[expose] public section

set_option maxRecDepth 16384

noncomputable section

namespace Cert.AttnBwdIdeal.Value

open Cert.AttnBwdIdeal Cert.AttnBwdIdeal.Gen Cert.AttnBwdIdeal.Run Idealize.ShloMosaic Idealize.ShloMosaic.TcCoe Idealize.SL.Sem
open Idealize.ShloMosaic.Pipeline (Dat)
open Cert.AttnBwdRefIdeal.Read (val_main_v68 val_main_v70 val_main_v71)
variable {m : (ℓ : Loc nD τ sig) → Buf (Elt Ideal) ℓ} {c : Dev nD} (f : Fin' m c)
include f

/-- The gradient at the queries. -/
theorem arr6 : (dats m 0 c).arrAt 6 cfg0.N = val_main_v68 (F := Ideal) (a0 m c) (a1 m c) (a2 m c) (a3 m c) (a4 m c) (a5 m c) := by
  refine (dats m 0 c).arrAt_eq_of_covers 6 _ (by decide +kernel) fun t hf y => ?_
  have h3 : t.val % 4 = 3 := (flush0_6 t).1 hf
  blk_simp
  rw [after0_6]
  obtain ⟨r, d, rfl⟩ : ∃ (r : Fin 4096) (d : Fin 256), y = ix3 0 r d :=
    ⟨y 1, y 2, by ext a; match a with | ⟨0, _⟩ => exact congrArg Fin.val (Subsingleton.elim (α := Fin 1) _ _) | ⟨1, _⟩ => rfl | ⟨2, _⟩ => rfl⟩
  have e : (win0_6.blk t).view.emb (ix3 0 r d) = (ix3 ⟨t.val / 4, hd_lt t⟩ r d : S4x4096x256.Idx) := by blk_ext [idx t]
  rw [e]
  refine (blkQ_holds (point_at f) t r d).trans (Eq.trans ?_ (Cert.AttnBwdRefIdeal.Read.dq_eq f ⟨t.val / 4, hd_lt t⟩ r d).symm)
  rw [h3]
  rfl

/-- The gradient at the keys. -/
theorem arr7 : (dats m 0 c).arrAt 7 cfg0.N = val_main_v70 (F := Ideal) (a0 m c) (a1 m c) (a2 m c) (a3 m c) (a4 m c) (a5 m c) := by
  refine (dats m 0 c).arrAt_eq_of_covers 7 _ (by decide +kernel) fun t hf y => ?_
  blk_simp
  rw [after0_7]
  obtain ⟨k, d, rfl⟩ : ∃ (r : Fin 1024) (d : Fin 256), y = ix3 0 r d :=
    ⟨y 1, y 2, by ext a; match a with | ⟨0, _⟩ => exact congrArg Fin.val (Subsingleton.elim (α := Fin 1) _ _) | ⟨1, _⟩ => rfl | ⟨2, _⟩ => rfl⟩
  have e : (win0_7.blk t).view.emb (ix3 0 k d) = (ix3 ⟨t.val / 4, hd_lt t⟩ ⟨1024 * (t.val % 4) + k.val, key_lt t k⟩ d : S4x4096x256.Idx) := by blk_ext [idx t]
  rw [e]
  exact (blkK_holds (point_at f) t k d).trans (Cert.AttnBwdRefIdeal.Read.dk_eq f ⟨t.val / 4, hd_lt t⟩ ⟨1024 * (t.val % 4) + k.val, key_lt t k⟩ d).symm

/-- The gradient at the values. -/
theorem arr8 : (dats m 0 c).arrAt 8 cfg0.N = val_main_v71 (F := Ideal) (a0 m c) (a1 m c) (a2 m c) (a3 m c) (a5 m c) := by
  refine (dats m 0 c).arrAt_eq_of_covers 8 _ (by decide +kernel) fun t hf y => ?_
  blk_simp
  rw [after0_8]
  obtain ⟨k, d, rfl⟩ : ∃ (r : Fin 1024) (d : Fin 128), y = ix3 0 r d :=
    ⟨y 1, y 2, by ext a; match a with | ⟨0, _⟩ => exact congrArg Fin.val (Subsingleton.elim (α := Fin 1) _ _) | ⟨1, _⟩ => rfl | ⟨2, _⟩ => rfl⟩
  have e : (win0_8.blk t).view.emb (ix3 0 k d) = (ix3 ⟨t.val / 4, hd_lt t⟩ ⟨1024 * (t.val % 4) + k.val, key_lt t k⟩ d : S4x4096x128.Idx) := by blk_ext [idx t]
  rw [e]
  exact (blkV_holds (point_at f) t k d).trans (Cert.AttnBwdRefIdeal.Read.dv_eq f ⟨t.val / 4, hd_lt t⟩ ⟨1024 * (t.val % 4) + k.val, key_lt t k⟩ d).symm

end Cert.AttnBwdIdeal.Value
-- ==== Proof.Attn.Claim.lean ====
module

public import proofs.«01_k».proof.Defs
public import proofs.«01_k».proof.Proof.Attn.Arrays
public import proofs.«01_k».proof.Proof.Common.Real
public import proofs.«01_k».proof.Proof.Gen.Pre_attn_finite
public import proofs.«01_k».proof.Proof.Gen.AttnBwdRefIdeal.Run

/-! The attention layer's backward call computes the derivative of the layer. -/

@[expose] public section

set_option maxRecDepth 16384

noncomputable section

namespace Cert.AttnBwdIdeal.Value

open Cert.AttnBwdIdeal Cert.AttnBwdIdeal.Gen Cert.AttnBwdIdeal.Run Idealize.ShloMosaic Idealize.ShloMosaic.TcCoe Idealize.SL.Sem
open Cert.Common (real_of_lt)

/-- The kernel's run: its three arrays, and the arguments as they were. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41_0) = (dats m 0 c).arrAt 6 cfg0.N
      ∧ r.2.mem ((c.tc : Thread nD τ).loc main_v41_1) = (dats m 0 c).arrAt 7 cfg0.N
      ∧ r.2.mem ((c.tc : Thread nD τ).loc main_v41_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 6, (h.1 c).1 7, (h.1 c).1 8, h.2.1 c⟩) (θ_run_and (run_main m ρ) (frame_attn m ρ))

/-- For finite arguments the call computes the derivative of the layer. -/
theorem algebraic : Cert.algebraic_AttnBwdIdeal_AttnBwdRefIdeal_pre_attn_finite := by
  intro m g m' g' hpre hagree
  have f : ∀ c, Fin' m c := fun c => ⟨fun i => real_of_lt (congrFun (hpre c).1 i), fun i => real_of_lt (congrFun (hpre c).2.1 i),
    fun i => real_of_lt (congrFun (hpre c).2.2.1 i), fun i => real_of_lt (congrFun (hpre c).2.2.2.1 i),
    fun i => real_of_lt (congrFun (hpre c).2.2.2.2.1 i), fun i => real_of_lt (congrFun (hpre c).2.2.2.2.2 i)⟩
  refine ⟨_, _, _, run_blocks m g, ?_⟩
  refine (θ_run _ _ _).mono (fun r h c => ?_) (Cert.AttnBwdRefIdeal.Value.run m' g')
  obtain ⟨h0, h1, h2, h3⟩ := h c
  obtain ⟨e0, e1, e2, e3, e4, e5⟩ := hagree c
  refine ⟨h0.trans ?_, h1.trans ?_, h2.trans ?_, h3⟩
  · rw [Cert.AttnBwdRefIdeal.Read.val_main_v68_eq, e0, e1, e2, e3, e4, e5]
    exact (arr6 (f c)).symm
  · rw [Cert.AttnBwdRefIdeal.Read.val_main_v70_eq, e0, e1, e2, e3, e4, e5]
    exact (arr7 (f c)).symm
  · rw [Cert.AttnBwdRefIdeal.Read.val_main_v71_eq, e0, e1, e2, e3, e5]
    exact (arr8 (f c)).symm

end Cert.AttnBwdIdeal.Value
-- ==== Proof.Mlp.Model.lean ====
module

public import proofs.«01_k».proof.Proof.Attn.Args

/-! The MLP's and the norm's backward over the reals: what both programs compute, row by row. -/

@[expose] public section

noncomputable section

namespace Cert.MlpBwdIdeal.Value

open Finset Idealize.ShloMosaic

/-- A real row's mean over `n` columns. -/
def mean (n : ℕ) (f : ℕ → ℝ) : ℝ := (∑ j ∈ range n, f j) / n

/-- The norm's gradient, as a derivative of `x * s` by the chain rule writes it, is the one with two means. -/
theorem norm_bwd {n : ℕ} (hn : (n : ℝ) ≠ 0) {s v : ℝ} (hv : v ≠ 0) (hs : s * s = 1 / v) (d x : ℕ → ℝ) (hx : ∑ j ∈ range n, x j = 0) (j : ℕ) :
    (d j * s + x j * ((∑ j ∈ range n, x j * d j) * (-(1 / 2) * (s / v)) / n) + (∑ j ∈ range n, x j * d j) * (-(1 / 2) * (s / v)) / n * x j)
      + -(∑ j ∈ range n, (d j * s + x j * ((∑ j ∈ range n, x j * d j) * (-(1 / 2) * (s / v)) / n)
          + (∑ j ∈ range n, x j * d j) * (-(1 / 2) * (s / v)) / n * x j)) / n
      = s * (d j - mean n d - x j * s * mean n fun j => d j * (x j * s)) := by
  have e : s / v = s * (s * s) := by rw [hs]; ring
  have e1 : ∀ w : ℝ, ∑ j ∈ range n, (d j * s + x j * w + w * x j) = (∑ j ∈ range n, d j) * s := by
    intro w
    rw [sum_add_distrib, sum_add_distrib, ← sum_mul, ← sum_mul, ← mul_sum, hx]
    ring
  have e2 : ∑ j ∈ range n, d j * (x j * s) = (∑ j ∈ range n, x j * d j) * s := by
    rw [sum_mul]
    exact sum_congr rfl fun j _ => by ring
  rw [e1, e]
  unfold mean
  rw [e2]
  field_simp
  ring

/-- The residual's factor, as both programs have it, -/
def al : ℝ := (Ideal.ofBits FTy.f32 0x3F9837F0#32).toReal
/-- and what the norm adds to the variance. -/
def ep : ℝ := (Ideal.ofBits FTy.f32 0x3727C5AC#32).toReal
theorem al_eq : Ideal.ofBits FTy.f32 0x3F9837F0#32 = ((al : ℝ) : EReal) := by
  have h : ∃ r : ℝ, Ideal.ofBits FTy.f32 0x3F9837F0#32 = (r : EReal) := by
    simp [Ideal.ofBits, Ideal.ieee, -EReal.coe_mul]
  obtain ⟨r, e⟩ := h
  rw [al, e, EReal.toReal_coe]
theorem ep_pos : ∃ r : ℝ, 0 < r ∧ Ideal.ofBits FTy.f32 0x3727C5AC#32 = (r : EReal) := by
  refine ⟨_, ?_, by simp [Ideal.ofBits, Ideal.ieee, -EReal.coe_mul]; rfl⟩
  positivity
theorem ep_eq : Ideal.ofBits FTy.f32 0x3727C5AC#32 = ((ep : ℝ) : EReal) := by
  obtain ⟨r, _, e⟩ := ep_pos
  rw [ep, e, EReal.toReal_coe]
theorem ep_gt : 0 < ep := by
  obtain ⟨r, h, e⟩ := ep_pos
  rwa [ep, e, EReal.toReal_coe]
theorem n_eq : Ideal.ofBits FTy.f32 0x44800000#32 = ((1024 : ℝ) : EReal) := by
  simp [Ideal.ofBits, Ideal.ieee, -EReal.coe_mul]
  norm_num
theorem two_eq : Ideal.ofBits FTy.f32 0x40000000#32 = ((2 : ℝ) : EReal) := by
  simp [Ideal.ofBits, Ideal.ieee, -EReal.coe_mul]
  norm_num
theorem half_eq : Ideal.ofBits FTy.f32 0xBF000000#32 = ((-(1 / 2) : ℝ) : EReal) := by
  simp [Ideal.ofBits, Ideal.ieee, -EReal.coe_mul]
  norm_num
theorem one_eq : Ideal.ofBits FTy.f32 0x3F800000#32 = ((1 : ℝ) : EReal) := by
  simp [Ideal.ofBits, Ideal.ieee, -EReal.coe_mul]
  norm_num

theorem rsqrt_real {a : ℝ} (h : 0 < a) : Ideal.rsqrt (a : EReal) = (((Real.sqrt a)⁻¹ : ℝ) : EReal) := by
  rw [Ideal.rsqrt_coe, if_neg (not_lt.2 h.le), if_neg h.ne']

theorem max_real (a b : ℝ) : max (a : EReal) (b : EReal) = ((max a b : ℝ) : EReal) :=
  (EReal.coe_strictMono.monotone.map_max).symm

/-- The arguments' real tables. -/
structure Tab where
  x : ℕ → ℕ → ℝ
  mix : ℕ → ℕ → ℝ
  ga : ℕ → ℝ
  g : ℕ → ℝ
  b : ℕ → ℝ
  sc : ℕ → ℝ
  sh : ℕ → ℝ
  w1 : ℕ → ℕ → ℝ
  w2 : ℕ → ℕ → ℝ
  dh : ℕ → ℕ → ℝ
  dr2 : ℕ → ℕ → ℝ

namespace Tab
variable (T : Tab)

/-- The norm's argument, row by row, -/
def r1 (r j : ℕ) : ℝ := al * T.x r j + (1 + T.ga j) * T.mix r j
/-- centred, -/
def xc (r j : ℕ) : ℝ := T.r1 r j - mean 1024 (T.r1 r)
/-- its variance, -/
def va (r : ℕ) : ℝ := mean 1024 (fun j => T.xc r j * T.xc r j) + ep
/-- the reciprocal deviation, -/
def s (r : ℕ) : ℝ := (Real.sqrt (T.va r))⁻¹
/-- and the normalised row. -/
def xh (r j : ℕ) : ℝ := T.xc r j * T.s r
/-- The norm's result, -/
def x1 (r j : ℕ) : ℝ := T.xh r j * T.g j + T.b j
/-- modulated, -/
def u (r j : ℕ) : ℝ := T.x1 r j * (1 + T.sc j) + T.sh j
/-- the MLP's inner row, -/
def p (r k : ℕ) : ℝ := ∑ j ∈ range 1024, T.u r j * T.w1 j k
/-- and the root of its activation. -/
def a (r k : ℕ) : ℝ := max (T.p r k) 0
/-- The gradient at the inner row, -/
def dp (r k : ℕ) : ℝ := (∑ c ∈ range 1024, T.dh r c * T.w2 k c) * (2 * T.a r k)
/-- at the modulated row, over the first `n` inner columns, -/
def acc (n r j : ℕ) : ℝ := ∑ k ∈ range n, T.dp r k * T.w1 j k
/-- over all of them, -/
def du (r j : ℕ) : ℝ := T.acc 4096 r j
/-- at the norm's result, -/
def dx1 (r j : ℕ) : ℝ := al * T.dr2 r j + T.du r j * (1 + T.sc j)
/-- at the normalised row, -/
def dxh (r j : ℕ) : ℝ := T.dx1 r j * T.g j
/-- and at the norm's argument. -/
def dr1 (r j : ℕ) : ℝ := T.s r * (T.dxh r j - mean 1024 (T.dxh r) - T.xh r j * mean 1024 fun j => T.dxh r j * T.xh r j)
/-- What row `r` adds to the sums, in the five columns' groups. -/
def row (q r j : ℕ) : ℝ :=
  if q = 0 then T.dr1 r j * T.mix r j else if q = 1 then T.du r j else if q = 2 then T.du r j * T.x1 r j
  else if q = 3 then T.dx1 r j * T.xh r j else T.dx1 r j

theorem va_pos (r : ℕ) : 0 < T.va r :=
  add_pos_of_nonneg_of_pos (div_nonneg (sum_nonneg fun _ _ => mul_self_nonneg _) (Nat.cast_nonneg _)) ep_gt

theorem s_sq (r : ℕ) : T.s r * T.s r = 1 / T.va r := by
  unfold s
  rw [← mul_inv, Real.mul_self_sqrt (T.va_pos r).le, one_div]

theorem xc_sum (r : ℕ) : ∑ j ∈ range 1024, T.xc r j = 0 := by
  unfold xc mean
  rw [sum_sub_distrib, sum_const, card_range, nsmul_eq_mul]
  push_cast
  ring

/-- The activation's derivative, where the reference takes it apart by the inner row's sign. -/
theorem dp_eq (r k : ℕ) : (if 0 < T.p r k then (∑ c ∈ range 1024, T.dh r c * T.w2 k c) * (2 * T.a r k) else 0) = T.dp r k := by
  split_ifs with h
  · rfl
  · unfold dp a
    rw [max_eq_right (not_lt.1 h)]
    ring

theorem dr1_eq (r j : ℕ) :
    (T.dxh r j * T.s r + T.xc r j * ((∑ j ∈ range 1024, T.xc r j * T.dxh r j) * (-(1 / 2) * (T.s r / T.va r)) / 1024)
        + (∑ j ∈ range 1024, T.xc r j * T.dxh r j) * (-(1 / 2) * (T.s r / T.va r)) / 1024 * T.xc r j)
      + -(∑ j ∈ range 1024, (T.dxh r j * T.s r + T.xc r j * ((∑ j ∈ range 1024, T.xc r j * T.dxh r j) * (-(1 / 2) * (T.s r / T.va r)) / 1024)
        + (∑ j ∈ range 1024, T.xc r j * T.dxh r j) * (-(1 / 2) * (T.s r / T.va r)) / 1024 * T.xc r j)) / 1024
      = T.dr1 r j := by
  have h := norm_bwd (n := 1024) (by norm_num) (T.va_pos r).ne' (T.s_sq r) (T.dxh r) (T.xc r) (T.xc_sum r) j
  push_cast at h
  exact h

end Tab

end Cert.MlpBwdIdeal.Value
-- ==== Proof.Mlp.Ref.lean ====
module

public import proofs.«01_k».proof.Proof.Gen.MlpBwdRefIdeal.Read
public import proofs.«01_k».proof.Proof.Mlp.Model
public import Idealize.ShloMosaic.Lib.WordCmp

/-! The reference's forward lines, read at an index, as the real tables. -/

@[expose] public section

set_option maxRecDepth 16384

noncomputable section

namespace Cert.MlpBwdIdeal.Value

open Finset Idealize.ShloMosaic
open Cert.AttnBwdIdeal.Value (t2 t2_eq)

variable (x0 x1 : (⟨2, ![4096, 1024]⟩ : Shape).Idx → EReal) (x2 x3 x4 x5 x6 : (⟨2, ![1, 1024]⟩ : Shape).Idx → EReal)
  (x7 : (⟨2, ![1024, 4096]⟩ : Shape).Idx → EReal) (x8 x9 x10 : (⟨2, ![4096, 1024]⟩ : Shape).Idx → EReal)

/-- The tables of the arguments. -/
def tab : Tab where
  x := t2 x0
  mix := t2 x1
  ga := t2 x2 0
  g := t2 x3 0
  b := t2 x4 0
  sc := t2 x5 0
  sh := t2 x6 0
  w1 := t2 x7
  w2 := t2 x8
  dh := t2 x9
  dr2 := t2 x10

/-- The table holds the arguments. -/
structure Holds (T : Tab) : Prop where
  h0 : ∀ (r : Fin 4096) (j : Fin 1024), x0 (ix2 r j) = ((T.x r j : ℝ) : EReal)
  h1 : ∀ (r : Fin 4096) (j : Fin 1024), x1 (ix2 r j) = ((T.mix r j : ℝ) : EReal)
  h2 : ∀ j : Fin 1024, x2 (ix2 0 j) = ((T.ga j : ℝ) : EReal)
  h3 : ∀ j : Fin 1024, x3 (ix2 0 j) = ((T.g j : ℝ) : EReal)
  h4 : ∀ j : Fin 1024, x4 (ix2 0 j) = ((T.b j : ℝ) : EReal)
  h5 : ∀ j : Fin 1024, x5 (ix2 0 j) = ((T.sc j : ℝ) : EReal)
  h6 : ∀ j : Fin 1024, x6 (ix2 0 j) = ((T.sh j : ℝ) : EReal)
  h7 : ∀ (j : Fin 1024) (k : Fin 4096), x7 (ix2 j k) = ((T.w1 j k : ℝ) : EReal)
  h8 : ∀ (k : Fin 4096) (j : Fin 1024), x8 (ix2 k j) = ((T.w2 k j : ℝ) : EReal)
  h9 : ∀ (r : Fin 4096) (j : Fin 1024), x9 (ix2 r j) = ((T.dh r j : ℝ) : EReal)
  h10 : ∀ (r : Fin 4096) (j : Fin 1024), x10 (ix2 r j) = ((T.dr2 r j : ℝ) : EReal)

/-- Finite arguments have a table. -/
theorem holds (f0 : ∀ i, ∃ a : ℝ, x0 i = a) (f1 : ∀ i, ∃ a : ℝ, x1 i = a) (f2 : ∀ i, ∃ a : ℝ, x2 i = a) (f3 : ∀ i, ∃ a : ℝ, x3 i = a)
    (f4 : ∀ i, ∃ a : ℝ, x4 i = a) (f5 : ∀ i, ∃ a : ℝ, x5 i = a) (f6 : ∀ i, ∃ a : ℝ, x6 i = a) (f7 : ∀ i, ∃ a : ℝ, x7 i = a)
    (f8 : ∀ i, ∃ a : ℝ, x8 i = a) (f9 : ∀ i, ∃ a : ℝ, x9 i = a) (f10 : ∀ i, ∃ a : ℝ, x10 i = a) :
    Holds x0 x1 x2 x3 x4 x5 x6 x7 x8 x9 x10 (tab x0 x1 x2 x3 x4 x5 x6 x7 x8 x9 x10) :=
  ⟨t2_eq f0, t2_eq f1, t2_eq f2 0, t2_eq f3 0, t2_eq f4 0, t2_eq f5 0, t2_eq f6 0, t2_eq f7, t2_eq f8, t2_eq f9, t2_eq f10⟩

end Cert.MlpBwdIdeal.Value

namespace Cert.MlpBwdRefIdeal.Read

open Finset Cert.MlpBwdRefIdeal Idealize.ShloMosaic Idealize.ShloMosaic.TcCoe Idealize.SL.Sem
open Cert.MlpBwdIdeal.Value
open Cert.AttnBwdIdeal.Value (sum_real sum_coe div_real)

theorem zero_bits : FloatOps.ofBits (F := Ideal) .f32 0x00000000#32 = (0 : EReal) := by simp [Ideal.ofBits, Ideal.ieee]

variable {x0 x1 : FVec Ideal S4096x1024 .f32} {x2 x3 x4 x5 x6 : FVec Ideal S1x1024 .f32} {x7 : FVec Ideal S1024x4096 .f32}
  {x8 x9 x10 : FVec Ideal S4096x1024 .f32} {T : Tab}
variable (f : Holds x0 x1 x2 x3 x4 x5 x6 x7 x8 x9 x10 T) (r : Fin 4096) (j : Fin 1024)

include f

theorem ga_eq : val_main_v3 (F := Ideal) x2 (ix2 0 j) = ((1 + T.ga j : ℝ) : EReal) := by
  pointwise [val_main_v3, val_main_v2, val_main_cst_0]
  rw [f.h2]
  rfl

theorem r1_eq : val_main_v6 (F := Ideal) x0 x1 x2 (ix2 r j) = ((T.r1 r j : ℝ) : EReal) := by
  have e := ga_eq f j
  unfold val_main_v6 val_main_v5 val_main_v4
  generalize val_main_v3 (F := Ideal) x2 = a at *
  pointwise [val_main_v1, val_main_v0, val_main_cst]
  rw [e, f.h0, f.h1, al_eq]
  rfl

theorem mu_eq : val_main_v10 (F := Ideal) x0 x1 x2 (ix2 r 0) = ((mean 1024 (T.r1 r) : ℝ) : EReal) := by
  have e := r1_eq f r
  unfold val_main_v10 val_main_v8 val_main_v7
  generalize val_main_v6 (F := Ideal) x0 x1 x2 = a at *
  pointwise [val_main_v9, val_main_cst_2]
  rw [show val_main_cst_1 (F := Ideal) _ = 0 from zero_bits, zero_add, sum_real e, n_eq, div_real (by norm_num)]
  rfl

theorem xc_eq : val_main_v12 (F := Ideal) x0 x1 x2 (ix2 r j) = ((T.xc r j : ℝ) : EReal) := by
  have e := r1_eq f r j
  have e' := mu_eq f r
  unfold val_main_v12 val_main_v11
  generalize val_main_v6 (F := Ideal) x0 x1 x2 = a at *
  generalize val_main_v10 (F := Ideal) x0 x1 x2 = b at *
  pointwise
  rw [e, e']
  rfl

theorem va_eq : val_main_v19 (F := Ideal) x0 x1 x2 (ix2 r 0) = ((T.va r : ℝ) : EReal) := by
  have e := xc_eq f r
  unfold val_main_v19 val_main_v17 val_main_v15 val_main_v14 val_main_v13
  generalize val_main_v12 (F := Ideal) x0 x1 x2 = a at *
  pointwise [val_main_v16, val_main_cst_4, val_main_v18, val_main_cst_5]
  rw [show val_main_cst_3 (F := Ideal) _ = 0 from zero_bits, zero_add, sum_coe e e, n_eq, div_real (by norm_num), ep_eq]
  rfl

theorem s_eq : val_main_v20 (F := Ideal) x0 x1 x2 (ix2 r 0) = ((T.s r : ℝ) : EReal) := by
  have e := va_eq f r
  unfold val_main_v20
  generalize val_main_v19 (F := Ideal) x0 x1 x2 = a at *
  pointwise
  rw [e]
  exact rsqrt_real (T.va_pos r)

theorem xh_eq : val_main_v25 (F := Ideal) x0 x1 x2 (ix2 r j) = ((T.xh r j : ℝ) : EReal) := by
  have e := xc_eq f r j
  have e' := s_eq f r
  unfold val_main_v25 val_main_v24
  generalize val_main_v12 (F := Ideal) x0 x1 x2 = a at *
  generalize val_main_v20 (F := Ideal) x0 x1 x2 = b at *
  pointwise
  rw [e, e']
  rfl

theorem x1_eq : val_main_v29 (F := Ideal) x0 x1 x2 x3 x4 (ix2 r j) = ((T.x1 r j : ℝ) : EReal) := by
  have e := xh_eq f r j
  unfold val_main_v29 val_main_v27 val_main_v26 val_main_v28
  generalize val_main_v25 (F := Ideal) x0 x1 x2 = a at *
  pointwise
  rw [e, f.h3, f.h4]
  rfl

theorem sc_eq : val_main_v31 (F := Ideal) x5 (ix2 0 j) = ((1 + T.sc j : ℝ) : EReal) := by
  pointwise [val_main_v31, val_main_v30, val_main_cst_7]
  rw [f.h5]
  rfl

theorem u_eq : val_main_v35 (F := Ideal) x0 x1 x2 x3 x4 x5 x6 (ix2 r j) = ((T.u r j : ℝ) : EReal) := by
  have e := x1_eq f r j
  have e' := sc_eq f j
  unfold val_main_v35 val_main_v34 val_main_v33 val_main_v32
  generalize val_main_v29 (F := Ideal) x0 x1 x2 x3 x4 = a at *
  generalize val_main_v31 (F := Ideal) x5 = b at *
  pointwise
  rw [e, e', f.h6]
  rfl

theorem p_eq (k : Fin 4096) : val_main_v36 (F := Ideal) x0 x1 x2 x3 x4 x5 x6 x7 (ix2 r k) = ((T.p r k : ℝ) : EReal) := by
  have e := u_eq f r
  have e' := f.h7
  unfold val_main_v36
  generalize val_main_v35 (F := Ideal) x0 x1 x2 x3 x4 x5 x6 = a at *
  pointwise
  exact sum_coe (f := T.u r) (g := fun j => T.w1 j k) e fun i => e' i k

theorem a_eq (k : Fin 4096) : val_main_v37 (F := Ideal) x0 x1 x2 x3 x4 x5 x6 x7 (ix2 r k) = ((T.a r k : ℝ) : EReal) := by
  rw [val_main_v37_apply, p_eq f r k, val_main_call0_v0_apply, val_main_call0_cst_apply, zero_bits]
  exact max_real (T.p r k) 0

end Cert.MlpBwdRefIdeal.Read
-- ==== Proof.Mlp.Ref2.lean ====
module

public import proofs.«01_k».proof.Proof.Mlp.Ref

/-! The reference's gradient lines, read at an index, as the real tables. -/

@[expose] public section

set_option maxRecDepth 16384

noncomputable section

namespace Cert.MlpBwdRefIdeal.Read

open Finset Cert.MlpBwdRefIdeal Idealize.ShloMosaic Idealize.ShloMosaic.TcCoe Idealize.SL.Sem
open Cert.MlpBwdIdeal.Value
open Cert.AttnBwdIdeal.Value (sum_real sum_coe div_real)

variable {x0 x1 : FVec Ideal S4096x1024 .f32} {x2 x3 x4 x5 x6 : FVec Ideal S1x1024 .f32} {x7 : FVec Ideal S1024x4096 .f32}
  {x8 x9 x10 : FVec Ideal S4096x1024 .f32} {T : Tab}
variable (f : Holds x0 x1 x2 x3 x4 x5 x6 x7 x8 x9 x10 T) (r : Fin 4096) (j : Fin 1024)

include f

theorem dp_line (k : Fin 4096) : val_main_v48 (F := Ideal) x0 x1 x2 x3 x4 x5 x6 x7 x8 x9 (ix2 r k) = ((T.dp r k : ℝ) : EReal) := by
  have e := p_eq f r k
  have e' := a_eq f r k
  have h : val_main_v45 (F := Ideal) x8 x9 (ix2 r k) = ((∑ c ∈ range 1024, T.dh r c * T.w2 k c : ℝ) : EReal) := by
    pointwise [val_main_v45]
    exact sum_coe (f := T.dh r) (g := T.w2 k) (f.h9 r) (f.h8 k)
  unfold val_main_v48 val_main_v46 val_main_v43 val_main_v39
  generalize val_main_v36 (F := Ideal) x0 x1 x2 x3 x4 x5 x6 x7 = a at *
  generalize val_main_v37 (F := Ideal) x0 x1 x2 x3 x4 x5 x6 x7 = b at *
  generalize val_main_v45 (F := Ideal) x8 x9 = d at *
  pointwise [val_main_v38, val_main_cst_8, val_main_v42, val_main_cst_10, val_main_v47, val_main_cst_11]
  rw [e, e', h, two_eq, ← T.dp_eq]
  by_cases hp : 0 < T.p r k
  · rw [if_pos hp, if_pos (EReal.coe_pos.2 hp)]
    rfl
  · rw [if_neg hp, if_neg fun h => hp (EReal.coe_pos.1 h)]
    rfl

theorem du_line : val_main_v49 (F := Ideal) x0 x1 x2 x3 x4 x5 x6 x7 x8 x9 (ix2 r j) = ((T.du r j : ℝ) : EReal) := by
  have e := dp_line f r
  unfold val_main_v49
  generalize val_main_v48 (F := Ideal) x0 x1 x2 x3 x4 x5 x6 x7 x8 x9 = a at *
  pointwise
  exact sum_coe (f := T.dp r) (g := T.w1 j) e (f.h7 j)

theorem dx1_line : val_main_v59 (F := Ideal) x0 x1 x2 x3 x4 x5 x6 x7 x8 x9 x10 (ix2 r j) = ((T.dx1 r j : ℝ) : EReal) := by
  have e := du_line f r j
  have e' := sc_eq f j
  unfold val_main_v59 val_main_v58 val_main_v56 val_main_v55
  generalize val_main_v49 (F := Ideal) x0 x1 x2 x3 x4 x5 x6 x7 x8 x9 = a at *
  generalize val_main_v31 (F := Ideal) x5 = b at *
  pointwise [val_main_v57, val_main_cst_14]
  rw [e, e', f.h10, al_eq]
  rfl

theorem dxh_line : val_main_v66 (F := Ideal) x0 x1 x2 x3 x4 x5 x6 x7 x8 x9 x10 (ix2 r j) = ((T.dxh r j : ℝ) : EReal) := by
  have e := dx1_line f r j
  unfold val_main_v66 val_main_v65
  generalize val_main_v59 (F := Ideal) x0 x1 x2 x3 x4 x5 x6 x7 x8 x9 x10 = a at *
  pointwise
  rw [e, f.h3]
  rfl

/-- What reaches the squared entries. -/
theorem w_line : val_main_v75 (F := Ideal) x0 x1 x2 x3 x4 x5 x6 x7 x8 x9 x10 (ix1 r)
    = (((∑ j ∈ range 1024, T.xc r j * T.dxh r j) * (-(1 / 2) * (T.s r / T.va r)) / 1024 : ℝ) : EReal) := by
  have e := dxh_line f r
  have e1 := xc_eq f r
  have e2 := s_eq f r
  have e3 := va_eq f r
  unfold val_main_v75 val_main_v74 val_main_v72 val_main_v69 val_main_v68 val_main_v67 val_main_v23 val_main_v21
  generalize val_main_v66 (F := Ideal) x0 x1 x2 x3 x4 x5 x6 x7 x8 x9 x10 = a at *
  generalize val_main_v12 (F := Ideal) x0 x1 x2 = b at *
  generalize val_main_v20 (F := Ideal) x0 x1 x2 = c at *
  generalize val_main_v19 (F := Ideal) x0 x1 x2 = d at *
  pointwise [val_main_v22, val_main_cst_6, val_main_v73, val_main_cst_18]
  rw [show val_main_cst_19 (F := Ideal) _ = 0 from zero_bits, show val_main_cst_17 (F := Ideal) _ = 0 from zero_bits]
  refine (zero_add _).trans ((Fin.sum_univ_one _).trans ?_)
  rw [zero_add, sum_coe e1 e, n_eq, half_eq, show c (ix2 r 0) = _ from e2, show d (ix2 r 0) = _ from e3, div_real (T.va_pos r).ne', ← EReal.coe_mul, ← EReal.coe_mul, div_real (by norm_num)]

theorem d80_line : val_main_v80 (F := Ideal) x0 x1 x2 x3 x4 x5 x6 x7 x8 x9 x10 (ix2 r j)
    = ((T.dxh r j * T.s r + T.xc r j * ((∑ j ∈ range 1024, T.xc r j * T.dxh r j) * (-(1 / 2) * (T.s r / T.va r)) / 1024)
        + (∑ j ∈ range 1024, T.xc r j * T.dxh r j) * (-(1 / 2) * (T.s r / T.va r)) / 1024 * T.xc r j : ℝ) : EReal) := by
  have e := dxh_line f r j
  have e1 := xc_eq f r j
  have e2 := s_eq f r
  have e3 := w_line f r
  unfold val_main_v80 val_main_v79 val_main_v78 val_main_v77 val_main_v76 val_main_v71 val_main_v70
  generalize val_main_v66 (F := Ideal) x0 x1 x2 x3 x4 x5 x6 x7 x8 x9 x10 = a at *
  generalize val_main_v12 (F := Ideal) x0 x1 x2 = b at *
  generalize val_main_v20 (F := Ideal) x0 x1 x2 = c at *
  generalize val_main_v75 (F := Ideal) x0 x1 x2 x3 x4 x5 x6 x7 x8 x9 x10 = d at *
  pointwise
  rw [e, e1, e2, e3]
  rfl

theorem dr1_line : val_main_v88 (F := Ideal) x0 x1 x2 x3 x4 x5 x6 x7 x8 x9 x10 (ix2 r j) = ((T.dr1 r j : ℝ) : EReal) := by
  have e := d80_line f r
  rw [← T.dr1_eq]
  unfold val_main_v88 val_main_v87 val_main_v86 val_main_v85 val_main_v83 val_main_v82 val_main_v81
  generalize val_main_v80 (F := Ideal) x0 x1 x2 x3 x4 x5 x6 x7 x8 x9 x10 = a at *
  pointwise [val_main_v84, val_main_cst_21]
  rw [show val_main_cst_22 (F := Ideal) _ = 0 from zero_bits, show val_main_cst_20 (F := Ideal) _ = 0 from zero_bits]
  have e' : ∀ x : Fin 1024, -a (ix2 r x) = ((-(T.dxh r x * T.s r + T.xc r x * ((∑ j ∈ range 1024, T.xc r j * T.dxh r j) * (-(1 / 2) * (T.s r / T.va r)) / 1024)
      + (∑ j ∈ range 1024, T.xc r j * T.dxh r j) * (-(1 / 2) * (T.s r / T.va r)) / 1024 * T.xc r x) : ℝ) : EReal) := fun x => by
    rw [e x, EReal.coe_neg]
  refine (congrArg (a (ix2 r j) + ·) ((zero_add _).trans (Fin.sum_univ_one _))).trans ?_
  rw [zero_add, sum_real (f := fun x => -(T.dxh r x * T.s r + T.xc r x * ((∑ j ∈ range 1024, T.xc r j * T.dxh r j) * (-(1 / 2) * (T.s r / T.va r)) / 1024)
      + (∑ j ∈ range 1024, T.xc r j * T.dxh r j) * (-(1 / 2) * (T.s r / T.va r)) / 1024 * T.xc r x)) e', n_eq, div_real (by norm_num), e, sum_neg_distrib]
  rfl

theorem dmix_line : val_main_v95 (F := Ideal) x0 x1 x2 x3 x4 x5 x6 x7 x8 x9 x10 (ix2 r j) = (((1 + T.ga j) * T.dr1 r j : ℝ) : EReal) := by
  have e := dr1_line f r j
  have e' := ga_eq f j
  unfold val_main_v95 val_main_v90 val_main_v89
  generalize val_main_v88 (F := Ideal) x0 x1 x2 x3 x4 x5 x6 x7 x8 x9 x10 = a at *
  generalize val_main_v3 (F := Ideal) x2 = b at *
  pointwise
  rw [e, e']
  rfl

theorem dga_line : val_main_v93 (F := Ideal) x0 x1 x2 x3 x4 x5 x6 x7 x8 x9 x10 (ix2 0 j) = ((∑ r ∈ range 4096, T.row 0 r j : ℝ) : EReal) := by
  have e := fun r => dr1_line f r j
  unfold val_main_v93 val_main_v92 val_main_v91
  generalize val_main_v88 (F := Ideal) x0 x1 x2 x3 x4 x5 x6 x7 x8 x9 x10 = a at *
  pointwise
  rw [show val_main_cst_23 (F := Ideal) _ = 0 from zero_bits, zero_add]
  exact sum_coe (f := fun r => T.dr1 r j) (g := fun r => T.mix r j) e fun r => f.h1 r j

theorem dsh_line : val_main_v51 (F := Ideal) x0 x1 x2 x3 x4 x5 x6 x7 x8 x9 (ix2 0 j) = ((∑ r ∈ range 4096, T.row 1 r j : ℝ) : EReal) := by
  have e := fun r => du_line f r j
  unfold val_main_v51 val_main_v50
  generalize val_main_v49 (F := Ideal) x0 x1 x2 x3 x4 x5 x6 x7 x8 x9 = a at *
  pointwise
  rw [show val_main_cst_12 (F := Ideal) _ = 0 from zero_bits, zero_add]
  exact sum_real (f := fun r => T.du r j) e

theorem dsc_line : val_main_v54 (F := Ideal) x0 x1 x2 x3 x4 x5 x6 x7 x8 x9 (ix2 0 j) = ((∑ r ∈ range 4096, T.row 2 r j : ℝ) : EReal) := by
  have e := fun r => du_line f r j
  have e' := fun r => x1_eq f r j
  unfold val_main_v54 val_main_v53 val_main_v52
  generalize val_main_v49 (F := Ideal) x0 x1 x2 x3 x4 x5 x6 x7 x8 x9 = a at *
  generalize val_main_v29 (F := Ideal) x0 x1 x2 x3 x4 = b at *
  pointwise
  rw [show val_main_cst_13 (F := Ideal) _ = 0 from zero_bits, zero_add]
  refine (sum_coe (f := fun r => T.x1 r j) (g := fun r => T.du r j) e' e).trans (congrArg _ (sum_congr rfl fun r _ => mul_comm _ _))

theorem dg_line : val_main_v64 (F := Ideal) x0 x1 x2 x3 x4 x5 x6 x7 x8 x9 x10 (ix2 0 j) = ((∑ r ∈ range 4096, T.row 3 r j : ℝ) : EReal) := by
  have e := fun r => dx1_line f r j
  have e' := fun r => xh_eq f r j
  unfold val_main_v64 val_main_v63 val_main_v62
  generalize val_main_v59 (F := Ideal) x0 x1 x2 x3 x4 x5 x6 x7 x8 x9 x10 = a at *
  generalize val_main_v25 (F := Ideal) x0 x1 x2 = b at *
  pointwise
  rw [show val_main_cst_16 (F := Ideal) _ = 0 from zero_bits, zero_add]
  refine (sum_coe (f := fun r => T.xh r j) (g := fun r => T.dx1 r j) e' e).trans (congrArg _ (sum_congr rfl fun r _ => mul_comm _ _))

theorem db_line : val_main_v61 (F := Ideal) x0 x1 x2 x3 x4 x5 x6 x7 x8 x9 x10 (ix2 0 j) = ((∑ r ∈ range 4096, T.row 4 r j : ℝ) : EReal) := by
  have e := fun r => dx1_line f r j
  unfold val_main_v61 val_main_v60
  generalize val_main_v59 (F := Ideal) x0 x1 x2 x3 x4 x5 x6 x7 x8 x9 x10 = a at *
  pointwise
  rw [show val_main_cst_15 (F := Ideal) _ = 0 from zero_bits, zero_add]
  exact sum_real (f := fun r => T.dx1 r j) e

/-- The five rows of sums, side by side. -/
theorem small_line (q : Fin 5) : val_main_v96 (F := Ideal) x0 x1 x2 x3 x4 x5 x6 x7 x8 x9 x10 (ix2 0 (⟨1024 * q.val + j.val, by omega⟩ : Fin 5120))
    = ((∑ r ∈ range 4096, T.row q r j : ℝ) : EReal) := by
  have e0 := dga_line f j
  have e1 := dsh_line f j
  have e2 := dsc_line f j
  have e3 := dg_line f j
  have e4 := db_line f j
  unfold val_main_v96
  generalize val_main_v93 (F := Ideal) x0 x1 x2 x3 x4 x5 x6 x7 x8 x9 x10 = a0 at *
  generalize val_main_v51 (F := Ideal) x0 x1 x2 x3 x4 x5 x6 x7 x8 x9 = a1 at *
  generalize val_main_v54 (F := Ideal) x0 x1 x2 x3 x4 x5 x6 x7 x8 x9 = a2 at *
  generalize val_main_v64 (F := Ideal) x0 x1 x2 x3 x4 x5 x6 x7 x8 x9 x10 = a3 at *
  generalize val_main_v61 (F := Ideal) x0 x1 x2 x3 x4 x5 x6 x7 x8 x9 x10 = a4 at *
  fin_cases q
  · rw [← e0]
    pointwise
  · rw [← e1]
    pointwise
  · rw [← e2]
    pointwise
    rw [dif_neg (by omega), dif_neg (by omega), dif_pos (by omega)]
    exact congrArg (fun i => a2 (ix2 0 i)) (Fin.ext (by dsimp only; omega))
  · rw [← e3]
    pointwise
    rw [dif_neg (by omega), dif_neg (by omega), dif_neg (by omega), dif_pos (by omega)]
    exact congrArg (fun i => a3 (ix2 0 i)) (Fin.ext (by dsimp only; omega))
  · rw [← e4]
    pointwise
    rw [dif_neg (by omega), dif_neg (by omega), dif_neg (by omega), dif_neg (by omega)]
    exact congrArg (fun i => a4 (ix2 0 i)) (Fin.ext (by dsimp only; omega))

end Cert.MlpBwdRefIdeal.Read
-- ==== Proof.Mlp.Host.lean ====
module

public import proofs.«01_k».proof.Proof.Gen.MlpBwdIdeal.Value
public import Idealize.ShloMosaic.Lib.Pipeline.ValueKit
public import Idealize.ShloMosaic.Lib.StableHlo.ReadAt
public import proofs.«01_k».proof.Proof.Mlp.Ref2

/-! The kernel's host lines, read at an index. -/

@[expose] public section

set_option maxRecDepth 16384

noncomputable section

namespace Cert.MlpBwdIdeal.Value

open Cert.MlpBwdIdeal Cert.MlpBwdIdeal.Gen Idealize.ShloMosaic Idealize.ShloMosaic.TcCoe Idealize.SL.Sem

variable (m : (ℓ : Loc nD τ sig) → Buf (Elt Ideal) ℓ)

section Lines

abbrev h12 (c : Dev nD) : FVec Ideal S4096x1024 .f32 := V m c main_v12
abbrev h20 (c : Dev nD) : FVec Ideal S4096x1 .f32 := V m c main_v20
abbrev h22 (c : Dev nD) : FVec Ideal S4096x1024 .f32 := V m c main_v22
abbrev h26 (c : Dev nD) : FVec Ideal S4096x1024 .f32 := V m c main_v26
abbrev h32 (c : Dev nD) : FVec Ideal S4096x1024 .f32 := V m c main_v32
abbrev h36 (c : Dev nD) : FVec Ideal S4096x4096 .bf16 := V m c main_v36
abbrev h41 (c : Dev nD) : FVec Ideal S8x512x1024 .bf16 := V m c main_v41
abbrev h42 (c : Dev nD) : FVec Ideal S4096x1024 .bf16 := V m c main_v42
abbrev h44 (c : Dev nD) : FVec Ideal S8x512x512 .bf16 := V m c main_v44
abbrev h46 (c : Dev nD) : FVec Ideal S8x512x512 .bf16 := V m c main_v46
abbrev h47 (c : Dev nD) : FVec Ideal S4096x128 .f32 := V m c main_v47
abbrev g7 (c : Dev nD) : FVec Ideal S1024x4096 .f32 := V m c main_arg7
abbrev g8 (c : Dev nD) : FVec Ideal S4096x1024 .f32 := V m c main_arg8
abbrev g9 (c : Dev nD) : FVec Ideal S4096x1024 .f32 := V m c main_arg9

open Cert.MlpBwdRefIdeal.Read in
theorem h12_eq (c : Dev nD) : h12 m c = val_main_v12 (F := Ideal) (V m c main_arg0) (V m c main_arg1) (V m c main_arg2) := by
  unfold_abbrev_sides
  after_reads_simp
  rfl

open Cert.MlpBwdRefIdeal.Read in
theorem h20_eq (c : Dev nD) : h20 m c = val_main_v20 (F := Ideal) (V m c main_arg0) (V m c main_arg1) (V m c main_arg2) := by
  unfold_abbrev_sides
  after_reads_simp
  rfl

theorem h22_eq (c : Dev nD) : h22 m c = mulf (h12 m c) (broadcastInDim S4096x1024 ![0, 1] bcast_S4096x1_S4096x1024_0_1 (h20 m c)) := by
  unfold_abbrev_sides
  after_reads_simp

theorem h26_eq (c : Dev nD) : h26 m c = addf (mulf (h22 m c) (broadcastInDim S4096x1024 ![0, 1] bcast_S1x1024_S4096x1024_0_1 (V m c main_arg3)))
    (broadcastInDim S4096x1024 ![0, 1] bcast_S1x1024_S4096x1024_0_1 (V m c main_arg4)) := by
  unfold_abbrev_sides
  after_reads_simp

theorem h32_eq (c : Dev nD) : h32 m c = addf (mulf (h26 m c) (broadcastInDim S4096x1024 ![0, 1] bcast_S1x1024_S4096x1024_0_1
      (addf (broadcastInDim S1x1024 ![] bcast_S_S1x1024 (constant S_ .f32 0x3F800000#32)) (V m c main_arg5))))
    (broadcastInDim S4096x1024 ![0, 1] bcast_S1x1024_S4096x1024_0_1 (V m c main_arg6)) := by
  unfold_abbrev_sides
  after_reads_simp

theorem h36_eq (c : Dev nD) : h36 m c = truncf .bf16 (maximumf (Host.dotGeneral dot_S4096x1024_S1024x4096_S4096x4096_1_0_0_1_n_n none (h32 m c) (g7 m c))
    (broadcastInDim S4096x4096 ![] bcast_S_S4096x4096 (constant S_ .f32 0x00000000#32))) bitsLt_bf16_f32 := by
  unfold_abbrev_sides
  after_reads_simp

abbrev h39 (c : Dev nD) : FVec Ideal S2x8x512x512 .bf16 := V m c main_v39

theorem h41_line (c : Dev nD) : h41 m c = truncf .bf16 (shapeCast S8x512x1024 (g8 m c) shapeCasts_S4096x1024_S8x512x1024) bitsLt_bf16_f32 := by
  unfold_abbrev_sides
  after_reads_simp
  rfl

theorem h42_line (c : Dev nD) : h42 m c = truncf .bf16 (g9 m c) bitsLt_bf16_f32 := by
  unfold_abbrev_sides
  after_reads_simp

theorem h39_line (c : Dev nD) : h39 m c = truncf .bf16 (transpose S2x8x512x512 [0, 2, 1, 3]
    (shapeCast S2x512x8x512 (g7 m c) shapeCasts_S1024x4096_S2x512x8x512) transposes_S2x512x8x512_S2x8x512x512_0_2_1_3) bitsLt_bf16_f32 := by
  unfold_abbrev_sides
  after_reads_simp
  rfl

theorem h44_line (c : Dev nD) : h44 m c = shapeCast S8x512x512 (extractStridedSlice S1x8x512x512 ![0, 0, 0, 0] (h39 m c)
    slices_S2x8x512x512_S1x8x512x512_0_0_0_0) shapeCasts_S1x8x512x512_S8x512x512 := by
  unfold_abbrev_sides
  after_reads_simp
  rfl

theorem h46_line (c : Dev nD) : h46 m c = shapeCast S8x512x512 (extractStridedSlice S1x8x512x512 ![1, 0, 0, 0] (h39 m c)
    slices_S2x8x512x512_S1x8x512x512_1_0_0_0) shapeCasts_S1x8x512x512_S8x512x512 := by
  unfold_abbrev_sides
  after_reads_simp
  rfl

theorem h41_eq (c : Dev nD) (n : Fin 8) (k : Fin 512) (j : Fin 1024) :
    h41 m c (ix3 n k j) = g8 m c (ix2 ⟨512 * n.val + k.val, by omega⟩ j) := by
  rw [h41_line]
  generalize g8 m c = a
  pointwise
  simp only [Nat.mul_comm _ 512]

theorem h42_eq (c : Dev nD) (r : Fin 4096) (j : Fin 1024) : h42 m c (ix2 r j) = g9 m c (ix2 r j) := by
  rw [h42_line]
  generalize g9 m c = a
  pointwise

theorem h39_eq (c : Dev nD) (b : Fin 2) (n : Fin 8) (j k : Fin 512) :
    h39 m c (ix4 b n j k) = g7 m c (ix2 ⟨512 * b.val + j.val, by omega⟩ ⟨512 * n.val + k.val, by omega⟩) := by
  rw [h39_line]
  generalize g7 m c = a
  pointwise
  simp only [Nat.mul_comm _ 512]

theorem h44_eq (c : Dev nD) (n : Fin 8) (j k : Fin 512) : h44 m c (ix3 n j k) = h39 m c (ix4 0 n j k) := by
  rw [h44_line]
  generalize h39 m c = a
  pointwise

theorem h46_eq (c : Dev nD) (n : Fin 8) (j k : Fin 512) : h46 m c (ix3 n j k) = h39 m c (ix4 1 n j k) := by
  rw [h46_line]
  generalize h39 m c = a
  pointwise

theorem h47_eq (c : Dev nD) (r : Fin 4096) (k : Fin 128) : h47 m c (ix2 r k) = h20 m c (ix2 r 0) := by
  have e : h47 m c = broadcastInDim S4096x128 ![0, 1] bcast_S4096x1_S4096x128_0_1 (h20 m c) := by
    unfold_abbrev_sides
    after_reads_simp
  rw [e]
  generalize h20 m c = a
  pointwise

end Lines

section Values

open Cert.MlpBwdRefIdeal.Read (xc_eq s_eq ga_eq)

variable {T : Tab} {c : Dev nD}
variable (f : Holds (V m c main_arg0) (V m c main_arg1) (V m c main_arg2) (V m c main_arg3) (V m c main_arg4) (V m c main_arg5) (V m c main_arg6)
  (V m c main_arg7) (V m c main_arg8) (V m c main_arg9) (V m c main_arg10) T) (r : Fin 4096) (j : Fin 1024)

include f

theorem h20_val : h20 m c (ix2 r 0) = ((T.s r : ℝ) : EReal) := by
  rw [h20_eq]
  exact s_eq f r

theorem h22_val : h22 m c (ix2 r j) = ((T.xh r j : ℝ) : EReal) := by
  have e := h20_val m f r
  have e' : h12 m c (ix2 r j) = ((T.xc r j : ℝ) : EReal) := by
    rw [h12_eq]
    exact xc_eq f r j
  rw [h22_eq]
  generalize h20 m c = a at *
  generalize h12 m c = b at *
  pointwise
  rw [e, e']
  rfl

theorem h26_val : h26 m c (ix2 r j) = ((T.x1 r j : ℝ) : EReal) := by
  have e := h22_val m f r j
  have e3 := f.h3
  have e4 := f.h4
  rw [h26_eq]
  generalize h22 m c = a at *
  generalize V m c main_arg3 = x at *
  generalize V m c main_arg4 = y at *
  pointwise
  rw [e, e3, e4]
  rfl

theorem h32_val : h32 m c (ix2 r j) = ((T.u r j : ℝ) : EReal) := by
  have e := h26_val m f r j
  have e3 := f.h5
  have e4 := f.h6
  rw [h32_eq]
  generalize h26 m c = a at *
  generalize V m c main_arg5 = x at *
  generalize V m c main_arg6 = y at *
  pointwise
  rw [e, e3, e4]
  rfl

theorem h36_val (k : Fin 4096) : h36 m c (ix2 r k) = ((T.a r k : ℝ) : EReal) := by
  have e := h32_val m f r
  have e' := f.h7
  rw [h36_eq]
  unfold g7
  generalize h32 m c = a at *
  generalize V m c main_arg7 = x at *
  pointwise
  rw [Cert.AttnBwdIdeal.Value.sum_coe (f := T.u r) (g := fun j => T.w1 j k) e fun i => e' i k]
  exact max_real (T.p r k) 0

theorem h41_val (n : Fin 8) (k : Fin 512) : h41 m c (ix3 n k j) = ((T.w2 (512 * n + k) j : ℝ) : EReal) := by
  rw [h41_eq]
  exact f.h8 ⟨512 * n + k, by omega⟩ j

theorem h42_val : h42 m c (ix2 r j) = ((T.dh r j : ℝ) : EReal) := by
  rw [h42_eq]
  exact f.h9 r j

theorem h44_val (n : Fin 8) (i k : Fin 512) : h44 m c (ix3 n i k) = ((T.w1 i (512 * n + k) : ℝ) : EReal) := by
  rw [h44_eq, h39_eq]
  refine (f.h7 ⟨512 * (0 : Fin 2).val + i.val, _⟩ ⟨512 * n + k, by omega⟩).trans ?_
  simp

theorem h46_val (n : Fin 8) (i k : Fin 512) : h46 m c (ix3 n i k) = ((T.w1 (512 + i) (512 * n + k) : ℝ) : EReal) := by
  rw [h46_eq, h39_eq]
  refine (f.h7 ⟨512 * (1 : Fin 2).val + i.val, _⟩ ⟨512 * n + k, by omega⟩).trans ?_
  simp

theorem h47_val (k : Fin 128) : h47 m c (ix2 r k) = ((T.s r : ℝ) : EReal) := by
  rw [h47_eq]
  exact h20_val m f r

end Values

end Cert.MlpBwdIdeal.Value
-- ==== Proof.Mlp.Pay.lean ====
module

public import proofs.«01_k».proof.Proof.Gen.MlpBwdIdeal.Skeleton
public import proofs.«01_k».proof.Proof.Mlp.Model
public import Idealize.ShloMosaic.Lib.Pointwise

/-! What the kernel computes of its blocks, where they hold reals. -/

@[expose] public section

set_option maxRecDepth 16384

noncomputable section

namespace Cert.MlpBwdIdeal.Value

open Finset Cert.MlpBwdIdeal Cert.MlpBwdIdeal.Gen Idealize.ShloMosaic Idealize.ShloMosaic.TcCoe Idealize.SL.Sem
open Cert.AttnBwdIdeal.Value (sum_real sum_coe div_real)

section Slabs

variable {D W A : ℕ → ℕ → ℝ}

/-- The gradient at one slab of the inner row. -/
theorem slab_real {v9 : FVec Ideal S512x1024 .bf16} {v28 : Vec Ideal S1x512x1024 .bf16} {v31 : Vec Ideal S512x512 .bf16}
    (h9 : ∀ (r : Fin 512) (c : Fin 1024), v9 (ix2 r c) = ((D r c : ℝ) : EReal)) (h28 : ∀ (k : Fin 512) (c : Fin 1024), v28 (ix3 0 k c) = ((W k c : ℝ) : EReal))
    (h31 : ∀ r k : Fin 512, v31 (ix2 r k) = ((A r k : ℝ) : EReal)) (r k : Fin 512) :
    k0_pay16 v9 v28 v31 (ix2 r k) = (((∑ c ∈ range 1024, D r c * W k c) * (2 * A r k) : ℝ) : EReal) := by
  pointwise [k0_pay16]
  rw [sum_coe (f := D r) (g := W k) (h9 r) (h28 k), two_eq, h31]
  rfl

theorem pay13_eq (v8 : Vec Ideal S512x1024 .bf16) : k0_pay13 v8 = v8 := by
  funext i
  pointwise [k0_pay13]

theorem pay14_eq (v8 : Vec Ideal S512x1024 .bf16) (v10 : Vec Ideal S1x512x1024 .bf16) (v13 : Vec Ideal S512x512 .bf16) :
    k0_pay14 v8 v10 v13 = k0_pay16 v8 v10 v13 := congrArg (fun v => k0_pay16 v v10 v13) (pay13_eq v8)

theorem pay18_eq (v9 : FVec Ideal S512x1024 .bf16) (v10 : Vec Ideal S1x512x1024 .bf16) (v13 : Vec Ideal S512x512 .bf16) :
    k0_pay18 v9 v10 v13 = k0_pay16 v9 v10 v13 := rfl

theorem pay20_eq (v9 : FVec Ideal S512x1024 .bf16) (v10 : Vec Ideal S1x512x1024 .bf16) (v13 : Vec Ideal S512x512 .bf16) :
    k0_pay20 v9 v10 v13 = k0_pay16 v9 v10 v13 := rfl

/-- A slab's gradient against the slab of the weights' two halves. -/
def cat (p : FVec Ideal S512x512 .bf16) (v21 v24 : Vec Ideal S1x512x512 .bf16) : FVec Ideal S512x1024 .f32 :=
  concatenate S512x1024 1
    [⟨S512x512, matmul dot_S512x512_S512x512_S512x512_1_1_0_0_n_n none p (shapeCast S512x512 v21 shapeCasts_S1x512x512_S512x512 : FVec Ideal S512x512 .bf16) (constant S512x512 .f32 0x00000000#32)⟩,
      ⟨S512x512, matmul dot_S512x512_S512x512_S512x512_1_1_0_0_n_n none p (shapeCast S512x512 v24 shapeCasts_S1x512x512_S512x512 : FVec Ideal S512x512 .bf16) (constant S512x512 .f32 0x00000000#32)⟩]
    concatenates_S512x512_S512x512_S512x1024_d1

theorem cat_real {p : FVec Ideal S512x512 .bf16} {v21 v24 : Vec Ideal S1x512x512 .bf16} (hp : ∀ r k : Fin 512, p (ix2 r k) = ((D r k : ℝ) : EReal))
    (h21 : ∀ j k : Fin 512, v21 (ix3 0 j k) = ((W j k : ℝ) : EReal)) (h24 : ∀ j k : Fin 512, v24 (ix3 0 j k) = ((W (512 + j) k : ℝ) : EReal))
    (r : Fin 512) (j : Fin 1024) : cat p v21 v24 (ix2 r j) = ((∑ k ∈ range 512, D r k * W j k : ℝ) : EReal) := by
  unfold cat
  pointwise
  by_cases h : j.val < 512
  · rw [dif_pos h]
    exact sum_coe (f := D r) (g := W j) (hp r) fun k => h21 ⟨j, h⟩ k
  · rw [dif_neg h]
    have e : 512 + (j.val - 512) = j.val := by omega
    refine sum_coe (f := D r) (g := W j) (hp r) fun k => (h24 ⟨j - 512, by omega⟩ k).trans ?_
    rw [e]

theorem pay15_eq (v8 : Vec Ideal S512x1024 .bf16) (v10 : Vec Ideal S1x512x1024 .bf16) (v13 : Vec Ideal S512x512 .bf16) (v21 v24 : Vec Ideal S1x512x512 .bf16) :
    k0_pay15 v8 v10 v13 v21 v24 = cat (k0_pay16 v8 v10 v13) v21 v24 := congrArg (fun p => cat p v21 v24) (pay14_eq v8 v10 v13)

theorem pay17_eq (v9 : FVec Ideal S512x1024 .bf16) (v27 : FVec Ideal S512x1024 .f32) (v28 : Vec Ideal S1x512x1024 .bf16) (v31 : Vec Ideal S512x512 .bf16)
    (v39 v42 : Vec Ideal S1x512x512 .bf16) : k0_pay17 v9 v27 v28 v31 v39 v42 = addf v27 (cat (k0_pay16 v9 v28 v31) v39 v42) := rfl

theorem pay21_apply (v9 : FVec Ideal S512x1024 .bf16) (v46 : FVec Ideal S512x1024 .f32) (v56 : FVec Ideal S512x512 .bf16) (v58 : Vec Ideal S1x512x512 .bf16)
    (v61 : Vec Ideal S1x512x512 .bf16) (v66 : Vec Ideal S1x512x1024 .bf16) (v69 : Vec Ideal S512x512 .bf16) (v77 v80 : Vec Ideal S1x512x512 .bf16)
    (v85 : Vec Ideal S512x1024 .f32) (i : S512x1024.Idx) : (k0_pay21 v9 v46 v56 (k0_pay19 v58) v61 v66 v69 v77 v80 v85 i : EReal)
      = v85 i + (v46 i + cat v56 v58 v61 i + cat (k0_pay16 v9 v66 v69) v77 v80 i) := by
  have e : k0_pay21 v9 v46 v56 (k0_pay19 v58) v61 v66 v69 v77 v80 v85 = shapeCast S512x1024
      (addf v85 (addf (addf v46 (cat v56 v58 v61)) (cat (k0_pay16 v9 v66 v69) v77 v80))) shapeCasts_S512x1024_S512x1024 := rfl
  rw [e]
  generalize cat v56 v58 v61 = a
  generalize cat (k0_pay16 v9 v66 v69) v77 v80 = b
  pointwise

theorem pay12_apply (i : S512x1024.Idx) : (k0_pay12 (F := Ideal) i : EReal) = 0 := by
  pointwise [k0_pay12]

theorem pay11_apply (i : S1x5120.Idx) : (k0_pay11 (F := Ideal) i : EReal) = 0 := by
  pointwise [k0_pay11]

end Slabs

section Norm

theorem pay3_eq (v94 : Vec Ideal S512x1024 .f32) : k0_pay3 v94 = v94 := by
  funext i
  pointwise [k0_pay3]

theorem pay10_eq (v159 : Vec Ideal S1x1024 .f32) : k0_pay10 v159 = v159 := by
  funext i
  pointwise [k0_pay10]

theorem pay1_apply (v157 : FVec Ideal S512x1024 .f32) (v160 : FVec Ideal S1x1024 .f32) (v161 : Vec Ideal S512x1024 .f32) (j : S1x1024.Idx) :
    (k0_pay1 v157 v160 v161 j : EReal) = v160 j + ∑ x : Fin 512, v157 (ix2 x (j 1)) * v161 (ix2 x (j 1)) := by
  pointwise [k0_pay1]

theorem pay2_apply (v157 : FVec Ideal S512x1024 .f32) (v167 : Vec Ideal S1x1024 .f32) (x : Fin 512) (j : Fin 1024) :
    (k0_pay2 v157 v167 (ix2 x j) : EReal) = (1 + v167 (ix2 0 j)) * v157 (ix2 x j) := by
  pointwise [k0_pay2]

theorem pay4_apply (v93 v102 : Vec Ideal S512x1024 .f32) (v105 : Vec Ideal S1x1024 .f32) (x : Fin 512) (j : Fin 1024) :
    (k0_pay4 v93 v102 v105 (ix2 x j) : EReal) = Ideal.ofBits FTy.f32 0x3F9837F0#32 * v102 (ix2 x j) + v93 (ix2 x j) * (1 + v105 (ix2 0 j)) := by
  pointwise [k0_pay4]

theorem pay5_apply (v93 v94 : Vec Ideal S512x1024 .f32) (v96 v99 v111 : Vec Ideal S1x1024 .f32) (j : S1x1024.Idx) :
    (k0_pay5 v93 v94 v96 v99 v111 j : EReal)
      = v111 j + ∑ x : Fin 512, v93 (ix2 x (j 1)) * (v94 (ix2 x (j 1)) * v96 (ix2 0 (j 1)) + v99 (ix2 0 (j 1))) := by
  unfold k0_pay5
  rw [pay3_eq]
  pointwise

theorem pay6_apply (v93 : Vec Ideal S512x1024 .f32) (v118 : Vec Ideal S1x1024 .f32) (j : S1x1024.Idx) :
    (k0_pay6 v93 v118 j : EReal) = v118 j + ∑ x : Fin 512, v93 (ix2 x (j 1)) := by
  pointwise [k0_pay6]

theorem pay7_apply (v95 v110 : FVec Ideal S512x1024 .f32) (v124 : Vec Ideal S1x1024 .f32) (j : S1x1024.Idx) :
    (k0_pay7 v95 v110 v124 j : EReal) = v124 j + ∑ x : Fin 512, v110 (ix2 x (j 1)) * v95 (ix2 x (j 1)) := by
  pointwise [k0_pay7]

theorem pay8_apply (v110 : FVec Ideal S512x1024 .f32) (v131 : Vec Ideal S1x1024 .f32) (j : S1x1024.Idx) :
    (k0_pay8 v110 v131 j : EReal) = v131 j + ∑ x : Fin 512, v110 (ix2 x (j 1)) := by
  pointwise [k0_pay8]

/-- The gradient at the norm's argument, of what reaches the normalised row. -/
theorem pay9_real {X Y : ℕ → ℕ → ℝ} {G S : ℕ → ℝ} {v95 v110 : FVec Ideal S512x1024 .f32} {v137 : Vec Ideal S1x1024 .f32} {v140 : Vec Ideal S512x1 .f32}
    (h95 : ∀ (r : Fin 512) (j : Fin 1024), v95 (ix2 r j) = ((X r j : ℝ) : EReal)) (h110 : ∀ (r : Fin 512) (j : Fin 1024), v110 (ix2 r j) = ((Y r j : ℝ) : EReal))
    (h137 : ∀ j : Fin 1024, v137 (ix2 0 j) = ((G j : ℝ) : EReal)) (h140 : ∀ r : Fin 512, v140 (ix2 r 0) = ((S r : ℝ) : EReal)) (r : Fin 512) (j : Fin 1024) :
    k0_pay9 v95 v110 v137 v140 (ix2 r j) = ((S r * (Y r j * G j - mean 1024 (fun j => Y r j * G j) - X r j * mean 1024 fun j => Y r j * G j * X r j) : ℝ) : EReal) := by
  pointwise [k0_pay9]
  have e : ∀ x : Fin 1024, v110 (ix2 r x) * v137 (ix2 0 x) = ((Y r x * G x : ℝ) : EReal) := fun x => by
    rw [h110, h137, EReal.coe_mul]
  rw [sum_coe (f := Y r) (g := G) (h110 r) h137, sum_coe (f := fun j => Y r j * G j) (g := X r) e (h95 r), n_eq, div_real (by norm_num), div_real (by norm_num),
    e j, h140, h95]
  rfl

end Norm

end Cert.MlpBwdIdeal.Value
-- ==== Proof.Mlp.Blocks.lean ====
module

public import proofs.«01_k».proof.Proof.Mlp.Host
public import proofs.«01_k».proof.Proof.Mlp.Pay
public import Idealize.ShloMosaic.Lib.Pipeline.ReadBack

/-! The blocks a grid point reads. -/

@[expose] public section

set_option maxRecDepth 16384

noncomputable section

namespace Cert.MlpBwdIdeal.Value

open Cert.MlpBwdIdeal Cert.MlpBwdIdeal.Gen Idealize.ShloMosaic Idealize.ShloMosaic.TcCoe Idealize.SL.Sem
open Idealize.ShloMosaic.Pipeline (Dat)

variable (m : (ℓ : Loc nD τ sig) → Buf (Elt Ideal) ℓ)

/-- The table holds the arguments the program is run on. -/
abbrev Ok (c : Dev nD) (T : Tab) : Prop :=
  Holds (V m c main_arg0) (V m c main_arg1) (V m c main_arg2) (V m c main_arg3) (V m c main_arg4) (V m c main_arg5) (V m c main_arg6)
    (V m c main_arg7) (V m c main_arg8) (V m c main_arg9) (V m c main_arg10) T

theorem idx : ∀ t : Fin cfg0.N, win0_0.index t = ![t.val / 2, 0] ∧ win0_1.index t = ![t.val % 2, 0, 0] ∧ win0_2.index t = ![t.val % 2, 0, 0] ∧ win0_3.index t = ![t.val % 2, 0, 0] ∧ win0_4.index t = ![t.val / 2, t.val % 2] ∧
    win0_5.index t = ![t.val / 2, 0] ∧ win0_6.index t = ![t.val / 2, 0] ∧ win0_7.index t = ![t.val / 2, 0] ∧ win0_8.index t = ![t.val / 2, 0] ∧ win0_9.index t = ![0, 0] ∧ win0_10.index t = ![0, 0] ∧
    win0_11.index t = ![0, 0] ∧ win0_12.index t = ![0, 0] ∧ win0_13.index t = ![t.val / 2, t.val % 2] ∧ win0_14.index t = ![t.val / 2, 0] ∧ win0_15.index t = ![t.val / 2, 0] ∧ win0_16.index t = ![0, 0] := (by decide +kernel : ∀ t : Fin grid0.N, _)

theorem rows (t : Fin cfg0.N) (x : Fin 512) : 512 * (t.val / 2) + x.val < 4096 := by
  have : t.val < 16 := t.isLt
  omega

theorem cols (t : Fin cfg0.N) (k : Fin 2048) : 2048 * (t.val % 2) + k.val < 4096 := by
  omega

theorem slabs (t : Fin cfg0.N) (s : Fin 4) : 4 * (t.val % 2) + s.val < 8 := by
  omega

variable (c : Dev nD) (t : Fin cfg0.N)

theorem blk0 (x : Fin 512) (j : Fin 1024) : (show FVec Ideal S512x1024 .bf16 from iblk m c 0 t) (ix2 x j) = (show FVec Ideal S4096x1024 .bf16 from V m c main_v42) (ix2 (⟨512 * (t.val / 2) + x.val, rows t x⟩ : Fin 4096) j) := by
  unfold iblk
  generalize V m c = X
  blk_ext [idx t]

theorem blk1 (s : Fin 4) (j k : Fin 512) : (show FVec Ideal S4x512x512 .bf16 from iblk m c 1 t) (ix3 s j k) = (show FVec Ideal S8x512x512 .bf16 from V m c main_v44) (ix3 (⟨4 * (t.val % 2) + s.val, slabs t s⟩ : Fin 8) j k) := by
  unfold iblk
  generalize V m c = X
  blk_ext [idx t]

theorem blk2 (s : Fin 4) (j k : Fin 512) : (show FVec Ideal S4x512x512 .bf16 from iblk m c 2 t) (ix3 s j k) = (show FVec Ideal S8x512x512 .bf16 from V m c main_v46) (ix3 (⟨4 * (t.val % 2) + s.val, slabs t s⟩ : Fin 8) j k) := by
  unfold iblk
  generalize V m c = X
  blk_ext [idx t]

theorem blk3 (s : Fin 4) (k : Fin 512) (j : Fin 1024) : (show FVec Ideal S4x512x1024 .bf16 from iblk m c 3 t) (ix3 s k j) = (show FVec Ideal S8x512x1024 .bf16 from V m c main_v41) (ix3 (⟨4 * (t.val % 2) + s.val, slabs t s⟩ : Fin 8) k j) := by
  unfold iblk
  generalize V m c = X
  blk_ext [idx t]

theorem blk4 (x : Fin 512) (k : Fin 2048) : (show FVec Ideal S512x2048 .bf16 from iblk m c 4 t) (ix2 x k) = (show FVec Ideal S4096x4096 .bf16 from V m c main_v36) (ix2 (⟨512 * (t.val / 2) + x.val, rows t x⟩ : Fin 4096) (⟨2048 * (t.val % 2) + k.val, cols t k⟩ : Fin 4096)) := by
  unfold iblk
  generalize V m c = X
  blk_ext [idx t]

theorem blk5 (x : Fin 512) (j : Fin 1024) : (show FVec Ideal S512x1024 .f32 from iblk m c 5 t) (ix2 x j) = (show FVec Ideal S4096x1024 .f32 from V m c main_arg10) (ix2 (⟨512 * (t.val / 2) + x.val, rows t x⟩ : Fin 4096) j) := by
  unfold iblk
  generalize V m c = X
  blk_ext [idx t]

theorem blk6 (x : Fin 512) (j : Fin 1024) : (show FVec Ideal S512x1024 .f32 from iblk m c 6 t) (ix2 x j) = (show FVec Ideal S4096x1024 .f32 from V m c main_v22) (ix2 (⟨512 * (t.val / 2) + x.val, rows t x⟩ : Fin 4096) j) := by
  unfold iblk
  generalize V m c = X
  blk_ext [idx t]

theorem blk7 (x : Fin 512) (k : Fin 128) : (show FVec Ideal S512x128 .f32 from iblk m c 7 t) (ix2 x k) = (show FVec Ideal S4096x128 .f32 from V m c main_v47) (ix2 (⟨512 * (t.val / 2) + x.val, rows t x⟩ : Fin 4096) k) := by
  unfold iblk
  generalize V m c = X
  blk_ext [idx t]

theorem blk8 (x : Fin 512) (j : Fin 1024) : (show FVec Ideal S512x1024 .f32 from iblk m c 8 t) (ix2 x j) = (show FVec Ideal S4096x1024 .f32 from V m c main_arg1) (ix2 (⟨512 * (t.val / 2) + x.val, rows t x⟩ : Fin 4096) j) := by
  unfold iblk
  generalize V m c = X
  blk_ext [idx t]

theorem blk9 (j : Fin 1024) : (show FVec Ideal S1x1024 .f32 from iblk m c 9 t) (ix2 0 j) = (show FVec Ideal S1x1024 .f32 from V m c main_arg3) (ix2 0 j) := by
  unfold iblk
  generalize V m c = X
  blk_ext [idx t]

theorem blk10 (j : Fin 1024) : (show FVec Ideal S1x1024 .f32 from iblk m c 10 t) (ix2 0 j) = (show FVec Ideal S1x1024 .f32 from V m c main_arg4) (ix2 0 j) := by
  unfold iblk
  generalize V m c = X
  blk_ext [idx t]

theorem blk11 (j : Fin 1024) : (show FVec Ideal S1x1024 .f32 from iblk m c 11 t) (ix2 0 j) = (show FVec Ideal S1x1024 .f32 from V m c main_arg5) (ix2 0 j) := by
  unfold iblk
  generalize V m c = X
  blk_ext [idx t]

theorem blk12 (j : Fin 1024) : (show FVec Ideal S1x1024 .f32 from iblk m c 12 t) (ix2 0 j) = (show FVec Ideal S1x1024 .f32 from V m c main_arg2) (ix2 0 j) := by
  unfold iblk
  generalize V m c = X
  blk_ext [idx t]

variable {c} {T : Tab} (f : Ok m c T)

include f

theorem val0 (x : Fin 512) (j : Fin 1024) : (show FVec Ideal S512x1024 .bf16 from iblk m c 0 t) (ix2 x j) = ((T.dh (512 * (t.val / 2) + x) j : ℝ) : EReal) :=
  (blk0 m c t x j).trans (h42_val m f (⟨512 * (t.val / 2) + x.val, rows t x⟩ : Fin 4096) j)

theorem val1 (s : Fin 4) (j k : Fin 512) : (show FVec Ideal S4x512x512 .bf16 from iblk m c 1 t) (ix3 s j k) = ((T.w1 j (512 * (4 * (t.val % 2) + s) + k) : ℝ) : EReal) :=
  (blk1 m c t s j k).trans (h44_val m f ⟨4 * (t.val % 2) + s.val, slabs t s⟩ j k)

theorem val2 (s : Fin 4) (j k : Fin 512) : (show FVec Ideal S4x512x512 .bf16 from iblk m c 2 t) (ix3 s j k) = ((T.w1 (512 + j) (512 * (4 * (t.val % 2) + s) + k) : ℝ) : EReal) :=
  (blk2 m c t s j k).trans (h46_val m f ⟨4 * (t.val % 2) + s.val, slabs t s⟩ j k)

theorem val3 (s : Fin 4) (k : Fin 512) (j : Fin 1024) : (show FVec Ideal S4x512x1024 .bf16 from iblk m c 3 t) (ix3 s k j) = ((T.w2 (512 * (4 * (t.val % 2) + s) + k) j : ℝ) : EReal) :=
  (blk3 m c t s k j).trans (h41_val m f j ⟨4 * (t.val % 2) + s.val, slabs t s⟩ k)

theorem val4 (x : Fin 512) (k : Fin 2048) : (show FVec Ideal S512x2048 .bf16 from iblk m c 4 t) (ix2 x k) = ((T.a (512 * (t.val / 2) + x) (2048 * (t.val % 2) + k) : ℝ) : EReal) :=
  (blk4 m c t x k).trans (h36_val m f (⟨512 * (t.val / 2) + x.val, rows t x⟩ : Fin 4096) ⟨2048 * (t.val % 2) + k.val, cols t k⟩)

theorem val5 (x : Fin 512) (j : Fin 1024) : (show FVec Ideal S512x1024 .f32 from iblk m c 5 t) (ix2 x j) = ((T.dr2 (512 * (t.val / 2) + x) j : ℝ) : EReal) :=
  (blk5 m c t x j).trans (f.h10 (⟨512 * (t.val / 2) + x.val, rows t x⟩ : Fin 4096) j)

theorem val6 (x : Fin 512) (j : Fin 1024) : (show FVec Ideal S512x1024 .f32 from iblk m c 6 t) (ix2 x j) = ((T.xh (512 * (t.val / 2) + x) j : ℝ) : EReal) :=
  (blk6 m c t x j).trans (h22_val m f (⟨512 * (t.val / 2) + x.val, rows t x⟩ : Fin 4096) j)

theorem val7 (x : Fin 512) (k : Fin 128) : (show FVec Ideal S512x128 .f32 from iblk m c 7 t) (ix2 x k) = ((T.s (512 * (t.val / 2) + x) : ℝ) : EReal) :=
  (blk7 m c t x k).trans (h47_val m f (⟨512 * (t.val / 2) + x.val, rows t x⟩ : Fin 4096) k)

theorem val8 (x : Fin 512) (j : Fin 1024) : (show FVec Ideal S512x1024 .f32 from iblk m c 8 t) (ix2 x j) = ((T.mix (512 * (t.val / 2) + x) j : ℝ) : EReal) :=
  (blk8 m c t x j).trans (f.h1 (⟨512 * (t.val / 2) + x.val, rows t x⟩ : Fin 4096) j)

theorem val9 (j : Fin 1024) : (show FVec Ideal S1x1024 .f32 from iblk m c 9 t) (ix2 0 j) = ((T.g j : ℝ) : EReal) :=
  (blk9 m c t j).trans (f.h3 j)

theorem val10 (j : Fin 1024) : (show FVec Ideal S1x1024 .f32 from iblk m c 10 t) (ix2 0 j) = ((T.b j : ℝ) : EReal) :=
  (blk10 m c t j).trans (f.h4 j)

theorem val11 (j : Fin 1024) : (show FVec Ideal S1x1024 .f32 from iblk m c 11 t) (ix2 0 j) = ((T.sc j : ℝ) : EReal) :=
  (blk11 m c t j).trans (f.h5 j)

theorem val12 (j : Fin 1024) : (show FVec Ideal S1x1024 .f32 from iblk m c 12 t) (ix2 0 j) = ((T.ga j : ℝ) : EReal) :=
  (blk12 m c t j).trans (f.h2 j)

end Cert.MlpBwdIdeal.Value
-- ==== Proof.Mlp.Step.lean ====
module

public import proofs.«01_k».proof.Proof.Mlp.Blocks

/-! What a grid point computes: the inner row's gradient, and what it adds to the accumulator. -/

@[expose] public section

set_option maxRecDepth 16384

noncomputable section

namespace Cert.MlpBwdIdeal.Value

open Finset Cert.MlpBwdIdeal Cert.MlpBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

abbrev wa0 : Vec Ideal S1x512x512 .bf16 := View.ld (iblk m c 1 t) (Rect.unit ![0, 0, 0] ![1, 512, 512] inb_S4x512x512_S1x512x512_0_0_0)
abbrev wb0 : Vec Ideal S1x512x512 .bf16 := View.ld (iblk m c 2 t) (Rect.unit ![0, 0, 0] ![1, 512, 512] inb_S4x512x512_S1x512x512_0_0_0)
abbrev wd0 : Vec Ideal S1x512x1024 .bf16 := View.ld (iblk m c 3 t) (Rect.unit ![0, 0, 0] ![1, 512, 1024] inb_S4x512x1024_S1x512x1024_0_0_0)
abbrev ra0 : Vec Ideal S512x512 .bf16 := View.ld (iblk m c 4 t) (Rect.unit ![0, 0] ![512, 512] inb_S512x2048_S512x512_0_0)

abbrev wa1 : Vec Ideal S1x512x512 .bf16 := View.ld (iblk m c 1 t) (Rect.unit ![1, 0, 0] ![1, 512, 512] inb_S4x512x512_S1x512x512_1_0_0)
abbrev wb1 : Vec Ideal S1x512x512 .bf16 := View.ld (iblk m c 2 t) (Rect.unit ![1, 0, 0] ![1, 512, 512] inb_S4x512x512_S1x512x512_1_0_0)
abbrev wd1 : Vec Ideal S1x512x1024 .bf16 := View.ld (iblk m c 3 t) (Rect.unit ![1, 0, 0] ![1, 512, 1024] inb_S4x512x1024_S1x512x1024_1_0_0)
abbrev ra1 : Vec Ideal S512x512 .bf16 := View.ld (iblk m c 4 t) (Rect.unit ![0, 512] ![512, 512] inb_S512x2048_S512x512_0_512)

abbrev wa2 : Vec Ideal S1x512x512 .bf16 := View.ld (iblk m c 1 t) (Rect.unit ![2, 0, 0] ![1, 512, 512] inb_S4x512x512_S1x512x512_2_0_0)
abbrev wb2 : Vec Ideal S1x512x512 .bf16 := View.ld (iblk m c 2 t) (Rect.unit ![2, 0, 0] ![1, 512, 512] inb_S4x512x512_S1x512x512_2_0_0)
abbrev wd2 : Vec Ideal S1x512x1024 .bf16 := View.ld (iblk m c 3 t) (Rect.unit ![2, 0, 0] ![1, 512, 1024] inb_S4x512x1024_S1x512x1024_2_0_0)
abbrev ra2 : Vec Ideal S512x512 .bf16 := View.ld (iblk m c 4 t) (Rect.unit ![0, 1024] ![512, 512] inb_S512x2048_S512x512_0_1024)

abbrev wa3 : Vec Ideal S1x512x512 .bf16 := View.ld (iblk m c 1 t) (Rect.unit ![3, 0, 0] ![1, 512, 512] inb_S4x512x512_S1x512x512_3_0_0)
abbrev wb3 : Vec Ideal S1x512x512 .bf16 := View.ld (iblk m c 2 t) (Rect.unit ![3, 0, 0] ![1, 512, 512] inb_S4x512x512_S1x512x512_3_0_0)
abbrev wd3 : Vec Ideal S1x512x1024 .bf16 := View.ld (iblk m c 3 t) (Rect.unit ![3, 0, 0] ![1, 512, 1024] inb_S4x512x1024_S1x512x1024_3_0_0)
abbrev ra3 : Vec Ideal S512x512 .bf16 := View.ld (iblk m c 4 t) (Rect.unit ![0, 1536] ![512, 512] inb_S512x2048_S512x512_0_1536)

/-- The gradient at slab `s` of the point's inner columns, -/
def slab (s : Fin 4) : FVec Ideal S512x512 .bf16 :=
  k0_pay16 (iblk m c 0 t) (match s with | 0 => wd0 m c t | 1 => wd1 m c t | 2 => wd2 m c t | 3 => wd3 m c t)
    (match s with | 0 => ra0 m c t | 1 => ra1 m c t | 2 => ra2 m c t | 3 => ra3 m c t)
/-- and what the slab adds to the accumulator. -/
def add (s : Fin 4) : FVec Ideal S512x1024 .f32 :=
  cat (slab m c t s) (match s with | 0 => wa0 m c t | 1 => wa1 m c t | 2 => wa2 m c t | 3 => wa3 m c t)
    (match s with | 0 => wb0 m c t | 1 => wb1 m c t | 2 => wb2 m c t | 3 => wb3 m c t)

/-- The accumulator after the point, from what it held before. -/
abbrev stepAcc (v : Vec Ideal S512x1024 .f32) : FVec Ideal S512x1024 .f32 :=
  k0_pay21 (k0_pay13 (iblk m c 0 t))
    (k0_pay17 (k0_pay13 (iblk m c 0 t)) (k0_pay15 (iblk m c 0 t) (wd0 m c t) (ra0 m c t) (wa0 m c t) (wb0 m c t)) (wd1 m c t) (ra1 m c t) (wa1 m c t) (wb1 m c t))
    (k0_pay18 (k0_pay13 (iblk m c 0 t)) (wd2 m c t) (ra2 m c t)) (k0_pay19 (wa2 m c t)) (wb2 m c t) (wd3 m c t) (ra3 m c t) (wa3 m c t) (wb3 m c t) v

theorem stepAcc_apply (v : Vec Ideal S512x1024 .f32) (i : S512x1024.Idx) :
    (stepAcc m c t v i : EReal) = v i + (add m c t 0 i + add m c t 1 i + add m c t 2 i + add m c t 3 i) := by
  unfold stepAcc
  rw [pay21_apply, pay13_eq, pay15_eq, pay17_eq, pay18_eq]
  rfl

variable {m c} {T : Tab} (f : Ok m c T)

theorem wa0_apply (j k : Fin 512) : wa0 m c t (ix3 0 j k) = (show FVec Ideal S4x512x512 .bf16 from iblk m c 1 t) (ix3 0 j k) := by
  unfold wa0
  generalize iblk m c 1 t = X
  pointwise
theorem wb0_apply (j k : Fin 512) : wb0 m c t (ix3 0 j k) = (show FVec Ideal S4x512x512 .bf16 from iblk m c 2 t) (ix3 0 j k) := by
  unfold wb0
  generalize iblk m c 2 t = X
  pointwise
theorem wd0_apply (k : Fin 512) (j : Fin 1024) : wd0 m c t (ix3 0 k j) = (show FVec Ideal S4x512x1024 .bf16 from iblk m c 3 t) (ix3 0 k j) := by
  unfold wd0
  generalize iblk m c 3 t = X
  pointwise
theorem ra0_apply (x k : Fin 512) : ra0 m c t (ix2 x k) = (show FVec Ideal S512x2048 .bf16 from iblk m c 4 t) (ix2 x ⟨0 + k.val, by omega⟩) := by
  unfold ra0
  generalize iblk m c 4 t = X
  pointwise

theorem wa1_apply (j k : Fin 512) : wa1 m c t (ix3 0 j k) = (show FVec Ideal S4x512x512 .bf16 from iblk m c 1 t) (ix3 1 j k) := by
  unfold wa1
  generalize iblk m c 1 t = X
  pointwise
theorem wb1_apply (j k : Fin 512) : wb1 m c t (ix3 0 j k) = (show FVec Ideal S4x512x512 .bf16 from iblk m c 2 t) (ix3 1 j k) := by
  unfold wb1
  generalize iblk m c 2 t = X
  pointwise
theorem wd1_apply (k : Fin 512) (j : Fin 1024) : wd1 m c t (ix3 0 k j) = (show FVec Ideal S4x512x1024 .bf16 from iblk m c 3 t) (ix3 1 k j) := by
  unfold wd1
  generalize iblk m c 3 t = X
  pointwise
theorem ra1_apply (x k : Fin 512) : ra1 m c t (ix2 x k) = (show FVec Ideal S512x2048 .bf16 from iblk m c 4 t) (ix2 x ⟨512 + k.val, by omega⟩) := by
  unfold ra1
  generalize iblk m c 4 t = X
  pointwise

theorem wa2_apply (j k : Fin 512) : wa2 m c t (ix3 0 j k) = (show FVec Ideal S4x512x512 .bf16 from iblk m c 1 t) (ix3 2 j k) := by
  unfold wa2
  generalize iblk m c 1 t = X
  pointwise
theorem wb2_apply (j k : Fin 512) : wb2 m c t (ix3 0 j k) = (show FVec Ideal S4x512x512 .bf16 from iblk m c 2 t) (ix3 2 j k) := by
  unfold wb2
  generalize iblk m c 2 t = X
  pointwise
theorem wd2_apply (k : Fin 512) (j : Fin 1024) : wd2 m c t (ix3 0 k j) = (show FVec Ideal S4x512x1024 .bf16 from iblk m c 3 t) (ix3 2 k j) := by
  unfold wd2
  generalize iblk m c 3 t = X
  pointwise
theorem ra2_apply (x k : Fin 512) : ra2 m c t (ix2 x k) = (show FVec Ideal S512x2048 .bf16 from iblk m c 4 t) (ix2 x ⟨1024 + k.val, by omega⟩) := by
  unfold ra2
  generalize iblk m c 4 t = X
  pointwise

theorem wa3_apply (j k : Fin 512) : wa3 m c t (ix3 0 j k) = (show FVec Ideal S4x512x512 .bf16 from iblk m c 1 t) (ix3 3 j k) := by
  unfold wa3
  generalize iblk m c 1 t = X
  pointwise
theorem wb3_apply (j k : Fin 512) : wb3 m c t (ix3 0 j k) = (show FVec Ideal S4x512x512 .bf16 from iblk m c 2 t) (ix3 3 j k) := by
  unfold wb3
  generalize iblk m c 2 t = X
  pointwise
theorem wd3_apply (k : Fin 512) (j : Fin 1024) : wd3 m c t (ix3 0 k j) = (show FVec Ideal S4x512x1024 .bf16 from iblk m c 3 t) (ix3 3 k j) := by
  unfold wd3
  generalize iblk m c 3 t = X
  pointwise
theorem ra3_apply (x k : Fin 512) : ra3 m c t (ix2 x k) = (show FVec Ideal S512x2048 .bf16 from iblk m c 4 t) (ix2 x ⟨1536 + k.val, by omega⟩) := by
  unfold ra3
  generalize iblk m c 4 t = X
  pointwise

include f

theorem slab_eq (s : Fin 4) (x k : Fin 512) :
    slab m c t s (ix2 x k) = ((T.dp (512 * (t.val / 2) + x) (512 * (4 * (t.val % 2) + s) + k) : ℝ) : EReal) := by
  unfold slab
  refine slab_real (D := fun x c => T.dh (512 * (t.val / 2) + x) c) (W := fun k c => T.w2 (512 * (4 * (t.val % 2) + s) + k) c)
    (A := fun x k => T.a (512 * (t.val / 2) + x) (512 * (4 * (t.val % 2) + s) + k)) (val0 m t f) (fun k c => ?_) (fun x k => ?_) x k
  · fin_cases s
    · exact (wd0_apply t k c).trans (val3 m t f 0 k c)
    · exact (wd1_apply t k c).trans (val3 m t f 1 k c)
    · exact (wd2_apply t k c).trans (val3 m t f 2 k c)
    · exact (wd3_apply t k c).trans (val3 m t f 3 k c)
  · have e : ∀ n : ℕ, 2048 * (t.val % 2) + (512 * n + k) = 512 * (4 * (t.val % 2) + n) + k := fun n => by omega
    fin_cases s
    · exact (ra0_apply t x k).trans ((val4 m t f x ⟨0 + k.val, by omega⟩).trans (congrArg (fun n => ((T.a (512 * (t.val / 2) + x) n : ℝ) : EReal)) (e 0)))
    · exact (ra1_apply t x k).trans ((val4 m t f x ⟨512 + k.val, by omega⟩).trans (congrArg (fun n => ((T.a (512 * (t.val / 2) + x) n : ℝ) : EReal)) (e 1)))
    · exact (ra2_apply t x k).trans ((val4 m t f x ⟨1024 + k.val, by omega⟩).trans (congrArg (fun n => ((T.a (512 * (t.val / 2) + x) n : ℝ) : EReal)) (e 2)))
    · exact (ra3_apply t x k).trans ((val4 m t f x ⟨1536 + k.val, by omega⟩).trans (congrArg (fun n => ((T.a (512 * (t.val / 2) + x) n : ℝ) : EReal)) (e 3)))

theorem add_eq (s : Fin 4) (x : Fin 512) (j : Fin 1024) : add m c t s (ix2 x j)
    = ((∑ k ∈ range 512, T.dp (512 * (t.val / 2) + x) (512 * (4 * (t.val % 2) + s) + k) * T.w1 j (512 * (4 * (t.val % 2) + s) + k) : ℝ) : EReal) := by
  unfold add
  refine cat_real (D := fun x k => T.dp (512 * (t.val / 2) + x) (512 * (4 * (t.val % 2) + s) + k)) (W := fun j k => T.w1 j (512 * (4 * (t.val % 2) + s) + k))
    (slab_eq t f s) (fun j k => ?_) (fun j k => ?_) x j
  · fin_cases s
    · exact (wa0_apply t j k).trans (val1 m t f 0 j k)
    · exact (wa1_apply t j k).trans (val1 m t f 1 j k)
    · exact (wa2_apply t j k).trans (val1 m t f 2 j k)
    · exact (wa3_apply t j k).trans (val1 m t f 3 j k)
  · fin_cases s
    · exact (wb0_apply t j k).trans (val2 m t f 0 j k)
    · exact (wb1_apply t j k).trans (val2 m t f 1 j k)
    · exact (wb2_apply t j k).trans (val2 m t f 2 j k)
    · exact (wb3_apply t j k).trans (val2 m t f 3 j k)

/-- The point adds its 2048 inner columns. -/
theorem stepAcc_eq {v : Vec Ideal S512x1024 .f32}
    (hv : ∀ (x : Fin 512) (j : Fin 1024), v (ix2 x j) = ((T.acc (2048 * (t.val % 2)) (512 * (t.val / 2) + x) j : ℝ) : EReal)) (x : Fin 512) (j : Fin 1024) :
    stepAcc m c t v (ix2 x j) = ((T.acc (2048 * (t.val % 2) + 2048) (512 * (t.val / 2) + x) j : ℝ) : EReal) := by
  refine (stepAcc_apply m c t v _).trans ?_
  rw [hv, add_eq t f, add_eq t f, add_eq t f, add_eq t f, ← EReal.coe_add, ← EReal.coe_add, ← EReal.coe_add, ← EReal.coe_add]
  refine congrArg _ ?_
  unfold Tab.acc
  have e : ∀ n : ℕ, ∑ k ∈ range (n + 2048), T.dp (512 * (t.val / 2) + x) k * T.w1 j k = ∑ k ∈ range n, T.dp (512 * (t.val / 2) + x) k * T.w1 j k
      + (∑ k ∈ range 512, T.dp (512 * (t.val / 2) + x) (n + k) * T.w1 j (n + k) + ∑ k ∈ range 512, T.dp (512 * (t.val / 2) + x) (n + 512 + k) * T.w1 j (n + 512 + k)
        + ∑ k ∈ range 512, T.dp (512 * (t.val / 2) + x) (n + 512 + 512 + k) * T.w1 j (n + 512 + 512 + k)
        + ∑ k ∈ range 512, T.dp (512 * (t.val / 2) + x) (n + 512 + 512 + 512 + k) * T.w1 j (n + 512 + 512 + 512 + k)) := fun n => by
    rw [show n + 2048 = n + 512 + 512 + 512 + 512 from rfl, sum_range_add, sum_range_add, sum_range_add, sum_range_add]
    ring
  rw [e]
  have a0 : 512 * (4 * (t.val % 2) + (0 : Fin 4).val) = 2048 * (t.val % 2) := by simp; omega
  have a1 : 512 * (4 * (t.val % 2) + (1 : Fin 4).val) = 2048 * (t.val % 2) + 512 := by simp; omega
  have a2 : 512 * (4 * (t.val % 2) + (2 : Fin 4).val) = 2048 * (t.val % 2) + 512 + 512 := by simp; omega
  have a3 : 512 * (4 * (t.val % 2) + (3 : Fin 4).val) = 2048 * (t.val % 2) + 512 + 512 + 512 := by simp; omega
  rw [a0, a1, a2, a3]

end Cert.MlpBwdIdeal.Value
-- ==== Proof.Mlp.Cases.lean ====
module

public import proofs.«01_k».proof.Proof.Mlp.Step

/-! What a grid point leaves: in the accumulator, and in the blocks it writes. -/

@[expose] public section

set_option maxRecDepth 16384

noncomputable section

namespace Cert.MlpBwdIdeal.Value

open Finset Cert.MlpBwdIdeal Cert.MlpBwdIdeal.Gen Idealize.ShloMosaic Idealize.ShloMosaic.TcCoe Idealize.SL.Sem
open Idealize.ShloMosaic.Pipeline (Dat)

variable (m : (ℓ : Loc nD τ sig) → Buf (Elt Ideal) ℓ) {c : Dev nD} (t : Fin cfg0.N) {T : Tab} (f : Ok m c T)

include f

theorem zero_acc (h1 : t.val % 2 = 0) (x : Fin 512) (j : Fin 1024) :
    (k0_pay12 (F := Ideal) (ix2 x j) : EReal) = ((T.acc (2048 * (t.val % 2)) (512 * (t.val / 2) + x) j : ℝ) : EReal) := by
  rw [pay12_apply, h1]
  rfl

/-- After the first half of the inner columns. -/
theorem acc_even (h1 : t.val % 2 = 0) (x : Fin 512) (j : Fin 1024) :
    (show FVec Ideal S512x1024 .f32 from (outsAt0 m c t.val t.isLt).2.2.2.2) (ix2 x j) = ((T.acc 2048 (512 * (t.val / 2) + x) j : ℝ) : EReal) := by
  have h2 : ¬ t.val % 2 = 1 := by omega
  have e : 2048 * (t.val % 2) + 2048 = 2048 := by omega
  by_cases h0 : t.val % 16 = 0
  · rw [outsAt0_A m c t h0 h1 h2]
    frame_out
    have h := stepAcc_eq t f (zero_acc m t f h1) x j
    rw [e] at h
    exact h
  · rw [outsAt0_C m c t h0 h1 h2]
    frame_out
    have h := stepAcc_eq t f (zero_acc m t f h1) x j
    rw [e] at h
    exact h

/-- The accumulator the second half starts from. -/
abbrev prevAcc (c : Dev nD) (t : Fin cfg0.N) : FVec Ideal S512x1024 .f32 :=
  (outsAt0 m c (t.val - 1) (Nat.lt_of_le_of_lt (Nat.sub_le _ _) t.isLt)).2.2.2.2

/-- After the second half. -/
theorem acc_odd (h2 : t.val % 2 = 1) (x : Fin 512) (j : Fin 1024) :
    stepAcc m c t (prevAcc m c t) (ix2 x j) = ((T.du (512 * (t.val / 2) + x) j : ℝ) : EReal) := by
  have h := stepAcc_eq t f (v := prevAcc m c t) (fun x j => ?_) x j
  · rw [show 2048 * (t.val % 2) + 2048 = 4096 by omega] at h
    exact h
  · have e := acc_even m ⟨t.val - 1, Nat.lt_of_le_of_lt (Nat.sub_le _ _) t.isLt⟩ f (by dsimp only; omega) x j
    rw [show 2048 * (t.val % 2) = 2048 by omega, show t.val / 2 = (t.val - 1) / 2 by omega]
    exact e

/-- The gradient at the norm's result, -/
theorem dx1_eq {U : Vec Ideal S512x1024 .f32} (hU : ∀ (x : Fin 512) (j : Fin 1024), U (ix2 x j) = ((T.du (512 * (t.val / 2) + x) j : ℝ) : EReal))
    (x : Fin 512) (j : Fin 1024) : k0_pay4 U (iblk m c 5 t) (iblk m c 11 t) (ix2 x j) = ((T.dx1 (512 * (t.val / 2) + x) j : ℝ) : EReal) := by
  refine (pay4_apply _ _ _ x j).trans ?_
  have e5 := val5 m t f x j
  have e11 := val11 m t f j
  generalize iblk m c 5 t = A at *
  generalize iblk m c 11 t = B at *
  rw [show A (ix2 x j) = _ from e5, show B (ix2 0 j) = _ from e11, hU, al_eq]
  rfl

/-- and at its argument. -/
theorem dr1_eq {U : Vec Ideal S512x1024 .f32} (hU : ∀ (x : Fin 512) (j : Fin 1024), U (ix2 x j) = ((T.du (512 * (t.val / 2) + x) j : ℝ) : EReal))
    (x : Fin 512) (j : Fin 1024) : k0_pay9 (k0_pay3 (iblk m c 6 t)) (k0_pay4 U (iblk m c 5 t) (iblk m c 11 t)) (iblk m c 9 t)
      (View.ld (iblk m c 7 t) (Rect.unit ![0, 0] ![512, 1] inb_S512x128_S512x1_0_0)) (ix2 x j) = ((T.dr1 (512 * (t.val / 2) + x) j : ℝ) : EReal) := by
  rw [pay3_eq]
  refine pay9_real (X := fun x j => T.xh (512 * (t.val / 2) + x) j) (Y := fun x j => T.dx1 (512 * (t.val / 2) + x) j) (G := T.g)
    (S := fun x => T.s (512 * (t.val / 2) + x)) (val6 m t f) (dx1_eq m t f hU) (val9 m t f) (fun x => ?_) x j
  rw [← val7 m t f x 0]
  generalize iblk m c 7 t = X
  pointwise

/-- A slab of the inner row's gradient, by its place in the point's block. -/
theorem tile (s : Fin 4) (x : S512x512.Idx) :
    slab m c t s x = ((T.dp (512 * (t.val / 2) + (x 0).val) (2048 * (t.val % 2) + (512 * s + (x 1).val)) : ℝ) : EReal) := by
  obtain ⟨a, b, rfl⟩ : ∃ a b : Fin 512, x = ix2 a b := ⟨x 0, x 1, by ext a; match a with | ⟨0, _⟩ => rfl | ⟨1, _⟩ => rfl⟩
  refine (slab_eq t f s a b).trans (congrArg (fun n => ((T.dp (512 * (t.val / 2) + a) n : ℝ) : EReal)) ?_)
  show _ = 2048 * (t.val % 2) + (512 * s.val + b.val)
  omega

theorem tile0 (x : S512x512.Idx) :
    k0_pay14 (iblk m c 0 t) (wd0 m c t) (ra0 m c t) x = ((T.dp (512 * (t.val / 2) + (x 0).val) (2048 * (t.val % 2) + (x 1).val) : ℝ) : EReal) := by
  rw [pay14_eq]
  refine (tile m t f 0 x).trans (congrArg (fun n => ((T.dp (512 * (t.val / 2) + (x 0).val) (2048 * (t.val % 2) + n) : ℝ) : EReal)) ?_)
  exact Nat.zero_add _

theorem case13 (x : Fin 512) (k : Fin 2048) : (show FVec Ideal S512x2048 .bf16 from (outsAt0 m c t.val t.isLt).1) (ix2 x k)
    = ((T.dp (512 * (t.val / 2) + x) (2048 * (t.val % 2) + k) : ℝ) : EReal) := by
  have g : ∀ y : S512x2048.Idx, (show FVec Ideal S512x2048 .bf16 from (outsAt0 m c t.val t.isLt).1) y
      = ((T.dp (512 * (t.val / 2) + (y 0).val) (2048 * (t.val % 2) + (y 1).val) : ℝ) : EReal) := fun y => by
    rcases (show t.val % 16 = 0 ∨ ¬ t.val % 16 = 0 ∧ t.val % 2 = 0 ∨ ¬ t.val % 16 = 0 ∧ t.val % 2 = 1 by omega) with h | h | h
    · rw [outsAt0_A m c t h (by omega) (by omega)]
      frame_out
      rw [pay13_eq]
      canon_tiles x h <;> rw [h0, h1]
      · exact tile m t f 3 x
      · exact tile m t f 2 x
      · exact tile m t f 1 x
      · exact tile0 m t f x
    · rw [outsAt0_C m c t h.1 h.2 (by omega)]
      frame_out
      rw [pay13_eq]
      canon_tiles x h <;> rw [h0, h1]
      · exact tile m t f 3 x
      · exact tile m t f 2 x
      · exact tile m t f 1 x
      · exact tile0 m t f x
    · rw [outsAt0_B m c t h.1 (by omega) h.2]
      frame_out
      rw [pay13_eq]
      canon_tiles x h <;> rw [h0, h1]
      · exact tile m t f 3 x
      · exact tile m t f 2 x
      · exact tile m t f 1 x
      · exact tile0 m t f x
  exact g (ix2 x k)

theorem case14 (h2 : t.val % 2 = 1) (x : Fin 512) (j : Fin 1024) : (show FVec Ideal S512x1024 .f32 from (outsAt0 m c t.val t.isLt).2.1) (ix2 x j)
    = ((T.dr1 (512 * (t.val / 2) + x) j : ℝ) : EReal) := by
  rw [outsAt0_B m c t (by omega) (by omega) h2]
  frame_out
  rw [read_unread_whole]
  exact dr1_eq m t f (acc_odd m t f h2) x j

theorem case15 (h2 : t.val % 2 = 1) (x : Fin 512) (j : Fin 1024) : (show FVec Ideal S512x1024 .bf16 from (outsAt0 m c t.val t.isLt).2.2.1) (ix2 x j)
    = (((1 + T.ga j) * T.dr1 (512 * (t.val / 2) + x) j : ℝ) : EReal) := by
  rw [outsAt0_B m c t (by omega) (by omega) h2]
  frame_out
  rw [read_unread_whole]
  refine (pay2_apply _ _ x j).trans ?_
  have e := dr1_eq m t f (acc_odd m t f h2) x j
  have e12 := val12 m t f j
  generalize iblk m c 12 t = A at *
  rw [show A (ix2 0 j) = _ from e12]
  refine (congrArg (_ * ·) e).trans ?_
  rfl

end Cert.MlpBwdIdeal.Value
-- ==== Proof.Mlp.Small.lean ====
module

public import proofs.«01_k».proof.Proof.Mlp.Cases

/-! What a grid point adds to the row of sums. -/

@[expose] public section

set_option maxRecDepth 16384

noncomputable section

namespace Cert.MlpBwdIdeal.Value

open Finset Cert.MlpBwdIdeal Cert.MlpBwdIdeal.Gen Idealize.ShloMosaic Idealize.ShloMosaic.TcCoe Idealize.SL.Sem
open Idealize.ShloMosaic.Pipeline (Dat)
open Cert.AttnBwdIdeal.Value (sum_real sum_coe)

variable (m : (ℓ : Loc nD τ sig) → Buf (Elt Ideal) ℓ) {c : Dev nD} (t : Fin cfg0.N) {T : Tab} (f : Ok m c T)

include f

/-- What the point adds to the row of sums, at a column. -/
def part (T : Tab) (n k : ℕ) : ℝ := ∑ x ∈ range 512, T.row (k / 1024) (512 * (n / 2) + x) (k % 1024)

omit f in
theorem part_eq (n q : ℕ) (x : Fin 1024) {k : ℕ} (h : k = 1024 * q + x) : part T n k = ∑ i ∈ range 512, T.row q (512 * (n / 2) + i) x := by
  unfold part
  rw [h, show (1024 * q + x.val) / 1024 = q by omega, show (1024 * q + x.val) % 1024 = x.val by omega]

variable {U : Vec Ideal S512x1024 .f32} (hU : ∀ (x : Fin 512) (j : Fin 1024), U (ix2 x j) = ((T.du (512 * (t.val / 2) + x) j : ℝ) : EReal))
  (P : Vec Ideal S1x1024 .f32) (x : S1x1024.Idx)

include hU

theorem row0 : (k0_pay1 (k0_pay9 (k0_pay3 (iblk m c 6 t)) (k0_pay4 U (iblk m c 5 t) (iblk m c 11 t)) (iblk m c 9 t)
      (View.ld (iblk m c 7 t) (Rect.unit ![0, 0] ![512, 1] inb_S512x128_S512x1_0_0))) (k0_pay10 P) (iblk m c 8 t) x : EReal)
    = P x + ((∑ i ∈ range 512, T.row 0 (512 * (t.val / 2) + i) (x 1).val : ℝ) : EReal) := by
  rw [pay10_eq]
  refine (pay1_apply _ _ _ x).trans (congrArg (P x + ·) ?_)
  exact sum_coe (f := fun i => T.dr1 (512 * (t.val / 2) + i) (x 1).val) (g := fun i => T.mix (512 * (t.val / 2) + i) (x 1).val)
    (fun i => dr1_eq m t f hU i (x 1)) fun i => val8 m t f i (x 1)

theorem row1 : (k0_pay6 U P x : EReal) = P x + ((∑ i ∈ range 512, T.row 1 (512 * (t.val / 2) + i) (x 1).val : ℝ) : EReal) := by
  refine (pay6_apply _ _ x).trans (congrArg (P x + ·) ?_)
  exact sum_real (f := fun i => T.du (512 * (t.val / 2) + i) (x 1).val) fun i => hU i (x 1)

theorem row2 : (k0_pay5 U (iblk m c 6 t) (iblk m c 9 t) (iblk m c 10 t) P x : EReal)
    = P x + ((∑ i ∈ range 512, T.row 2 (512 * (t.val / 2) + i) (x 1).val : ℝ) : EReal) := by
  refine (pay5_apply _ _ _ _ _ x).trans (congrArg (P x + ·) ?_)
  refine sum_coe (f := fun i => T.du (512 * (t.val / 2) + i) (x 1).val) (g := fun i => T.x1 (512 * (t.val / 2) + i) (x 1).val)
    (fun i => hU i (x 1)) fun i => ?_
  have e6 := val6 m t f i (x 1)
  have e9 := val9 m t f (x 1)
  have e10 := val10 m t f (x 1)
  generalize iblk m c 6 t = A at *
  generalize iblk m c 9 t = B at *
  generalize iblk m c 10 t = C at *
  rw [show A (ix2 i (x 1)) = _ from e6, show B (ix2 0 (x 1)) = _ from e9, show C (ix2 0 (x 1)) = _ from e10]
  rfl

theorem row3 : (k0_pay7 (k0_pay3 (iblk m c 6 t)) (k0_pay4 U (iblk m c 5 t) (iblk m c 11 t)) P x : EReal)
    = P x + ((∑ i ∈ range 512, T.row 3 (512 * (t.val / 2) + i) (x 1).val : ℝ) : EReal) := by
  rw [pay3_eq]
  refine (pay7_apply _ _ _ x).trans (congrArg (P x + ·) ?_)
  exact sum_coe (f := fun i => T.dx1 (512 * (t.val / 2) + i) (x 1).val) (g := fun i => T.xh (512 * (t.val / 2) + i) (x 1).val)
    (fun i => dx1_eq m t f hU i (x 1)) fun i => val6 m t f i (x 1)

theorem row4 : (k0_pay8 (k0_pay4 U (iblk m c 5 t) (iblk m c 11 t)) P x : EReal)
    = P x + ((∑ i ∈ range 512, T.row 4 (512 * (t.val / 2) + i) (x 1).val : ℝ) : EReal) := by
  refine (pay8_apply _ _ x).trans (congrArg (P x + ·) ?_)
  exact sum_real (f := fun i => T.dx1 (512 * (t.val / 2) + i) (x 1).val) fun i => dx1_eq m t f hU i (x 1)

omit hU

theorem case16A (h : t.val % 16 = 0) (y : S1x5120.Idx) : (show FVec Ideal S1x5120 .f32 from (outsAt0 m c t.val t.isLt).2.2.2.1) y = (0 : EReal) := by
  rw [outsAt0_A m c t h (by omega) (by omega)]
  frame_out
  exact pay11_apply y

theorem case16C (h : ¬ t.val % 16 = 0) (h1 : t.val % 2 = 0) (y : S1x5120.Idx) : (show FVec Ideal S1x5120 .f32 from (outsAt0 m c t.val t.isLt).2.2.2.1) y
    = (show FVec Ideal S1x5120 .f32 from (outsAt0 m c (t.val - 1) (Nat.lt_of_le_of_lt (Nat.sub_le _ _) t.isLt)).2.2.2.1) y := by
  rw [outsAt0_C m c t h h1 (by omega)]
  rfl

theorem case16B (h2 : t.val % 2 = 1) (y : S1x5120.Idx) : (show FVec Ideal S1x5120 .f32 from (outsAt0 m c t.val t.isLt).2.2.2.1) y
    = (show FVec Ideal S1x5120 .f32 from (outsAt0 m c (t.val - 1) (Nat.lt_of_le_of_lt (Nat.sub_le _ _) t.isLt)).2.2.2.1) y + ((part T t.val (y 1).val : ℝ) : EReal) := by
  have hU := acc_odd m t f h2
  rw [outsAt0_B m c t (by omega) (by omega) h2]
  frame_out
  rw [read_unread_whole]
  generalize hp : (outsAt0 m c (t.val - 1) _).2.2.2.1 = prev
  canon_tiles x h
  · refine (row0 m t f hU _ x).trans (congrArg₂ (fun a b : EReal => a + b) ?_ (congrArg (fun a : ℝ => (a : EReal)) (part_eq t.val 0 (x 1) (by omega)).symm))
    pointwise [h0, h1]
    exact congrArg prev (by blk_ext [h0, h1])
  · refine (row4 m t f hU _ x).trans (congrArg₂ (fun a b : EReal => a + b) ?_ (congrArg (fun a : ℝ => (a : EReal)) (part_eq t.val 4 (x 1) (by omega)).symm))
    pointwise [h0, h1]
    exact congrArg prev (by blk_ext [h0, h1])
  · refine (row3 m t f hU _ x).trans (congrArg₂ (fun a b : EReal => a + b) ?_ (congrArg (fun a : ℝ => (a : EReal)) (part_eq t.val 3 (x 1) (by omega)).symm))
    pointwise [h0, h1]
    exact congrArg prev (by blk_ext [h0, h1])
  · refine (row1 m t f hU _ x).trans (congrArg₂ (fun a b : EReal => a + b) ?_ (congrArg (fun a : ℝ => (a : EReal)) (part_eq t.val 1 (x 1) (by omega)).symm))
    pointwise [h0, h1]
    exact congrArg prev (by blk_ext [h0, h1])
  · refine (row2 m t f hU _ x).trans (congrArg₂ (fun a b : EReal => a + b) ?_ (congrArg (fun a : ℝ => (a : EReal)) (part_eq t.val 2 (x 1) (by omega)).symm))
    pointwise [h0, h1]
    exact congrArg prev (by blk_ext [h0, h1])

end Cert.MlpBwdIdeal.Value
-- ==== Proof.Mlp.Claim.lean ====
module

public import proofs.«01_k».proof.Defs
public import proofs.«01_k».proof.Proof.Gen.Pre_mlp_finite
public import proofs.«01_k».proof.Proof.Gen.MlpBwdIdeal.Value
public import proofs.«01_k».proof.Proof.Mlp.Ref2
public import proofs.«01_k».proof.Proof.Mlp.Small
public import proofs.«01_k».proof.Proof.Common.Real

/-! The feed-forward layer's backward call computes the reference's gradients. -/

@[expose] public section

set_option maxRecDepth 16384

noncomputable section

namespace Cert.MlpBwdIdeal.Value

open Idealize.ShloMosaic

/-- The array holding a table. -/
def arrayOf {a b : ℕ} (g : ℕ → ℕ → ℝ) (i : (⟨2, ![a, b]⟩ : Shape).Idx) : EReal := ((g (i 0).val (i 1).val : ℝ) : EReal)

theorem array_eq {a b : ℕ} {g : ℕ → ℕ → ℝ} {A : (⟨2, ![a, b]⟩ : Shape).Idx → EReal}
    (h : ∀ (r : Fin a) (k : Fin b), A (ix2 r k) = ((g r k : ℝ) : EReal)) : A = arrayOf g := by
  funext i
  obtain ⟨r, k, rfl⟩ : ∃ (r : Fin a) (k : Fin b), i = ix2 r k := ⟨i 0, i 1, by ext z; match z with | ⟨0, _⟩ => rfl | ⟨1, _⟩ => rfl⟩
  exact h r k

/-- The table of the row of sums. -/
def Tab.rowSum (T : Tab) (_ k : ℕ) : ℝ := ∑ r ∈ Finset.range 4096, T.row (k / 1024) r (k % 1024)

end Cert.MlpBwdIdeal.Value

namespace Cert.MlpBwdRefIdeal.Read

open Finset Cert.MlpBwdRefIdeal Idealize.ShloMosaic Idealize.ShloMosaic.TcCoe Idealize.SL.Sem
open Cert.MlpBwdIdeal.Value

variable {x0 x1 : FVec Ideal S4096x1024 .f32} {x2 x3 x4 x5 x6 : FVec Ideal S1x1024 .f32} {x7 : FVec Ideal S1024x4096 .f32}
  {x8 x9 x10 : FVec Ideal S4096x1024 .f32} {T : Tab} (f : Holds x0 x1 x2 x3 x4 x5 x6 x7 x8 x9 x10 T)

include f

theorem dp_array : val_main_v94 (F := Ideal) x0 x1 x2 x3 x4 x5 x6 x7 x8 x9 = arrayOf (a := 4096) (b := 4096) T.dp := by
  have e := dp_line f
  unfold val_main_v94
  generalize val_main_v48 (F := Ideal) x0 x1 x2 x3 x4 x5 x6 x7 x8 x9 = a at *
  exact array_eq fun r k => e r k

theorem dr1_array : val_main_v88 (F := Ideal) x0 x1 x2 x3 x4 x5 x6 x7 x8 x9 x10 = arrayOf (a := 4096) (b := 1024) T.dr1 :=
  array_eq fun r j => dr1_line f r j

theorem dmix_array : val_main_v95 (F := Ideal) x0 x1 x2 x3 x4 x5 x6 x7 x8 x9 x10 = arrayOf (a := 4096) (b := 1024) (fun r j => (1 + T.ga j) * T.dr1 r j) :=
  array_eq fun r j => dmix_line f r j

theorem small_array : val_main_v96 (F := Ideal) x0 x1 x2 x3 x4 x5 x6 x7 x8 x9 x10 = arrayOf (a := 1) (b := 5120) T.rowSum := by
  refine array_eq fun z k => ?_
  rw [Subsingleton.elim z 0]
  exact Eq.trans (congrArg (val_main_v96 (F := Ideal) x0 x1 x2 x3 x4 x5 x6 x7 x8 x9 x10) (congrArg (ix2 0) (Fin.ext (Nat.div_add_mod k.val 1024).symm)))
    (small_line f (⟨k.val % 1024, Nat.mod_lt _ (by decide)⟩ : Fin 1024) (⟨k.val / 1024, by omega⟩ : Fin 5))

end Cert.MlpBwdRefIdeal.Read

namespace Cert.MlpBwdIdeal.Value

open Finset Cert.MlpBwdIdeal Cert.MlpBwdIdeal.Gen Idealize.ShloMosaic Idealize.ShloMosaic.TcCoe Idealize.SL.Sem
open Cert.Common (real_of_lt)

variable (m : (ℓ : Loc nD τ sig) → Buf (Elt Ideal) ℓ) (c : Dev nD) {T : Tab} (f : Ok m c T)

include f

/-- The gradient at the hidden layer, as the kernel leaves it. -/
theorem arr13 : (dats m 0 c).arrAt 13 cfg0.N = arrayOf (a := 4096) (b := 4096) T.dp := by
  refine (dats m 0 c).arrAt_eq_of_covers 13 _ (by decide +kernel) fun t hf y => ?_
  blk_simp
  rw [after0_13]
  obtain ⟨x, k, rfl⟩ : ∃ (x : Fin 512) (k : Fin 2048), y = ix2 x k := ⟨y 0, y 1, by ext a; match a with | ⟨0, _⟩ => rfl | ⟨1, _⟩ => rfl⟩
  have e : (win0_13.blk t).view.emb (ix2 x k) = (ix2 ⟨512 * (t.val / 2) + x.val, rows t x⟩ ⟨2048 * (t.val % 2) + k.val, cols t k⟩ : S4096x4096.Idx) := by blk_ext [idx t]
  rw [e]
  exact (case13 m t f x k)

omit f in
/-- The row blocks are written back after their second half. -/
theorem odd_of_flush : ∀ t : Fin cfg0.N, ((cfg0.win 14).flush t = true → t.val % 2 = 1) ∧ ((cfg0.win 15).flush t = true → t.val % 2 = 1) :=
  (by decide +kernel : ∀ t : Fin grid0.N, _)

/-- The gradient at the first norm's argument, as the kernel leaves it. -/
theorem arr14 : (dats m 0 c).arrAt 14 cfg0.N = arrayOf (a := 4096) (b := 1024) T.dr1 := by
  refine (dats m 0 c).arrAt_eq_of_covers 14 _ (by decide +kernel) fun t hf y => ?_
  blk_simp
  rw [after0_14]
  obtain ⟨x, j, rfl⟩ : ∃ (x : Fin 512) (j : Fin 1024), y = ix2 x j := ⟨y 0, y 1, by ext a; match a with | ⟨0, _⟩ => rfl | ⟨1, _⟩ => rfl⟩
  have e : (win0_14.blk t).view.emb (ix2 x j) = (ix2 ⟨512 * (t.val / 2) + x.val, rows t x⟩ j : S4096x1024.Idx) := by blk_ext [idx t]
  rw [e]
  exact (case14 m t f ((odd_of_flush t).1 hf) x j)

/-- The gradient at the mixer's result, as the kernel leaves it. -/
theorem arr15 : (dats m 0 c).arrAt 15 cfg0.N = arrayOf (a := 4096) (b := 1024) (fun r j => (1 + T.ga j) * T.dr1 r j) := by
  refine (dats m 0 c).arrAt_eq_of_covers 15 _ (by decide +kernel) fun t hf y => ?_
  blk_simp
  rw [after0_15]
  obtain ⟨x, j, rfl⟩ : ∃ (x : Fin 512) (j : Fin 1024), y = ix2 x j := ⟨y 0, y 1, by ext a; match a with | ⟨0, _⟩ => rfl | ⟨1, _⟩ => rfl⟩
  have e : (win0_15.blk t).view.emb (ix2 x j) = (ix2 ⟨512 * (t.val / 2) + x.val, rows t x⟩ j : S4096x1024.Idx) := by blk_ext [idx t]
  rw [e]
  exact (case15 m t f ((odd_of_flush t).2 hf) x j)

/-- The row of sums after a grid point: the rows whose second half has been read. -/
theorem small_at (n : ℕ) : ∀ (h : n < cfg0.N) (y : S1x5120.Idx), (show FVec Ideal S1x5120 .f32 from (outsAt0 m c n h).2.2.2.1) y
    = ((∑ r ∈ range (512 * ((n + 1) / 2)), T.row ((y 1).val / 1024) r ((y 1).val % 1024) : ℝ) : EReal) := by
  induction n with
  | zero => exact fun h y => (case16A m ⟨0, h⟩ f rfl y).trans (by simp)
  | succ n ih =>
    intro h y
    have hN : n + 1 < 16 := h
    have e := ih (by omega) y
    rcases Nat.mod_two_eq_zero_or_one (n + 1) with h2 | h2
    · refine (case16C m ⟨n + 1, h⟩ f (show ¬ (n + 1) % 16 = 0 by omega) h2 y).trans (e.trans ?_)
      rw [show (n + 1 + 1) / 2 = (n + 1) / 2 by omega]
    · refine (case16B m ⟨n + 1, h⟩ f h2 y).trans ?_
      refine (congrArg (· + ((part T (n + 1) (y 1).val : ℝ) : EReal)) e).trans ?_
      rw [← EReal.coe_add, show 512 * ((n + 1 + 1) / 2) = 512 * ((n + 1) / 2) + 512 by omega, sum_range_add]
      rfl

/-- The row of sums, as the kernel leaves it. -/
theorem arr16 : (dats m 0 c).arrAt 16 cfg0.N = arrayOf (a := 1) (b := 5120) T.rowSum := by
  refine (dats m 0 c).arrAt_eq_of_after_last 16 t0_15 (by decide +kernel) _ fun j => ?_
  blk_simp
  rw [after0_16]
  exact small_at m c f 15 (by decide) j

omit f in
/-- The call's value claim: for finite arguments it computes the derivative of the layer. -/
theorem algebraic : Cert.algebraic_MlpBwdIdeal_MlpBwdRefIdeal_pre_mlp_finite := by
  intro m g m' g' hpre hagree
  refine ⟨_, _, _, _, run_blocks m g, ?_⟩
  refine (θ_run _ _ _).mono (fun r h c => ?_) (Cert.MlpBwdRefIdeal.Value.run m' g')
  obtain ⟨h0, h1, h2, h3, h4⟩ := h c
  obtain ⟨e0, e1, e2, e3, e4, e5, e6, e7, e8, e9, e10⟩ := hagree c
  obtain ⟨p0, p1, p2, p3, p4, p5, p6, p7, p8, p9, p10⟩ := hpre c
  obtain ⟨T, f⟩ := (⟨_, holds _ _ _ _ _ _ _ _ _ _ _ (fun i => real_of_lt (congrFun p0 i)) (fun i => real_of_lt (congrFun p1 i)) (fun i => real_of_lt (congrFun p2 i))
    (fun i => real_of_lt (congrFun p3 i)) (fun i => real_of_lt (congrFun p4 i)) (fun i => real_of_lt (congrFun p5 i)) (fun i => real_of_lt (congrFun p6 i))
    (fun i => real_of_lt (congrFun p7 i)) (fun i => real_of_lt (congrFun p8 i)) (fun i => real_of_lt (congrFun p9 i)) (fun i => real_of_lt (congrFun p10 i))⟩ : ∃ T, Holds _ _ _ _ _ _ _ _ _ _ _ T)
  have fk : Ok m c T := by
    unfold Ok
    rw [V_main_arg0, V_main_arg1, V_main_arg2, V_main_arg3, V_main_arg4, V_main_arg5, V_main_arg6, V_main_arg7, V_main_arg8, V_main_arg9, V_main_arg10]
    exact f
  have fr : Holds (m' ((c : Thread nD τ).loc Cert.MlpBwdRefIdeal.main_arg0)) (m' ((c : Thread nD τ).loc Cert.MlpBwdRefIdeal.main_arg1)) (m' ((c : Thread nD τ).loc Cert.MlpBwdRefIdeal.main_arg2)) (m' ((c : Thread nD τ).loc Cert.MlpBwdRefIdeal.main_arg3)) (m' ((c : Thread nD τ).loc Cert.MlpBwdRefIdeal.main_arg4)) (m' ((c : Thread nD τ).loc Cert.MlpBwdRefIdeal.main_arg5)) (m' ((c : Thread nD τ).loc Cert.MlpBwdRefIdeal.main_arg6)) (m' ((c : Thread nD τ).loc Cert.MlpBwdRefIdeal.main_arg7)) (m' ((c : Thread nD τ).loc Cert.MlpBwdRefIdeal.main_arg8)) (m' ((c : Thread nD τ).loc Cert.MlpBwdRefIdeal.main_arg9)) (m' ((c : Thread nD τ).loc Cert.MlpBwdRefIdeal.main_arg10)) T := by
    rw [e0, e1, e2, e3, e4, e5, e6, e7, e8, e9, e10]
    exact f
  refine ⟨h0.trans ?_, h1.trans ?_, h2.trans ?_, h3.trans ?_, h4⟩
  · exact (Cert.MlpBwdRefIdeal.Read.val_main_v94_eq _).trans ((Cert.MlpBwdRefIdeal.Read.dp_array fr).trans (arr13 m c fk).symm)
  · exact (Cert.MlpBwdRefIdeal.Read.val_main_v88_eq _).trans ((Cert.MlpBwdRefIdeal.Read.dr1_array fr).trans (arr14 m c fk).symm)
  · exact (Cert.MlpBwdRefIdeal.Read.val_main_v95_eq _).trans ((Cert.MlpBwdRefIdeal.Read.dmix_array fr).trans (arr15 m c fk).symm)
  · exact (Cert.MlpBwdRefIdeal.Read.val_main_v96_eq _).trans ((Cert.MlpBwdRefIdeal.Read.small_array fr).trans (arr16 m c fk).symm)

end Cert.MlpBwdIdeal.Value
-- ==== Proof.Fwd.Model.lean ====
module

public import proofs.«01_k».proof.Proof.Mlp.Model

/-! The feed-forward layer, the second norm and the loss over the reals: what both programs compute, row by row. -/

@[expose] public section

noncomputable section

namespace Cert.MlpFwdIdeal.Value

open Finset Idealize.ShloMosaic
open Cert.MlpBwdIdeal.Value (mean norm_bwd al ep ep_gt)

theorem hlf_eq : Ideal.ofBits FTy.f32 0x3F000000#32 = ((1 / 2 : ℝ) : EReal) := by
  simp [Ideal.ofBits, Ideal.ieee, -EReal.coe_mul]
  norm_num
theorem inv_eq : Ideal.ofBits FTy.f32 0x3A800000#32 = ((1 / 1024 : ℝ) : EReal) := by
  simp [Ideal.ofBits, Ideal.ieee, -EReal.coe_mul]
  norm_num

/-- The arguments' real tables: the first norm's and the layer's, the second norm's, and the target. -/
structure Tab extends Cert.MlpBwdIdeal.Value.Tab where
  gm : ℕ → ℝ
  g2 : ℕ → ℝ
  b2 : ℕ → ℝ
  tgt : ℕ → ℕ → ℝ

namespace Tab
variable (T : Tab)

/-- The layer's result over the first `n` inner columns. -/
def hh (n r j : ℕ) : ℝ := ∑ k ∈ range n, T.a r k * T.a r k * T.w2 k j
/-- The second norm's argument, -/
def q2 (r j : ℕ) : ℝ := al * T.x1 r j + (1 + T.gm j) * T.hh 4096 r j
/-- centred, -/
def xc2 (r j : ℕ) : ℝ := T.q2 r j - mean 1024 (T.q2 r)
/-- its variance, -/
def va2 (r : ℕ) : ℝ := mean 1024 (fun j => T.xc2 r j * T.xc2 r j) + ep
/-- the reciprocal deviation, -/
def s2 (r : ℕ) : ℝ := (Real.sqrt (T.va2 r))⁻¹
/-- and the normalised row. -/
def xh2 (r j : ℕ) : ℝ := T.xc2 r j * T.s2 r
/-- The difference from the target, -/
def err (r j : ℕ) : ℝ := T.xh2 r j * T.g2 j + T.b2 j - T.tgt r j
/-- the loss's gradient at the norm's result, -/
def dy (r j : ℕ) : ℝ := T.err r j * (1 / 1024)
/-- at the normalised row, -/
def dxh2 (r j : ℕ) : ℝ := T.dy r j * T.g2 j
/-- and at the norm's argument. -/
def d2 (r j : ℕ) : ℝ := T.s2 r * (T.dxh2 r j - mean 1024 (T.dxh2 r) - T.xh2 r j * mean 1024 fun j => T.dxh2 r j * T.xh2 r j)
/-- What row `r` adds to the sums: the gate's, the norm's two, and the loss. -/
def row (q r j : ℕ) : ℝ :=
  if q = 0 then T.d2 r j * T.hh 4096 r j else if q = 1 then T.dy r j * T.xh2 r j else if q = 2 then T.dy r j
  else 1 / 2 * mean 1024 fun j => T.err r j * T.err r j

theorem va2_pos (r : ℕ) : 0 < T.va2 r :=
  add_pos_of_nonneg_of_pos (div_nonneg (sum_nonneg fun _ _ => mul_self_nonneg _) (Nat.cast_nonneg _)) ep_gt

theorem s2_sq (r : ℕ) : T.s2 r * T.s2 r = 1 / T.va2 r := by
  unfold s2
  rw [← mul_inv, Real.mul_self_sqrt (T.va2_pos r).le, one_div]

theorem xc2_sum (r : ℕ) : ∑ j ∈ range 1024, T.xc2 r j = 0 := by
  unfold xc2 mean
  rw [sum_sub_distrib, sum_const, card_range, nsmul_eq_mul]
  push_cast
  ring

theorem d2_eq (r j : ℕ) :
    (T.dxh2 r j * T.s2 r + T.xc2 r j * ((∑ j ∈ range 1024, T.xc2 r j * T.dxh2 r j) * (-(1 / 2) * (T.s2 r / T.va2 r)) / 1024)
        + (∑ j ∈ range 1024, T.xc2 r j * T.dxh2 r j) * (-(1 / 2) * (T.s2 r / T.va2 r)) / 1024 * T.xc2 r j)
      + -(∑ j ∈ range 1024, (T.dxh2 r j * T.s2 r + T.xc2 r j * ((∑ j ∈ range 1024, T.xc2 r j * T.dxh2 r j) * (-(1 / 2) * (T.s2 r / T.va2 r)) / 1024)
        + (∑ j ∈ range 1024, T.xc2 r j * T.dxh2 r j) * (-(1 / 2) * (T.s2 r / T.va2 r)) / 1024 * T.xc2 r j)) / 1024
      = T.d2 r j := by
  have h := norm_bwd (n := 1024) (by norm_num) (T.va2_pos r).ne' (T.s2_sq r) (T.dxh2 r) (T.xc2 r) (T.xc2_sum r) j
  push_cast at h
  exact h

end Tab

end Cert.MlpFwdIdeal.Value
-- ==== Proof.Fwd.Ref.lean ====
module

public import proofs.«01_k».proof.Proof.Gen.MlpFwdRefIdeal.Read
public import proofs.«01_k».proof.Proof.Fwd.Model
public import proofs.«01_k».proof.Proof.Mlp.Ref

/-! The reference's lines up to the second norm, read at an index, as the real tables. -/

@[expose] public section

set_option maxRecDepth 16384

noncomputable section

namespace Cert.MlpFwdIdeal.Value

open Finset Idealize.ShloMosaic
open Cert.AttnBwdIdeal.Value (t2 t2_eq)

variable (x0 x1 : (⟨2, ![4096, 1024]⟩ : Shape).Idx → EReal) (x2 x3 x4 x5 x6 : (⟨2, ![1, 1024]⟩ : Shape).Idx → EReal)
  (x7 : (⟨2, ![1024, 4096]⟩ : Shape).Idx → EReal) (x8 : (⟨2, ![4096, 1024]⟩ : Shape).Idx → EReal)
  (x9 x10 x11 : (⟨2, ![1, 1024]⟩ : Shape).Idx → EReal) (x12 : (⟨2, ![4096, 1024]⟩ : Shape).Idx → EReal)

/-- The tables of the arguments. -/
def tab : Tab where
  toTab := Cert.MlpBwdIdeal.Value.tab x0 x1 x2 x3 x4 x5 x6 x7 x8 (fun _ => 0) (fun _ => 0)
  gm := t2 x9 0
  g2 := t2 x10 0
  b2 := t2 x11 0
  tgt := t2 x12

/-- The table holds the arguments; the layer's own gradients, which are no arguments here, stand as zero. -/
structure Holds (T : Tab) : Prop where
  base : Cert.MlpBwdIdeal.Value.Holds x0 x1 x2 x3 x4 x5 x6 x7 x8 (fun _ => 0) (fun _ => 0) T.toTab
  h9 : ∀ j : Fin 1024, x9 (ix2 0 j) = ((T.gm j : ℝ) : EReal)
  h10 : ∀ j : Fin 1024, x10 (ix2 0 j) = ((T.g2 j : ℝ) : EReal)
  h11 : ∀ j : Fin 1024, x11 (ix2 0 j) = ((T.b2 j : ℝ) : EReal)
  h12 : ∀ (r : Fin 4096) (j : Fin 1024), x12 (ix2 r j) = ((T.tgt r j : ℝ) : EReal)

/-- Finite arguments have a table. -/
theorem holds (f0 : ∀ i, ∃ a : ℝ, x0 i = a) (f1 : ∀ i, ∃ a : ℝ, x1 i = a) (f2 : ∀ i, ∃ a : ℝ, x2 i = a) (f3 : ∀ i, ∃ a : ℝ, x3 i = a)
    (f4 : ∀ i, ∃ a : ℝ, x4 i = a) (f5 : ∀ i, ∃ a : ℝ, x5 i = a) (f6 : ∀ i, ∃ a : ℝ, x6 i = a) (f7 : ∀ i, ∃ a : ℝ, x7 i = a)
    (f8 : ∀ i, ∃ a : ℝ, x8 i = a) (f9 : ∀ i, ∃ a : ℝ, x9 i = a) (f10 : ∀ i, ∃ a : ℝ, x10 i = a) (f11 : ∀ i, ∃ a : ℝ, x11 i = a)
    (f12 : ∀ i, ∃ a : ℝ, x12 i = a) :
    Holds x0 x1 x2 x3 x4 x5 x6 x7 x8 x9 x10 x11 x12 (tab x0 x1 x2 x3 x4 x5 x6 x7 x8 x9 x10 x11 x12) :=
  ⟨Cert.MlpBwdIdeal.Value.holds _ _ _ _ _ _ _ _ _ _ _ f0 f1 f2 f3 f4 f5 f6 f7 f8 (fun _ => ⟨0, rfl⟩) (fun _ => ⟨0, rfl⟩),
    t2_eq f9 0, t2_eq f10 0, t2_eq f11 0, t2_eq f12⟩

end Cert.MlpFwdIdeal.Value

namespace Cert.MlpFwdRefIdeal.Read

open Finset Cert.MlpFwdRefIdeal Idealize.ShloMosaic Idealize.ShloMosaic.TcCoe Idealize.SL.Sem
open Cert.MlpFwdIdeal.Value
open Cert.MlpBwdIdeal.Value (mean al_eq ep_eq n_eq rsqrt_real)
open Cert.MlpBwdRefIdeal.Read (zero_bits)
open Cert.AttnBwdIdeal.Value (sum_real sum_coe div_real)

variable {x0 x1 : FVec Ideal S4096x1024 .f32} {x2 x3 x4 x5 x6 : FVec Ideal S1x1024 .f32} {x7 : FVec Ideal S1024x4096 .f32}
  {x8 : FVec Ideal S4096x1024 .f32} {x9 x10 x11 : FVec Ideal S1x1024 .f32} {x12 : FVec Ideal S4096x1024 .f32} {T : Tab}
variable (f : Holds x0 x1 x2 x3 x4 x5 x6 x7 x8 x9 x10 x11 x12 T) (r : Fin 4096) (j : Fin 1024)

/-! The lines the two references share. -/

theorem v22_same : val_main_v22 (F := Ideal) x0 x1 x2 = Cert.MlpBwdRefIdeal.Read.val_main_v25 (F := Ideal) x0 x1 x2 := rfl

theorem v26_same : val_main_v26 (F := Ideal) x0 x1 x2 x3 x4 = Cert.MlpBwdRefIdeal.Read.val_main_v29 (F := Ideal) x0 x1 x2 x3 x4 := rfl

theorem v32_same : val_main_v32 (F := Ideal) x0 x1 x2 x3 x4 x5 x6 = Cert.MlpBwdRefIdeal.Read.val_main_v35 (F := Ideal) x0 x1 x2 x3 x4 x5 x6 := rfl

theorem v34_same : val_main_v34 (F := Ideal) x0 x1 x2 x3 x4 x5 x6 x7 = Cert.MlpBwdRefIdeal.Read.val_main_v37 (F := Ideal) x0 x1 x2 x3 x4 x5 x6 x7 := rfl

include f

theorem xh_eq : val_main_v22 (F := Ideal) x0 x1 x2 (ix2 r j) = ((T.xh r j : ℝ) : EReal) := by
  rw [v22_same]
  exact Cert.MlpBwdRefIdeal.Read.xh_eq f.base r j

theorem x1_eq : val_main_v26 (F := Ideal) x0 x1 x2 x3 x4 (ix2 r j) = ((T.x1 r j : ℝ) : EReal) := by
  rw [v26_same]
  exact Cert.MlpBwdRefIdeal.Read.x1_eq f.base r j

theorem u_eq : val_main_v32 (F := Ideal) x0 x1 x2 x3 x4 x5 x6 (ix2 r j) = ((T.u r j : ℝ) : EReal) := by
  rw [v32_same]
  exact Cert.MlpBwdRefIdeal.Read.u_eq f.base r j

theorem a_eq (k : Fin 4096) : val_main_v34 (F := Ideal) x0 x1 x2 x3 x4 x5 x6 x7 (ix2 r k) = ((T.a r k : ℝ) : EReal) := by
  rw [v34_same]
  exact Cert.MlpBwdRefIdeal.Read.a_eq f.base r k

theorem h_eq : val_main_v38 (F := Ideal) x0 x1 x2 x3 x4 x5 x6 x7 x8 (ix2 r j) = ((T.hh 4096 r j : ℝ) : EReal) := by
  have e := a_eq f r
  unfold val_main_v38 val_main_v37
  generalize val_main_v34 (F := Ideal) x0 x1 x2 x3 x4 x5 x6 x7 = a at *
  pointwise
  exact sum_coe (f := fun k => T.a r k * T.a r k) (g := fun k => T.w2 k j) (fun k => by rw [e, EReal.coe_mul]) fun k => f.base.h8 k j

theorem gm_eq : val_main_v40 (F := Ideal) x9 (ix2 0 j) = ((1 + T.gm j : ℝ) : EReal) := by
  pointwise [val_main_v40, val_main_v39, val_main_cst_8]
  rw [f.h9]
  rfl

theorem q2_eq : val_main_v43 (F := Ideal) x0 x1 x2 x3 x4 x5 x6 x7 x8 x9 (ix2 r j) = ((T.q2 r j : ℝ) : EReal) := by
  have e := x1_eq f r j
  have e1 := h_eq f r j
  have e2 := gm_eq f j
  unfold val_main_v43 val_main_v42 val_main_v41 val_main_v36
  generalize val_main_v26 (F := Ideal) x0 x1 x2 x3 x4 = a at *
  generalize val_main_v38 (F := Ideal) x0 x1 x2 x3 x4 x5 x6 x7 x8 = b at *
  generalize val_main_v40 (F := Ideal) x9 = c at *
  pointwise [val_main_v35, val_main_cst_7]
  rw [e, e1, e2, al_eq]
  rfl

theorem mu2_eq : val_main_v47 (F := Ideal) x0 x1 x2 x3 x4 x5 x6 x7 x8 x9 (ix2 r 0) = ((mean 1024 (T.q2 r) : ℝ) : EReal) := by
  have e := q2_eq f r
  unfold val_main_v47 val_main_v45 val_main_v44
  generalize val_main_v43 (F := Ideal) x0 x1 x2 x3 x4 x5 x6 x7 x8 x9 = a at *
  pointwise [val_main_v46, val_main_cst_10]
  rw [show val_main_cst_9 (F := Ideal) _ = 0 from zero_bits, zero_add, sum_real e, n_eq, div_real (by norm_num)]
  rfl

theorem xc2_eq : val_main_v49 (F := Ideal) x0 x1 x2 x3 x4 x5 x6 x7 x8 x9 (ix2 r j) = ((T.xc2 r j : ℝ) : EReal) := by
  have e := q2_eq f r j
  have e' := mu2_eq f r
  unfold val_main_v49 val_main_v48
  generalize val_main_v43 (F := Ideal) x0 x1 x2 x3 x4 x5 x6 x7 x8 x9 = a at *
  generalize val_main_v47 (F := Ideal) x0 x1 x2 x3 x4 x5 x6 x7 x8 x9 = b at *
  pointwise
  rw [e, e']
  rfl

theorem va2_eq : val_main_v56 (F := Ideal) x0 x1 x2 x3 x4 x5 x6 x7 x8 x9 (ix2 r 0) = ((T.va2 r : ℝ) : EReal) := by
  have e := xc2_eq f r
  unfold val_main_v56 val_main_v54 val_main_v52 val_main_v51 val_main_v50
  generalize val_main_v49 (F := Ideal) x0 x1 x2 x3 x4 x5 x6 x7 x8 x9 = a at *
  pointwise [val_main_v53, val_main_cst_12, val_main_v55, val_main_cst_13]
  rw [show val_main_cst_11 (F := Ideal) _ = 0 from zero_bits, zero_add, sum_coe e e, n_eq, div_real (by norm_num), ep_eq]
  rfl

theorem s2_eq : val_main_v57 (F := Ideal) x0 x1 x2 x3 x4 x5 x6 x7 x8 x9 (ix2 r 0) = ((T.s2 r : ℝ) : EReal) := by
  have e := va2_eq f r
  unfold val_main_v57
  generalize val_main_v56 (F := Ideal) x0 x1 x2 x3 x4 x5 x6 x7 x8 x9 = a at *
  pointwise
  rw [e]
  exact rsqrt_real (T.va2_pos r)

theorem xh2_eq : val_main_v62 (F := Ideal) x0 x1 x2 x3 x4 x5 x6 x7 x8 x9 (ix2 r j) = ((T.xh2 r j : ℝ) : EReal) := by
  have e := xc2_eq f r j
  have e' := s2_eq f r
  unfold val_main_v62 val_main_v61
  generalize val_main_v49 (F := Ideal) x0 x1 x2 x3 x4 x5 x6 x7 x8 x9 = a at *
  generalize val_main_v57 (F := Ideal) x0 x1 x2 x3 x4 x5 x6 x7 x8 x9 = b at *
  pointwise
  rw [e, e']
  rfl

theorem err_eq : val_main_v67 (F := Ideal) x0 x1 x2 x3 x4 x5 x6 x7 x8 x9 x10 x11 x12 (ix2 r j) = ((T.err r j : ℝ) : EReal) := by
  have e := xh2_eq f r j
  unfold val_main_v67 val_main_v66 val_main_v64 val_main_v63 val_main_v65
  generalize val_main_v62 (F := Ideal) x0 x1 x2 x3 x4 x5 x6 x7 x8 x9 = a at *
  pointwise
  rw [e, f.h10, f.h11, f.h12]
  rfl

end Cert.MlpFwdRefIdeal.Read
-- ==== Proof.Fwd.Ref2.lean ====
module

public import proofs.«01_k».proof.Proof.Fwd.Ref

/-! The reference's loss and gradient lines, read at an index, as the real tables. -/

@[expose] public section

set_option maxRecDepth 16384

noncomputable section

namespace Cert.MlpFwdRefIdeal.Read

open Finset Cert.MlpFwdRefIdeal Idealize.ShloMosaic Idealize.ShloMosaic.TcCoe Idealize.SL.Sem
open Cert.MlpFwdIdeal.Value
open Cert.MlpBwdIdeal.Value (mean n_eq two_eq half_eq one_eq)
open Cert.MlpBwdRefIdeal.Read (zero_bits)
open Cert.AttnBwdIdeal.Value (sum_real sum_coe div_real)

variable {x0 x1 : FVec Ideal S4096x1024 .f32} {x2 x3 x4 x5 x6 : FVec Ideal S1x1024 .f32} {x7 : FVec Ideal S1024x4096 .f32}
  {x8 : FVec Ideal S4096x1024 .f32} {x9 x10 x11 : FVec Ideal S1x1024 .f32} {x12 : FVec Ideal S4096x1024 .f32} {T : Tab}
variable (f : Holds x0 x1 x2 x3 x4 x5 x6 x7 x8 x9 x10 x11 x12 T) (r : Fin 4096) (j : Fin 1024)

include f

theorem dy_line : val_main_v81 (F := Ideal) x0 x1 x2 x3 x4 x5 x6 x7 x8 x9 x10 x11 x12 (ix2 r j) = ((T.dy r j : ℝ) : EReal) := by
  have e := err_eq f r j
  unfold val_main_v81 val_main_v70
  generalize val_main_v67 (F := Ideal) x0 x1 x2 x3 x4 x5 x6 x7 x8 x9 x10 x11 x12 = a at *
  pointwise [val_main_v80, val_main_v79, val_main_v78, val_main_v77, val_main_v76, val_main_cst_20, val_main_cst_21, val_main_cst_22, val_main_v69, val_main_cst_15]
  rw [e, hlf_eq, two_eq, n_eq, div_real (by norm_num), ← EReal.coe_mul, ← EReal.coe_mul]
  refine congrArg _ ?_
  unfold Tab.dy
  ring

theorem dxh_line : val_main_v88 (F := Ideal) x0 x1 x2 x3 x4 x5 x6 x7 x8 x9 x10 x11 x12 (ix2 r j) = ((T.dxh2 r j : ℝ) : EReal) := by
  have e := dy_line f r j
  unfold val_main_v88 val_main_v87
  generalize val_main_v81 (F := Ideal) x0 x1 x2 x3 x4 x5 x6 x7 x8 x9 x10 x11 x12 = a at *
  pointwise
  rw [e, f.h10]
  rfl

/-- What reaches the squared entries. -/
theorem w_line : val_main_v97 (F := Ideal) x0 x1 x2 x3 x4 x5 x6 x7 x8 x9 x10 x11 x12 (ix1 r)
    = (((∑ j ∈ range 1024, T.xc2 r j * T.dxh2 r j) * (-(1 / 2) * (T.s2 r / T.va2 r)) / 1024 : ℝ) : EReal) := by
  have e := dxh_line f r
  have e1 := xc2_eq f r
  have e2 := s2_eq f r
  have e3 := va2_eq f r
  unfold val_main_v97 val_main_v96 val_main_v94 val_main_v91 val_main_v90 val_main_v89 val_main_v60 val_main_v58
  generalize val_main_v88 (F := Ideal) x0 x1 x2 x3 x4 x5 x6 x7 x8 x9 x10 x11 x12 = a at *
  generalize val_main_v49 (F := Ideal) x0 x1 x2 x3 x4 x5 x6 x7 x8 x9 = b at *
  generalize val_main_v57 (F := Ideal) x0 x1 x2 x3 x4 x5 x6 x7 x8 x9 = c at *
  generalize val_main_v56 (F := Ideal) x0 x1 x2 x3 x4 x5 x6 x7 x8 x9 = d at *
  pointwise [val_main_v59, val_main_cst_14, val_main_v95, val_main_cst_26]
  rw [show val_main_cst_27 (F := Ideal) _ = 0 from zero_bits, show val_main_cst_25 (F := Ideal) _ = 0 from zero_bits]
  refine (zero_add _).trans ((Fin.sum_univ_one _).trans ?_)
  rw [zero_add, sum_coe e1 e, n_eq, half_eq, show c (ix2 r 0) = _ from e2, show d (ix2 r 0) = _ from e3, div_real (T.va2_pos r).ne', ← EReal.coe_mul, ← EReal.coe_mul, div_real (by norm_num)]

theorem d102_line : val_main_v102 (F := Ideal) x0 x1 x2 x3 x4 x5 x6 x7 x8 x9 x10 x11 x12 (ix2 r j)
    = ((T.dxh2 r j * T.s2 r + T.xc2 r j * ((∑ j ∈ range 1024, T.xc2 r j * T.dxh2 r j) * (-(1 / 2) * (T.s2 r / T.va2 r)) / 1024)
        + (∑ j ∈ range 1024, T.xc2 r j * T.dxh2 r j) * (-(1 / 2) * (T.s2 r / T.va2 r)) / 1024 * T.xc2 r j : ℝ) : EReal) := by
  have e := dxh_line f r j
  have e1 := xc2_eq f r j
  have e2 := s2_eq f r
  have e3 := w_line f r
  unfold val_main_v102 val_main_v101 val_main_v100 val_main_v99 val_main_v98 val_main_v93 val_main_v92
  generalize val_main_v88 (F := Ideal) x0 x1 x2 x3 x4 x5 x6 x7 x8 x9 x10 x11 x12 = a at *
  generalize val_main_v49 (F := Ideal) x0 x1 x2 x3 x4 x5 x6 x7 x8 x9 = b at *
  generalize val_main_v57 (F := Ideal) x0 x1 x2 x3 x4 x5 x6 x7 x8 x9 = c at *
  generalize val_main_v97 (F := Ideal) x0 x1 x2 x3 x4 x5 x6 x7 x8 x9 x10 x11 x12 = d at *
  pointwise
  rw [e, e1, e2, e3]
  rfl

theorem d2_line : val_main_v110 (F := Ideal) x0 x1 x2 x3 x4 x5 x6 x7 x8 x9 x10 x11 x12 (ix2 r j) = ((T.d2 r j : ℝ) : EReal) := by
  have e := d102_line f r
  rw [← T.d2_eq]
  unfold val_main_v110 val_main_v109 val_main_v108 val_main_v107 val_main_v105 val_main_v104 val_main_v103
  generalize val_main_v102 (F := Ideal) x0 x1 x2 x3 x4 x5 x6 x7 x8 x9 x10 x11 x12 = a at *
  pointwise [val_main_v106, val_main_cst_29]
  rw [show val_main_cst_30 (F := Ideal) _ = 0 from zero_bits, show val_main_cst_28 (F := Ideal) _ = 0 from zero_bits]
  have e' : ∀ x : Fin 1024, -a (ix2 r x) = ((-(T.dxh2 r x * T.s2 r + T.xc2 r x * ((∑ j ∈ range 1024, T.xc2 r j * T.dxh2 r j) * (-(1 / 2) * (T.s2 r / T.va2 r)) / 1024)
      + (∑ j ∈ range 1024, T.xc2 r j * T.dxh2 r j) * (-(1 / 2) * (T.s2 r / T.va2 r)) / 1024 * T.xc2 r x) : ℝ) : EReal) := fun x => by
    rw [e x, EReal.coe_neg]
  refine (congrArg (a (ix2 r j) + ·) ((zero_add _).trans (Fin.sum_univ_one _))).trans ?_
  rw [zero_add, sum_real (f := fun x => -(T.dxh2 r x * T.s2 r + T.xc2 r x * ((∑ j ∈ range 1024, T.xc2 r j * T.dxh2 r j) * (-(1 / 2) * (T.s2 r / T.va2 r)) / 1024)
      + (∑ j ∈ range 1024, T.xc2 r j * T.dxh2 r j) * (-(1 / 2) * (T.s2 r / T.va2 r)) / 1024 * T.xc2 r x)) e', n_eq, div_real (by norm_num), e, sum_neg_distrib]
  rfl

theorem dh_line : val_main_v112 (F := Ideal) x0 x1 x2 x3 x4 x5 x6 x7 x8 x9 x10 x11 x12 (ix2 r j) = (((1 + T.gm j) * T.d2 r j : ℝ) : EReal) := by
  have e := d2_line f r j
  have e' := gm_eq f j
  unfold val_main_v112 val_main_v111
  generalize val_main_v110 (F := Ideal) x0 x1 x2 x3 x4 x5 x6 x7 x8 x9 x10 x11 x12 = a at *
  generalize val_main_v40 (F := Ideal) x9 = b at *
  pointwise
  rw [e, e']
  rfl

theorem dgm_line : val_main_v115 (F := Ideal) x0 x1 x2 x3 x4 x5 x6 x7 x8 x9 x10 x11 x12 (ix2 0 j) = ((∑ r ∈ range 4096, T.row 0 r j : ℝ) : EReal) := by
  have e := fun r => d2_line f r j
  have e' := fun r => h_eq f r j
  unfold val_main_v115 val_main_v114 val_main_v113
  generalize val_main_v110 (F := Ideal) x0 x1 x2 x3 x4 x5 x6 x7 x8 x9 x10 x11 x12 = a at *
  generalize val_main_v38 (F := Ideal) x0 x1 x2 x3 x4 x5 x6 x7 x8 = b at *
  pointwise
  rw [show val_main_cst_31 (F := Ideal) _ = 0 from zero_bits, zero_add]
  exact sum_coe (f := fun r => T.d2 r j) (g := fun r => T.hh 4096 r j) e e'

theorem dg_line : val_main_v86 (F := Ideal) x0 x1 x2 x3 x4 x5 x6 x7 x8 x9 x10 x11 x12 (ix2 0 j) = ((∑ r ∈ range 4096, T.row 1 r j : ℝ) : EReal) := by
  have e := fun r => dy_line f r j
  have e' := fun r => xh2_eq f r j
  unfold val_main_v86 val_main_v85 val_main_v84
  generalize val_main_v81 (F := Ideal) x0 x1 x2 x3 x4 x5 x6 x7 x8 x9 x10 x11 x12 = a at *
  generalize val_main_v62 (F := Ideal) x0 x1 x2 x3 x4 x5 x6 x7 x8 x9 = b at *
  pointwise
  rw [show val_main_cst_24 (F := Ideal) _ = 0 from zero_bits, zero_add]
  refine (sum_coe (f := fun r => T.xh2 r j) (g := fun r => T.dy r j) e' e).trans (congrArg _ (sum_congr rfl fun r _ => mul_comm _ _))

theorem db_line : val_main_v83 (F := Ideal) x0 x1 x2 x3 x4 x5 x6 x7 x8 x9 x10 x11 x12 (ix2 0 j) = ((∑ r ∈ range 4096, T.row 2 r j : ℝ) : EReal) := by
  have e := fun r => dy_line f r j
  unfold val_main_v83 val_main_v82
  generalize val_main_v81 (F := Ideal) x0 x1 x2 x3 x4 x5 x6 x7 x8 x9 x10 x11 x12 = a at *
  pointwise
  rw [show val_main_cst_23 (F := Ideal) _ = 0 from zero_bits, zero_add]
  exact sum_real (f := fun r => T.dy r j) e

/-- The row's loss. -/
theorem mse_line : val_main_v73 (F := Ideal) x0 x1 x2 x3 x4 x5 x6 x7 x8 x9 x10 x11 x12 (ix1 r) = ((mean 1024 fun j => T.err r j * T.err r j : ℝ) : EReal) := by
  have e := err_eq f r
  unfold val_main_v73 val_main_v71 val_main_v68
  generalize val_main_v67 (F := Ideal) x0 x1 x2 x3 x4 x5 x6 x7 x8 x9 x10 x11 x12 = a at *
  pointwise [val_main_v72, val_main_cst_17]
  rw [show val_main_cst_16 (F := Ideal) _ = 0 from zero_bits, zero_add, sum_coe e e, n_eq, div_real (by norm_num)]
  rfl

theorem loss_line (k : Fin 128) : val_main_v118 (F := Ideal) x0 x1 x2 x3 x4 x5 x6 x7 x8 x9 x10 x11 x12 (ix2 0 k) = ((∑ r ∈ range 4096, T.row 3 r j : ℝ) : EReal) := by
  have e := mse_line f
  unfold val_main_v118 val_main_v75 val_main_v74
  generalize val_main_v73 (F := Ideal) x0 x1 x2 x3 x4 x5 x6 x7 x8 x9 x10 x11 x12 = a at *
  pointwise [val_main_cst_19]
  rw [show val_main_cst_18 (F := Ideal) _ = 0 from zero_bits, zero_add, sum_real (f := fun r => mean 1024 fun j => T.err r j * T.err r j) e, hlf_eq, ← EReal.coe_mul, mul_sum]
  rfl

/-- The rows of sums, side by side. -/
theorem small_line (q : Fin 4) (h : 1024 * q.val + j.val < 3200) : val_main_v119 (F := Ideal) x0 x1 x2 x3 x4 x5 x6 x7 x8 x9 x10 x11 x12 (ix2 0 (⟨1024 * q.val + j.val, h⟩ : Fin 3200))
    = ((∑ r ∈ range 4096, T.row q r j : ℝ) : EReal) := by
  have e0 := dgm_line f j
  have e1 := dg_line f j
  have e2 := db_line f j
  have e3 := loss_line f j
  unfold val_main_v119
  generalize val_main_v115 (F := Ideal) x0 x1 x2 x3 x4 x5 x6 x7 x8 x9 x10 x11 x12 = a0 at *
  generalize val_main_v86 (F := Ideal) x0 x1 x2 x3 x4 x5 x6 x7 x8 x9 x10 x11 x12 = a1 at *
  generalize val_main_v83 (F := Ideal) x0 x1 x2 x3 x4 x5 x6 x7 x8 x9 x10 x11 x12 = a2 at *
  generalize val_main_v118 (F := Ideal) x0 x1 x2 x3 x4 x5 x6 x7 x8 x9 x10 x11 x12 = a3 at *
  fin_cases q
  · rw [← e0]
    pointwise
  · rw [← e1]
    pointwise
  · rw [← e2]
    pointwise
    rw [dif_neg (by omega), dif_neg (by omega), dif_pos (by omega)]
    exact congrArg (fun i => a2 (ix2 0 i)) (Fin.ext (by dsimp only; omega))
  · have hj : j.val < 128 := by
      simp at h
      omega
    rw [← e3 ⟨j.val, hj⟩]
    pointwise
    rw [dif_neg (by omega), dif_neg (by omega), dif_neg (by omega)]
    exact congrArg (fun i => a3 (ix2 0 i)) (Fin.ext (by dsimp only; omega))

end Cert.MlpFwdRefIdeal.Read
-- ==== Proof.Fwd.Host.lean ====
module

public import proofs.«01_k».proof.Proof.Gen.MlpFwdIdeal.Value
public import Idealize.ShloMosaic.Lib.Pipeline.ValueKit
public import Idealize.ShloMosaic.Lib.StableHlo.ReadAt
public import proofs.«01_k».proof.Proof.Fwd.Ref2

/-! The kernel's host lines, read at an index. -/

@[expose] public section

set_option maxRecDepth 16384

noncomputable section

namespace Cert.MlpFwdIdeal.Value

open Cert.MlpFwdIdeal Cert.MlpFwdIdeal.Gen Idealize.ShloMosaic Idealize.ShloMosaic.TcCoe Idealize.SL.Sem

variable (m : (ℓ : Loc nD τ sig) → Buf (Elt Ideal) ℓ)

section Lines

abbrev h12 (c : Dev nD) : FVec Ideal S4096x1024 .f32 := V m c main_v12
abbrev h20 (c : Dev nD) : FVec Ideal S4096x1 .f32 := V m c main_v20
abbrev h22 (c : Dev nD) : FVec Ideal S4096x1024 .f32 := V m c main_v22
abbrev h26 (c : Dev nD) : FVec Ideal S4096x1024 .f32 := V m c main_v26
abbrev h32 (c : Dev nD) : FVec Ideal S4096x1024 .f32 := V m c main_v32
abbrev h33 (c : Dev nD) : FVec Ideal S4096x1024 .bf16 := V m c main_v33
abbrev h36 (c : Dev nD) : FVec Ideal S2x8x512x512 .bf16 := V m c main_v36
abbrev h38 (c : Dev nD) : FVec Ideal S8x512x1024 .bf16 := V m c main_v38
abbrev h40 (c : Dev nD) : FVec Ideal S8x512x512 .bf16 := V m c main_v40
abbrev h42 (c : Dev nD) : FVec Ideal S8x512x512 .bf16 := V m c main_v42
abbrev g7 (c : Dev nD) : FVec Ideal S1024x4096 .f32 := V m c main_arg7
abbrev g8 (c : Dev nD) : FVec Ideal S4096x1024 .f32 := V m c main_arg8

open Cert.MlpBwdRefIdeal.Read in
theorem h12_eq (c : Dev nD) : h12 m c = val_main_v12 (F := Ideal) (V m c main_arg0) (V m c main_arg1) (V m c main_arg2) := by
  unfold_abbrev_sides
  after_reads_simp
  rfl

open Cert.MlpBwdRefIdeal.Read in
theorem h20_eq (c : Dev nD) : h20 m c = val_main_v20 (F := Ideal) (V m c main_arg0) (V m c main_arg1) (V m c main_arg2) := by
  unfold_abbrev_sides
  after_reads_simp
  rfl

theorem h22_eq (c : Dev nD) : h22 m c = mulf (h12 m c) (broadcastInDim S4096x1024 ![0, 1] bcast_S4096x1_S4096x1024_0_1 (h20 m c)) := by
  unfold_abbrev_sides
  after_reads_simp

theorem h26_eq (c : Dev nD) : h26 m c = addf (mulf (h22 m c) (broadcastInDim S4096x1024 ![0, 1] bcast_S1x1024_S4096x1024_0_1 (V m c main_arg3)))
    (broadcastInDim S4096x1024 ![0, 1] bcast_S1x1024_S4096x1024_0_1 (V m c main_arg4)) := by
  unfold_abbrev_sides
  after_reads_simp

theorem h32_eq (c : Dev nD) : h32 m c = addf (mulf (h26 m c) (broadcastInDim S4096x1024 ![0, 1] bcast_S1x1024_S4096x1024_0_1
      (addf (broadcastInDim S1x1024 ![] bcast_S_S1x1024 (constant S_ .f32 0x3F800000#32)) (V m c main_arg5))))
    (broadcastInDim S4096x1024 ![0, 1] bcast_S1x1024_S4096x1024_0_1 (V m c main_arg6)) := by
  unfold_abbrev_sides
  after_reads_simp

theorem h33_line (c : Dev nD) : h33 m c = truncf .bf16 (h32 m c) bitsLt_bf16_f32 := by
  unfold_abbrev_sides
  after_reads_simp

theorem h38_line (c : Dev nD) : h38 m c = truncf .bf16 (shapeCast S8x512x1024 (g8 m c) shapeCasts_S4096x1024_S8x512x1024) bitsLt_bf16_f32 := by
  unfold_abbrev_sides
  after_reads_simp
  rfl

theorem h36_line (c : Dev nD) : h36 m c = truncf .bf16 (transpose S2x8x512x512 [0, 2, 1, 3]
    (shapeCast S2x512x8x512 (g7 m c) shapeCasts_S1024x4096_S2x512x8x512) transposes_S2x512x8x512_S2x8x512x512_0_2_1_3) bitsLt_bf16_f32 := by
  unfold_abbrev_sides
  after_reads_simp
  rfl

theorem h40_line (c : Dev nD) : h40 m c = shapeCast S8x512x512 (extractStridedSlice S1x8x512x512 ![0, 0, 0, 0] (h36 m c)
    slices_S2x8x512x512_S1x8x512x512_0_0_0_0) shapeCasts_S1x8x512x512_S8x512x512 := by
  unfold_abbrev_sides
  after_reads_simp
  rfl

theorem h42_line (c : Dev nD) : h42 m c = shapeCast S8x512x512 (extractStridedSlice S1x8x512x512 ![1, 0, 0, 0] (h36 m c)
    slices_S2x8x512x512_S1x8x512x512_1_0_0_0) shapeCasts_S1x8x512x512_S8x512x512 := by
  unfold_abbrev_sides
  after_reads_simp
  rfl

theorem h33_eq (c : Dev nD) (r : Fin 4096) (j : Fin 1024) : h33 m c (ix2 r j) = h32 m c (ix2 r j) := by
  rw [h33_line]
  generalize h32 m c = a
  pointwise

theorem h38_eq (c : Dev nD) (n : Fin 8) (k : Fin 512) (j : Fin 1024) :
    h38 m c (ix3 n k j) = g8 m c (ix2 ⟨512 * n.val + k.val, by omega⟩ j) := by
  rw [h38_line]
  generalize g8 m c = a
  pointwise
  simp only [Nat.mul_comm _ 512]

theorem h36_eq (c : Dev nD) (b : Fin 2) (n : Fin 8) (j k : Fin 512) :
    h36 m c (ix4 b n j k) = g7 m c (ix2 ⟨512 * b.val + j.val, by omega⟩ ⟨512 * n.val + k.val, by omega⟩) := by
  rw [h36_line]
  generalize g7 m c = a
  pointwise
  simp only [Nat.mul_comm _ 512]

theorem h40_eq (c : Dev nD) (n : Fin 8) (j k : Fin 512) : h40 m c (ix3 n j k) = h36 m c (ix4 0 n j k) := by
  rw [h40_line]
  generalize h36 m c = a
  pointwise

theorem h42_eq (c : Dev nD) (n : Fin 8) (j k : Fin 512) : h42 m c (ix3 n j k) = h36 m c (ix4 1 n j k) := by
  rw [h42_line]
  generalize h36 m c = a
  pointwise

end Lines

section Values

open Cert.MlpBwdRefIdeal.Read (xc_eq s_eq)

variable {T : Tab} {c : Dev nD}
variable (f : Holds (V m c main_arg0) (V m c main_arg1) (V m c main_arg2) (V m c main_arg3) (V m c main_arg4) (V m c main_arg5) (V m c main_arg6)
  (V m c main_arg7) (V m c main_arg8) (V m c main_arg9) (V m c main_arg10) (V m c main_arg11) (V m c main_arg12) T) (r : Fin 4096) (j : Fin 1024)

include f

theorem h22_val : h22 m c (ix2 r j) = ((T.xh r j : ℝ) : EReal) := by
  have e : h20 m c (ix2 r 0) = ((T.s r : ℝ) : EReal) := by
    rw [h20_eq]
    exact s_eq f.base r
  have e' : h12 m c (ix2 r j) = ((T.xc r j : ℝ) : EReal) := by
    rw [h12_eq]
    exact xc_eq f.base r j
  rw [h22_eq]
  generalize h20 m c = a at *
  generalize h12 m c = b at *
  pointwise
  rw [e, e']
  rfl

theorem h26_val : h26 m c (ix2 r j) = ((T.x1 r j : ℝ) : EReal) := by
  have e := h22_val m f r j
  have e3 := f.base.h3
  have e4 := f.base.h4
  rw [h26_eq]
  generalize h22 m c = a at *
  generalize V m c main_arg3 = x at *
  generalize V m c main_arg4 = y at *
  pointwise
  rw [e, e3, e4]
  rfl

theorem h33_val : h33 m c (ix2 r j) = ((T.u r j : ℝ) : EReal) := by
  rw [h33_eq]
  have e := h26_val m f r j
  have e3 := f.base.h5
  have e4 := f.base.h6
  rw [h32_eq]
  generalize h26 m c = a at *
  generalize V m c main_arg5 = x at *
  generalize V m c main_arg6 = y at *
  pointwise
  rw [e, e3, e4]
  rfl

theorem h38_val (n : Fin 8) (k : Fin 512) : h38 m c (ix3 n k j) = ((T.w2 (512 * n + k) j : ℝ) : EReal) := by
  rw [h38_eq]
  exact f.base.h8 ⟨512 * n + k, by omega⟩ j

theorem h40_val (n : Fin 8) (i k : Fin 512) : h40 m c (ix3 n i k) = ((T.w1 i (512 * n + k) : ℝ) : EReal) := by
  rw [h40_eq, h36_eq]
  refine (f.base.h7 ⟨512 * (0 : Fin 2).val + i.val, _⟩ ⟨512 * n + k, by omega⟩).trans ?_
  simp

theorem h42_val (n : Fin 8) (i k : Fin 512) : h42 m c (ix3 n i k) = ((T.w1 (512 + i) (512 * n + k) : ℝ) : EReal) := by
  rw [h42_eq, h36_eq]
  refine (f.base.h7 ⟨512 * (1 : Fin 2).val + i.val, _⟩ ⟨512 * n + k, by omega⟩).trans ?_
  simp

end Values

end Cert.MlpFwdIdeal.Value
-- ==== Proof.Fwd.Pay.lean ====
module

public import proofs.«01_k».proof.Proof.Gen.MlpFwdIdeal.Skeleton
public import proofs.«01_k».proof.Proof.Fwd.Model
public import Idealize.ShloMosaic.Lib.Pointwise

/-! What the kernel computes of its blocks, where they hold reals. -/

@[expose] public section

set_option maxRecDepth 16384

noncomputable section

namespace Cert.MlpFwdIdeal.Value

open Finset Cert.MlpFwdIdeal Cert.MlpFwdIdeal.Gen Idealize.ShloMosaic Idealize.ShloMosaic.TcCoe Idealize.SL.Sem
open Cert.MlpBwdIdeal.Value (mean al_eq ep_eq n_eq rsqrt_real max_real)
open Cert.AttnBwdIdeal.Value (sum_real sum_coe div_real)

section Slabs

variable {D W A : ℕ → ℕ → ℝ}

/-- The activation's root at one slab of the inner row. -/
theorem slab_real {v9 : FVec Ideal S512x1024 .bf16} {v67 v71 : Vec Ideal S1x512x512 .bf16}
    (h9 : ∀ (r : Fin 512) (c : Fin 1024), v9 (ix2 r c) = ((D r c : ℝ) : EReal)) (h67 : ∀ j k : Fin 512, v67 (ix3 0 j k) = ((W j k : ℝ) : EReal))
    (h71 : ∀ j k : Fin 512, v71 (ix3 0 j k) = ((W (512 + j) k : ℝ) : EReal)) (r k : Fin 512) :
    k0_pay1 v9 v67 v71 (ix2 r k) = ((max (∑ j ∈ range 1024, D r j * W j k) 0 : ℝ) : EReal) := by
  have e : ∑ j ∈ range 1024, D r j * W j k = ∑ j ∈ range 512, D r j * W j k + ∑ j ∈ range 512, D r (512 + j) * W (512 + j) k := by
    rw [show (1024 : ℕ) = 512 + 512 from rfl, sum_range_add]
  rw [e, ← max_real, EReal.coe_add]
  pointwise [k0_pay1]
  rw [sum_coe (f := D r) (g := fun j => W j k) (fun i : Fin 512 => h9 r ⟨i.val, by omega⟩) fun i : Fin 512 => h67 i k,
    sum_coe (f := fun j => D r (512 + j)) (g := fun j => W (512 + j) k) (fun i : Fin 512 => h9 r ⟨512 + i.val, by omega⟩) fun i : Fin 512 => h71 i k]
  rfl

theorem pay19_eq (v8 : Vec Ideal S512x1024 .bf16) : k0_pay19 v8 = v8 := by
  funext i
  pointwise [k0_pay19]

theorem pay20_eq (v8 : Vec Ideal S512x1024 .bf16) (v11 v15 : Vec Ideal S1x512x512 .bf16) : k0_pay20 v8 v11 v15 = k0_pay1 v8 v11 v15 :=
  congrArg (fun v => k0_pay1 v v11 v15) (pay19_eq v8)

theorem pay24_eq (v8 : Vec Ideal S512x1024 .bf16) (v29 v33 : Vec Ideal S1x512x512 .bf16) : k0_pay24 (k0_pay19 v8) (k0_pay23 v8) v29 v33 = k0_pay1 v8 v29 v33 :=
  congrArg (fun v => k0_pay1 v v29 v33) (pay19_eq v8)

theorem pay27_eq (v9 : FVec Ideal S512x1024 .bf16) (v48 v52 : Vec Ideal S1x512x512 .bf16) : k0_pay27 v9 v48 v52 = k0_pay1 v9 v48 v52 := rfl

/-- A slab's activation against the slab of the second weights. -/
def sq (p : FVec Ideal S512x512 .f32) (w : Vec Ideal S1x512x1024 .bf16) : FVec Ideal S512x1024 .f32 :=
  matmul dot_S512x512_S512x1024_S512x1024_1_0_0_1_n_n none (truncf .bf16 (mulf p p) bitsLt_bf16_f32)
    (shapeCast S512x1024 w shapeCasts_S1x512x1024_S512x1024 : FVec Ideal S512x1024 .bf16) (constant S512x1024 .f32 0x00000000#32)

theorem sq_real {p : FVec Ideal S512x512 .f32} {w : Vec Ideal S1x512x1024 .bf16} (hp : ∀ r k : Fin 512, p (ix2 r k) = ((A r k : ℝ) : EReal))
    (hw : ∀ (k : Fin 512) (j : Fin 1024), w (ix3 0 k j) = ((W k j : ℝ) : EReal)) (r : Fin 512) (j : Fin 1024) :
    sq p w (ix2 r j) = ((∑ k ∈ range 512, A r k * A r k * W k j : ℝ) : EReal) := by
  unfold sq
  pointwise
  exact sum_coe (f := fun k => A r k * A r k) (g := fun k => W k j) (fun k => by rw [hp, EReal.coe_mul]) fun k => hw k j

theorem pay22_eq (v8 : Vec Ideal S512x1024 .bf16) (v11 v15 : Vec Ideal S1x512x512 .bf16) (v24 : Vec Ideal S1x512x1024 .bf16) :
    k0_pay22 v8 v11 v15 v24 = sq (k0_pay1 v8 v11 v15) v24 := congrArg (fun p => sq p v24) (pay20_eq v8 v11 v15)

theorem pay26_eq (v8 : Vec Ideal S512x1024 .bf16) (v27 : FVec Ideal S512x1024 .f32) (v29 v33 : Vec Ideal S1x512x512 .bf16) (v42 : Vec Ideal S1x512x1024 .bf16) :
    k0_pay26 (k0_pay19 v8) v27 (k0_pay23 v8) v29 v33 v42 = addf v27 (sq (k0_pay1 v8 v29 v33) v42) :=
  congrArg (fun p => addf v27 (sq p v42)) (pay24_eq v8 v29 v33)

theorem pay3_apply (v9 : FVec Ideal S512x1024 .bf16) (v46 : FVec Ideal S512x1024 .f32) (v48 v52 : Vec Ideal S1x512x512 .bf16) (v61 : Vec Ideal S1x512x1024 .bf16)
    (v67 v71 : Vec Ideal S1x512x512 .bf16) (v80 : Vec Ideal S1x512x1024 .bf16) (v85 : Vec Ideal S512x1024 .f32) (i : S512x1024.Idx) :
    (k0_pay3 v9 v46 (k0_pay29 v9 v48 v52) v61 v67 v71 v80 v85 i : EReal)
      = v85 i + (v46 i + sq (k0_pay1 v9 v48 v52) v61 i + sq (k0_pay1 v9 v67 v71) v80 i) := by
  have e : k0_pay3 v9 v46 (k0_pay29 v9 v48 v52) v61 v67 v71 v80 v85 = shapeCast S512x1024
      (addf v85 (addf (addf v46 (sq (k0_pay1 v9 v48 v52) v61)) (sq (k0_pay1 v9 v67 v71) v80))) shapeCasts_S512x1024_S512x1024 := rfl
  rw [e]
  generalize sq (k0_pay1 v9 v48 v52) v61 = a
  generalize sq (k0_pay1 v9 v67 v71) v80 = b
  pointwise

theorem pay18_apply (i : S512x1024.Idx) : (k0_pay18 (F := Ideal) i : EReal) = 0 := by
  pointwise [k0_pay18]

theorem pay17_apply (i : S1x3200.Idx) : (k0_pay17 (F := Ideal) i : EReal) = 0 := by
  pointwise [k0_pay17]

end Slabs

/-- Blocks holding the table's rows from `R` on. -/
structure Rows (T : Tab) (R : ℕ) (h xh tgt : Vec Ideal S512x1024 .f32) (g b gm g2 b2 : Vec Ideal S1x1024 .f32) : Prop where
  hh : ∀ (x : Fin 512) (j : Fin 1024), h (ix2 x j) = ((T.hh 4096 (R + x) j : ℝ) : EReal)
  hx : ∀ (x : Fin 512) (j : Fin 1024), xh (ix2 x j) = ((T.xh (R + x) j : ℝ) : EReal)
  ht : ∀ (x : Fin 512) (j : Fin 1024), tgt (ix2 x j) = ((T.tgt (R + x) j : ℝ) : EReal)
  hg : ∀ j : Fin 1024, g (ix2 0 j) = ((T.g j : ℝ) : EReal)
  hb : ∀ j : Fin 1024, b (ix2 0 j) = ((T.b j : ℝ) : EReal)
  hm : ∀ j : Fin 1024, gm (ix2 0 j) = ((T.gm j : ℝ) : EReal)
  hg2 : ∀ j : Fin 1024, g2 (ix2 0 j) = ((T.g2 j : ℝ) : EReal)
  hb2 : ∀ j : Fin 1024, b2 (ix2 0 j) = ((T.b2 j : ℝ) : EReal)

section Norm

variable {T : Tab} {R : ℕ} {h xh tgt : Vec Ideal S512x1024 .f32} {g b gm g2 b2 : Vec Ideal S1x1024 .f32} (q : Rows T R h xh tgt g b gm g2 b2)
  (x : Fin 512) (j : Fin 1024)

include q

theorem pay7_eq : k0_pay7 h xh g b gm (ix2 x j) = ((T.xc2 (R + x) j : ℝ) : EReal) := by
  have e : ∀ i : Fin 1024, Ideal.ofBits FTy.f32 0x3F9837F0#32 * (xh (ix2 x i) * g (ix2 0 i) + b (ix2 0 i)) + (Ideal.ofBits FTy.f32 0x3F800000#32 + gm (ix2 0 i)) * h (ix2 x i)
      = ((T.q2 (R + x) i : ℝ) : EReal) := fun i => by
    rw [q.hx, q.hg, q.hb, q.hm, q.hh, al_eq, Cert.MlpBwdIdeal.Value.one_eq]
    rfl
  rw [Cert.MlpBwdIdeal.Value.one_eq, EReal.coe_one] at e
  pointwise [k0_pay7]
  rw [sum_real (f := T.q2 (R + x)) e, n_eq, div_real (by norm_num)]
  refine (congrArg (· - _) (e j)).trans ?_
  rfl

theorem pay8_eq : k0_pay8 h xh g b gm (ix2 x 0) = ((T.s2 (R + x) : ℝ) : EReal) := by
  have e := pay7_eq q x
  unfold k0_pay8
  generalize k0_pay7 h xh g b gm = a at *
  pointwise
  rw [sum_coe (f := T.xc2 (R + x)) (g := T.xc2 (R + x)) e e, n_eq, div_real (by norm_num), ep_eq]
  exact rsqrt_real (T.va2_pos (R + x))

theorem pay9_eq : k0_pay9 h xh g b gm (ix2 x j) = ((T.xh2 (R + x) j : ℝ) : EReal) := by
  have e := pay7_eq q x j
  have e' := pay8_eq q x
  unfold k0_pay9
  generalize k0_pay7 h xh g b gm = a at *
  generalize k0_pay8 h xh g b gm = c at *
  pointwise
  rw [e, e']
  rfl

theorem pay11_eq : k0_pay11 (k0_pay10 h xh g b gm g2 b2) tgt (ix2 x j) = ((T.err (R + x) j : ℝ) : EReal) := by
  have e := pay9_eq q x j
  unfold k0_pay11 k0_pay10
  generalize k0_pay9 h xh g b gm = a at *
  pointwise
  rw [e, q.hg2, q.hb2, q.ht]
  rfl

theorem pay13_eq : k0_pay13 (k0_pay10 h xh g b gm g2 b2) tgt (ix2 x j) = ((T.dy (R + x) j : ℝ) : EReal) := by
  have e := pay11_eq q x j
  unfold k0_pay13
  generalize k0_pay11 (k0_pay10 h xh g b gm g2 b2) tgt = a at *
  pointwise
  rw [e, inv_eq]
  rfl

theorem pay16_eq : k0_pay16 (k0_pay10 h xh g b gm g2 b2) tgt g2 (ix2 x j) = ((T.dxh2 (R + x) j : ℝ) : EReal) := by
  have e := pay13_eq q x j
  unfold k0_pay16
  generalize k0_pay13 (k0_pay10 h xh g b gm g2 b2) tgt = a at *
  pointwise
  rw [e, q.hg2]
  rfl

/-- The gradient at the second norm's argument. -/
theorem pay4_eq : k0_pay4 (k0_pay8 h xh g b gm) (k0_pay9 h xh g b gm) (k0_pay16 (k0_pay10 h xh g b gm g2 b2) tgt g2) (ix2 x j)
    = ((T.d2 (R + x) j : ℝ) : EReal) := by
  have e := pay8_eq q x
  have e1 := pay9_eq q x
  have e2 := pay16_eq q x
  unfold k0_pay4
  generalize k0_pay8 h xh g b gm = a at *
  generalize k0_pay9 h xh g b gm = c at *
  generalize k0_pay16 (k0_pay10 h xh g b gm g2 b2) tgt g2 = d at *
  pointwise
  rw [sum_real (f := T.dxh2 (R + x)) e2, sum_coe (f := T.dxh2 (R + x)) (g := T.xh2 (R + x)) e2 e1, n_eq, div_real (by norm_num), div_real (by norm_num), e, e1, e2]
  rfl

theorem pay6_eq : k0_pay6 (k0_pay8 h xh g b gm) (k0_pay9 h xh g b gm) (k0_pay16 (k0_pay10 h xh g b gm g2 b2) tgt g2) gm (ix2 x j)
    = (((1 + T.gm j) * T.d2 (R + x) j : ℝ) : EReal) := by
  have e := pay4_eq q x j
  unfold k0_pay6
  generalize k0_pay4 (k0_pay8 h xh g b gm) (k0_pay9 h xh g b gm) (k0_pay16 (k0_pay10 h xh g b gm g2 b2) tgt g2) = a at *
  pointwise
  rw [e, q.hm]
  rfl

variable (P : Vec Ideal S1x1024 .f32) (i : S1x1024.Idx)

theorem row0 : (k0_pay5 h (k0_pay8 h xh g b gm) (k0_pay9 h xh g b gm) (k0_pay16 (k0_pay10 h xh g b gm g2 b2) tgt g2) P i : EReal)
    = P i + ((∑ x ∈ range 512, T.row 0 (R + x) (i 1).val : ℝ) : EReal) := by
  have e := fun x => pay4_eq q x (i 1)
  unfold k0_pay5
  generalize k0_pay4 (k0_pay8 h xh g b gm) (k0_pay9 h xh g b gm) (k0_pay16 (k0_pay10 h xh g b gm g2 b2) tgt g2) = a at *
  pointwise
  exact congrArg (P i + ·) (sum_coe (f := fun x => T.d2 (R + x) (i 1).val) (g := fun x => T.hh 4096 (R + x) (i 1).val) e fun x => q.hh x (i 1))

theorem row1 : (k0_pay14 (k0_pay9 h xh g b gm) (k0_pay10 h xh g b gm g2 b2) tgt P i : EReal)
    = P i + ((∑ x ∈ range 512, T.row 1 (R + x) (i 1).val : ℝ) : EReal) := by
  have e := fun x => pay13_eq q x (i 1)
  have e' := fun x => pay9_eq q x (i 1)
  unfold k0_pay14
  generalize k0_pay13 (k0_pay10 h xh g b gm g2 b2) tgt = a at *
  generalize k0_pay9 h xh g b gm = c at *
  pointwise
  exact congrArg (P i + ·) (sum_coe (f := fun x => T.dy (R + x) (i 1).val) (g := fun x => T.xh2 (R + x) (i 1).val) e e')

theorem row2 : (k0_pay15 (k0_pay10 h xh g b gm g2 b2) tgt P i : EReal)
    = P i + ((∑ x ∈ range 512, T.row 2 (R + x) (i 1).val : ℝ) : EReal) := by
  have e := fun x => pay13_eq q x (i 1)
  unfold k0_pay15
  generalize k0_pay13 (k0_pay10 h xh g b gm g2 b2) tgt = a at *
  pointwise
  exact congrArg (P i + ·) (sum_real (f := fun x => T.dy (R + x) (i 1).val) e)

theorem row3 (P : Vec Ideal S1x128 .f32) (k : S1x128.Idx) (n : ℕ) : (k0_pay12 (k0_pay10 h xh g b gm g2 b2) tgt P k : EReal)
    = P k + ((∑ x ∈ range 512, T.row 3 (R + x) n : ℝ) : EReal) := by
  have e := fun x => pay11_eq q x
  unfold k0_pay12
  generalize k0_pay11 (k0_pay10 h xh g b gm g2 b2) tgt = a at *
  pointwise
  refine congrArg (P k + ·) (sum_real (f := fun x => T.row 3 (R + x) n) fun x => ?_)
  rw [sum_coe (f := T.err (R + x)) (g := T.err (R + x)) (e x) (e x), n_eq, div_real (by norm_num), hlf_eq, ← EReal.coe_mul]
  rfl

end Norm

end Cert.MlpFwdIdeal.Value
-- ==== Proof.Fwd.Blocks.lean ====
module

public import proofs.«01_k».proof.Proof.Fwd.Host
public import proofs.«01_k».proof.Proof.Fwd.Pay
public import Idealize.ShloMosaic.Lib.Pipeline.ReadBack

/-! The blocks a grid point reads. -/

@[expose] public section

set_option maxRecDepth 16384

noncomputable section

namespace Cert.MlpFwdIdeal.Value

open Cert.MlpFwdIdeal Cert.MlpFwdIdeal.Gen Idealize.ShloMosaic Idealize.ShloMosaic.TcCoe Idealize.SL.Sem
open Idealize.ShloMosaic.Pipeline (Dat)

variable (m : (ℓ : Loc nD τ sig) → Buf (Elt Ideal) ℓ)

/-- The table holds the arguments the program is run on. -/
abbrev Ok (c : Dev nD) (T : Tab) : Prop :=
  Holds (V m c main_arg0) (V m c main_arg1) (V m c main_arg2) (V m c main_arg3) (V m c main_arg4) (V m c main_arg5) (V m c main_arg6)
    (V m c main_arg7) (V m c main_arg8) (V m c main_arg9) (V m c main_arg10) (V m c main_arg11) (V m c main_arg12) T

theorem idx : ∀ t : Fin cfg0.N, win0_0.index t = ![t.val / 2, 0] ∧ win0_1.index t = ![t.val % 2, 0, 0] ∧ win0_2.index t = ![t.val % 2, 0, 0] ∧ win0_3.index t = ![t.val % 2, 0, 0] ∧ win0_4.index t = ![t.val / 2, 0] ∧
    win0_5.index t = ![0, 0] ∧ win0_6.index t = ![0, 0] ∧ win0_7.index t = ![0, 0] ∧ win0_8.index t = ![0, 0] ∧ win0_9.index t = ![0, 0] ∧ win0_10.index t = ![t.val / 2, 0] ∧
    win0_11.index t = ![t.val / 2, t.val % 2] ∧ win0_12.index t = ![t.val / 2, 0] ∧ win0_13.index t = ![t.val / 2, 0] ∧ win0_14.index t = ![0, 0] := (by decide +kernel : ∀ t : Fin grid0.N, _)

theorem rows (t : Fin cfg0.N) (x : Fin 512) : 512 * (t.val / 2) + x.val < 4096 := by
  have : t.val < 16 := t.isLt
  omega

theorem cols (t : Fin cfg0.N) (k : Fin 2048) : 2048 * (t.val % 2) + k.val < 4096 := by
  omega

theorem slabs (t : Fin cfg0.N) (s : Fin 4) : 4 * (t.val % 2) + s.val < 8 := by
  omega

variable (c : Dev nD) (t : Fin cfg0.N)

theorem blk0 (x : Fin 512) (j : Fin 1024) : (show FVec Ideal S512x1024 .bf16 from iblk m c 0 t) (ix2 x j) = (show FVec Ideal S4096x1024 .bf16 from V m c main_v33) (ix2 (⟨512 * (t.val / 2) + x.val, rows t x⟩ : Fin 4096) j) := by
  unfold iblk
  generalize V m c = X
  blk_ext [idx t]

theorem blk1 (s : Fin 4) (j k : Fin 512) : (show FVec Ideal S4x512x512 .bf16 from iblk m c 1 t) (ix3 s j k) = (show FVec Ideal S8x512x512 .bf16 from V m c main_v40) (ix3 (⟨4 * (t.val % 2) + s.val, slabs t s⟩ : Fin 8) j k) := by
  unfold iblk
  generalize V m c = X
  blk_ext [idx t]

theorem blk2 (s : Fin 4) (j k : Fin 512) : (show FVec Ideal S4x512x512 .bf16 from iblk m c 2 t) (ix3 s j k) = (show FVec Ideal S8x512x512 .bf16 from V m c main_v42) (ix3 (⟨4 * (t.val % 2) + s.val, slabs t s⟩ : Fin 8) j k) := by
  unfold iblk
  generalize V m c = X
  blk_ext [idx t]

theorem blk3 (s : Fin 4) (k : Fin 512) (j : Fin 1024) : (show FVec Ideal S4x512x1024 .bf16 from iblk m c 3 t) (ix3 s k j) = (show FVec Ideal S8x512x1024 .bf16 from V m c main_v38) (ix3 (⟨4 * (t.val % 2) + s.val, slabs t s⟩ : Fin 8) k j) := by
  unfold iblk
  generalize V m c = X
  blk_ext [idx t]

theorem blk4 (x : Fin 512) (j : Fin 1024) : (show FVec Ideal S512x1024 .f32 from iblk m c 4 t) (ix2 x j) = (show FVec Ideal S4096x1024 .f32 from V m c main_v22) (ix2 (⟨512 * (t.val / 2) + x.val, rows t x⟩ : Fin 4096) j) := by
  unfold iblk
  generalize V m c = X
  blk_ext [idx t]

theorem blk5 (j : Fin 1024) : (show FVec Ideal S1x1024 .f32 from iblk m c 5 t) (ix2 0 j) = (show FVec Ideal S1x1024 .f32 from V m c main_arg3) (ix2 0 j) := by
  unfold iblk
  generalize V m c = X
  blk_ext [idx t]

theorem blk6 (j : Fin 1024) : (show FVec Ideal S1x1024 .f32 from iblk m c 6 t) (ix2 0 j) = (show FVec Ideal S1x1024 .f32 from V m c main_arg4) (ix2 0 j) := by
  unfold iblk
  generalize V m c = X
  blk_ext [idx t]

theorem blk7 (j : Fin 1024) : (show FVec Ideal S1x1024 .f32 from iblk m c 7 t) (ix2 0 j) = (show FVec Ideal S1x1024 .f32 from V m c main_arg9) (ix2 0 j) := by
  unfold iblk
  generalize V m c = X
  blk_ext [idx t]

theorem blk8 (j : Fin 1024) : (show FVec Ideal S1x1024 .f32 from iblk m c 8 t) (ix2 0 j) = (show FVec Ideal S1x1024 .f32 from V m c main_arg10) (ix2 0 j) := by
  unfold iblk
  generalize V m c = X
  blk_ext [idx t]

theorem blk9 (j : Fin 1024) : (show FVec Ideal S1x1024 .f32 from iblk m c 9 t) (ix2 0 j) = (show FVec Ideal S1x1024 .f32 from V m c main_arg11) (ix2 0 j) := by
  unfold iblk
  generalize V m c = X
  blk_ext [idx t]

theorem blk10 (x : Fin 512) (j : Fin 1024) : (show FVec Ideal S512x1024 .f32 from iblk m c 10 t) (ix2 x j) = (show FVec Ideal S4096x1024 .f32 from V m c main_arg12) (ix2 (⟨512 * (t.val / 2) + x.val, rows t x⟩ : Fin 4096) j) := by
  unfold iblk
  generalize V m c = X
  blk_ext [idx t]

variable {c} {T : Tab} (f : Ok m c T)

include f

theorem val0 (x : Fin 512) (j : Fin 1024) : (show FVec Ideal S512x1024 .bf16 from iblk m c 0 t) (ix2 x j) = ((T.u (512 * (t.val / 2) + x) j : ℝ) : EReal) :=
  (blk0 m c t x j).trans (h33_val m f (⟨512 * (t.val / 2) + x.val, rows t x⟩ : Fin 4096) j)

theorem val1 (s : Fin 4) (j k : Fin 512) : (show FVec Ideal S4x512x512 .bf16 from iblk m c 1 t) (ix3 s j k) = ((T.w1 j (512 * (4 * (t.val % 2) + s) + k) : ℝ) : EReal) :=
  (blk1 m c t s j k).trans (h40_val m f (⟨4 * (t.val % 2) + s.val, slabs t s⟩ : Fin 8) j k)

theorem val2 (s : Fin 4) (j k : Fin 512) : (show FVec Ideal S4x512x512 .bf16 from iblk m c 2 t) (ix3 s j k) = ((T.w1 (512 + j) (512 * (4 * (t.val % 2) + s) + k) : ℝ) : EReal) :=
  (blk2 m c t s j k).trans (h42_val m f (⟨4 * (t.val % 2) + s.val, slabs t s⟩ : Fin 8) j k)

theorem val3 (s : Fin 4) (k : Fin 512) (j : Fin 1024) : (show FVec Ideal S4x512x1024 .bf16 from iblk m c 3 t) (ix3 s k j) = ((T.w2 (512 * (4 * (t.val % 2) + s) + k) j : ℝ) : EReal) :=
  (blk3 m c t s k j).trans (h38_val m f j (⟨4 * (t.val % 2) + s.val, slabs t s⟩ : Fin 8) k)

theorem val4 (x : Fin 512) (j : Fin 1024) : (show FVec Ideal S512x1024 .f32 from iblk m c 4 t) (ix2 x j) = ((T.xh (512 * (t.val / 2) + x) j : ℝ) : EReal) :=
  (blk4 m c t x j).trans (h22_val m f (⟨512 * (t.val / 2) + x.val, rows t x⟩ : Fin 4096) j)

theorem val5 (j : Fin 1024) : (show FVec Ideal S1x1024 .f32 from iblk m c 5 t) (ix2 0 j) = ((T.g j : ℝ) : EReal) :=
  (blk5 m c t j).trans (f.base.h3 j)

theorem val6 (j : Fin 1024) : (show FVec Ideal S1x1024 .f32 from iblk m c 6 t) (ix2 0 j) = ((T.b j : ℝ) : EReal) :=
  (blk6 m c t j).trans (f.base.h4 j)

theorem val7 (j : Fin 1024) : (show FVec Ideal S1x1024 .f32 from iblk m c 7 t) (ix2 0 j) = ((T.gm j : ℝ) : EReal) :=
  (blk7 m c t j).trans (f.h9 j)

theorem val8 (j : Fin 1024) : (show FVec Ideal S1x1024 .f32 from iblk m c 8 t) (ix2 0 j) = ((T.g2 j : ℝ) : EReal) :=
  (blk8 m c t j).trans (f.h10 j)

theorem val9 (j : Fin 1024) : (show FVec Ideal S1x1024 .f32 from iblk m c 9 t) (ix2 0 j) = ((T.b2 j : ℝ) : EReal) :=
  (blk9 m c t j).trans (f.h11 j)

theorem val10 (x : Fin 512) (j : Fin 1024) : (show FVec Ideal S512x1024 .f32 from iblk m c 10 t) (ix2 x j) = ((T.tgt (512 * (t.val / 2) + x) j : ℝ) : EReal) :=
  (blk10 m c t x j).trans (f.h12 (⟨512 * (t.val / 2) + x.val, rows t x⟩ : Fin 4096) j)

/-- The second half's blocks hold the point's rows, when the accumulator does. -/
theorem rowsOk {U : Vec Ideal S512x1024 .f32} (hU : ∀ (x : Fin 512) (j : Fin 1024), U (ix2 x j) = ((T.hh 4096 (512 * (t.val / 2) + x) j : ℝ) : EReal)) :
    Rows T (512 * (t.val / 2)) U (iblk m c 4 t) (iblk m c 10 t) (iblk m c 5 t) (iblk m c 6 t) (iblk m c 7 t) (iblk m c 8 t) (iblk m c 9 t) :=
  ⟨hU, val4 m t f, val10 m t f, val5 m t f, val6 m t f, val7 m t f, val8 m t f, val9 m t f⟩

end Cert.MlpFwdIdeal.Value
-- ==== Proof.Fwd.Step.lean ====
module

public import proofs.«01_k».proof.Proof.Fwd.Blocks

/-! What a grid point computes: the inner row, and what it adds to the accumulator. -/

@[expose] public section

set_option maxRecDepth 16384

noncomputable section

namespace Cert.MlpFwdIdeal.Value

open Finset Cert.MlpFwdIdeal Cert.MlpFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

abbrev wa0 : Vec Ideal S1x512x512 .bf16 := View.ld (iblk m c 1 t) (Rect.unit ![0, 0, 0] ![1, 512, 512] inb_S4x512x512_S1x512x512_0_0_0)
abbrev wb0 : Vec Ideal S1x512x512 .bf16 := View.ld (iblk m c 2 t) (Rect.unit ![0, 0, 0] ![1, 512, 512] inb_S4x512x512_S1x512x512_0_0_0)
abbrev wd0 : Vec Ideal S1x512x1024 .bf16 := View.ld (iblk m c 3 t) (Rect.unit ![0, 0, 0] ![1, 512, 1024] inb_S4x512x1024_S1x512x1024_0_0_0)

abbrev wa1 : Vec Ideal S1x512x512 .bf16 := View.ld (iblk m c 1 t) (Rect.unit ![1, 0, 0] ![1, 512, 512] inb_S4x512x512_S1x512x512_1_0_0)
abbrev wb1 : Vec Ideal S1x512x512 .bf16 := View.ld (iblk m c 2 t) (Rect.unit ![1, 0, 0] ![1, 512, 512] inb_S4x512x512_S1x512x512_1_0_0)
abbrev wd1 : Vec Ideal S1x512x1024 .bf16 := View.ld (iblk m c 3 t) (Rect.unit ![1, 0, 0] ![1, 512, 1024] inb_S4x512x1024_S1x512x1024_1_0_0)

abbrev wa2 : Vec Ideal S1x512x512 .bf16 := View.ld (iblk m c 1 t) (Rect.unit ![2, 0, 0] ![1, 512, 512] inb_S4x512x512_S1x512x512_2_0_0)
abbrev wb2 : Vec Ideal S1x512x512 .bf16 := View.ld (iblk m c 2 t) (Rect.unit ![2, 0, 0] ![1, 512, 512] inb_S4x512x512_S1x512x512_2_0_0)
abbrev wd2 : Vec Ideal S1x512x1024 .bf16 := View.ld (iblk m c 3 t) (Rect.unit ![2, 0, 0] ![1, 512, 1024] inb_S4x512x1024_S1x512x1024_2_0_0)

abbrev wa3 : Vec Ideal S1x512x512 .bf16 := View.ld (iblk m c 1 t) (Rect.unit ![3, 0, 0] ![1, 512, 512] inb_S4x512x512_S1x512x512_3_0_0)
abbrev wb3 : Vec Ideal S1x512x512 .bf16 := View.ld (iblk m c 2 t) (Rect.unit ![3, 0, 0] ![1, 512, 512] inb_S4x512x512_S1x512x512_3_0_0)
abbrev wd3 : Vec Ideal S1x512x1024 .bf16 := View.ld (iblk m c 3 t) (Rect.unit ![3, 0, 0] ![1, 512, 1024] inb_S4x512x1024_S1x512x1024_3_0_0)

/-- The activation's root at slab `s` of the point's inner columns, -/
def slab (s : Fin 4) : FVec Ideal S512x512 .f32 :=
  k0_pay1 (iblk m c 0 t) (match s with | 0 => wa0 m c t | 1 => wa1 m c t | 2 => wa2 m c t | 3 => wa3 m c t)
    (match s with | 0 => wb0 m c t | 1 => wb1 m c t | 2 => wb2 m c t | 3 => wb3 m c t)
/-- and what the slab adds to the accumulator. -/
def add (s : Fin 4) : FVec Ideal S512x1024 .f32 :=
  sq (slab m c t s) (match s with | 0 => wd0 m c t | 1 => wd1 m c t | 2 => wd2 m c t | 3 => wd3 m c t)

/-- The accumulator after the point, from what it held before. -/
abbrev stepAcc (v : Vec Ideal S512x1024 .f32) : FVec Ideal S512x1024 .f32 :=
  k0_pay3 (k0_pay19 (iblk m c 0 t))
    (k0_pay26 (k0_pay19 (iblk m c 0 t)) (k0_pay22 (iblk m c 0 t) (wa0 m c t) (wb0 m c t) (wd0 m c t)) (k0_pay23 (iblk m c 0 t)) (wa1 m c t) (wb1 m c t) (wd1 m c t))
    (k0_pay29 (k0_pay19 (iblk m c 0 t)) (wa2 m c t) (wb2 m c t)) (wd2 m c t) (wa3 m c t) (wb3 m c t) (wd3 m c t) v

theorem stepAcc_apply (v : Vec Ideal S512x1024 .f32) (i : S512x1024.Idx) :
    (stepAcc m c t v i : EReal) = v i + (add m c t 0 i + add m c t 1 i + add m c t 2 i + add m c t 3 i) := by
  unfold stepAcc
  rw [pay3_apply, pay26_eq, pay22_eq, pay19_eq]
  rfl

variable {m c} {T : Tab} (f : Ok m c T)

theorem wa0_apply (j k : Fin 512) : wa0 m c t (ix3 0 j k) = (show FVec Ideal S4x512x512 .bf16 from iblk m c 1 t) (ix3 0 j k) := by
  unfold wa0
  generalize iblk m c 1 t = X
  pointwise

theorem wb0_apply (j k : Fin 512) : wb0 m c t (ix3 0 j k) = (show FVec Ideal S4x512x512 .bf16 from iblk m c 2 t) (ix3 0 j k) := by
  unfold wb0
  generalize iblk m c 2 t = X
  pointwise

theorem wd0_apply (k : Fin 512) (j : Fin 1024) : wd0 m c t (ix3 0 k j) = (show FVec Ideal S4x512x1024 .bf16 from iblk m c 3 t) (ix3 0 k j) := by
  unfold wd0
  generalize iblk m c 3 t = X
  pointwise

theorem wa1_apply (j k : Fin 512) : wa1 m c t (ix3 0 j k) = (show FVec Ideal S4x512x512 .bf16 from iblk m c 1 t) (ix3 1 j k) := by
  unfold wa1
  generalize iblk m c 1 t = X
  pointwise

theorem wb1_apply (j k : Fin 512) : wb1 m c t (ix3 0 j k) = (show FVec Ideal S4x512x512 .bf16 from iblk m c 2 t) (ix3 1 j k) := by
  unfold wb1
  generalize iblk m c 2 t = X
  pointwise

theorem wd1_apply (k : Fin 512) (j : Fin 1024) : wd1 m c t (ix3 0 k j) = (show FVec Ideal S4x512x1024 .bf16 from iblk m c 3 t) (ix3 1 k j) := by
  unfold wd1
  generalize iblk m c 3 t = X
  pointwise

theorem wa2_apply (j k : Fin 512) : wa2 m c t (ix3 0 j k) = (show FVec Ideal S4x512x512 .bf16 from iblk m c 1 t) (ix3 2 j k) := by
  unfold wa2
  generalize iblk m c 1 t = X
  pointwise

theorem wb2_apply (j k : Fin 512) : wb2 m c t (ix3 0 j k) = (show FVec Ideal S4x512x512 .bf16 from iblk m c 2 t) (ix3 2 j k) := by
  unfold wb2
  generalize iblk m c 2 t = X
  pointwise

theorem wd2_apply (k : Fin 512) (j : Fin 1024) : wd2 m c t (ix3 0 k j) = (show FVec Ideal S4x512x1024 .bf16 from iblk m c 3 t) (ix3 2 k j) := by
  unfold wd2
  generalize iblk m c 3 t = X
  pointwise

theorem wa3_apply (j k : Fin 512) : wa3 m c t (ix3 0 j k) = (show FVec Ideal S4x512x512 .bf16 from iblk m c 1 t) (ix3 3 j k) := by
  unfold wa3
  generalize iblk m c 1 t = X
  pointwise

theorem wb3_apply (j k : Fin 512) : wb3 m c t (ix3 0 j k) = (show FVec Ideal S4x512x512 .bf16 from iblk m c 2 t) (ix3 3 j k) := by
  unfold wb3
  generalize iblk m c 2 t = X
  pointwise

theorem wd3_apply (k : Fin 512) (j : Fin 1024) : wd3 m c t (ix3 0 k j) = (show FVec Ideal S4x512x1024 .bf16 from iblk m c 3 t) (ix3 3 k j) := by
  unfold wd3
  generalize iblk m c 3 t = X
  pointwise

include f

theorem slab_eq (s : Fin 4) (x k : Fin 512) :
    slab m c t s (ix2 x k) = ((T.a (512 * (t.val / 2) + x) (512 * (4 * (t.val % 2) + s) + k) : ℝ) : EReal) := by
  unfold slab
  refine slab_real (D := fun x j => T.u (512 * (t.val / 2) + x) j) (W := fun j k => T.w1 j (512 * (4 * (t.val % 2) + s) + k)) (val0 m t f) (fun j k => ?_) (fun j k => ?_) x k
  · fin_cases s
    · exact (wa0_apply t j k).trans (val1 m t f 0 j k)
    · exact (wa1_apply t j k).trans (val1 m t f 1 j k)
    · exact (wa2_apply t j k).trans (val1 m t f 2 j k)
    · exact (wa3_apply t j k).trans (val1 m t f 3 j k)
  · fin_cases s
    · exact (wb0_apply t j k).trans (val2 m t f 0 j k)
    · exact (wb1_apply t j k).trans (val2 m t f 1 j k)
    · exact (wb2_apply t j k).trans (val2 m t f 2 j k)
    · exact (wb3_apply t j k).trans (val2 m t f 3 j k)

theorem add_eq (s : Fin 4) (x : Fin 512) (j : Fin 1024) : add m c t s (ix2 x j)
    = ((∑ k ∈ range 512, T.a (512 * (t.val / 2) + x) (512 * (4 * (t.val % 2) + s) + k) * T.a (512 * (t.val / 2) + x) (512 * (4 * (t.val % 2) + s) + k) * T.w2 (512 * (4 * (t.val % 2) + s) + k) j : ℝ) : EReal) := by
  unfold add
  refine sq_real (A := fun x k => T.a (512 * (t.val / 2) + x) (512 * (4 * (t.val % 2) + s) + k)) (W := fun k j => T.w2 (512 * (4 * (t.val % 2) + s) + k) j) (slab_eq t f s) (fun k j => ?_) x j
  · fin_cases s
    · exact (wd0_apply t k j).trans (val3 m t f 0 k j)
    · exact (wd1_apply t k j).trans (val3 m t f 1 k j)
    · exact (wd2_apply t k j).trans (val3 m t f 2 k j)
    · exact (wd3_apply t k j).trans (val3 m t f 3 k j)

/-- The point adds its 2048 inner columns. -/
theorem stepAcc_eq {v : Vec Ideal S512x1024 .f32}
    (hv : ∀ (x : Fin 512) (j : Fin 1024), v (ix2 x j) = ((T.hh (2048 * (t.val % 2)) (512 * (t.val / 2) + x) j : ℝ) : EReal)) (x : Fin 512) (j : Fin 1024) :
    stepAcc m c t v (ix2 x j) = ((T.hh (2048 * (t.val % 2) + 2048) (512 * (t.val / 2) + x) j : ℝ) : EReal) := by
  refine (stepAcc_apply m c t v _).trans ?_
  rw [hv, add_eq t f, add_eq t f, add_eq t f, add_eq t f, ← EReal.coe_add, ← EReal.coe_add, ← EReal.coe_add, ← EReal.coe_add]
  refine congrArg _ ?_
  unfold Tab.hh
  have e : ∀ n : ℕ, ∑ k ∈ range (n + 2048), T.a (512 * (t.val / 2) + x) k * T.a (512 * (t.val / 2) + x) k * T.w2 k j = ∑ k ∈ range n, T.a (512 * (t.val / 2) + x) k * T.a (512 * (t.val / 2) + x) k * T.w2 k j
      + (∑ k ∈ range 512, T.a (512 * (t.val / 2) + x) (n + k) * T.a (512 * (t.val / 2) + x) (n + k) * T.w2 (n + k) j + ∑ k ∈ range 512, T.a (512 * (t.val / 2) + x) (n + 512 + k) * T.a (512 * (t.val / 2) + x) (n + 512 + k) * T.w2 (n + 512 + k) j
        + ∑ k ∈ range 512, T.a (512 * (t.val / 2) + x) (n + 512 + 512 + k) * T.a (512 * (t.val / 2) + x) (n + 512 + 512 + k) * T.w2 (n + 512 + 512 + k) j
        + ∑ k ∈ range 512, T.a (512 * (t.val / 2) + x) (n + 512 + 512 + 512 + k) * T.a (512 * (t.val / 2) + x) (n + 512 + 512 + 512 + k) * T.w2 (n + 512 + 512 + 512 + k) j) := fun n => by
    rw [show n + 2048 = n + 512 + 512 + 512 + 512 from rfl, sum_range_add, sum_range_add, sum_range_add, sum_range_add]
    ring
  rw [e]
  have a0 : 512 * (4 * (t.val % 2) + (0 : Fin 4).val) = 2048 * (t.val % 2) := by simp; omega
  have a1 : 512 * (4 * (t.val % 2) + (1 : Fin 4).val) = 2048 * (t.val % 2) + 512 := by simp; omega
  have a2 : 512 * (4 * (t.val % 2) + (2 : Fin 4).val) = 2048 * (t.val % 2) + 512 + 512 := by simp; omega
  have a3 : 512 * (4 * (t.val % 2) + (3 : Fin 4).val) = 2048 * (t.val % 2) + 512 + 512 + 512 := by simp; omega
  rw [a0, a1, a2, a3]

end Cert.MlpFwdIdeal.Value
-- ==== Proof.Fwd.Cases.lean ====
module

public import proofs.«01_k».proof.Proof.Fwd.Step

/-! What a grid point leaves: in the accumulator, and in the blocks it writes. -/

@[expose] public section

set_option maxRecDepth 16384

noncomputable section

namespace Cert.MlpFwdIdeal.Value

open Finset Cert.MlpFwdIdeal Cert.MlpFwdIdeal.Gen Idealize.ShloMosaic Idealize.ShloMosaic.TcCoe Idealize.SL.Sem
open Idealize.ShloMosaic.Pipeline (Dat)

variable (m : (ℓ : Loc nD τ sig) → Buf (Elt Ideal) ℓ) {c : Dev nD} (t : Fin cfg0.N) {T : Tab} (f : Ok m c T)

include f

theorem zero_acc (h1 : t.val % 2 = 0) (x : Fin 512) (j : Fin 1024) :
    (k0_pay18 (F := Ideal) (ix2 x j) : EReal) = ((T.hh (2048 * (t.val % 2)) (512 * (t.val / 2) + x) j : ℝ) : EReal) := by
  rw [pay18_apply, h1]
  rfl

/-- After the first half of the inner columns. -/
theorem acc_even (h1 : t.val % 2 = 0) (x : Fin 512) (j : Fin 1024) :
    (show FVec Ideal S512x1024 .f32 from (outsAt0 m c t.val t.isLt).2.2.2.2) (ix2 x j) = ((T.hh 2048 (512 * (t.val / 2) + x) j : ℝ) : EReal) := by
  have h2 : ¬ t.val % 2 = 1 := by omega
  have e : 2048 * (t.val % 2) + 2048 = 2048 := by omega
  by_cases h0 : t.val % 16 = 0
  · rw [outsAt0_A m c t h0 h1 h2]
    frame_out
    have h := stepAcc_eq t f (zero_acc m t f h1) x j
    rw [e] at h
    exact h
  · rw [outsAt0_C m c t h0 h1 h2]
    frame_out
    have h := stepAcc_eq t f (zero_acc m t f h1) x j
    rw [e] at h
    exact h

/-- The accumulator the second half starts from. -/
abbrev prevAcc (c : Dev nD) (t : Fin cfg0.N) : FVec Ideal S512x1024 .f32 :=
  (outsAt0 m c (t.val - 1) (Nat.lt_of_le_of_lt (Nat.sub_le _ _) t.isLt)).2.2.2.2

/-- After the second half. -/
theorem acc_odd (h2 : t.val % 2 = 1) (x : Fin 512) (j : Fin 1024) :
    stepAcc m c t (prevAcc m c t) (ix2 x j) = ((T.hh 4096 (512 * (t.val / 2) + x) j : ℝ) : EReal) := by
  have h := stepAcc_eq t f (v := prevAcc m c t) (fun x j => ?_) x j
  · rw [show 2048 * (t.val % 2) + 2048 = 4096 by omega] at h
    exact h
  · have e := acc_even m ⟨t.val - 1, Nat.lt_of_le_of_lt (Nat.sub_le _ _) t.isLt⟩ f (by dsimp only; omega) x j
    rw [show 2048 * (t.val % 2) = 2048 by omega, show t.val / 2 = (t.val - 1) / 2 by omega]
    exact e

omit f in
theorem pay2_apply (v : FVec Ideal S512x1024 .bf16) (w w' : Vec Ideal S1x512x512 .bf16) (x : S512x512.Idx) : (k0_pay2 v w w' x : EReal) = k0_pay1 v w w' x := by
  unfold k0_pay2
  generalize k0_pay1 v w w' = a
  pointwise

/-- A slab of the inner row, by its place in the point's block. -/
theorem tile (s : Fin 4) (x : S512x512.Idx) :
    (slab m c t s x : EReal) = ((T.a (512 * (t.val / 2) + (x 0).val) (2048 * (t.val % 2) + (512 * s + (x 1).val)) : ℝ) : EReal) := by
  obtain ⟨a, b, rfl⟩ : ∃ a b : Fin 512, x = ix2 a b := ⟨x 0, x 1, by ext a; match a with | ⟨0, _⟩ => rfl | ⟨1, _⟩ => rfl⟩
  refine (slab_eq t f s a b).trans (congrArg (fun n => ((T.a (512 * (t.val / 2) + a) n : ℝ) : EReal)) ?_)
  show _ = 2048 * (t.val % 2) + (512 * s.val + b.val)
  omega

theorem tile0 (x : S512x512.Idx) :
    (k0_pay21 (iblk m c 0 t) (wa0 m c t) (wb0 m c t) x : EReal) = ((T.a (512 * (t.val / 2) + (x 0).val) (2048 * (t.val % 2) + (x 1).val) : ℝ) : EReal) := by
  refine (pay2_apply (k0_pay19 (iblk m c 0 t)) (wa0 m c t) (wb0 m c t) x).trans ?_
  rw [pay19_eq]
  refine (tile m t f 0 x).trans (congrArg (fun n => ((T.a (512 * (t.val / 2) + (x 0).val) (2048 * (t.val % 2) + n) : ℝ) : EReal)) ?_)
  exact Nat.zero_add _

theorem tile1 (x : S512x512.Idx) : (k0_pay25 (k0_pay19 (iblk m c 0 t)) (k0_pay23 (iblk m c 0 t)) (wa1 m c t) (wb1 m c t) x : EReal)
    = ((T.a (512 * (t.val / 2) + (x 0).val) (2048 * (t.val % 2) + (512 + (x 1).val)) : ℝ) : EReal) := by
  refine (pay2_apply (k0_pay19 (iblk m c 0 t)) (wa1 m c t) (wb1 m c t) x).trans ?_
  rw [pay19_eq]
  exact tile m t f 1 x

theorem tile2 (x : S512x512.Idx) : (k0_pay28 (k0_pay19 (iblk m c 0 t)) (wa2 m c t) (wb2 m c t) x : EReal)
    = ((T.a (512 * (t.val / 2) + (x 0).val) (2048 * (t.val % 2) + (1024 + (x 1).val)) : ℝ) : EReal) := by
  refine (pay2_apply (k0_pay19 (iblk m c 0 t)) (wa2 m c t) (wb2 m c t) x).trans ?_
  rw [pay19_eq]
  exact tile m t f 2 x

theorem tile3 (x : S512x512.Idx) : (k0_pay2 (k0_pay19 (iblk m c 0 t)) (wa3 m c t) (wb3 m c t) x : EReal)
    = ((T.a (512 * (t.val / 2) + (x 0).val) (2048 * (t.val % 2) + (1536 + (x 1).val)) : ℝ) : EReal) := by
  refine (pay2_apply (k0_pay19 (iblk m c 0 t)) (wa3 m c t) (wb3 m c t) x).trans ?_
  rw [pay19_eq]
  exact tile m t f 3 x

theorem case11 (x : Fin 512) (k : Fin 2048) : (show FVec Ideal S512x2048 .bf16 from (outsAt0 m c t.val t.isLt).1) (ix2 x k)
    = ((T.a (512 * (t.val / 2) + x) (2048 * (t.val % 2) + k) : ℝ) : EReal) := by
  have g : ∀ y : S512x2048.Idx, (show FVec Ideal S512x2048 .bf16 from (outsAt0 m c t.val t.isLt).1) y
      = ((T.a (512 * (t.val / 2) + (y 0).val) (2048 * (t.val % 2) + (y 1).val) : ℝ) : EReal) := fun y => by
    rcases (show t.val % 16 = 0 ∨ ¬ t.val % 16 = 0 ∧ t.val % 2 = 0 ∨ ¬ t.val % 16 = 0 ∧ t.val % 2 = 1 by omega) with h | h | h
    · rw [outsAt0_A m c t h (by omega) (by omega)]
      frame_out
      canon_tiles x h <;> rw [h0, h1]
      · exact tile3 m t f x
      · exact tile2 m t f x
      · exact tile1 m t f x
      · exact tile0 m t f x
    · rw [outsAt0_C m c t h.1 h.2 (by omega)]
      frame_out
      canon_tiles x h <;> rw [h0, h1]
      · exact tile3 m t f x
      · exact tile2 m t f x
      · exact tile1 m t f x
      · exact tile0 m t f x
    · rw [outsAt0_B m c t h.1 (by omega) h.2]
      frame_out
      canon_tiles x h <;> rw [h0, h1]
      · exact tile3 m t f x
      · exact tile2 m t f x
      · exact tile1 m t f x
      · exact tile0 m t f x
  exact g (ix2 x k)

theorem case12 (h2 : t.val % 2 = 1) (x : Fin 512) (j : Fin 1024) : (show FVec Ideal S512x1024 .f32 from (outsAt0 m c t.val t.isLt).2.1) (ix2 x j)
    = ((T.d2 (512 * (t.val / 2) + x) j : ℝ) : EReal) := by
  rw [outsAt0_B m c t (by omega) (by omega) h2]
  frame_out
  rw [read_unread_whole]
  exact pay4_eq (rowsOk m t f (acc_odd m t f h2)) x j

theorem case13 (h2 : t.val % 2 = 1) (x : Fin 512) (j : Fin 1024) : (show FVec Ideal S512x1024 .bf16 from (outsAt0 m c t.val t.isLt).2.2.1) (ix2 x j)
    = (((1 + T.gm j) * T.d2 (512 * (t.val / 2) + x) j : ℝ) : EReal) := by
  rw [outsAt0_B m c t (by omega) (by omega) h2]
  frame_out
  rw [read_unread_whole]
  exact pay6_eq (rowsOk m t f (acc_odd m t f h2)) x j

end Cert.MlpFwdIdeal.Value
-- ==== Proof.Fwd.Small.lean ====
module

public import proofs.«01_k».proof.Proof.Fwd.Cases

/-! What a grid point adds to the row of sums. -/

@[expose] public section

set_option maxRecDepth 16384

noncomputable section

namespace Cert.MlpFwdIdeal.Value

open Finset Cert.MlpFwdIdeal Cert.MlpFwdIdeal.Gen Idealize.ShloMosaic Idealize.ShloMosaic.TcCoe Idealize.SL.Sem
open Idealize.ShloMosaic.Pipeline (Dat)

variable (m : (ℓ : Loc nD τ sig) → Buf (Elt Ideal) ℓ) {c : Dev nD} (t : Fin cfg0.N) {T : Tab} (f : Ok m c T)

include f

/-- What the point adds to the row of sums, at a column. -/
def part (T : Tab) (n k : ℕ) : ℝ := ∑ x ∈ range 512, T.row (k / 1024) (512 * (n / 2) + x) (k % 1024)

omit f in
theorem part_eq (n q j : ℕ) {k : ℕ} (hj : j < 1024) (h : k = 1024 * q + j) : part T n k = ∑ i ∈ range 512, T.row q (512 * (n / 2) + i) j := by
  unfold part
  rw [h, show (1024 * q + j) / 1024 = q by omega, show (1024 * q + j) % 1024 = j by omega]

theorem case14A (h : t.val % 16 = 0) (y : S1x3200.Idx) : (show FVec Ideal S1x3200 .f32 from (outsAt0 m c t.val t.isLt).2.2.2.1) y = (0 : EReal) := by
  rw [outsAt0_A m c t h (by omega) (by omega)]
  frame_out
  exact pay17_apply y

theorem case14C (h : ¬ t.val % 16 = 0) (h1 : t.val % 2 = 0) (y : S1x3200.Idx) : (show FVec Ideal S1x3200 .f32 from (outsAt0 m c t.val t.isLt).2.2.2.1) y
    = (show FVec Ideal S1x3200 .f32 from (outsAt0 m c (t.val - 1) (Nat.lt_of_le_of_lt (Nat.sub_le _ _) t.isLt)).2.2.2.1) y := by
  rw [outsAt0_C m c t h h1 (by omega)]
  rfl

theorem case14B (h2 : t.val % 2 = 1) (y : S1x3200.Idx) : (show FVec Ideal S1x3200 .f32 from (outsAt0 m c t.val t.isLt).2.2.2.1) y
    = (show FVec Ideal S1x3200 .f32 from (outsAt0 m c (t.val - 1) (Nat.lt_of_le_of_lt (Nat.sub_le _ _) t.isLt)).2.2.2.1) y + ((part T t.val (y 1).val : ℝ) : EReal) := by
  have q := rowsOk m t f (acc_odd m t f h2)
  rw [outsAt0_B m c t (by omega) (by omega) h2]
  frame_out
  rw [read_unread_whole]
  generalize hp : (outsAt0 m c (t.val - 1) _).2.2.2.1 = prev
  canon_tiles x h using (View.cover_of_tiledBy _ ![1, 128] (by sl_kernel_rfl) y)
  · refine (row0 q _ x).trans (congrArg₂ (fun a b : EReal => a + b) ?_ (congrArg (fun a : ℝ => (a : EReal)) (part_eq t.val 0 (x 1).val (x 1).isLt (by omega)).symm))
    pointwise [h0, h1]
    exact congrArg prev (by blk_ext [h0, h1])
  · refine (row2 q _ x).trans (congrArg₂ (fun a b : EReal => a + b) ?_ (congrArg (fun a : ℝ => (a : EReal)) (part_eq t.val 2 (x 1).val (x 1).isLt (by omega)).symm))
    pointwise [h0, h1]
    exact congrArg prev (by blk_ext [h0, h1])
  · refine (row1 q _ x).trans (congrArg₂ (fun a b : EReal => a + b) ?_ (congrArg (fun a : ℝ => (a : EReal)) (part_eq t.val 1 (x 1).val (x 1).isLt (by omega)).symm))
    pointwise [h0, h1]
    exact congrArg prev (by blk_ext [h0, h1])
  · have hx : (x 1).val < 128 := (x 1).isLt
    refine (row3 q _ x (x 1).val).trans (congrArg₂ (fun a b : EReal => a + b) ?_ (congrArg (fun a : ℝ => (a : EReal)) (part_eq t.val 3 (x 1).val (by omega) (by omega)).symm))
    pointwise [h0, h1]
    exact congrArg prev (by blk_ext [h0, h1])

end Cert.MlpFwdIdeal.Value
-- ==== Proof.Fwd.Claim.lean ====
module

public import proofs.«01_k».proof.Defs
public import proofs.«01_k».proof.Proof.Gen.Pre_mlf_finite
public import proofs.«01_k».proof.Proof.Gen.MlpFwdIdeal.Value
public import proofs.«01_k».proof.Proof.Fwd.Ref2
public import proofs.«01_k».proof.Proof.Fwd.Small
public import proofs.«01_k».proof.Proof.Mlp.Claim
public import proofs.«01_k».proof.Proof.Common.Real

/-! The feed-forward layer's forward call computes the reference's loss, what it hands back, and the gradients it starts. -/

@[expose] public section

set_option maxRecDepth 16384

noncomputable section

namespace Cert.MlpFwdIdeal.Value

/-- The table of the row of sums. -/
def Tab.rowSum (T : Tab) (_ k : ℕ) : ℝ := ∑ r ∈ Finset.range 4096, T.row (k / 1024) r (k % 1024)

end Cert.MlpFwdIdeal.Value

namespace Cert.MlpFwdRefIdeal.Read

open Finset Cert.MlpFwdRefIdeal Idealize.ShloMosaic Idealize.ShloMosaic.TcCoe Idealize.SL.Sem
open Cert.MlpFwdIdeal.Value
open Cert.MlpBwdIdeal.Value (arrayOf array_eq)

variable {x0 x1 : FVec Ideal S4096x1024 .f32} {x2 x3 x4 x5 x6 : FVec Ideal S1x1024 .f32} {x7 : FVec Ideal S1024x4096 .f32}
  {x8 : FVec Ideal S4096x1024 .f32} {x9 x10 x11 : FVec Ideal S1x1024 .f32} {x12 : FVec Ideal S4096x1024 .f32} {T : Tab}
  (f : Holds x0 x1 x2 x3 x4 x5 x6 x7 x8 x9 x10 x11 x12 T)

include f

theorem a_array : val_main_v116 (F := Ideal) x0 x1 x2 x3 x4 x5 x6 x7 = arrayOf (a := 4096) (b := 4096) T.a := by
  have e := a_eq f
  unfold val_main_v116
  generalize val_main_v34 (F := Ideal) x0 x1 x2 x3 x4 x5 x6 x7 = a at *
  exact array_eq fun r k => e r k

theorem d2_array : val_main_v110 (F := Ideal) x0 x1 x2 x3 x4 x5 x6 x7 x8 x9 x10 x11 x12 = arrayOf (a := 4096) (b := 1024) T.d2 :=
  array_eq fun r j => d2_line f r j

theorem dh_array : val_main_v117 (F := Ideal) x0 x1 x2 x3 x4 x5 x6 x7 x8 x9 x10 x11 x12 = arrayOf (a := 4096) (b := 1024) (fun r j => (1 + T.gm j) * T.d2 r j) := by
  have e := dh_line f
  unfold val_main_v117
  generalize val_main_v112 (F := Ideal) x0 x1 x2 x3 x4 x5 x6 x7 x8 x9 x10 x11 x12 = a at *
  exact array_eq fun r j => e r j

theorem small_array : val_main_v119 (F := Ideal) x0 x1 x2 x3 x4 x5 x6 x7 x8 x9 x10 x11 x12 = arrayOf (a := 1) (b := 3200) T.rowSum := by
  refine array_eq fun z k => ?_
  rw [Subsingleton.elim z 0]
  exact Eq.trans (congrArg (val_main_v119 (F := Ideal) x0 x1 x2 x3 x4 x5 x6 x7 x8 x9 x10 x11 x12) (congrArg (ix2 0) (Fin.ext (Nat.div_add_mod k.val 1024).symm)))
    (small_line f (⟨k.val % 1024, Nat.mod_lt _ (by decide)⟩ : Fin 1024) (⟨k.val / 1024, by omega⟩ : Fin 4) ((Nat.div_add_mod k.val 1024).trans_lt k.isLt))

end Cert.MlpFwdRefIdeal.Read

namespace Cert.MlpFwdIdeal.Value

open Finset Cert.MlpFwdIdeal Cert.MlpFwdIdeal.Gen Idealize.ShloMosaic Idealize.ShloMosaic.TcCoe Idealize.SL.Sem
open Cert.Common (real_of_lt)
open Cert.MlpBwdIdeal.Value (arrayOf array_eq)

variable (m : (ℓ : Loc nD τ sig) → Buf (Elt Ideal) ℓ) (c : Dev nD) {T : Tab} (f : Ok m c T)

include f

/-- The inner row, as the kernel leaves it. -/
theorem arr11 : (dats m 0 c).arrAt 11 cfg0.N = arrayOf (a := 4096) (b := 4096) T.a := by
  refine (dats m 0 c).arrAt_eq_of_covers 11 _ (by decide +kernel) fun t hf y => ?_
  blk_simp
  rw [after0_11]
  obtain ⟨x, k, rfl⟩ : ∃ (x : Fin 512) (k : Fin 2048), y = ix2 x k := ⟨y 0, y 1, by ext a; match a with | ⟨0, _⟩ => rfl | ⟨1, _⟩ => rfl⟩
  have e : (win0_11.blk t).view.emb (ix2 x k) = (ix2 ⟨512 * (t.val / 2) + x.val, rows t x⟩ ⟨2048 * (t.val % 2) + k.val, cols t k⟩ : S4096x4096.Idx) := by blk_ext [idx t]
  rw [e]
  exact (case11 m t f x k)

omit f in
/-- The row blocks are written back after their second half. -/
theorem odd_of_flush : ∀ t : Fin cfg0.N, ((cfg0.win 12).flush t = true → t.val % 2 = 1) ∧ ((cfg0.win 13).flush t = true → t.val % 2 = 1) :=
  (by decide +kernel : ∀ t : Fin grid0.N, _)

/-- The gradient at the second norm's argument, as the kernel leaves it. -/
theorem arr12 : (dats m 0 c).arrAt 12 cfg0.N = arrayOf (a := 4096) (b := 1024) T.d2 := by
  refine (dats m 0 c).arrAt_eq_of_covers 12 _ (by decide +kernel) fun t hf y => ?_
  blk_simp
  rw [after0_12]
  obtain ⟨x, j, rfl⟩ : ∃ (x : Fin 512) (j : Fin 1024), y = ix2 x j := ⟨y 0, y 1, by ext a; match a with | ⟨0, _⟩ => rfl | ⟨1, _⟩ => rfl⟩
  have e : (win0_12.blk t).view.emb (ix2 x j) = (ix2 ⟨512 * (t.val / 2) + x.val, rows t x⟩ j : S4096x1024.Idx) := by blk_ext [idx t]
  rw [e]
  exact (case12 m t f ((odd_of_flush t).1 hf) x j)

/-- The gradient at the layer's result, as the kernel leaves it. -/
theorem arr13 : (dats m 0 c).arrAt 13 cfg0.N = arrayOf (a := 4096) (b := 1024) (fun r j => (1 + T.gm j) * T.d2 r j) := by
  refine (dats m 0 c).arrAt_eq_of_covers 13 _ (by decide +kernel) fun t hf y => ?_
  blk_simp
  rw [after0_13]
  obtain ⟨x, j, rfl⟩ : ∃ (x : Fin 512) (j : Fin 1024), y = ix2 x j := ⟨y 0, y 1, by ext a; match a with | ⟨0, _⟩ => rfl | ⟨1, _⟩ => rfl⟩
  have e : (win0_13.blk t).view.emb (ix2 x j) = (ix2 ⟨512 * (t.val / 2) + x.val, rows t x⟩ j : S4096x1024.Idx) := by blk_ext [idx t]
  rw [e]
  exact (case13 m t f ((odd_of_flush t).2 hf) x j)

/-- The row of sums after a grid point: the rows whose second half has been read. -/
theorem small_at (n : ℕ) : ∀ (h : n < cfg0.N) (y : S1x3200.Idx), (show FVec Ideal S1x3200 .f32 from (outsAt0 m c n h).2.2.2.1) y
    = ((∑ r ∈ range (512 * ((n + 1) / 2)), T.row ((y 1).val / 1024) r ((y 1).val % 1024) : ℝ) : EReal) := by
  induction n with
  | zero => exact fun h y => (case14A m ⟨0, h⟩ f rfl y).trans (by simp)
  | succ n ih =>
    intro h y
    have hN : n + 1 < 16 := h
    have e := ih (by omega) y
    rcases Nat.mod_two_eq_zero_or_one (n + 1) with h2 | h2
    · refine (case14C m ⟨n + 1, h⟩ f (show ¬ (n + 1) % 16 = 0 by omega) h2 y).trans (e.trans ?_)
      rw [show (n + 1 + 1) / 2 = (n + 1) / 2 by omega]
    · refine (case14B m ⟨n + 1, h⟩ f h2 y).trans ?_
      refine (congrArg (· + ((part T (n + 1) (y 1).val : ℝ) : EReal)) e).trans ?_
      rw [← EReal.coe_add, show 512 * ((n + 1 + 1) / 2) = 512 * ((n + 1) / 2) + 512 by omega, sum_range_add]
      rfl

/-- The row of sums, as the kernel leaves it. -/
theorem arr14 : (dats m 0 c).arrAt 14 cfg0.N = arrayOf (a := 1) (b := 3200) T.rowSum := by
  refine (dats m 0 c).arrAt_eq_of_after_last 14 t0_15 (by decide +kernel) _ fun j => ?_
  blk_simp
  rw [after0_14]
  exact small_at m c f 15 (by decide) j

omit f in
/-- The call's value claim: for finite arguments it computes the layer, the loss and its gradient. -/
theorem algebraic : Cert.algebraic_MlpFwdIdeal_MlpFwdRefIdeal_pre_mlf_finite := by
  intro m g m' g' hpre hagree
  refine ⟨_, _, _, _, run_blocks m g, ?_⟩
  refine (θ_run _ _ _).mono (fun r h c => ?_) (Cert.MlpFwdRefIdeal.Value.run m' g')
  obtain ⟨h0, h1, h2, h3, h4⟩ := h c
  obtain ⟨e0, e1, e2, e3, e4, e5, e6, e7, e8, e9, e10, e11, e12⟩ := hagree c
  obtain ⟨p0, p1, p2, p3, p4, p5, p6, p7, p8, p9, p10, p11, p12⟩ := hpre c
  obtain ⟨T, f⟩ := (⟨_, holds _ _ _ _ _ _ _ _ _ _ _ _ _ (fun i => real_of_lt (congrFun p0 i)) (fun i => real_of_lt (congrFun p1 i)) (fun i => real_of_lt (congrFun p2 i))
    (fun i => real_of_lt (congrFun p3 i)) (fun i => real_of_lt (congrFun p4 i)) (fun i => real_of_lt (congrFun p5 i)) (fun i => real_of_lt (congrFun p6 i))
    (fun i => real_of_lt (congrFun p7 i)) (fun i => real_of_lt (congrFun p8 i)) (fun i => real_of_lt (congrFun p9 i)) (fun i => real_of_lt (congrFun p10 i)) (fun i => real_of_lt (congrFun p11 i)) (fun i => real_of_lt (congrFun p12 i))⟩ : ∃ T, Holds _ _ _ _ _ _ _ _ _ _ _ _ _ T)
  have fk : Ok m c T := by
    unfold Ok
    rw [V_main_arg0, V_main_arg1, V_main_arg2, V_main_arg3, V_main_arg4, V_main_arg5, V_main_arg6, V_main_arg7, V_main_arg8, V_main_arg9, V_main_arg10, V_main_arg11, V_main_arg12]
    exact f
  have fr : Holds (m' ((c : Thread nD τ).loc Cert.MlpFwdRefIdeal.main_arg0)) (m' ((c : Thread nD τ).loc Cert.MlpFwdRefIdeal.main_arg1)) (m' ((c : Thread nD τ).loc Cert.MlpFwdRefIdeal.main_arg2)) (m' ((c : Thread nD τ).loc Cert.MlpFwdRefIdeal.main_arg3)) (m' ((c : Thread nD τ).loc Cert.MlpFwdRefIdeal.main_arg4)) (m' ((c : Thread nD τ).loc Cert.MlpFwdRefIdeal.main_arg5)) (m' ((c : Thread nD τ).loc Cert.MlpFwdRefIdeal.main_arg6)) (m' ((c : Thread nD τ).loc Cert.MlpFwdRefIdeal.main_arg7)) (m' ((c : Thread nD τ).loc Cert.MlpFwdRefIdeal.main_arg8)) (m' ((c : Thread nD τ).loc Cert.MlpFwdRefIdeal.main_arg9)) (m' ((c : Thread nD τ).loc Cert.MlpFwdRefIdeal.main_arg10)) (m' ((c : Thread nD τ).loc Cert.MlpFwdRefIdeal.main_arg11)) (m' ((c : Thread nD τ).loc Cert.MlpFwdRefIdeal.main_arg12)) T := by
    rw [e0, e1, e2, e3, e4, e5, e6, e7, e8, e9, e10, e11, e12]
    exact f
  refine ⟨h0.trans ?_, h1.trans ?_, h2.trans ?_, h3.trans ?_, h4⟩
  · exact (Cert.MlpFwdRefIdeal.Read.val_main_v116_eq _).trans ((Cert.MlpFwdRefIdeal.Read.a_array fr).trans (arr11 m c fk).symm)
  · exact (Cert.MlpFwdRefIdeal.Read.val_main_v110_eq _).trans ((Cert.MlpFwdRefIdeal.Read.d2_array fr).trans (arr12 m c fk).symm)
  · exact (Cert.MlpFwdRefIdeal.Read.val_main_v117_eq _).trans ((Cert.MlpFwdRefIdeal.Read.dh_array fr).trans (arr13 m c fk).symm)
  · exact (Cert.MlpFwdRefIdeal.Read.val_main_v119_eq _).trans ((Cert.MlpFwdRefIdeal.Read.small_array fr).trans (arr14 m c fk).symm)

end Cert.MlpFwdIdeal.Value
-- ==== Proof.Mla.Model.lean ====
module

public import proofs.«01_k».proof.Proof.Mlp.Model

/-! The latent attention's backward over the reals: what both programs compute, row by row. -/

@[expose] public section

noncomputable section

namespace Cert.MlaBwdIdeal.Value

open Finset Idealize.ShloMosaic
open Cert.MlpBwdIdeal.Value (mean)

/-- The attention's scale, as both programs have it, -/
def sc : ℝ := (Ideal.ofBits FTy.f32 0x3D93CD3A#32).toReal
/-- and what the norms add to the mean square. -/
def ep : ℝ := (Ideal.ofBits FTy.f32 0x358637BD#32).toReal
theorem sc_eq : Ideal.ofBits FTy.f32 0x3D93CD3A#32 = ((sc : ℝ) : EReal) := by
  have h : ∃ r : ℝ, Ideal.ofBits FTy.f32 0x3D93CD3A#32 = (r : EReal) := by
    simp [Ideal.ofBits, Ideal.ieee, -EReal.coe_mul]
  obtain ⟨r, e⟩ := h
  rw [sc, e, EReal.toReal_coe]
theorem ep_pos : ∃ r : ℝ, 0 < r ∧ Ideal.ofBits FTy.f32 0x358637BD#32 = (r : EReal) := by
  refine ⟨_, ?_, by simp [Ideal.ofBits, Ideal.ieee, -EReal.coe_mul]; rfl⟩
  positivity
theorem ep_eq : Ideal.ofBits FTy.f32 0x358637BD#32 = ((ep : ℝ) : EReal) := by
  obtain ⟨r, _, e⟩ := ep_pos
  rw [ep, e, EReal.toReal_coe]
theorem ep_gt : 0 < ep := by
  obtain ⟨r, h, e⟩ := ep_pos
  rwa [ep, e, EReal.toReal_coe]
theorem n_eq : Ideal.ofBits FTy.f32 0x43800000#32 = ((256 : ℝ) : EReal) := by
  simp [Ideal.ofBits, Ideal.ieee, -EReal.coe_mul]
  norm_num

section Norm
variable (x w y : ℕ → ℝ)

/-- A row's mean square, -/
def va : ℝ := mean 256 (fun j => x j * x j) + ep
/-- the reciprocal of its root, -/
def rs : ℝ := (Real.sqrt (va x))⁻¹
/-- the normalised row, -/
def xh (j : ℕ) : ℝ := x j * rs x
/-- and the norm's gradient, where the gradient at its result is `y`. -/
def dx (j : ℕ) : ℝ := rs x * (y j * w j - xh x j * mean 256 fun j => y j * w j * xh x j)

theorem va_pos : 0 < va x :=
  add_pos_of_nonneg_of_pos (div_nonneg (sum_nonneg fun _ _ => mul_self_nonneg _) (Nat.cast_nonneg _)) ep_gt

theorem rs_sq : rs x * rs x = 1 / va x := by
  unfold rs
  rw [← mul_inv, Real.mul_self_sqrt (va_pos x).le, one_div]

/-- The same gradient, as the chain rule through the mean square writes it. -/
theorem dx_eq (j : ℕ) :
    y j * w j * rs x + x j * ((∑ j ∈ range 256, x j * (y j * w j)) * (-(1 / 2) * (rs x / va x)) / 256)
      + (∑ j ∈ range 256, x j * (y j * w j)) * (-(1 / 2) * (rs x / va x)) / 256 * x j = dx x w y j := by
  have e : rs x / va x = rs x * (rs x * rs x) := by rw [rs_sq]; ring
  have e2 : ∑ j ∈ range 256, y j * w j * xh x j = (∑ j ∈ range 256, x j * (y j * w j)) * rs x := by
    rw [sum_mul]
    exact sum_congr rfl fun j _ => by unfold xh; ring
  unfold dx mean
  rw [e2, e]
  unfold xh
  push_cast
  ring

end Norm

/-- The arguments' real tables, and those of the rotary angle's cosine and sine. -/
structure Tab where
  cq : ℕ → ℕ → ℝ
  ck : ℕ → ℕ → ℝ
  qn : ℕ → ℝ
  kn : ℕ → ℝ
  wq : ℕ → ℕ → ℝ
  wk : ℕ → ℕ → ℝ
  dq : ℕ → ℕ → ℕ → ℝ
  dk : ℕ → ℕ → ℕ → ℝ
  dv : ℕ → ℕ → ℕ → ℝ
  co : ℕ → ℕ → ℝ
  si : ℕ → ℕ → ℝ

namespace Tab
variable (T : Tab)

/-- The rotary factors over a head's padded columns. -/
def c1 (r d : ℕ) : ℝ := if d < 128 then 1 else if d < 160 then T.co r (d - 128) else if d < 192 then T.co r (d - 160) else 0
def s1 (r d : ℕ) : ℝ := if d < 128 then 0 else if d < 160 then T.si r (d - 128) else if d < 192 then T.si r (d - 160) else 0
/-- A head's gradients at the query and the key, padded. -/
def dqp (h r d : ℕ) : ℝ := if d < 192 then T.dq h r d else 0
def dkp (h r d : ℕ) : ℝ := if d < 192 then T.dk h r d else 0

/-- The gradient at the query's projection, -/
def gq (r k : ℕ) : ℝ :=
  if k % 192 < 128 then T.dq (k / 192) r (k % 192) * sc
  else if k % 192 < 160 then T.dq (k / 192) r (k % 192 + 32) * sc * T.si r (k % 192 - 128) + T.dq (k / 192) r (k % 192) * sc * T.co r (k % 192 - 128)
  else T.dq (k / 192) r (k % 192) * sc * T.co r (k % 192 - 160) + -(T.dq (k / 192) r (k % 192 - 32) * sc) * T.si r (k % 192 - 160)
/-- and at the key's and the value's. -/
def gk (r k : ℕ) : ℝ := if k % 256 < 128 then T.dk (k / 256) r (k % 256) else T.dv (k / 256) r (k % 256 - 128)
/-- The gradients at the two norms' results. -/
def yq (r j : ℕ) : ℝ := ∑ k ∈ range 768, T.gq r k * T.wq j k
def yk (r j : ℕ) : ℝ := ∑ k ∈ range 1024, T.gk r k * T.wk j k

/-- The kernel's arrangement of the query's gradient and of its weights, -/
def eq (r k : ℕ) : ℝ :=
  if k < 1024 then T.dqp (k / 256) r (k % 256) * sc * T.c1 r (k % 256) else T.dqp ((k - 1024) / 256) r ((k - 1024) % 256) * sc * T.s1 r ((k - 1024) % 256)
def wqx (k j : ℕ) : ℝ :=
  if k < 1024 then if k % 256 < 192 then T.wq j (192 * (k / 256) + k % 256) else 0
  else if (k - 1024) % 256 < 128 then 0 else if (k - 1024) % 256 < 160 then -T.wq j (192 * ((k - 1024) / 256) + (k - 1024) % 256 + 32)
  else if (k - 1024) % 256 < 192 then T.wq j (192 * ((k - 1024) / 256) + (k - 1024) % 256 - 32) else 0
/-- and of the key's and the value's. -/
def ek (r k : ℕ) : ℝ := if k < 1024 then T.dkp (k / 256) r (k % 256) else T.dv ((k - 1024) / 128) r ((k - 1024) % 128)
def wkx (j k : ℕ) : ℝ :=
  if k < 1024 then if k % 256 < 128 then T.wk j (256 * (k / 256) + k % 256) else 0 else T.wk j (256 * ((k - 1024) / 128) + (128 + (k - 1024) % 128))

/-- The heads' gradients at the key, added. -/
def sk (r d : ℕ) : ℝ := ∑ h ∈ range 4, T.dkp h r d
/-- The gradient's row. -/
def dz (r k : ℕ) : ℝ :=
  if k < 256 then dx (T.cq r) T.qn (T.yq r) k else if k < 512 then dx (T.ck r) T.kn (T.yk r) (k - 256)
  else if k < 768 then T.sk r (k - 512) * T.c1 r (k - 512) else T.sk r (k - 768) * T.s1 r (k - 768)
/-- What row `r` adds to the gradients of the norms' weights. -/
def row (r k : ℕ) : ℝ := if k < 256 then T.yq r k * xh (T.cq r) k else T.yk r (k - 256) * xh (T.ck r) (k - 256)
/-- The first `n` rows together. -/
def dnw (n k : ℕ) : ℝ := ∑ r ∈ range n, T.row r k

end Tab

theorem sum_blocks (a n : ℕ) (f : ℕ → ℝ) : ∑ k ∈ range (a * n), f k = ∑ h ∈ range n, ∑ d ∈ range a, f (a * h + d) := by
  induction n with
  | zero => rfl
  | succ n ih => rw [Nat.mul_succ, sum_range_add, ih, sum_range_succ]

theorem sum_192 (f : ℕ → ℝ) : ∑ d ∈ range 192, f d = ∑ d ∈ range 128, f d + ∑ i ∈ range 32, f (128 + i) + ∑ i ∈ range 32, f (160 + i) := by
  rw [show 192 = 128 + 32 + 32 from rfl, sum_range_add, sum_range_add]

theorem sum_256 (f : ℕ → ℝ) : ∑ d ∈ range 256, f d = ∑ d ∈ range 192, f d + ∑ i ∈ range 64, f (192 + i) := by
  rw [show 256 = 192 + 64 from rfl, sum_range_add]

namespace Tab
variable (T : Tab)

theorem eq_lo (r : ℕ) {h d : ℕ} (hh : h < 4) (hd : d < 256) : T.eq r (256 * h + d) = T.dqp h r d * sc * T.c1 r d := by
  unfold eq
  rw [if_pos (by omega), show (256 * h + d) / 256 = h by omega, show (256 * h + d) % 256 = d by omega]

theorem eq_hi (r : ℕ) {h d : ℕ} (hd : d < 256) : T.eq r (1024 + (256 * h + d)) = T.dqp h r d * sc * T.s1 r d := by
  unfold eq
  rw [if_neg (by omega), show (1024 + (256 * h + d) - 1024) / 256 = h by omega, show (1024 + (256 * h + d) - 1024) % 256 = d by omega]

theorem wqx_lo (j : ℕ) {h d : ℕ} (hh : h < 4) (hd : d < 256) : T.wqx (256 * h + d) j = if d < 192 then T.wq j (192 * h + d) else 0 := by
  unfold wqx
  rw [if_pos (by omega), show (256 * h + d) / 256 = h by omega, show (256 * h + d) % 256 = d by omega]

theorem wqx_hi (j : ℕ) {h d : ℕ} (hd : d < 256) : T.wqx (1024 + (256 * h + d)) j
    = if d < 128 then 0 else if d < 160 then -T.wq j (192 * h + d + 32) else if d < 192 then T.wq j (192 * h + d - 32) else 0 := by
  unfold wqx
  rw [if_neg (by omega), show (1024 + (256 * h + d) - 1024) / 256 = h by omega, show (1024 + (256 * h + d) - 1024) % 256 = d by omega]

theorem gq_at (r : ℕ) {h d : ℕ} (hd : d < 192) : T.gq r (192 * h + d) = if d < 128 then T.dq h r d * sc
    else if d < 160 then T.dq h r (d + 32) * sc * T.si r (d - 128) + T.dq h r d * sc * T.co r (d - 128)
    else T.dq h r d * sc * T.co r (d - 160) + -(T.dq h r (d - 32) * sc) * T.si r (d - 160) := by
  unfold gq
  rw [show (192 * h + d) / 192 = h by omega, show (192 * h + d) % 192 = d by omega]

theorem head_q (r j : ℕ) {h : ℕ} (hh : h < 4) :
    ∑ d ∈ range 256, T.eq r (256 * h + d) * T.wqx (256 * h + d) j + ∑ d ∈ range 256, T.eq r (1024 + (256 * h + d)) * T.wqx (1024 + (256 * h + d)) j
      = ∑ d ∈ range 192, T.gq r (192 * h + d) * T.wq j (192 * h + d) := by
  obtain ⟨F, hF⟩ : ∃ F : ℕ → ℝ, ∀ d, F d = T.dqp h r d * sc * T.c1 r d * (if d < 192 then T.wq j (192 * h + d) else 0) + T.dqp h r d * sc * T.s1 r d *
      (if d < 128 then 0 else if d < 160 then -T.wq j (192 * h + d + 32) else if d < 192 then T.wq j (192 * h + d - 32) else 0) := ⟨_, fun _ => rfl⟩
  obtain ⟨G, hG⟩ : ∃ G : ℕ → ℝ, ∀ d, G d = (if d < 128 then T.dq h r d * sc
      else if d < 160 then T.dq h r (d + 32) * sc * T.si r (d - 128) + T.dq h r d * sc * T.co r (d - 128)
      else T.dq h r d * sc * T.co r (d - 160) + -(T.dq h r (d - 32) * sc) * T.si r (d - 160)) * T.wq j (192 * h + d) := ⟨_, fun _ => rfl⟩
  have e : ∀ d ∈ range 256, T.eq r (256 * h + d) * T.wqx (256 * h + d) j + T.eq r (1024 + (256 * h + d)) * T.wqx (1024 + (256 * h + d)) j = F d := fun d hd => by
    rw [T.eq_lo r hh (mem_range.1 hd), T.eq_hi r (mem_range.1 hd), T.wqx_lo j hh (mem_range.1 hd), T.wqx_hi j (mem_range.1 hd), hF]
  have e' : ∀ d ∈ range 192, T.gq r (192 * h + d) * T.wq j (192 * h + d) = G d := fun d hd => by
    rw [T.gq_at r (mem_range.1 hd), hG]
  have z : ∑ i ∈ range 64, F (192 + i) = 0 := sum_eq_zero fun i hi => by
    rw [hF]
    simp only [dqp, if_neg (show ¬ 192 + i < 192 by omega)]
    ring
  rw [← sum_add_distrib, sum_congr rfl e, sum_congr rfl e', sum_256, z, add_zero, sum_192 F, sum_192 G, add_assoc, add_assoc]
  refine congrArg₂ (· + ·) (sum_congr rfl fun d hd => ?_) ?_
  · have := mem_range.1 hd
    rw [hF, hG]
    simp only [dqp, c1, s1, if_pos this, if_pos (show d < 192 by omega)]
    ring
  · rw [← sum_add_distrib, ← sum_add_distrib]
    refine sum_congr rfl fun i hi => ?_
    have := mem_range.1 hi
    rw [hF, hF, hG, hG]
    simp only [dqp, c1, s1, if_neg (show ¬ 128 + i < 128 by omega), if_neg (show ¬ 160 + i < 128 by omega), if_pos (show 128 + i < 160 by omega),
      if_neg (show ¬ 160 + i < 160 by omega), if_pos (show 128 + i < 192 by omega), if_pos (show 160 + i < 192 by omega),
      show 128 + i - 128 = i by omega, show 160 + i - 160 = i by omega, show 128 + i + 32 = 160 + i by omega, show 160 + i - 32 = 128 + i by omega,
      show 192 * h + (128 + i) + 32 = 192 * h + (160 + i) by omega, show 192 * h + (160 + i) - 32 = 192 * h + (128 + i) by omega]
    ring

/-- The kernel's one product over its arrangement is the projection's transpose. -/
theorem yq_eq (r j : ℕ) : ∑ k ∈ range 2048, T.eq r k * T.wqx k j = T.yq r j := by
  unfold yq
  rw [show 2048 = 1024 + 1024 from rfl, sum_range_add, show 1024 = 256 * 4 from rfl, sum_blocks, sum_blocks, show 768 = 192 * 4 from rfl, sum_blocks,
    ← sum_add_distrib]
  exact sum_congr rfl fun h hh => T.head_q r j (mem_range.1 hh)

theorem head_k (r j : ℕ) {h : ℕ} (hh : h < 4) :
    ∑ d ∈ range 256, T.ek r (256 * h + d) * T.wkx j (256 * h + d) + ∑ d ∈ range 128, T.ek r (1024 + (128 * h + d)) * T.wkx j (1024 + (128 * h + d))
      = ∑ d ∈ range 256, T.gk r (256 * h + d) * T.wk j (256 * h + d) := by
  rw [show 256 = 128 + 128 from rfl, sum_range_add, sum_range_add]
  have z : ∑ d ∈ range 128, T.ek r ((128 + 128) * h + (128 + d)) * T.wkx j ((128 + 128) * h + (128 + d)) = 0 := sum_eq_zero fun d hd => by
    have := mem_range.1 hd
    unfold wkx
    rw [if_pos (by omega), if_neg (by omega), mul_zero]
  rw [z, add_zero]
  refine congrArg₂ (· + ·) (sum_congr rfl fun d hd => ?_) (sum_congr rfl fun d hd => ?_)
  · have := mem_range.1 hd
    unfold ek wkx gk dkp
    rw [show ((128 + 128) * h + d) / 256 = h by omega, show ((128 + 128) * h + d) % 256 = d by omega, if_pos (by omega), if_pos (by omega), if_pos (by omega),
      if_pos (by omega), if_pos (by omega)]
  · have := mem_range.1 hd
    unfold ek wkx gk
    rw [show ((128 + 128) * h + (128 + d)) / 256 = h by omega, show ((128 + 128) * h + (128 + d)) % 256 = 128 + d by omega,
      show (1024 + (128 * h + d) - 1024) / 128 = h by omega, show (1024 + (128 * h + d) - 1024) % 128 = d by omega, if_neg (by omega), if_neg (by omega),
      if_neg (by omega), show 128 + d - 128 = d by omega]

theorem yk_eq (r j : ℕ) : ∑ k ∈ range 1536, T.ek r k * T.wkx j k = T.yk r j := by
  unfold yk
  rw [show 1536 = 256 * 4 + 128 * 4 from rfl, sum_range_add, sum_blocks, sum_blocks, show 1024 = 256 * 4 from rfl, sum_blocks, ← sum_add_distrib]
  exact sum_congr rfl fun h hh => T.head_k r j (mem_range.1 hh)

end Tab

end Cert.MlaBwdIdeal.Value
-- ==== Proof.Mla.Ref.lean ====
module

public import proofs.«01_k».proof.Proof.Gen.MlaBwdRefIdeal.Read
public import proofs.«01_k».proof.Proof.In.Rope
public import proofs.«01_k».proof.Proof.Mla.Model
public import Idealize.ShloMosaic.Lib.WordCmp

/-! The reference's lines, read at an index, as the real tables. -/

@[expose] public section

set_option maxRecDepth 16384

noncomputable section

namespace Cert.MlaBwdIdeal.Value

open Finset Idealize.ShloMosaic
open Cert.AttnBwdIdeal.Value (t2 t2_eq t3 t3_eq)
open Cert.InBwdIdeal.Value (angle cos_angle_real sin_angle_real)

variable (x0 x1 : (⟨2, ![4096, 256]⟩ : Shape).Idx → EReal) (x2 : (⟨1, ![4096]⟩ : Shape).Idx → BitVec 32) (x3 x4 : (⟨2, ![1, 256]⟩ : Shape).Idx → EReal)
  (x5 : (⟨2, ![256, 768]⟩ : Shape).Idx → EReal) (x6 : (⟨2, ![256, 1024]⟩ : Shape).Idx → EReal) (x7 x8 : (⟨3, ![4, 4096, 192]⟩ : Shape).Idx → EReal)
  (x9 : (⟨3, ![4, 4096, 128]⟩ : Shape).Idx → EReal)

/-- The tables of the arguments. -/
def tab : Tab where
  cq := t2 x0
  ck := t2 x1
  qn := t2 x3 0
  kn := t2 x4 0
  wq := t2 x5
  wk := t2 x6
  dq := t3 x7
  dk := t3 x8
  dv := t3 x9
  co r k := if h : r < 4096 then (Ideal.cos (angle (x2 (ix1 ⟨r, h⟩)) k)).toReal else 0
  si r k := if h : r < 4096 then (Ideal.sin (angle (x2 (ix1 ⟨r, h⟩)) k)).toReal else 0

/-- The table holds the arguments. -/
structure Holds (T : Tab) : Prop where
  h0 : ∀ (r : Fin 4096) (j : Fin 256), x0 (ix2 r j) = ((T.cq r j : ℝ) : EReal)
  h1 : ∀ (r : Fin 4096) (j : Fin 256), x1 (ix2 r j) = ((T.ck r j : ℝ) : EReal)
  hc : ∀ (r : Fin 4096) (k : ℕ), Ideal.cos (angle (x2 (ix1 r)) k) = ((T.co r k : ℝ) : EReal)
  hs : ∀ (r : Fin 4096) (k : ℕ), Ideal.sin (angle (x2 (ix1 r)) k) = ((T.si r k : ℝ) : EReal)
  h3 : ∀ j : Fin 256, x3 (ix2 0 j) = ((T.qn j : ℝ) : EReal)
  h4 : ∀ j : Fin 256, x4 (ix2 0 j) = ((T.kn j : ℝ) : EReal)
  h5 : ∀ (j : Fin 256) (k : Fin 768), x5 (ix2 j k) = ((T.wq j k : ℝ) : EReal)
  h6 : ∀ (j : Fin 256) (k : Fin 1024), x6 (ix2 j k) = ((T.wk j k : ℝ) : EReal)
  h7 : ∀ (h : Fin 4) (r : Fin 4096) (d : Fin 192), x7 (ix3 h r d) = ((T.dq h r d : ℝ) : EReal)
  h8 : ∀ (h : Fin 4) (r : Fin 4096) (d : Fin 192), x8 (ix3 h r d) = ((T.dk h r d : ℝ) : EReal)
  h9 : ∀ (h : Fin 4) (r : Fin 4096) (d : Fin 128), x9 (ix3 h r d) = ((T.dv h r d : ℝ) : EReal)

theorem toReal_of {x : EReal} (h : ∃ a : ℝ, x = (a : EReal)) : x = ((x.toReal : ℝ) : EReal) := by
  obtain ⟨a, rfl⟩ := h
  rw [EReal.toReal_coe]

/-- Finite arguments have a table. -/
theorem holds (f0 : ∀ i, ∃ a : ℝ, x0 i = a) (f1 : ∀ i, ∃ a : ℝ, x1 i = a) (f3 : ∀ i, ∃ a : ℝ, x3 i = a)
    (f4 : ∀ i, ∃ a : ℝ, x4 i = a) (f5 : ∀ i, ∃ a : ℝ, x5 i = a) (f6 : ∀ i, ∃ a : ℝ, x6 i = a) (f7 : ∀ i, ∃ a : ℝ, x7 i = a)
    (f8 : ∀ i, ∃ a : ℝ, x8 i = a) (f9 : ∀ i, ∃ a : ℝ, x9 i = a) :
    Holds x0 x1 x2 x3 x4 x5 x6 x7 x8 x9 (tab x0 x1 x2 x3 x4 x5 x6 x7 x8 x9) where
  h0 := t2_eq f0
  h1 := t2_eq f1
  hc r k := by
    unfold tab
    dsimp only
    rw [dif_pos r.isLt]
    exact toReal_of (cos_angle_real _ _)
  hs r k := by
    unfold tab
    dsimp only
    rw [dif_pos r.isLt]
    exact toReal_of (sin_angle_real _ _)
  h3 := t2_eq f3 0
  h4 := t2_eq f4 0
  h5 := t2_eq f5
  h6 := t2_eq f6
  h7 := t3_eq f7
  h8 := t3_eq f8
  h9 := t3_eq f9

end Cert.MlaBwdIdeal.Value

namespace Cert.MlaBwdRefIdeal.Read

open Finset Cert.MlaBwdRefIdeal Idealize.ShloMosaic Idealize.ShloMosaic.TcCoe Idealize.SL.Sem
open Cert.MlaBwdIdeal.Value
open Cert.MlpBwdIdeal.Value (mean rsqrt_real half_eq)
open Cert.AttnBwdIdeal.Value (sum_real sum_coe div_real)
open Cert.InBwdIdeal.Value (angle)

theorem zero_bits : FloatOps.ofBits (F := Ideal) .f32 0x00000000#32 = (0 : EReal) := by simp [Ideal.ofBits, Ideal.ieee]

section Norm

variable {x y : FVec Ideal S4096x256 .f32} {w : FVec Ideal S1x256 .f32} {X Y : ℕ → ℕ → ℝ} {W : ℕ → ℝ}
variable (hx : ∀ (r : Fin 4096) (j : Fin 256), x (ix2 r j) = ((X r j : ℝ) : EReal)) (hy : ∀ (r : Fin 4096) (j : Fin 256), y (ix2 r j) = ((Y r j : ℝ) : EReal))
  (hw : ∀ j : Fin 256, w (ix2 0 j) = ((W j : ℝ) : EReal)) (r : Fin 4096) (j : Fin 256)

include hx

theorem va_eq : val_main_v29 (F := Ideal) x (ix2 r 0) = ((va (X r) : ℝ) : EReal) := by
  unfold val_main_v29 val_main_v27 val_main_v25 val_main_v24 val_main_v23
  pointwise [val_main_v26, val_main_cst_7, val_main_v28, val_main_cst_8]
  rw [show val_main_cst_6 (F := Ideal) _ = 0 from zero_bits, zero_add, sum_coe (hx r) (hx r), n_eq, div_real (by norm_num), ep_eq]
  rfl

theorem rs_eq : val_main_v30 (F := Ideal) x (ix2 r 0) = ((rs (X r) : ℝ) : EReal) := by
  have e := va_eq hx r
  unfold val_main_v30
  generalize val_main_v29 (F := Ideal) x = a at *
  pointwise
  rw [e]
  exact rsqrt_real (va_pos _)

theorem drs_eq : val_main_v33 (F := Ideal) x (ix2 r 0) = ((-(1 / 2) * (rs (X r) / va (X r)) : ℝ) : EReal) := by
  have e := va_eq hx r
  have e' := rs_eq hx r
  unfold val_main_v33 val_main_v31
  generalize val_main_v30 (F := Ideal) x = b at *
  generalize val_main_v29 (F := Ideal) x = a at *
  pointwise [val_main_v32, val_main_cst_9]
  rw [e, e', half_eq, div_real (va_pos _).ne']
  rfl

theorem xh_eq : val_main_v35 (F := Ideal) x (ix2 r j) = ((xh (X r) j : ℝ) : EReal) := by
  have e := rs_eq hx r
  unfold val_main_v35 val_main_v34
  generalize val_main_v30 (F := Ideal) x = b at *
  pointwise
  rw [e, hx]
  rfl

end Norm

end Cert.MlaBwdRefIdeal.Read
-- ==== Proof.Mla.Ref2.lean ====
module

public import proofs.«01_k».proof.Proof.Mla.Ref

/-! The reference's gradients, read at an index, as the real tables. -/

@[expose] public section

set_option maxRecDepth 16384

noncomputable section

namespace Cert.MlaBwdIdeal.Value

/-- Nothing is added in the padded columns. -/
theorem Tab.sk_pad (T : Tab) (r : ℕ) {d : ℕ} (hd : 192 ≤ d) : T.sk r d = 0 :=
  Finset.sum_eq_zero fun h _ => by rw [Tab.dkp, if_neg (by omega)]

end Cert.MlaBwdIdeal.Value

namespace Cert.MlaBwdRefIdeal.Read

open Finset Cert.MlaBwdRefIdeal Cert.MlaBwdRefIdeal.Gen Idealize.ShloMosaic Idealize.ShloMosaic.TcCoe Idealize.SL.Sem
open Cert.MlaBwdIdeal.Value
open Cert.MlpBwdIdeal.Value (mean rsqrt_real half_eq)
open Cert.AttnBwdIdeal.Value (sum_real sum_coe div_real)
open Cert.InBwdIdeal.Value (angle)

section Norm

/-- The mean square's gradient, row by row, as the chain rule writes it, -/
def dms (x y : FVec Ideal S4096x256 .f32) (w : FVec Ideal S1x256 .f32) : FVec Ideal S4096x1 .f32 :=
  Host.divf (mulf (shapeCast S4096x1 (Host.reduceAdd (mulf x (mulf y (val_main_v104 (F := Ideal) w))) (val_main_cst_19 (F := Ideal)) reducesTo_S4096x256_S4096_d1 h_S_) shapeCasts_S4096_S4096x1)
    (val_main_v33 (F := Ideal) x)) (val_main_v112 (F := Ideal))
/-- and the norm's gradient. -/
def dnorm (x y : FVec Ideal S4096x256 .f32) (w : FVec Ideal S1x256 .f32) : FVec Ideal S4096x256 .f32 :=
  let b : FVec Ideal S4096x256 .f32 := broadcastInDim S4096x256 ![0] bcast_S4096_S4096x256_0
    (Host.reduceAdd (dms x y w) (val_main_cst_21 (F := Ideal)) reducesTo_S4096x1_S4096_d1 h_S_)
  addf (addf (mulf (mulf y (val_main_v104 (F := Ideal) w)) (val_main_v34 (F := Ideal) x)) (mulf x b)) (mulf b x)
/-- The gradient of the norm's weights. -/
def dweight (x y : FVec Ideal S4096x256 .f32) : FVec Ideal S1x256 .f32 :=
  shapeCast S1x256 (Host.reduceAdd (mulf (val_main_v35 (F := Ideal) x) y) (val_main_cst_18 (F := Ideal)) reducesTo_S4096x256_S256_d0 h_S_) shapeCasts_S256_S1x256

variable {x y : FVec Ideal S4096x256 .f32} {w : FVec Ideal S1x256 .f32} {X Y : ℕ → ℕ → ℝ} {W : ℕ → ℝ}
variable (hx : ∀ (r : Fin 4096) (j : Fin 256), x (ix2 r j) = ((X r j : ℝ) : EReal)) (hy : ∀ (r : Fin 4096) (j : Fin 256), y (ix2 r j) = ((Y r j : ℝ) : EReal))
  (hw : ∀ j : Fin 256, w (ix2 0 j) = ((W j : ℝ) : EReal)) (r : Fin 4096) (j : Fin 256)

include hx hy

theorem dweight_eq : dweight x y (ix2 0 j) = ((∑ r ∈ range 4096, xh (X r) j * Y r j : ℝ) : EReal) := by
  have e := fun r => xh_eq hx r j
  unfold dweight
  generalize val_main_v35 (F := Ideal) x = a at *
  pointwise
  rw [show val_main_cst_18 (F := Ideal) _ = 0 from zero_bits, zero_add]
  exact sum_coe (f := fun r => xh (X r) j) (g := fun r => Y r j) e fun r => hy r j

include hw

theorem dms_eq : dms x y w (ix2 r 0) = (((∑ j ∈ range 256, X r j * (Y r j * W j)) * (-(1 / 2) * (rs (X r) / va (X r))) / 256 : ℝ) : EReal) := by
  have e := drs_eq hx r
  unfold dms
  generalize val_main_v33 (F := Ideal) x = a at *
  pointwise [val_main_v112, val_main_cst_20, val_main_v104]
  rw [show val_main_cst_19 (F := Ideal) _ = 0 from zero_bits, zero_add, e, sum_coe (f := X r) (g := fun j => Y r j * W j) (hx r)
    (fun j => by rw [hy, hw]; rfl), n_eq, ← EReal.coe_mul, div_real (by norm_num)]

theorem dnorm_eq : dnorm x y w (ix2 r j) = ((dx (X r) W (Y r) j : ℝ) : EReal) := by
  have e := dms_eq hx hy hw r
  have e' := rs_eq hx r
  unfold dnorm val_main_v34
  generalize dms x y w = a at *
  generalize val_main_v30 (F := Ideal) x = b at *
  pointwise [val_main_v104]
  have es : ∑ z : Fin 1, a (ix2 r z) = _ := (Fin.sum_univ_one _).trans e
  rw [show val_main_cst_21 (F := Ideal) _ = 0 from zero_bits, zero_add (M := EReal), es, e', hx, hy, hw, ← dx_eq]
  rfl

end Norm

theorem v45_rms (x) : val_main_v45 (F := Ideal) x = val_main_v29 (F := Ideal) x := by
  unfold val_main_v45 val_main_v43 val_main_v41 val_main_v40 val_main_v39 val_main_v29 val_main_v27 val_main_v25 val_main_v24 val_main_v23
  unfold val_main_v42 val_main_v44 val_main_cst_10 val_main_cst_11 val_main_cst_12 val_main_v26 val_main_v28 val_main_cst_6 val_main_cst_7 val_main_cst_8
  rfl

theorem v46_rms (x) : val_main_v46 (F := Ideal) x = val_main_v30 (F := Ideal) x := by
  unfold val_main_v46 val_main_v30
  rw [v45_rms]

theorem v49_rms (x) : val_main_v49 (F := Ideal) x = val_main_v33 (F := Ideal) x := by
  unfold val_main_v49 val_main_v33 val_main_v47 val_main_v31 val_main_v48 val_main_v32 val_main_cst_13 val_main_cst_9
  rw [v45_rms, v46_rms]

theorem v51_rms (x) : val_main_v51 (F := Ideal) x = val_main_v35 (F := Ideal) x := by
  unfold val_main_v51 val_main_v35 val_main_v50 val_main_v34
  rw [v46_rms]

theorem v103_dweight (x0 x2 x5 x7) : val_main_v103 (F := Ideal) x0 x2 x5 x7 = dweight x0 (val_main_v100 (F := Ideal) x2 x5 x7) := by
  unfold val_main_v103 val_main_v102 val_main_v101 dweight
  rfl

theorem v133_dweight (x1 x6 x8 x9) : val_main_v133 (F := Ideal) x1 x6 x8 x9 = dweight x1 (val_main_v130 (F := Ideal) x6 x8 x9) := by
  unfold val_main_v133 val_main_v132 val_main_v131 dweight
  rw [v51_rms]
  unfold val_main_cst_24 val_main_cst_18
  rfl

theorem v119_dnorm (x0 x2 x3 x5 x7) : val_main_v119 (F := Ideal) x0 x2 x3 x5 x7 = dnorm x0 (val_main_v100 (F := Ideal) x2 x5 x7) x3 := by
  unfold val_main_v119 val_main_v118 val_main_v117 val_main_v116 val_main_v115 val_main_v114 val_main_v113 val_main_v111 val_main_v110 val_main_v109 val_main_v108
    val_main_v107 val_main_v106 val_main_v105 dnorm dms val_main_v34
  generalize val_main_v100 (F := Ideal) x2 x5 x7 = y
  rfl

theorem v149_dnorm (x1 x4 x6 x8 x9) : val_main_v149 (F := Ideal) x1 x4 x6 x8 x9 = dnorm x1 (val_main_v130 (F := Ideal) x6 x8 x9) x4 := by
  unfold val_main_v149 val_main_v148 val_main_v147 val_main_v146 val_main_v145 val_main_v144 val_main_v143 val_main_v141 val_main_v140 val_main_v139 val_main_v138
    val_main_v137 val_main_v136 val_main_v135 dnorm dms val_main_v34
  rw [v46_rms, v49_rms]
  unfold val_main_v134 val_main_v104 val_main_v142 val_main_v112 val_main_cst_25 val_main_cst_19 val_main_cst_26 val_main_cst_20 val_main_cst_27 val_main_cst_21
  generalize val_main_v130 (F := Ideal) x6 x8 x9 = y
  rfl

variable {x0 x1 : FVec Ideal S4096x256 .f32} {x2 : IVec S4096 32} {x3 x4 : FVec Ideal S1x256 .f32} {x5 : FVec Ideal S256x768 .f32}
  {x6 : FVec Ideal S256x1024 .f32} {x7 x8 : FVec Ideal S4x4096x192 .f32} {x9 : FVec Ideal S4x4096x128 .f32} {T : Tab}
variable (f : Holds x0 x1 x2 x3 x4 x5 x6 x7 x8 x9 T) (r : Fin 4096)

omit f in
theorem angle_apply (x2 : IVec S4096 32) (r : Fin 4096) (k : Fin 32) : (show EReal from val_main_v16 (F := Ideal) x2 (ix2 r k)) = angle (x2 (ix1 r)) k.val := by
  pointwise [val_main_v16, val_main_v14, val_main_v15, val_main_v12, val_main_v13, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

include f

theorem co_eq (k : Fin 32) : val_main_v17 (F := Ideal) x2 (ix2 r k) = ((T.co r k : ℝ) : EReal) :=
  (congrArg Ideal.cos (angle_apply x2 r k)).trans (f.hc r k)

theorem si_eq (k : Fin 32) : val_main_v18 (F := Ideal) x2 (ix2 r k) = ((T.si r k : ℝ) : EReal) :=
  (congrArg Ideal.sin (angle_apply x2 r k)).trans (f.hs r k)

theorem c1_eq (d : Fin 192) : val_main_v20 (F := Ideal) x2 (ix2 r d) = ((T.c1 r d : ℝ) : EReal) := by
  have e := co_eq f r
  unfold val_main_v20
  generalize val_main_v17 (F := Ideal) x2 = a at *
  pointwise [val_main_v19, val_main_cst_4]
  unfold Tab.c1
  by_cases h : d.val < 128
  · rw [dif_pos h, if_pos h]
    rfl
  · by_cases h' : d.val < 160
    · rw [dif_neg h, dif_pos (by omega), if_neg h, if_pos h', e]
    · rw [dif_neg h, dif_neg (by omega), if_neg h, if_neg h', if_pos d.isLt, e]
      simp only [Nat.sub_sub]

theorem s1_eq (d : Fin 192) : val_main_v22 (F := Ideal) x2 (ix2 r d) = ((T.s1 r d : ℝ) : EReal) := by
  have e := si_eq f r
  unfold val_main_v22
  generalize val_main_v18 (F := Ideal) x2 = a at *
  pointwise [val_main_v21, val_main_cst_5]
  unfold Tab.s1
  by_cases h : d.val < 128
  · rw [dif_pos h, if_pos h]
    rfl
  · by_cases h' : d.val < 160
    · rw [dif_neg h, dif_pos (by omega), if_neg h, if_pos h', e]
    · rw [dif_neg h, dif_neg (by omega), if_neg h, if_neg h', if_pos d.isLt, e]
      simp only [Nat.sub_sub]

theorem v157_eq (d : Fin 192) : val_main_v157 (F := Ideal) x8 (ix2 r d) = ((T.sk r d : ℝ) : EReal) := by
  pointwise [val_main_v157, val_main_v156, val_main_v155]
  rw [show val_main_cst_28 (F := Ideal) _ = 0 from zero_bits, show val_main_cst_29 (F := Ideal) _ = 0 from zero_bits, zero_add, zero_add, Fin.sum_univ_one]
  exact sum_real (f := fun h => T.dkp h r d) fun h => (f.h8 h r d).trans (by rw [Tab.dkp, if_pos d.isLt])

theorem v79_eq (h : Fin 4) (d : Fin 192) : val_main_v79 (F := Ideal) x7 (ix3 r h d) = ((T.dq h r d * sc : ℝ) : EReal) := by
  pointwise [val_main_v79, val_main_v78, val_main_v77, val_main_cst_15]
  rw [f.h7, sc_eq]
  rfl

theorem v95_eq (h : Fin 4) (i : Fin 32) : val_main_v95 (F := Ideal) x2 x7 (ix3 r h i)
    = ((T.dq h r (128 + i + 32) * sc * T.si r i + T.dq h r (128 + i) * sc * T.co r i : ℝ) : EReal) := by
  have e := co_eq f r i
  have e' := si_eq f r i
  have hq := v79_eq f r h
  unfold val_main_v95 val_main_v86 val_main_v94 val_main_v83 val_main_v84 val_main_v85 val_main_v93 val_main_v57 val_main_v58 val_main_v81
  generalize val_main_v17 (F := Ideal) x2 = a at *
  generalize val_main_v18 (F := Ideal) x2 = b at *
  generalize val_main_v79 (F := Ideal) x7 = q at *
  pointwise
  rw [e, e', hq, hq]
  simp only [show 128 + (32 + i.val) = 128 + i.val + 32 by omega]
  rfl

theorem v92_eq (h : Fin 4) (i : Fin 32) : val_main_v92 (F := Ideal) x2 x7 (ix3 r h i)
    = ((T.dq h r (160 + i) * sc * T.co r i + -(T.dq h r (160 + i - 32) * sc) * T.si r i : ℝ) : EReal) := by
  have e := co_eq f r i
  have e' := si_eq f r i
  have hq := v79_eq f r h
  unfold val_main_v92 val_main_v88 val_main_v91 val_main_v89 val_main_v83 val_main_v84 val_main_v87 val_main_v90 val_main_v57 val_main_v58 val_main_v81
  generalize val_main_v17 (F := Ideal) x2 = a at *
  generalize val_main_v18 (F := Ideal) x2 = b at *
  generalize val_main_v79 (F := Ideal) x7 = q at *
  pointwise
  rw [e, e', hq, hq]
  simp only [show 128 + (32 + i.val) = 160 + i.val by omega, show 160 + i.val - 32 = 128 + i.val by omega]
  rfl

theorem v98_eq (h : Fin 4) (d : Fin 192) : val_main_v98 (F := Ideal) x2 x7 (ix3 r h d) = ((T.gq r (192 * h.val + d.val) : ℝ) : EReal) := by
  have e := v95_eq f r h
  have e' := v92_eq f r h
  have hq := v79_eq f r h
  rw [T.gq_at r d.isLt]
  unfold val_main_v98 val_main_v82 val_main_v97 val_main_v96 val_main_v80
  generalize val_main_v95 (F := Ideal) x2 x7 = a at *
  generalize val_main_v92 (F := Ideal) x2 x7 = b at *
  generalize val_main_v79 (F := Ideal) x7 = q at *
  pointwise
  rw [show val_main_cst_16 (F := Ideal) _ = 0 from zero_bits, show val_main_cst_17 (F := Ideal) _ = 0 from zero_bits]
  by_cases h1 : d.val < 128
  · rw [dif_pos h1, dif_neg (by omega), if_pos h1, hq, add_zero]
  · rw [dif_neg h1, dif_pos (by omega), if_neg h1, zero_add]
    by_cases h2 : d.val < 160
    · rw [dif_pos (by omega), if_pos h2, e]
      simp only [show 128 + (d.val - 128) = d.val by omega]
    · rw [dif_neg (by omega), if_neg h2, e']
      simp only [show d.val - 128 - 32 = d.val - 160 by omega, show 160 + (d.val - 160) = d.val by omega]

theorem v128_eq (h : Fin 4) (d : Fin 256) : val_main_v128 (F := Ideal) x8 x9 (ix3 r h d) = ((T.gk r (256 * h.val + d.val) : ℝ) : EReal) := by
  pointwise [val_main_v128, val_main_v127, val_main_v126, val_main_v125, val_main_v124]
  rw [show val_main_cst_22 (F := Ideal) _ = 0 from zero_bits, show val_main_cst_23 (F := Ideal) _ = 0 from zero_bits]
  unfold Tab.gk
  rw [show (256 * h.val + d.val) / 256 = h.val by omega, show (256 * h.val + d.val) % 256 = d.val by omega]
  by_cases h1 : d.val < 128
  · rw [dif_neg (by omega), dif_pos h1, if_pos h1, f.h8, zero_add]
  · rw [dif_pos (by omega), dif_neg h1, if_neg h1, f.h9, add_zero]

theorem v100_eq (j : Fin 256) : val_main_v100 (F := Ideal) x2 x5 x7 (ix2 r j) = ((T.yq r j : ℝ) : EReal) := by
  have e := v98_eq f r
  unfold val_main_v100 val_main_v99
  generalize val_main_v98 (F := Ideal) x2 x7 = a at *
  pointwise
  refine sum_coe (f := T.gq r) (g := T.wq j) (fun k => (e _ _).trans ?_) fun k => f.h5 j k
  exact congrArg (fun n => ((T.gq r n : ℝ) : EReal)) (Nat.div_add_mod k.val 192)

theorem v130_eq (j : Fin 256) : val_main_v130 (F := Ideal) x6 x8 x9 (ix2 r j) = ((T.yk r j : ℝ) : EReal) := by
  have e := v128_eq f r
  unfold val_main_v130 val_main_v129
  generalize val_main_v128 (F := Ideal) x8 x9 = a at *
  pointwise
  refine sum_coe (f := T.gk r) (g := T.wk j) (fun k => (e _ _).trans ?_) fun k => f.h6 j k
  exact congrArg (fun n => ((T.gk r n : ℝ) : EReal)) (Nat.div_add_mod k.val 256)

theorem dcq_line (j : Fin 256) : val_main_v119 (F := Ideal) x0 x2 x3 x5 x7 (ix2 r j) = ((dx (T.cq r) T.qn (T.yq r) j : ℝ) : EReal) := by
  rw [v119_dnorm]
  exact dnorm_eq f.h0 (fun r j => v100_eq f r j) f.h3 r j

theorem dck_line (j : Fin 256) : val_main_v149 (F := Ideal) x1 x4 x6 x8 x9 (ix2 r j) = ((dx (T.ck r) T.kn (T.yk r) j : ℝ) : EReal) := by
  rw [v149_dnorm]
  exact dnorm_eq f.h1 (fun r j => v130_eq f r j) f.h4 r j

/-- The gradient's row. -/
theorem dz_line (k : Fin 1024) : val_main_v161 (F := Ideal) x0 x1 x2 x3 x4 x5 x6 x7 x8 x9 (ix2 r k) = ((T.dz r k : ℝ) : EReal) := by
  have e1 := dcq_line f r
  have e2 := dck_line f r
  have e3 := c1_eq f r
  have e4 := s1_eq f r
  have e5 := v157_eq f r
  unfold val_main_v161 val_main_v158 val_main_v159
  generalize val_main_v119 (F := Ideal) x0 x2 x3 x5 x7 = a1 at *
  generalize val_main_v149 (F := Ideal) x1 x4 x6 x8 x9 = a2 at *
  generalize val_main_v20 (F := Ideal) x2 = a3 at *
  generalize val_main_v22 (F := Ideal) x2 = a4 at *
  generalize val_main_v157 (F := Ideal) x8 = a5 at *
  pointwise [val_main_v160, val_main_cst_30]
  unfold Tab.dz
  by_cases h1 : k.val < 256
  · rw [dif_pos h1, if_pos h1, e1]
  · rw [dif_neg h1, if_neg h1]
    by_cases h2 : k.val < 512
    · rw [dif_pos (by omega), if_pos h2, e2]
    · rw [dif_neg (by omega), if_neg h2]
      by_cases h3 : k.val < 768
      · rw [if_pos h3]
        by_cases h4 : k.val < 704
        · rw [dif_pos (by omega), e3, e5]
          simp only [Nat.sub_sub]
          rfl
        · rw [dif_neg (by omega), dif_pos (by omega), T.sk_pad r (by omega), zero_mul]
          rfl
      · rw [dif_neg (by omega), dif_neg (by omega), if_neg h3]
        by_cases h4 : k.val < 960
        · rw [dif_pos (by omega), e4, e5]
          simp only [Nat.sub_sub]
          rfl
        · rw [dif_neg (by omega), T.sk_pad r (by omega), zero_mul]
          rfl

/-- The gradients of the norms' weights, side by side. -/
theorem dnw_line (k : Fin 512) : val_main_v163 (F := Ideal) x0 x1 x2 x5 x6 x7 x8 x9 (ix2 0 k) = ((T.dnw 4096 k : ℝ) : EReal) := by
  have e1 : ∀ j : Fin 256, val_main_v103 (F := Ideal) x0 x2 x5 x7 (ix2 0 j) = ((∑ r ∈ range 4096, xh (T.cq r) j * T.yq r j : ℝ) : EReal) := fun j => by
    rw [v103_dweight]
    exact dweight_eq f.h0 (fun r j => v100_eq f r j) j
  have e2 : ∀ j : Fin 256, val_main_v133 (F := Ideal) x1 x6 x8 x9 (ix2 0 j) = ((∑ r ∈ range 4096, xh (T.ck r) j * T.yk r j : ℝ) : EReal) := fun j => by
    rw [v133_dweight]
    exact dweight_eq f.h1 (fun r j => v130_eq f r j) j
  unfold val_main_v163
  generalize val_main_v103 (F := Ideal) x0 x2 x5 x7 = a1 at *
  generalize val_main_v133 (F := Ideal) x1 x6 x8 x9 = a2 at *
  pointwise
  unfold Tab.dnw Tab.row
  by_cases h : k.val < 256
  · rw [dif_pos h, e1]
    exact congrArg (fun a : ℝ => (a : EReal)) (sum_congr rfl fun r _ => by rw [if_pos h]; exact mul_comm _ _)
  · rw [dif_neg h, e2]
    exact congrArg (fun a : ℝ => (a : EReal)) (sum_congr rfl fun r _ => by rw [if_neg h]; exact mul_comm _ _)

end Cert.MlaBwdRefIdeal.Read
-- ==== Proof.Mla.Host.lean ====
module

public import proofs.«01_k».proof.Proof.Gen.MlaBwdIdeal.Value
public import Idealize.ShloMosaic.Lib.Pipeline.ValueKit
public import Idealize.ShloMosaic.Lib.StableHlo.ReadAt
public import proofs.«01_k».proof.Proof.Mla.Ref2

/-! The kernel's host lines, read at an index. -/

@[expose] public section

set_option maxRecDepth 16384

noncomputable section

namespace Cert.MlaBwdIdeal.Value

open Cert.MlaBwdIdeal Cert.MlaBwdIdeal.Gen Idealize.ShloMosaic Idealize.ShloMosaic.TcCoe Idealize.SL.Sem
open Cert.InBwdIdeal.Value (angle)

variable (m : (ℓ : Loc nD τ sig) → Buf (Elt Ideal) ℓ)

theorem zero_f32 : FloatOps.ofBits (F := Ideal) .f32 0x00000000#32 = (0 : EReal) := by simp [Ideal.ofBits, Ideal.ieee]

theorem zero_bf16 : FloatOps.ofBits (F := Ideal) .bf16 0x0000#16 = (0 : EReal) := by simp [Ideal.ofBits, Ideal.ieee]

variable (c : Dev nD)

abbrev g5 : FVec Ideal S256x768 .f32 := V m c main_arg5
abbrev g6 : FVec Ideal S256x1024 .f32 := V m c main_arg6
abbrev h17 : FVec Ideal S4096x32 .f32 := V m c main_v17
abbrev h18 : FVec Ideal S4096x32 .f32 := V m c main_v18
abbrev h21 : FVec Ideal S4096x256 .f32 := V m c main_v21
abbrev h23 : FVec Ideal S4096x256 .f32 := V m c main_v23
abbrev h26 : FVec Ideal S4096x3072 .f32 := V m c main_v26
abbrev h29 : FVec Ideal S4x4096x256 .bf16 := V m c main_v29
abbrev h31 : FVec Ideal S4x4096x256 .bf16 := V m c main_v31
abbrev h32 : FVec Ideal S4x4096x128 .bf16 := V m c main_v32
abbrev h38 : FVec Ideal S256x256 .bf16 := V m c main_v38
abbrev h40 : FVec Ideal S256x256 .bf16 := V m c main_v40
abbrev h42 : FVec Ideal S256x256 .bf16 := V m c main_v42
abbrev h44 : FVec Ideal S256x256 .bf16 := V m c main_v44
abbrev h50 : FVec Ideal S256x256 .bf16 := V m c main_v50
abbrev h56 : FVec Ideal S256x256 .bf16 := V m c main_v56
abbrev h62 : FVec Ideal S256x256 .bf16 := V m c main_v62
abbrev h68 : FVec Ideal S256x256 .bf16 := V m c main_v68
abbrev h69 : FVec Ideal S2048x256 .bf16 := V m c main_v69

theorem h17_eq : h17 m c = Cert.MlaBwdRefIdeal.Read.val_main_v17 (F := Ideal) (V m c main_arg2) := by
  unfold_abbrev_sides
  after_reads_simp
  rfl

theorem h18_eq : h18 m c = Cert.MlaBwdRefIdeal.Read.val_main_v18 (F := Ideal) (V m c main_arg2) := by
  unfold_abbrev_sides
  after_reads_simp
  rfl

theorem h21_eq (r : Fin 4096) (d : Fin 256) : h21 m c (ix2 r d) = if h : d.val < 128 then (1 : EReal) else if h' : d.val - 128 < 32 then h17 m c (ix2 r ⟨d - 128, h'⟩)
    else if h'' : d.val - 128 - 32 < 32 then h17 m c (ix2 r ⟨d - 128 - 32, h''⟩) else 0 := by
  unfold_abbrev_sides
  after_reads_simp
  pointwise
  by_cases h0 : d.val < 128
  · rw [dif_pos h0, dif_pos h0]
    after_reads_simp
    pointwise
  · rw [dif_neg h0, dif_neg h0]
    by_cases h1 : d.val - 128 < 32
    · rw [dif_pos h1, dif_pos h1]
      after_reads_simp
      pointwise
    · rw [dif_neg h1, dif_neg h1]
      by_cases h2 : d.val - 128 - 32 < 32
      · rw [dif_pos h2, dif_pos h2]
        after_reads_simp
        pointwise
      · rw [dif_neg h2, dif_neg h2]
        after_reads_simp
        pointwise

theorem h23_eq (r : Fin 4096) (d : Fin 256) : h23 m c (ix2 r d) = if h : d.val < 128 then (0 : EReal) else if h' : d.val - 128 < 32 then h18 m c (ix2 r ⟨d - 128, h'⟩)
    else if h'' : d.val - 128 - 32 < 32 then h18 m c (ix2 r ⟨d - 128 - 32, h''⟩) else 0 := by
  unfold_abbrev_sides
  after_reads_simp
  pointwise
  by_cases h0 : d.val < 128
  · rw [dif_pos h0, dif_pos h0]
    after_reads_simp
    pointwise
  · rw [dif_neg h0, dif_neg h0]
    by_cases h1 : d.val - 128 < 32
    · rw [dif_pos h1, dif_pos h1]
      after_reads_simp
      pointwise
    · rw [dif_neg h1, dif_neg h1]
      by_cases h2 : d.val - 128 - 32 < 32
      · rw [dif_pos h2, dif_pos h2]
        after_reads_simp
        pointwise
      · rw [dif_neg h2, dif_neg h2]
        after_reads_simp
        pointwise

theorem h29_eq (h : Fin 4) (r : Fin 4096) (d : Fin 256) : h29 m c (ix3 h r d)
    = if hd : d.val < 192 then (show FVec Ideal S4x4096x192 .f32 from V m c main_arg7) (ix3 h r ⟨d, hd⟩) else 0 := by
  unfold_abbrev_sides
  after_reads_simp
  pointwise
  by_cases hd : d.val < 192
  · rw [dif_pos hd, dif_pos hd]
    after_reads_simp
  · rw [dif_neg hd, dif_neg hd]
    after_reads_simp
    pointwise

theorem h31_eq (h : Fin 4) (r : Fin 4096) (d : Fin 256) : h31 m c (ix3 h r d)
    = if hd : d.val < 192 then (show FVec Ideal S4x4096x192 .f32 from V m c main_arg8) (ix3 h r ⟨d, hd⟩) else 0 := by
  unfold_abbrev_sides
  after_reads_simp
  pointwise
  by_cases hd : d.val < 192
  · rw [dif_pos hd, dif_pos hd]
    after_reads_simp
  · rw [dif_neg hd, dif_neg hd]
    after_reads_simp
    pointwise

theorem h32_eq (h : Fin 4) (r : Fin 4096) (d : Fin 128) : h32 m c (ix3 h r d) = (show FVec Ideal S4x4096x128 .f32 from V m c main_arg9) (ix3 h r d) := by
  unfold_abbrev_sides
  after_reads_simp
  pointwise

theorem h26_q (r : Fin 4096) (j : Fin 256) : h26 m c (ix2 r ⟨2048 + j.val, by omega⟩) = (show FVec Ideal S4096x256 .f32 from V m c main_arg0) (ix2 r j) := by
  unfold_abbrev_sides
  after_reads_simp
  pointwise

theorem h26_k (r : Fin 4096) (j : Fin 256) : h26 m c (ix2 r ⟨2304 + j.val, by omega⟩) = (show FVec Ideal S4096x256 .f32 from V m c main_arg1) (ix2 r j) := by
  unfold_abbrev_sides
  after_reads_simp
  pointwise
  rw [dif_neg (by omega), dif_neg (by omega), dif_pos (by omega)]
  simp only [show 2304 + j.val - 2048 - 256 = j.val by omega]

/-- The heads' rows of the query's weights, padded, -/
theorem rows_q (d j : Fin 256) : h38 m c (ix2 d j) = (if hd : d.val < 192 then g5 m c (ix2 j ⟨d, by omega⟩) else 0)
    ∧ h40 m c (ix2 d j) = (if hd : d.val < 192 then g5 m c (ix2 j ⟨192 + d, by omega⟩) else 0)
    ∧ h42 m c (ix2 d j) = (if hd : d.val < 192 then g5 m c (ix2 j ⟨384 + d, by omega⟩) else 0)
    ∧ h44 m c (ix2 d j) = (if hd : d.val < 192 then g5 m c (ix2 j ⟨576 + d, by omega⟩) else 0) := by
  refine ⟨?_, ?_, ?_, ?_⟩ <;>
  · unfold_abbrev_sides
    after_reads_simp
    pointwise

/-- The rotary rows with their halves exchanged, at column 128 of the weight. -/
theorem rows_50 (d j : Fin 256) : h50 m c (ix2 d j) = (if d.val < 128 then 0 else if h1 : d.val - 128 < 64 then if h2 : d.val - 128 < 32 then
      -g5 m c (ix2 j ⟨128 + (32 + (d - 128)), by omega⟩) else g5 m c (ix2 j ⟨128 + (d - 128 - 32), by omega⟩) else 0) := by
  unfold_abbrev_sides
  after_reads_simp
  pointwise
  by_cases h0 : d.val < 128
  · rw [dif_pos h0, if_pos h0]
    after_reads_simp
    pointwise
  · rw [dif_neg h0, if_neg h0]
    by_cases h1 : d.val - 128 < 64
    · rw [dif_pos h1, dif_pos h1]
      after_reads_simp
      pointwise
    · rw [dif_neg h1, dif_neg h1]
      after_reads_simp
      pointwise

/-- The rotary rows with their halves exchanged, at column 320 of the weight. -/
theorem rows_56 (d j : Fin 256) : h56 m c (ix2 d j) = (if d.val < 128 then 0 else if h1 : d.val - 128 < 64 then if h2 : d.val - 128 < 32 then
      -g5 m c (ix2 j ⟨320 + (32 + (d - 128)), by omega⟩) else g5 m c (ix2 j ⟨320 + (d - 128 - 32), by omega⟩) else 0) := by
  unfold_abbrev_sides
  after_reads_simp
  pointwise
  by_cases h0 : d.val < 128
  · rw [dif_pos h0, if_pos h0]
    after_reads_simp
    pointwise
  · rw [dif_neg h0, if_neg h0]
    by_cases h1 : d.val - 128 < 64
    · rw [dif_pos h1, dif_pos h1]
      after_reads_simp
      pointwise
    · rw [dif_neg h1, dif_neg h1]
      after_reads_simp
      pointwise

/-- The rotary rows with their halves exchanged, at column 512 of the weight. -/
theorem rows_62 (d j : Fin 256) : h62 m c (ix2 d j) = (if d.val < 128 then 0 else if h1 : d.val - 128 < 64 then if h2 : d.val - 128 < 32 then
      -g5 m c (ix2 j ⟨512 + (32 + (d - 128)), by omega⟩) else g5 m c (ix2 j ⟨512 + (d - 128 - 32), by omega⟩) else 0) := by
  unfold_abbrev_sides
  after_reads_simp
  pointwise
  by_cases h0 : d.val < 128
  · rw [dif_pos h0, if_pos h0]
    after_reads_simp
    pointwise
  · rw [dif_neg h0, if_neg h0]
    by_cases h1 : d.val - 128 < 64
    · rw [dif_pos h1, dif_pos h1]
      after_reads_simp
      pointwise
    · rw [dif_neg h1, dif_neg h1]
      after_reads_simp
      pointwise

/-- The rotary rows with their halves exchanged, at column 704 of the weight. -/
theorem rows_68 (d j : Fin 256) : h68 m c (ix2 d j) = (if d.val < 128 then 0 else if h1 : d.val - 128 < 64 then if h2 : d.val - 128 < 32 then
      -g5 m c (ix2 j ⟨704 + (32 + (d - 128)), by omega⟩) else g5 m c (ix2 j ⟨704 + (d - 128 - 32), by omega⟩) else 0) := by
  unfold_abbrev_sides
  after_reads_simp
  pointwise
  by_cases h0 : d.val < 128
  · rw [dif_pos h0, if_pos h0]
    after_reads_simp
    pointwise
  · rw [dif_neg h0, if_neg h0]
    by_cases h1 : d.val - 128 < 64
    · rw [dif_pos h1, dif_pos h1]
      after_reads_simp
      pointwise
    · rw [dif_neg h1, dif_neg h1]
      after_reads_simp
      pointwise

/-! The pieces inside the arranged weights. -/

theorem h69_38 (j d : Fin 256) : h69 m c (ix2 ⟨256 * 0 + d.val, by omega⟩ j) = h38 m c (ix2 d j) := by
  generalize hR : h38 m c = R
  unfold_abbrev_sides
  after_reads_simp
  pointwise
  subst hR
  unfold_abbrev_sides
  after_reads_simp

theorem h69_40 (j d : Fin 256) : h69 m c (ix2 ⟨256 * 1 + d.val, by omega⟩ j) = h40 m c (ix2 d j) := by
  generalize hR : h40 m c = R
  unfold_abbrev_sides
  after_reads_simp
  pointwise
  subst hR
  unfold_abbrev_sides
  after_reads_simp

theorem h69_42 (j d : Fin 256) : h69 m c (ix2 ⟨256 * 2 + d.val, by omega⟩ j) = h42 m c (ix2 d j) := by
  generalize hR : h42 m c = R
  unfold_abbrev_sides
  after_reads_simp
  pointwise
  rw [dif_neg (by omega), dif_neg (by omega), dif_pos (by omega)]
  subst hR
  unfold_abbrev_sides
  after_reads_simp
  congr 1
  exact congrArg (fun i => ix2 i j) (Fin.ext (by dsimp only; omega))

theorem h69_44 (j d : Fin 256) : h69 m c (ix2 ⟨256 * 3 + d.val, by omega⟩ j) = h44 m c (ix2 d j) := by
  generalize hR : h44 m c = R
  unfold_abbrev_sides
  after_reads_simp
  pointwise
  rw [dif_neg (by omega), dif_neg (by omega), dif_neg (by omega), dif_pos (by omega)]
  subst hR
  unfold_abbrev_sides
  after_reads_simp
  congr 1
  exact congrArg (fun i => ix2 i j) (Fin.ext (by dsimp only; omega))

theorem h69_50 (j d : Fin 256) : h69 m c (ix2 ⟨256 * 4 + d.val, by omega⟩ j) = h50 m c (ix2 d j) := by
  generalize hR : h50 m c = R
  unfold_abbrev_sides
  after_reads_simp
  pointwise
  rw [dif_neg (by omega), dif_neg (by omega), dif_neg (by omega), dif_neg (by omega), dif_pos (by omega)]
  subst hR
  unfold_abbrev_sides
  after_reads_simp
  congr 1
  exact congrArg (fun i => ix2 i j) (Fin.ext (by dsimp only; omega))

theorem h69_56 (j d : Fin 256) : h69 m c (ix2 ⟨256 * 5 + d.val, by omega⟩ j) = h56 m c (ix2 d j) := by
  generalize hR : h56 m c = R
  unfold_abbrev_sides
  after_reads_simp
  pointwise
  rw [dif_neg (by omega), dif_neg (by omega), dif_neg (by omega), dif_neg (by omega), dif_neg (by omega), dif_pos (by omega)]
  subst hR
  unfold_abbrev_sides
  after_reads_simp
  congr 1
  exact congrArg (fun i => ix2 i j) (Fin.ext (by dsimp only; omega))

theorem h69_62 (j d : Fin 256) : h69 m c (ix2 ⟨256 * 6 + d.val, by omega⟩ j) = h62 m c (ix2 d j) := by
  generalize hR : h62 m c = R
  unfold_abbrev_sides
  after_reads_simp
  pointwise
  rw [dif_neg (by omega), dif_neg (by omega), dif_neg (by omega), dif_neg (by omega), dif_neg (by omega), dif_neg (by omega), dif_pos (by omega)]
  subst hR
  unfold_abbrev_sides
  after_reads_simp
  congr 1
  exact congrArg (fun i => ix2 i j) (Fin.ext (by dsimp only; omega))

theorem h69_68 (j d : Fin 256) : h69 m c (ix2 ⟨256 * 7 + d.val, by omega⟩ j) = h68 m c (ix2 d j) := by
  generalize hR : h68 m c = R
  unfold_abbrev_sides
  after_reads_simp
  pointwise
  rw [dif_neg (by omega), dif_neg (by omega), dif_neg (by omega), dif_neg (by omega), dif_neg (by omega), dif_neg (by omega), dif_neg (by omega)]
  subst hR
  unfold_abbrev_sides
  after_reads_simp
  congr 1
  exact congrArg (fun i => ix2 i j) (Fin.ext (by dsimp only; omega))

end Cert.MlaBwdIdeal.Value
-- ==== Proof.Mla.Host2.lean ====
module

public import Idealize.ShloMosaic.Lib.Pipeline.ValueKit
public import Idealize.ShloMosaic.Lib.StableHlo.ReadAt
public import proofs.«01_k».proof.Proof.Mla.Host

/-! The key's and value's weights as the kernel reads them. -/

@[expose] public section

set_option maxRecDepth 16384

noncomputable section

namespace Cert.MlaBwdIdeal.Value

open Cert.MlaBwdIdeal Cert.MlaBwdIdeal.Gen Idealize.ShloMosaic Idealize.ShloMosaic.TcCoe Idealize.SL.Sem
open Cert.InBwdIdeal.Value (angle)

variable (m : (ℓ : Loc nD τ sig) → Buf (Elt Ideal) ℓ) (c : Dev nD)

abbrev h75 : FVec Ideal S256x256 .bf16 := V m c main_v75
abbrev h78 : FVec Ideal S256x256 .bf16 := V m c main_v78
abbrev h81 : FVec Ideal S256x256 .bf16 := V m c main_v81
abbrev h84 : FVec Ideal S256x256 .bf16 := V m c main_v84
abbrev h86 : FVec Ideal S256x128 .bf16 := V m c main_v86
abbrev h88 : FVec Ideal S256x128 .bf16 := V m c main_v88
abbrev h90 : FVec Ideal S256x128 .bf16 := V m c main_v90
abbrev h92 : FVec Ideal S256x128 .bf16 := V m c main_v92
abbrev h93 : FVec Ideal S256x1536 .bf16 := V m c main_v93

theorem cols_75 (j d : Fin 256) : h75 m c (ix2 j d) = if hd : d.val < 128 then g6 m c (ix2 j ⟨0 + d, by omega⟩) else 0 := by
  unfold_abbrev_sides
  after_reads_simp
  pointwise

theorem cols_78 (j d : Fin 256) : h78 m c (ix2 j d) = if hd : d.val < 128 then g6 m c (ix2 j ⟨256 + d, by omega⟩) else 0 := by
  unfold_abbrev_sides
  after_reads_simp
  pointwise

theorem cols_81 (j d : Fin 256) : h81 m c (ix2 j d) = if hd : d.val < 128 then g6 m c (ix2 j ⟨512 + d, by omega⟩) else 0 := by
  unfold_abbrev_sides
  after_reads_simp
  pointwise

theorem cols_84 (j d : Fin 256) : h84 m c (ix2 j d) = if hd : d.val < 128 then g6 m c (ix2 j ⟨768 + d, by omega⟩) else 0 := by
  unfold_abbrev_sides
  after_reads_simp
  pointwise

theorem cols_86 (j : Fin 256) (d : Fin 128) : h86 m c (ix2 j d) = g6 m c (ix2 j ⟨128 + d, by omega⟩) := by
  unfold_abbrev_sides
  after_reads_simp
  pointwise

theorem cols_88 (j : Fin 256) (d : Fin 128) : h88 m c (ix2 j d) = g6 m c (ix2 j ⟨256 + (128 + d), by omega⟩) := by
  unfold_abbrev_sides
  after_reads_simp
  pointwise

theorem cols_90 (j : Fin 256) (d : Fin 128) : h90 m c (ix2 j d) = g6 m c (ix2 j ⟨512 + (128 + d), by omega⟩) := by
  unfold_abbrev_sides
  after_reads_simp
  pointwise

theorem cols_92 (j : Fin 256) (d : Fin 128) : h92 m c (ix2 j d) = g6 m c (ix2 j ⟨768 + (128 + d), by omega⟩) := by
  unfold_abbrev_sides
  after_reads_simp
  pointwise

theorem h93_75 (j d : Fin 256) : h93 m c (ix2 j ⟨256 * 0 + d.val, by omega⟩) = h75 m c (ix2 j d) := by
  generalize hR : h75 m c = R
  unfold_abbrev_sides
  after_reads_simp
  pointwise
  subst hR
  unfold_abbrev_sides
  after_reads_simp

theorem h93_78 (j d : Fin 256) : h93 m c (ix2 j ⟨256 * 1 + d.val, by omega⟩) = h78 m c (ix2 j d) := by
  generalize hR : h78 m c = R
  unfold_abbrev_sides
  after_reads_simp
  pointwise
  subst hR
  unfold_abbrev_sides
  after_reads_simp

theorem h93_81 (j d : Fin 256) : h93 m c (ix2 j ⟨256 * 2 + d.val, by omega⟩) = h81 m c (ix2 j d) := by
  generalize hR : h81 m c = R
  unfold_abbrev_sides
  after_reads_simp
  pointwise
  rw [dif_neg (by omega), dif_neg (by omega), dif_pos (by omega)]
  subst hR
  unfold_abbrev_sides
  after_reads_simp
  congr 1
  exact congrArg (fun i => ix2 j i) (Fin.ext (by dsimp only; omega))

theorem h93_84 (j d : Fin 256) : h93 m c (ix2 j ⟨256 * 3 + d.val, by omega⟩) = h84 m c (ix2 j d) := by
  generalize hR : h84 m c = R
  unfold_abbrev_sides
  after_reads_simp
  pointwise
  rw [dif_neg (by omega), dif_neg (by omega), dif_neg (by omega), dif_pos (by omega)]
  subst hR
  unfold_abbrev_sides
  after_reads_simp
  congr 1
  exact congrArg (fun i => ix2 j i) (Fin.ext (by dsimp only; omega))

theorem h93_86 (j : Fin 256) (d : Fin 128) : h93 m c (ix2 j ⟨1024 + (128 * 0 + d.val), by omega⟩) = h86 m c (ix2 j d) := by
  generalize hR : h86 m c = R
  unfold_abbrev_sides
  after_reads_simp
  pointwise
  rw [dif_neg (by omega), dif_neg (by omega), dif_neg (by omega), dif_neg (by omega), dif_pos (by omega)]
  subst hR
  unfold_abbrev_sides
  after_reads_simp
  congr 1
  exact congrArg (fun i => ix2 j i) (Fin.ext (by dsimp only; omega))

theorem h93_88 (j : Fin 256) (d : Fin 128) : h93 m c (ix2 j ⟨1024 + (128 * 1 + d.val), by omega⟩) = h88 m c (ix2 j d) := by
  generalize hR : h88 m c = R
  unfold_abbrev_sides
  after_reads_simp
  pointwise
  rw [dif_neg (by omega), dif_neg (by omega), dif_neg (by omega), dif_neg (by omega), dif_neg (by omega), dif_pos (by omega)]
  subst hR
  unfold_abbrev_sides
  after_reads_simp
  congr 1
  exact congrArg (fun i => ix2 j i) (Fin.ext (by dsimp only; omega))

theorem h93_90 (j : Fin 256) (d : Fin 128) : h93 m c (ix2 j ⟨1024 + (128 * 2 + d.val), by omega⟩) = h90 m c (ix2 j d) := by
  generalize hR : h90 m c = R
  unfold_abbrev_sides
  after_reads_simp
  pointwise
  rw [dif_neg (by omega), dif_neg (by omega), dif_neg (by omega), dif_neg (by omega), dif_neg (by omega), dif_neg (by omega), dif_pos (by omega)]
  subst hR
  unfold_abbrev_sides
  after_reads_simp
  congr 1
  exact congrArg (fun i => ix2 j i) (Fin.ext (by dsimp only; omega))

theorem h93_92 (j : Fin 256) (d : Fin 128) : h93 m c (ix2 j ⟨1024 + (128 * 3 + d.val), by omega⟩) = h92 m c (ix2 j d) := by
  generalize hR : h92 m c = R
  unfold_abbrev_sides
  after_reads_simp
  pointwise
  rw [dif_neg (by omega), dif_neg (by omega), dif_neg (by omega), dif_neg (by omega), dif_neg (by omega), dif_neg (by omega), dif_neg (by omega)]
  subst hR
  unfold_abbrev_sides
  after_reads_simp
  congr 1
  exact congrArg (fun i => ix2 j i) (Fin.ext (by dsimp only; omega))

end Cert.MlaBwdIdeal.Value
-- ==== Proof.Mla.Pay.lean ====
module

public import proofs.«01_k».proof.Proof.Gen.MlaBwdIdeal.Value
public import proofs.«01_k».proof.Proof.Mla.Model
public import proofs.«01_k».proof.Proof.Mlp.Model
public import Idealize.ShloMosaic.Lib.Pipeline.ValueKit

/-! What a grid point computes, over the real tables of what it reads. -/

@[expose] public section

set_option maxRecDepth 16384

noncomputable section

namespace Cert.MlaBwdIdeal.Value

open Finset Cert.MlaBwdIdeal Cert.MlaBwdIdeal.Gen Idealize.ShloMosaic Idealize.ShloMosaic.TcCoe Idealize.SL.Sem
open Cert.AttnBwdIdeal.Value (sum_real sum_coe div_real)
open Cert.MlpBwdIdeal.Value (mean rsqrt_real)

section Pieces

variable (v3 v4 : FVec Ideal S512x256 .f32) (v8 : Vec Ideal S1x512x256 .bf16) (v22 : Vec Ideal S1x512x128 .bf16) (x : S512x256.Idx)

/-! The four heads' pieces are computed alike. -/

theorem pay15_eq : k0_pay15 v3 v8 = k0_pay21 v3 v8 := rfl

theorem pay28_eq : k0_pay28 v3 v8 = k0_pay21 v3 v8 := rfl

theorem pay16_eq : k0_pay16 v3 v8 = k0_pay21 v3 v8 := rfl

theorem pay29_eq : k0_pay29 v3 v8 = k0_pay21 v3 v8 := rfl

theorem pay23_eq : k0_pay23 (k0_pay22 v3 v8) = k0_pay21 v3 v8 := rfl

theorem pay5_eq : k0_pay5 v3 = v3 := by
  funext i
  pointwise [k0_pay5]

theorem pay6_eq : k0_pay6 v3 = v3 := by
  funext i
  pointwise [k0_pay6]

theorem pay9_eq : k0_pay9 v3 v8 = k0_pay21 v3 v8 := congrArg (fun v => k0_pay21 v v8) (pay5_eq v3)

theorem pay10_eq : k0_pay10 v3 v8 = k0_pay21 v3 v8 := congrArg (fun v => k0_pay21 v v8) (pay6_eq v3)

theorem pay35_eq : k0_pay35 v3 = v3 := by
  funext i
  pointwise [k0_pay35]

theorem pay36_eq : k0_pay36 v3 = v3 := by
  funext i
  pointwise [k0_pay36]

theorem pay21_apply (x : Fin 512) (d : Fin 256) : (k0_pay21 v3 v8 (ix2 x d) : EReal) = v8 (ix3 0 x d) * Ideal.ofBits FTy.f32 0x3D93CD3A#32 * v3 (ix2 x d) := by
  pointwise [k0_pay21, k0_pay19]

theorem pay20_apply (x : Fin 512) (d : Fin 256) : (k0_pay20 v8 (ix2 x d) : EReal) = v8 (ix3 0 x d) := by
  pointwise [k0_pay20]

theorem pay24_apply (x : Fin 512) (d : Fin 128) : (k0_pay24 v22 (ix2 x d) : EReal) = v22 (ix3 0 x d) := by
  pointwise [k0_pay24]

theorem pay4_apply (i : S1x512.Idx) : (k0_pay4 (F := Ideal) i : EReal) = 0 := by
  pointwise [k0_pay4]

/-- The heads' gradients at the key, added. -/
theorem pay32_apply (a b e d : Vec Ideal S1x512x256 .bf16) (x : Fin 512) (k : Fin 256) :
    (k0_pay32 (k0_pay25 (k0_pay18 (k0_pay12 a) b) (k0_pay20 e)) (k0_pay31 d) (ix2 x k) : EReal)
      = a (ix3 0 x k) + b (ix3 0 x k) + e (ix3 0 x k) + d (ix3 0 x k) := by
  pointwise [k0_pay32, k0_pay25, k0_pay18, k0_pay12, k0_pay20, k0_pay31, k0_pay27, k0_pay14, k0_pay8]

theorem pay2_apply (x : S512x256.Idx) : (k0_pay2 v3 v4 x : EReal) = v4 x * v3 x := by
  pointwise [k0_pay2]

theorem pay3_eq : k0_pay3 v3 v4 = k0_pay2 v3 v4 := rfl

theorem pay44_apply (v146 : Vec Ideal S1x256 .f32) (j : S1x256.Idx) : (k0_pay44 v3 v4 v146 j : EReal) = v146 j + ∑ x : Fin 512, v3 (ix2 x (j 1)) * v4 (ix2 x (j 1)) := by
  pointwise [k0_pay44]

theorem pay45_eq (v113 : FVec Ideal S512x1 .f32) (v152 : Vec Ideal S1x256 .f32) : k0_pay45 v3 v4 v113 v152 = k0_pay44 v3 (k0_pay42 v4 v113) v152 := rfl

end Pieces

section Rows

variable {X Y A B : ℕ → ℕ → ℝ} {W : ℕ → ℝ}

theorem pay33_real {v84 : Vec Ideal S512x2048 .bf16} {v86 : Vec Ideal S2048x256 .bf16} (h84 : ∀ (r : Fin 512) (k : Fin 2048), v84 (ix2 r k) = ((A r k : ℝ) : EReal))
    (h86 : ∀ (k : Fin 2048) (j : Fin 256), v86 (ix2 k j) = ((B k j : ℝ) : EReal)) (r : Fin 512) (j : Fin 256) :
    k0_pay33 v84 v86 (ix2 r j) = ((∑ k ∈ range 2048, A r k * B k j : ℝ) : EReal) := by
  pointwise [k0_pay33]
  exact sum_coe (f := A r) (g := fun k => B k j) (h84 r) fun k => h86 k j

theorem pay34_real {v89 : Vec Ideal S512x1536 .bf16} {v91 : Vec Ideal S256x1536 .bf16} (h89 : ∀ (r : Fin 512) (k : Fin 1536), v89 (ix2 r k) = ((A r k : ℝ) : EReal))
    (h91 : ∀ (j : Fin 256) (k : Fin 1536), v91 (ix2 j k) = ((B j k : ℝ) : EReal)) (r : Fin 512) (j : Fin 256) :
    k0_pay34 v89 v91 (ix2 r j) = ((∑ k ∈ range 1536, A r k * B j k : ℝ) : EReal) := by
  pointwise [k0_pay34]
  exact sum_coe (f := A r) (g := B j) (h89 r) (h91 j)

variable {v94 : Vec Ideal S512x256 .f32} {y : FVec Ideal S512x256 .f32} {w : Vec Ideal S1x256 .f32} (hx : ∀ (r : Fin 512) (j : Fin 256), v94 (ix2 r j) = ((X r j : ℝ) : EReal))
  (hy : ∀ (r : Fin 512) (j : Fin 256), y (ix2 r j) = ((Y r j : ℝ) : EReal)) (hw : ∀ j : Fin 256, w (ix2 0 j) = ((W j : ℝ) : EReal)) (r : Fin 512) (j : Fin 256)

theorem pay37_eq : k0_pay37 (F := Ideal) v94 = k0_pay38 v94 := rfl

include hx

theorem pay38_real : k0_pay38 (F := Ideal) v94 (ix2 r 0) = ((rs (X r) : ℝ) : EReal) := by
  unfold k0_pay38
  rw [pay36_eq]
  pointwise
  rw [sum_coe (hx r) (hx r), n_eq, div_real (by norm_num), ep_eq]
  exact rsqrt_real (va_pos _)

theorem pay42_real : k0_pay42 v94 (k0_pay38 v94) (ix2 r j) = ((xh (X r) j : ℝ) : EReal) := by
  have e := pay38_real hx r
  unfold k0_pay42
  generalize k0_pay38 v94 = b at *
  pointwise
  rw [e, hx]
  rfl

omit hx in
theorem pay39_eq : k0_pay39 (F := Ideal) v94 = k0_pay42 v94 (k0_pay38 v94) := by
  unfold k0_pay39
  rw [pay35_eq, pay37_eq]
  rfl

include hy hw

/-- The gradient at the norm's argument. -/
theorem pay43_real : k0_pay43 y v94 (k0_pay38 v94) w (ix2 r j) = ((dx (X r) W (Y r) j : ℝ) : EReal) := by
  have e := pay38_real hx r
  have e' := pay42_real hx r
  unfold k0_pay43
  generalize k0_pay42 v94 (k0_pay38 v94) = a at *
  generalize k0_pay38 v94 = b at *
  pointwise
  have e2 : ∀ j : Fin 256, y (ix2 r j) * w (ix2 0 j) = ((Y r j * W j : ℝ) : EReal) := fun j => by
    rw [hy, hw, EReal.coe_mul]
  rw [sum_coe (f := fun j => Y r j * W j) (g := xh (X r)) e2 e', n_eq, div_real (by norm_num), e2, e, e']
  rfl

omit hx hy hw in
theorem pay46_eq (v84 : Vec Ideal S512x2048 .bf16) (v86 : Vec Ideal S2048x256 .bf16) : k0_pay46 (k0_pay37 v94) (k0_pay39 v94) (k0_pay40 v84 v86 w) (k0_pay41 v84 v86 v94 w)
    = k0_pay1 (k0_pay43 (k0_pay33 v84 v86) v94 (k0_pay38 v94) w) := by
  unfold k0_pay41
  rw [pay39_eq]
  rfl

omit hx hy hw in
theorem pay1_apply (i : S512x256.Idx) : (k0_pay1 y i : EReal) = y i := by
  pointwise [k0_pay1]

end Rows

end Cert.MlaBwdIdeal.Value
-- ==== Proof.Mla.Blocks.lean ====
module

public import proofs.«01_k».proof.Proof.Mla.Host2
public import proofs.«01_k».proof.Proof.Mla.Pay
public import Idealize.ShloMosaic.Lib.Pipeline.ReadBack

/-! The blocks a grid point reads, as real tables. -/

@[expose] public section

set_option maxRecDepth 16384

noncomputable section

namespace Cert.MlaBwdIdeal.Value

open Finset Cert.MlaBwdIdeal Cert.MlaBwdIdeal.Gen Idealize.ShloMosaic Idealize.ShloMosaic.TcCoe Idealize.SL.Sem
open Idealize.ShloMosaic.Pipeline (Dat)

variable (m : (ℓ : Loc nD τ sig) → Buf (Elt Ideal) ℓ)

/-- The table holds the arguments the program is run on. -/
abbrev Ok (c : Dev nD) (T : Tab) : Prop :=
  Holds (V m c main_arg0) (V m c main_arg1) (V m c main_arg2) (V m c main_arg3) (V m c main_arg4) (V m c main_arg5) (V m c main_arg6)
    (V m c main_arg7) (V m c main_arg8) (V m c main_arg9) T

theorem idx : ∀ t : Fin cfg0.N, win0_0.index t = ![0, t.val, 0] ∧ win0_1.index t = ![0, t.val, 0] ∧ win0_2.index t = ![0, t.val, 0] ∧ win0_3.index t = ![t.val, 2] ∧ win0_4.index t = ![t.val, 0] ∧
    win0_5.index t = ![t.val, 0] ∧ win0_6.index t = ![0, 0] ∧ win0_7.index t = ![0, 0] ∧ win0_8.index t = ![0, 0] ∧ win0_9.index t = ![0, 0] ∧ win0_10.index t = ![t.val, 0] ∧
    win0_13.index t = ![0, 0] := (by decide +kernel : ∀ t : Fin grid0.N, _)

theorem rows (t : Fin cfg0.N) (x : Fin 512) : 512 * t.val + x.val < 4096 := by
  have : t.val < 8 := t.isLt
  omega

variable (c : Dev nD) (t : Fin cfg0.N)

theorem blk0 (h : Fin 4) (x : Fin 512) (d : Fin 256) : (show FVec Ideal S4x512x256 .bf16 from iblk m c 0 t) (ix3 h x d) = h29 m c (ix3 h (⟨512 * t.val + x.val, rows t x⟩ : Fin 4096) d) := by
  unfold iblk h29
  generalize V m c = X
  blk_ext [idx t]

theorem blk1 (h : Fin 4) (x : Fin 512) (d : Fin 256) : (show FVec Ideal S4x512x256 .bf16 from iblk m c 1 t) (ix3 h x d) = h31 m c (ix3 h (⟨512 * t.val + x.val, rows t x⟩ : Fin 4096) d) := by
  unfold iblk h31
  generalize V m c = X
  blk_ext [idx t]

theorem blk2 (h : Fin 4) (x : Fin 512) (d : Fin 128) : (show FVec Ideal S4x512x128 .bf16 from iblk m c 2 t) (ix3 h x d) = h32 m c (ix3 h (⟨512 * t.val + x.val, rows t x⟩ : Fin 4096) d) := by
  unfold iblk h32
  generalize V m c = X
  blk_ext [idx t]

theorem blk3 (x : Fin 512) (k : Fin 1024) : (show FVec Ideal S512x1024 .f32 from iblk m c 3 t) (ix2 x k) = h26 m c (ix2 (⟨512 * t.val + x.val, rows t x⟩ : Fin 4096) ⟨2048 + k.val, by omega⟩) := by
  unfold iblk h26
  generalize V m c = X
  blk_ext [idx t]

theorem blk4 (x : Fin 512) (d : Fin 256) : (show FVec Ideal S512x256 .f32 from iblk m c 4 t) (ix2 x d) = h21 m c (ix2 (⟨512 * t.val + x.val, rows t x⟩ : Fin 4096) d) := by
  unfold iblk h21
  generalize V m c = X
  blk_ext [idx t]

theorem blk5 (x : Fin 512) (d : Fin 256) : (show FVec Ideal S512x256 .f32 from iblk m c 5 t) (ix2 x d) = h23 m c (ix2 (⟨512 * t.val + x.val, rows t x⟩ : Fin 4096) d) := by
  unfold iblk h23
  generalize V m c = X
  blk_ext [idx t]

theorem blk6 (k : Fin 2048) (j : Fin 256) : (show FVec Ideal S2048x256 .bf16 from iblk m c 6 t) (ix2 k j) = h69 m c (ix2 k j) := by
  unfold iblk h69
  generalize V m c = X
  blk_ext [idx t]

theorem blk7 (j : Fin 256) (k : Fin 1536) : (show FVec Ideal S256x1536 .bf16 from iblk m c 7 t) (ix2 j k) = h93 m c (ix2 j k) := by
  unfold iblk h93
  generalize V m c = X
  blk_ext [idx t]

theorem blk8 (j : Fin 256) : (show FVec Ideal S1x256 .f32 from iblk m c 8 t) (ix2 0 j) = (show FVec Ideal S1x256 .f32 from V m c main_arg3) (ix2 0 j) := by
  unfold iblk
  generalize V m c = X
  blk_ext [idx t]

theorem blk9 (j : Fin 256) : (show FVec Ideal S1x256 .f32 from iblk m c 9 t) (ix2 0 j) = (show FVec Ideal S1x256 .f32 from V m c main_arg4) (ix2 0 j) := by
  unfold iblk
  generalize V m c = X
  blk_ext [idx t]

variable {c} {T : Tab} (f : Ok m c T)

include f

omit t in
theorem c1_val (r : Fin 4096) (d : Fin 256) : h21 m c (ix2 r d) = ((T.c1 r d : ℝ) : EReal) := by
  have e : ∀ k : Fin 32, h17 m c (ix2 r k) = ((T.co r k : ℝ) : EReal) := fun k => by
    rw [h17_eq]
    exact Cert.MlaBwdRefIdeal.Read.co_eq f r k
  rw [h21_eq]
  unfold Tab.c1
  by_cases h0 : d.val < 128
  · rw [dif_pos h0, if_pos h0]
    rfl
  rw [dif_neg h0, if_neg h0]
  by_cases h1 : d.val < 160
  · rw [dif_pos (by omega), if_pos h1, e]
  rw [dif_neg (by omega), if_neg h1]
  by_cases h2 : d.val < 192
  · rw [dif_pos (by omega), if_pos h2, e]
    exact congrArg (fun n => ((T.co r n : ℝ) : EReal)) (by dsimp only; omega)
  · rw [dif_neg (by omega), if_neg h2]
    rfl

omit t in
theorem s1_val (r : Fin 4096) (d : Fin 256) : h23 m c (ix2 r d) = ((T.s1 r d : ℝ) : EReal) := by
  have e : ∀ k : Fin 32, h18 m c (ix2 r k) = ((T.si r k : ℝ) : EReal) := fun k => by
    rw [h18_eq]
    exact Cert.MlaBwdRefIdeal.Read.si_eq f r k
  rw [h23_eq]
  unfold Tab.s1
  by_cases h0 : d.val < 128
  · rw [dif_pos h0, if_pos h0]
    rfl
  rw [dif_neg h0, if_neg h0]
  by_cases h1 : d.val < 160
  · rw [dif_pos (by omega), if_pos h1, e]
  rw [dif_neg (by omega), if_neg h1]
  by_cases h2 : d.val < 192
  · rw [dif_pos (by omega), if_pos h2, e]
    exact congrArg (fun n => ((T.si r n : ℝ) : EReal)) (by dsimp only; omega)
  · rw [dif_neg (by omega), if_neg h2]
    rfl

theorem val0 (h : Fin 4) (x : Fin 512) (d : Fin 256) : (show FVec Ideal S4x512x256 .bf16 from iblk m c 0 t) (ix3 h x d) = ((T.dqp h (512 * t.val + x) d : ℝ) : EReal) := by
  rw [blk0, h29_eq]
  unfold Tab.dqp
  split_ifs with hd
  · exact f.h7 h _ ⟨d, hd⟩
  · rfl

theorem val1 (h : Fin 4) (x : Fin 512) (d : Fin 256) : (show FVec Ideal S4x512x256 .bf16 from iblk m c 1 t) (ix3 h x d) = ((T.dkp h (512 * t.val + x) d : ℝ) : EReal) := by
  rw [blk1, h31_eq]
  unfold Tab.dkp
  split_ifs with hd
  · exact f.h8 h _ ⟨d, hd⟩
  · rfl

theorem val2 (h : Fin 4) (x : Fin 512) (d : Fin 128) : (show FVec Ideal S4x512x128 .bf16 from iblk m c 2 t) (ix3 h x d) = ((T.dv h (512 * t.val + x) d : ℝ) : EReal) := by
  rw [blk2, h32_eq]
  exact f.h9 h _ d

theorem val3q (x : Fin 512) (j : Fin 256) : (show FVec Ideal S512x1024 .f32 from iblk m c 3 t) (ix2 x ⟨j.val, by omega⟩) = ((T.cq (512 * t.val + x) j : ℝ) : EReal) := by
  rw [blk3, h26_q]
  exact f.h0 _ j

theorem val3k (x : Fin 512) (j : Fin 256) : (show FVec Ideal S512x1024 .f32 from iblk m c 3 t) (ix2 x ⟨256 + j.val, by omega⟩) = ((T.ck (512 * t.val + x) j : ℝ) : EReal) := by
  rw [blk3]
  refine (congrArg (fun i => h26 m c (ix2 _ i)) (Fin.ext (by dsimp only; omega))).trans ((h26_k m c _ j).trans ?_)
  exact f.h1 _ j

theorem val4 (x : Fin 512) (d : Fin 256) : (show FVec Ideal S512x256 .f32 from iblk m c 4 t) (ix2 x d) = ((T.c1 (512 * t.val + x) d : ℝ) : EReal) :=
  (blk4 m c t x d).trans (c1_val m f _ d)

theorem val5 (x : Fin 512) (d : Fin 256) : (show FVec Ideal S512x256 .f32 from iblk m c 5 t) (ix2 x d) = ((T.s1 (512 * t.val + x) d : ℝ) : EReal) :=
  (blk5 m c t x d).trans (s1_val m f _ d)

theorem val8 (j : Fin 256) : (show FVec Ideal S1x256 .f32 from iblk m c 8 t) (ix2 0 j) = ((T.qn j : ℝ) : EReal) :=
  (blk8 m c t j).trans (f.h3 j)

theorem val9 (j : Fin 256) : (show FVec Ideal S1x256 .f32 from iblk m c 9 t) (ix2 0 j) = ((T.kn j : ℝ) : EReal) :=
  (blk9 m c t j).trans (f.h4 j)

end Cert.MlaBwdIdeal.Value
-- ==== Proof.Mla.Weights.lean ====
module

public import proofs.«01_k».proof.Proof.Mla.Blocks

/-! The arranged weights, as real tables. -/

@[expose] public section

set_option maxRecDepth 16384

noncomputable section

namespace Cert.MlaBwdIdeal.Value

open Finset Cert.MlaBwdIdeal Cert.MlaBwdIdeal.Gen Idealize.ShloMosaic Idealize.ShloMosaic.TcCoe Idealize.SL.Sem
open Idealize.ShloMosaic.Pipeline (Dat)

variable (m : (ℓ : Loc nD τ sig) → Buf (Elt Ideal) ℓ) {c : Dev nD} (t : Fin cfg0.N) {T : Tab} (f : Ok m c T)

include f

theorem lo_val {h : ℕ} (hh : h < 4) {d j : Fin 256} {v : EReal} (e : v = if hd : d.val < 192 then g5 m c (ix2 j ⟨192 * h + d, by omega⟩) else 0) :
    v = ((T.wqx (256 * h + d) j : ℝ) : EReal) := by
  rw [e, T.wqx_lo j hh d.isLt]
  split_ifs with hd
  · exact f.h5 j ⟨192 * h + d, by omega⟩
  · rfl

theorem hi_val {h o : ℕ} (hh : h < 4) (ho : o = 192 * h + 128) {d j : Fin 256} {v : EReal} (e : v = if d.val < 128 then 0 else if h1 : d.val - 128 < 64 then if h2 : d.val - 128 < 32 then
      -g5 m c (ix2 j ⟨o + (32 + (d - 128)), by omega⟩) else g5 m c (ix2 j ⟨o + (d - 128 - 32), by omega⟩) else 0) :
    v = ((T.wqx (1024 + (256 * h + d)) j : ℝ) : EReal) := by
  have g := f.h5 j
  subst ho
  rw [e, T.wqx_hi j d.isLt]
  by_cases h0 : d.val < 128
  · rw [if_pos h0, if_pos h0]
    rfl
  rw [if_neg h0, if_neg h0]
  by_cases h1 : d.val < 160
  · rw [dif_pos (by omega), dif_pos (by omega), if_pos h1, EReal.coe_neg]
    refine congrArg (fun a : EReal => -a) ((g ⟨192 * h + 128 + (32 + (d - 128)), by omega⟩).trans (congrArg (fun n => ((T.wq j n : ℝ) : EReal)) ?_))
    show 192 * h + 128 + (32 + (d.val - 128)) = _
    omega
  rw [if_neg h1]
  by_cases h2 : d.val < 192
  · rw [dif_pos (by omega), dif_neg (by omega), if_pos h2]
    refine (g ⟨192 * h + 128 + (d - 128 - 32), by omega⟩).trans (congrArg (fun n => ((T.wq j n : ℝ) : EReal)) ?_)
    show 192 * h + 128 + (d.val - 128 - 32) = _
    omega
  · rw [dif_neg (by omega), if_neg h2]
    rfl

theorem wq_piece (j d : Fin 256) (q : Fin 8) : h69 m c (ix2 ⟨256 * q.val + d.val, by omega⟩ j) = ((T.wqx (256 * q.val + d) j : ℝ) : EReal) :=
  match q with
  | ⟨0, _⟩ => lo_val m f (h := 0) (by omega) ((h69_38 m c j d).trans ((rows_q m c d j).1.trans (by simp only [Nat.mul_zero, Nat.zero_add])))
  | ⟨1, _⟩ => lo_val m f (h := 1) (by omega) ((h69_40 m c j d).trans (rows_q m c d j).2.1)
  | ⟨2, _⟩ => lo_val m f (h := 2) (by omega) ((h69_42 m c j d).trans (rows_q m c d j).2.2.1)
  | ⟨3, _⟩ => lo_val m f (h := 3) (by omega) ((h69_44 m c j d).trans (rows_q m c d j).2.2.2)
  | ⟨4, _⟩ => (hi_val m f (h := 0) (by omega) (by omega) ((h69_50 m c j d).trans (rows_50 m c d j))).trans (congrArg (fun n => ((T.wqx n j : ℝ) : EReal)) (by dsimp only; omega))
  | ⟨5, _⟩ => (hi_val m f (h := 1) (by omega) (by omega) ((h69_56 m c j d).trans (rows_56 m c d j))).trans (congrArg (fun n => ((T.wqx n j : ℝ) : EReal)) (by dsimp only; omega))
  | ⟨6, _⟩ => (hi_val m f (h := 2) (by omega) (by omega) ((h69_62 m c j d).trans (rows_62 m c d j))).trans (congrArg (fun n => ((T.wqx n j : ℝ) : EReal)) (by dsimp only; omega))
  | ⟨7, _⟩ => (hi_val m f (h := 3) (by omega) (by omega) ((h69_68 m c j d).trans (rows_68 m c d j))).trans (congrArg (fun n => ((T.wqx n j : ℝ) : EReal)) (by dsimp only; omega))

theorem val6 (k : Fin 2048) (j : Fin 256) : (show FVec Ideal S2048x256 .bf16 from iblk m c 6 t) (ix2 k j) = ((T.wqx k j : ℝ) : EReal) := by
  have e : 256 * (k.val / 256) + k.val % 256 = k.val := Nat.div_add_mod _ _
  have h := wq_piece m f j ⟨k.val % 256, Nat.mod_lt _ (by decide)⟩ ⟨k.val / 256, by omega⟩
  rw [blk6]
  refine (congrArg (fun i => h69 m c (ix2 i j)) (Fin.ext e.symm)).trans (h.trans ?_)
  exact congrArg (fun n => ((T.wqx n j : ℝ) : EReal)) e

theorem key_val {h : ℕ} (hh : h < 4) {d j : Fin 256} {v : EReal} (e : v = if hd : d.val < 128 then g6 m c (ix2 j ⟨256 * h + d, by omega⟩) else 0) :
    v = ((T.wkx j (256 * h + d) : ℝ) : EReal) := by
  rw [e]
  unfold Tab.wkx
  rw [if_pos (by omega), show (256 * h + d.val) % 256 = d.val by omega, show (256 * h + d.val) / 256 = h by omega]
  split_ifs with hd
  · exact f.h6 j ⟨256 * h + d, by omega⟩
  · rfl

theorem value_val {h o : ℕ} (hh : h < 4) (ho : o = 256 * h) {d : Fin 128} {j : Fin 256} {v : EReal} (e : v = g6 m c (ix2 j ⟨o + (128 + d), by omega⟩)) :
    v = ((T.wkx j (1024 + (128 * h + d)) : ℝ) : EReal) := by
  subst ho
  rw [e]
  unfold Tab.wkx
  rw [if_neg (by omega), show (1024 + (128 * h + d.val) - 1024) % 128 = d.val by omega, show (1024 + (128 * h + d.val) - 1024) / 128 = h by omega]
  exact f.h6 j ⟨256 * h + (128 + d), by omega⟩

theorem key_piece (j d : Fin 256) (q : Fin 4) : h93 m c (ix2 j ⟨256 * q.val + d.val, by omega⟩) = ((T.wkx j (256 * q.val + d) : ℝ) : EReal) :=
  match q with
  | ⟨0, _⟩ => key_val m f (h := 0) (by omega) ((h93_75 m c j d).trans ((cols_75 m c j d).trans (by simp only [Nat.mul_zero, Nat.zero_add])))
  | ⟨1, _⟩ => key_val m f (h := 1) (by omega) ((h93_78 m c j d).trans (cols_78 m c j d))
  | ⟨2, _⟩ => key_val m f (h := 2) (by omega) ((h93_81 m c j d).trans (cols_81 m c j d))
  | ⟨3, _⟩ => key_val m f (h := 3) (by omega) ((h93_84 m c j d).trans (cols_84 m c j d))

theorem value_piece (j : Fin 256) (d : Fin 128) (q : Fin 4) : h93 m c (ix2 j ⟨1024 + (128 * q.val + d.val), by omega⟩) = ((T.wkx j (1024 + (128 * q.val + d)) : ℝ) : EReal) :=
  match q with
  | ⟨0, _⟩ => value_val m f (h := 0) (o := 0) (by omega) (by omega) ((h93_86 m c j d).trans ((cols_86 m c j d).trans (congrArg (fun i => g6 m c (ix2 j i)) (Fin.ext (by dsimp only; omega)))))
  | ⟨1, _⟩ => value_val m f (h := 1) (o := 256) (by omega) (by omega) ((h93_88 m c j d).trans (cols_88 m c j d))
  | ⟨2, _⟩ => value_val m f (h := 2) (o := 512) (by omega) (by omega) ((h93_90 m c j d).trans (cols_90 m c j d))
  | ⟨3, _⟩ => value_val m f (h := 3) (o := 768) (by omega) (by omega) ((h93_92 m c j d).trans (cols_92 m c j d))

theorem val7 (j : Fin 256) (k : Fin 1536) : (show FVec Ideal S256x1536 .bf16 from iblk m c 7 t) (ix2 j k) = ((T.wkx j k : ℝ) : EReal) := by
  rw [blk7]
  by_cases hk : k.val < 1024
  · have e : 256 * (k.val / 256) + k.val % 256 = k.val := Nat.div_add_mod _ _
    have h := key_piece m f j ⟨k.val % 256, Nat.mod_lt _ (by decide)⟩ ⟨k.val / 256, by omega⟩
    refine (congrArg (fun i => h93 m c (ix2 j i)) (Fin.ext e.symm)).trans (h.trans ?_)
    exact congrArg (fun n => ((T.wkx j n : ℝ) : EReal)) e
  · have e : 1024 + (128 * ((k.val - 1024) / 128) + (k.val - 1024) % 128) = k.val := by omega
    have h := value_piece m f j ⟨(k.val - 1024) % 128, Nat.mod_lt _ (by decide)⟩ ⟨(k.val - 1024) / 128, by omega⟩
    refine (congrArg (fun i => h93 m c (ix2 j i)) (Fin.ext e.symm)).trans (h.trans ?_)
    exact congrArg (fun n => ((T.wkx j n : ℝ) : EReal)) e

end Cert.MlaBwdIdeal.Value
-- ==== Proof.Mla.Lay.lean ====
module

public import proofs.«01_k».proof.Proof.Mla.Weights

/-! What a grid point leaves in the blocks it writes. -/

@[expose] public section

set_option maxRecDepth 16384

noncomputable section

namespace Cert.MlaBwdIdeal.Value

open Finset Cert.MlaBwdIdeal Cert.MlaBwdIdeal.Gen Idealize.ShloMosaic Idealize.ShloMosaic.TcCoe Idealize.SL.Sem
open Idealize.ShloMosaic.Pipeline (Dat)

variable (m : (ℓ : Loc nD τ sig) → Buf (Elt Ideal) ℓ) {c : Dev nD} (t : Fin cfg0.N) {T : Tab} (f : Ok m c T)

/-- The query's arranged gradient, as the point lays it out, -/
abbrev qLay (m : (ℓ : Loc nD τ sig) → Buf (Elt Ideal) ℓ) (c : Dev nD) (t : Fin cfg0.N) : Vec Ideal S512x2048 .bf16 :=
  (ms0_11 t).view.readCov [
    ⟨Rect.unit ![0, 1792] ![512, 256] inb_S512x2048_S512x256_0_1792, k0_pay29 (k0_pay6 (iblk m c 5 t)) (View.ld (iblk m c 0 t) (Rect.unit ![3, 0, 0] ![1, 512, 256] inb_S4x512x256_S1x512x256_3_0_0))⟩,
    ⟨Rect.unit ![0, 768] ![512, 256] inb_S512x2048_S512x256_0_768, k0_pay28 (k0_pay5 (iblk m c 4 t)) (View.ld (iblk m c 0 t) (Rect.unit ![3, 0, 0] ![1, 512, 256] inb_S4x512x256_S1x512x256_3_0_0))⟩,
    ⟨Rect.unit ![0, 1536] ![512, 256] inb_S512x2048_S512x256_0_1536, k0_pay23 (k0_pay22 (k0_pay6 (iblk m c 5 t)) (View.ld (iblk m c 0 t) (Rect.unit ![2, 0, 0] ![1, 512, 256] inb_S4x512x256_S1x512x256_2_0_0)))⟩,
    ⟨Rect.unit ![0, 512] ![512, 256] inb_S512x2048_S512x256_0_512, k0_pay21 (k0_pay5 (iblk m c 4 t)) (View.ld (iblk m c 0 t) (Rect.unit ![2, 0, 0] ![1, 512, 256] inb_S4x512x256_S1x512x256_2_0_0))⟩,
    ⟨Rect.unit ![0, 1280] ![512, 256] inb_S512x2048_S512x256_0_1280, k0_pay16 (k0_pay6 (iblk m c 5 t)) (View.ld (iblk m c 0 t) (Rect.unit ![1, 0, 0] ![1, 512, 256] inb_S4x512x256_S1x512x256_1_0_0))⟩,
    ⟨Rect.unit ![0, 256] ![512, 256] inb_S512x2048_S512x256_0_256, k0_pay15 (k0_pay5 (iblk m c 4 t)) (View.ld (iblk m c 0 t) (Rect.unit ![1, 0, 0] ![1, 512, 256] inb_S4x512x256_S1x512x256_1_0_0))⟩,
    ⟨Rect.unit ![0, 1024] ![512, 256] inb_S512x2048_S512x256_0_1024, k0_pay10 (iblk m c 5 t) (View.ld (iblk m c 0 t) (Rect.unit ![0, 0, 0] ![1, 512, 256] inb_S4x512x256_S1x512x256_0_0_0))⟩,
    ⟨Rect.unit ![0, 0] ![512, 256] inb_S512x2048_S512x256_0_0, k0_pay9 (iblk m c 4 t) (View.ld (iblk m c 0 t) (Rect.unit ![0, 0, 0] ![1, 512, 256] inb_S4x512x256_S1x512x256_0_0_0))⟩] (Rect.unit ![0, 0] ![512, 2048] inb_S512x2048_S512x2048_0_0).toLoadRect

/-- and the key's and the value's. -/
abbrev kLay (m : (ℓ : Loc nD τ sig) → Buf (Elt Ideal) ℓ) (c : Dev nD) (t : Fin cfg0.N) : Vec Ideal S512x1536 .bf16 :=
  (ms0_12 t).view.readCov [
    ⟨Rect.unit ![0, 1408] ![512, 128] inb_S512x1536_S512x128_0_1408, k0_pay30 (View.ld (iblk m c 2 t) (Rect.unit ![3, 0, 0] ![1, 512, 128] inb_S4x512x128_S1x512x128_3_0_0))⟩,
    ⟨Rect.unit ![0, 768] ![512, 256] inb_S512x1536_S512x256_0_768, k0_pay27 (View.ld (iblk m c 1 t) (Rect.unit ![3, 0, 0] ![1, 512, 256] inb_S4x512x256_S1x512x256_3_0_0))⟩,
    ⟨Rect.unit ![0, 1280] ![512, 128] inb_S512x1536_S512x128_0_1280, k0_pay24 (View.ld (iblk m c 2 t) (Rect.unit ![2, 0, 0] ![1, 512, 128] inb_S4x512x128_S1x512x128_2_0_0))⟩,
    ⟨Rect.unit ![0, 512] ![512, 256] inb_S512x1536_S512x256_0_512, k0_pay20 (View.ld (iblk m c 1 t) (Rect.unit ![2, 0, 0] ![1, 512, 256] inb_S4x512x256_S1x512x256_2_0_0))⟩,
    ⟨Rect.unit ![0, 1152] ![512, 128] inb_S512x1536_S512x128_0_1152, k0_pay17 (View.ld (iblk m c 2 t) (Rect.unit ![1, 0, 0] ![1, 512, 128] inb_S4x512x128_S1x512x128_1_0_0))⟩,
    ⟨Rect.unit ![0, 256] ![512, 256] inb_S512x1536_S512x256_0_256, k0_pay14 (View.ld (iblk m c 1 t) (Rect.unit ![1, 0, 0] ![1, 512, 256] inb_S4x512x256_S1x512x256_1_0_0))⟩,
    ⟨Rect.unit ![0, 1024] ![512, 128] inb_S512x1536_S512x128_0_1024, k0_pay11 (View.ld (iblk m c 2 t) (Rect.unit ![0, 0, 0] ![1, 512, 128] inb_S4x512x128_S1x512x128_0_0_0))⟩,
    ⟨Rect.unit ![0, 0] ![512, 256] inb_S512x1536_S512x256_0_0, k0_pay8 (View.ld (iblk m c 1 t) (Rect.unit ![0, 0, 0] ![1, 512, 256] inb_S4x512x256_S1x512x256_0_0_0))⟩] (Rect.unit ![0, 0] ![512, 1536] inb_S512x1536_S512x1536_0_0).toLoadRect

/-- A load of the whole buffer reads what was laid there. -/
theorem read_all {S : Shape} {e : EltTy} {sp : Space} (v : View sig .tc sp S e) {off : Fin S.rank → ℕ} (h : off = fun _ => 0) (b) (L) :
    v.readCov (Val := Elt Ideal) L (Rect.unit off S.size b).toLoadRect = View.canon L :=
  (View.readCov_eq_canon' v L _).trans (View.ld_unit_zero h b _)

theorem ld_256 (X : Vec Ideal S4x512x256 .bf16) (h : Fin 4) (b) (x : Fin 512) (d : Fin 256) :
    (show FVec Ideal S1x512x256 .bf16 from View.ld X (Rect.unit (s := S4x512x256) ![h.val, 0, 0] ![1, 512, 256] b)) (ix3 0 x d) = (show FVec Ideal S4x512x256 .bf16 from X) (ix3 h x d) := by
  refine congrArg X (funext fun a => Fin.ext ((congrArg (![h.val, 0, 0] a + ·) (Nat.one_mul _)).trans ?_))
  match a with
  | ⟨0, _⟩ => exact Nat.add_zero _
  | ⟨1, _⟩ => exact Nat.zero_add _
  | ⟨2, _⟩ => exact Nat.zero_add _

theorem ld_128 (X : Vec Ideal S4x512x128 .bf16) (h : Fin 4) (b) (x : Fin 512) (d : Fin 128) :
    (show FVec Ideal S1x512x128 .bf16 from View.ld X (Rect.unit (s := S4x512x128) ![h.val, 0, 0] ![1, 512, 128] b)) (ix3 0 x d) = (show FVec Ideal S4x512x128 .bf16 from X) (ix3 h x d) := by
  refine congrArg X (funext fun a => Fin.ext ((congrArg (![h.val, 0, 0] a + ·) (Nat.one_mul _)).trans ?_))
  match a with
  | ⟨0, _⟩ => exact Nat.add_zero _
  | ⟨1, _⟩ => exact Nat.zero_add _
  | ⟨2, _⟩ => exact Nat.zero_add _

include f

/-- A head's piece, times the rotary row `v`. -/
theorem q_lo {v : FVec Ideal S512x256 .f32} {L : Vec Ideal S1x512x256 .bf16} {h : Fin 4} (hv : ∀ (x : Fin 512) (d : Fin 256), v (ix2 x d) = ((T.c1 (512 * t.val + x) d : ℝ) : EReal))
    (hL : ∀ (x : Fin 512) (d : Fin 256), L (ix3 0 x d) = (show FVec Ideal S4x512x256 .bf16 from iblk m c 0 t) (ix3 h x d)) (x : S512x256.Idx) {n : ℕ} (hn : n = 256 * h + (x 1).val) :
    k0_pay21 v L x = ((T.eq (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  refine (pay21_apply v L a b).trans ?_
  rw [hv, hL, val0 m t f, sc_eq, hn]
  refine Eq.trans ?_ (congrArg (fun a : ℝ => (a : EReal)) (T.eq_lo _ h.isLt b.isLt).symm)
  rfl

theorem q_hi {v : FVec Ideal S512x256 .f32} {L : Vec Ideal S1x512x256 .bf16} {h : Fin 4} (hv : ∀ (x : Fin 512) (d : Fin 256), v (ix2 x d) = ((T.s1 (512 * t.val + x) d : ℝ) : EReal))
    (hL : ∀ (x : Fin 512) (d : Fin 256), L (ix3 0 x d) = (show FVec Ideal S4x512x256 .bf16 from iblk m c 0 t) (ix3 h x d)) (x : S512x256.Idx) {n : ℕ} (hn : n = 1024 + (256 * h + (x 1).val)) :
    k0_pay21 v L x = ((T.eq (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  refine (pay21_apply v L a b).trans ?_
  rw [hv, hL, val0 m t f, sc_eq, hn]
  refine Eq.trans ?_ (congrArg (fun a : ℝ => (a : EReal)) (T.eq_hi _ (h := h.val) b.isLt).symm)
  rfl

theorem k_lo {L : Vec Ideal S1x512x256 .bf16} {h : Fin 4}
    (hL : ∀ (x : Fin 512) (d : Fin 256), L (ix3 0 x d) = (show FVec Ideal S4x512x256 .bf16 from iblk m c 1 t) (ix3 h x d)) (x : S512x256.Idx) {n : ℕ} (hn : n = 256 * h + (x 1).val) :
    k0_pay20 L x = ((T.ek (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  have hb : n = 256 * h.val + b.val := hn
  refine (pay20_apply L a b).trans ?_
  rw [hL, val1 m t f]
  unfold Tab.ek
  rw [if_pos (by omega), show n / 256 = h.val by omega, show n % 256 = b.val by omega]
  rfl

theorem v_hi {L : Vec Ideal S1x512x128 .bf16} {h : Fin 4}
    (hL : ∀ (x : Fin 512) (d : Fin 128), L (ix3 0 x d) = (show FVec Ideal S4x512x128 .bf16 from iblk m c 2 t) (ix3 h x d)) (x : S512x128.Idx) {n : ℕ} (hn : n = 1024 + (128 * h + (x 1).val)) :
    k0_pay24 L x = ((T.ek (512 * t.val + (x 0).val) n : ℝ) : EReal) := by
  obtain ⟨a, b, rfl⟩ : ∃ (a : Fin 512) (b : Fin 128), x = ix2 a b := ⟨x 0, x 1, by ext a; match a with | ⟨0, _⟩ => rfl | ⟨1, _⟩ => rfl⟩
  have hb : n = 1024 + (128 * h.val + b.val) := hn
  refine (pay24_apply L a b).trans ?_
  rw [hL, val2 m t f]
  unfold Tab.ek
  rw [if_neg (by omega), show (n - 1024) / 128 = h.val by omega, show (n - 1024) % 128 = b.val by omega]
  rfl

theorem c1_blk (x : Fin 512) (d : Fin 256) : k0_pay5 (F := Ideal) (iblk m c 4 t) (ix2 x d) = ((T.c1 (512 * t.val + x) d : ℝ) : EReal) :=
  (congrFun (pay5_eq _) _).trans (val4 m t f x d)

theorem s1_blk (x : Fin 512) (d : Fin 256) : k0_pay6 (F := Ideal) (iblk m c 5 t) (ix2 x d) = ((T.s1 (512 * t.val + x) d : ℝ) : EReal) :=
  (congrFun (pay6_eq _) _).trans (val5 m t f x d)

theorem q_lay (y : S512x2048.Idx) : qLay m c t y = ((T.eq (512 * t.val + (y 0).val) (y 1).val : ℝ) : EReal) := by
  refine (congrFun (read_all (S := S512x2048) _ (off := ![0, 0]) (by decide) _ _) y).trans ?_
  canon_tiles x h <;> rw [h0, h1]
  · exact (congrFun (pay29_eq _ _) x).trans (q_hi m t f (h := 3) (s1_blk m t f) (fun x d => ld_256 _ 3 _ x d) x (by omega))
  · exact (congrFun (pay28_eq _ _) x).trans (q_lo m t f (h := 3) (c1_blk m t f) (fun x d => ld_256 _ 3 _ x d) x (by omega))
  · exact (congrFun (pay23_eq _ _) x).trans (q_hi m t f (h := 2) (s1_blk m t f) (fun x d => ld_256 _ 2 _ x d) x (by omega))
  · exact (q_lo m t f (h := 2) (c1_blk m t f) (fun x d => ld_256 _ 2 _ x d) x (by omega))
  · exact (congrFun (pay16_eq _ _) x).trans (q_hi m t f (h := 1) (s1_blk m t f) (fun x d => ld_256 _ 1 _ x d) x (by omega))
  · exact (congrFun (pay15_eq _ _) x).trans (q_lo m t f (h := 1) (c1_blk m t f) (fun x d => ld_256 _ 1 _ x d) x (by omega))
  · exact (congrFun (pay10_eq _ _) x).trans (q_hi m t f (h := 0) (val5 m t f) (fun x d => ld_256 _ 0 _ x d) x (by omega))
  · exact (congrFun (pay9_eq _ _) x).trans (q_lo m t f (h := 0) (val4 m t f) (fun x d => ld_256 _ 0 _ x d) x (by omega))

theorem k_lay (y : S512x1536.Idx) : kLay m c t y = ((T.ek (512 * t.val + (y 0).val) (y 1).val : ℝ) : EReal) := by
  refine (congrFun (read_all (S := S512x1536) _ (off := ![0, 0]) (by decide) _ _) y).trans ?_
  canon_tiles x h using (View.cover_of_tiledBy _ ![512, 128] (by sl_kernel_rfl) y) <;> rw [h0, h1]
  · exact v_hi m t f (h := 3) (fun x d => ld_128 _ 3 _ x d) x (by omega)
  · exact k_lo m t f (h := 3) (fun x d => ld_256 _ 3 _ x d) x (by omega)
  · exact v_hi m t f (h := 2) (fun x d => ld_128 _ 2 _ x d) x (by omega)
  · exact k_lo m t f (h := 2) (fun x d => ld_256 _ 2 _ x d) x (by omega)
  · exact v_hi m t f (h := 1) (fun x d => ld_128 _ 1 _ x d) x (by omega)
  · exact k_lo m t f (h := 1) (fun x d => ld_256 _ 1 _ x d) x (by omega)
  · exact v_hi m t f (h := 0) (fun x d => ld_128 _ 0 _ x d) x (by omega)
  · exact k_lo m t f (h := 0) (fun x d => ld_256 _ 0 _ x d) x (by omega)

end Cert.MlaBwdIdeal.Value
-- ==== Proof.Mla.Cases.lean ====
module

public import proofs.«01_k».proof.Proof.Mla.Lay

/-! What a grid point leaves in the gradient's block, and what it adds to the row of sums. -/

@[expose] public section

set_option maxRecDepth 16384

noncomputable section

namespace Cert.MlaBwdIdeal.Value

open Finset Cert.MlaBwdIdeal Cert.MlaBwdIdeal.Gen Idealize.ShloMosaic Idealize.ShloMosaic.TcCoe Idealize.SL.Sem
open Idealize.ShloMosaic.Pipeline (Dat)
open Cert.AttnBwdIdeal.Value (sum_coe)

variable (m : (ℓ : Loc nD τ sig) → Buf (Elt Ideal) ℓ) {c : Dev nD} (t : Fin cfg0.N) {T : Tab} (f : Ok m c T)

/-- The query's compressed rows, -/
abbrev zq (c : Dev nD) (t : Fin cfg0.N) : Vec Ideal S512x256 .f32 :=
  View.ld (iblk m c 3 t) (Rect.unit ![0, 0] ![512, 256] inb_S512x1024_S512x256_0_0)

/-- the key's and value's, -/
abbrev zk (c : Dev nD) (t : Fin cfg0.N) : Vec Ideal S512x256 .f32 :=
  View.ld (iblk m c 3 t) (Rect.unit ![0, 256] ![512, 256] inb_S512x1024_S512x256_0_256)

/-- and the heads' gradients at the key, added. -/
abbrev skBlk (c : Dev nD) (t : Fin cfg0.N) : Vec Ideal S512x256 .f32 :=
  k0_pay32 (k0_pay25 (k0_pay18 (k0_pay12 (View.ld (iblk m c 1 t) (Rect.unit ![0, 0, 0] ![1, 512, 256] inb_S4x512x256_S1x512x256_0_0_0)))
    (View.ld (iblk m c 1 t) (Rect.unit ![1, 0, 0] ![1, 512, 256] inb_S4x512x256_S1x512x256_1_0_0)))
    (k0_pay20 (View.ld (iblk m c 1 t) (Rect.unit ![2, 0, 0] ![1, 512, 256] inb_S4x512x256_S1x512x256_2_0_0))))
    (k0_pay31 (View.ld (iblk m c 1 t) (Rect.unit ![3, 0, 0] ![1, 512, 256] inb_S4x512x256_S1x512x256_3_0_0)))

/-- What the point adds to the row of sums, at a column. -/
def part (T : Tab) (n k : ℕ) : ℝ := ∑ x ∈ range 512, T.row (512 * n + x) k

include f

theorem zq_eq (x : Fin 512) (j : Fin 256) : zq m c t (ix2 x j) = ((T.cq (512 * t.val + x) j : ℝ) : EReal) := by
  rw [← val3q m t f x j]
  unfold zq
  generalize iblk m c 3 t = X
  refine congrArg X (funext fun a => Fin.ext ((congrArg (![0, 0] a + ·) (Nat.one_mul _)).trans ?_))
  match a with
  | ⟨0, _⟩ => exact Nat.zero_add _
  | ⟨1, _⟩ => exact Nat.zero_add _

theorem zk_eq (x : Fin 512) (j : Fin 256) : zk m c t (ix2 x j) = ((T.ck (512 * t.val + x) j : ℝ) : EReal) := by
  rw [← val3k m t f x j]
  unfold zk
  generalize iblk m c 3 t = X
  refine congrArg X (funext fun a => Fin.ext ((congrArg (![0, 256] a + ·) (Nat.one_mul _)).trans ?_))
  match a with
  | ⟨0, _⟩ => exact Nat.zero_add _
  | ⟨1, _⟩ => exact rfl

theorem yq_blk (x : Fin 512) (j : Fin 256) : k0_pay33 (qLay m c t) (iblk m c 6 t) (ix2 x j) = ((T.yq (512 * t.val + x) j : ℝ) : EReal) :=
  (pay33_real (A := fun x => T.eq (512 * t.val + x)) (B := T.wqx) (fun r k => q_lay m t f (ix2 r k)) (val6 m t f) x j).trans
    (congrArg (fun a : ℝ => (a : EReal)) (T.yq_eq _ _))

theorem yk_blk (x : Fin 512) (j : Fin 256) : k0_pay34 (kLay m c t) (iblk m c 7 t) (ix2 x j) = ((T.yk (512 * t.val + x) j : ℝ) : EReal) :=
  (pay34_real (A := fun x => T.ek (512 * t.val + x)) (B := T.wkx) (fun r k => k_lay m t f (ix2 r k)) (val7 m t f) x j).trans
    (congrArg (fun a : ℝ => (a : EReal)) (T.yk_eq _ _))

theorem sk_blk (x : Fin 512) (d : Fin 256) : skBlk m c t (ix2 x d) = ((T.sk (512 * t.val + x) d : ℝ) : EReal) := by
  refine (pay32_apply _ _ _ _ x d).trans ((congrArg₂ (fun a b : EReal => a + b) (congrArg₂ (fun a b : EReal => a + b) (congrArg₂ (fun a b : EReal => a + b)
    ((ld_256 _ 0 _ x d).trans (val1 m t f 0 x d)) ((ld_256 _ 1 _ x d).trans (val1 m t f 1 x d))) ((ld_256 _ 2 _ x d).trans (val1 m t f 2 x d)))
    ((ld_256 _ 3 _ x d).trans (val1 m t f 3 x d))).trans ?_)
  unfold Tab.sk
  simp only [sum_range_succ, sum_range_zero, zero_add, ← EReal.coe_add]
  rfl

/-- The gradient's block, by its four pieces. -/
theorem dz_piece3 (x : S512x256.Idx) {n : ℕ} (hn : n = (x 1).val) :
    k0_pay46 (k0_pay37 (zq m c t)) (k0_pay39 (zq m c t)) (k0_pay40 (qLay m c t) (iblk m c 6 t) (iblk m c 8 t))
      (k0_pay41 (qLay m c t) (iblk m c 6 t) (zq m c t) (iblk m c 8 t)) x = ((T.dz (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  rw [pay46_eq]
  refine (pay1_apply _).trans ((pay43_real (X := fun x => T.cq (512 * t.val + x)) (Y := fun x => T.yq (512 * t.val + x)) (W := T.qn)
    (zq_eq m t f) (yq_blk m t f) (val8 m t f) a b).trans ?_)
  have hb : n = b.val := hn
  unfold Tab.dz
  rw [if_pos (by omega), hb]
  rfl

theorem dz_piece2 (x : S512x256.Idx) {n : ℕ} (hn : n = 256 + (x 1).val) :
    k0_pay1 (k0_pay43 (k0_pay34 (kLay m c t) (iblk m c 7 t)) (k0_pay36 (zk m c t)) (k0_pay38 (zk m c t)) (iblk m c 9 t)) x
      = ((T.dz (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  rw [pay36_eq]
  refine (pay1_apply _).trans ((pay43_real (X := fun x => T.ck (512 * t.val + x)) (Y := fun x => T.yk (512 * t.val + x)) (W := T.kn)
    (zk_eq m t f) (yk_blk m t f) (val9 m t f) a b).trans ?_)
  have hb : n = 256 + b.val := hn
  unfold Tab.dz
  rw [if_neg (by omega), if_pos (by omega), show n - 256 = b.val by omega]
  rfl

theorem dz_piece1 (x : S512x256.Idx) {n : ℕ} (hn : n = 512 + (x 1).val) :
    (k0_pay2 (k0_pay5 (iblk m c 4 t)) (skBlk m c t) x : EReal) = ((T.dz (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  refine (pay2_apply _ _ _).trans ?_
  rw [sk_blk m t f, c1_blk m t f, ← EReal.coe_mul]
  have hb : n = 512 + b.val := hn
  unfold Tab.dz
  rw [if_neg (by omega), if_neg (by omega), if_pos (by omega), show n - 512 = b.val by omega]
  rfl

theorem dz_piece0 (x : S512x256.Idx) {n : ℕ} (hn : n = 768 + (x 1).val) :
    (k0_pay3 (k0_pay6 (iblk m c 5 t)) (skBlk m c t) x : EReal) = ((T.dz (512 * t.val + (x 0).val) n : ℝ) : EReal) := by
  obtain ⟨a, b, rfl⟩ : ∃ (a : Fin 512) (b : Fin 256), x = ix2 a b := ⟨x 0, x 1, by ext a; match a with | ⟨0, _⟩ => rfl | ⟨1, _⟩ => rfl⟩
  rw [pay3_eq]
  refine (pay2_apply _ _ _).trans ?_
  rw [sk_blk m t f, s1_blk m t f, ← EReal.coe_mul]
  have hb : n = 768 + b.val := hn
  unfold Tab.dz
  rw [if_neg (by omega), if_neg (by omega), if_neg (by omega), show n - 768 = b.val by omega]
  rfl

/-- What the query's rows add to the row of sums, -/
theorem row_q (P : Vec Ideal S1x256 .f32) (x : S1x256.Idx) {n : ℕ} (hn : n = (x 1).val) :
    (k0_pay44 (k0_pay33 (qLay m c t) (iblk m c 6 t)) (k0_pay39 (zq m c t)) P x : EReal) = P x + ((part T t.val n : ℝ) : EReal) := by
  refine (pay44_apply _ _ _ x).trans (congrArg (P x + ·) ?_)
  rw [pay39_eq]
  have hx : (x 1).val < 256 := (x 1).isLt
  refine (sum_coe (f := fun i => T.yq (512 * t.val + i) (x 1).val) (g := fun i => xh (T.cq (512 * t.val + i)) (x 1).val)
    (fun i => yq_blk m t f i (x 1)) fun i => pay42_real (X := fun x => T.cq (512 * t.val + x)) (zq_eq m t f) i (x 1)).trans
    (congrArg (fun a : ℝ => (a : EReal)) (sum_congr rfl fun i _ => ?_))
  unfold Tab.row
  rw [if_pos (by omega), hn]

/-- and the key's and value's. -/
theorem row_k (P : Vec Ideal S1x256 .f32) (x : S1x256.Idx) {n : ℕ} (hn : n = 256 + (x 1).val) :
    (k0_pay45 (k0_pay34 (kLay m c t) (iblk m c 7 t)) (k0_pay36 (zk m c t)) (k0_pay38 (zk m c t)) P x : EReal) = P x + ((part T t.val n : ℝ) : EReal) := by
  rw [pay45_eq, pay36_eq]
  refine (pay44_apply _ _ _ x).trans (congrArg (P x + ·) ?_)
  refine (sum_coe (f := fun i => T.yk (512 * t.val + i) (x 1).val) (g := fun i => xh (T.ck (512 * t.val + i)) (x 1).val)
    (fun i => yk_blk m t f i (x 1)) fun i => pay42_real (X := fun x => T.ck (512 * t.val + x)) (zk_eq m t f) i (x 1)).trans
    (congrArg (fun a : ℝ => (a : EReal)) (sum_congr rfl fun i _ => ?_))
  unfold Tab.row
  rw [if_neg (by omega), show n - 256 = (x 1).val by omega]

end Cert.MlaBwdIdeal.Value
-- ==== Proof.Mla.Points.lean ====
module

public import proofs.«01_k».proof.Proof.Mla.Cases

/-! A grid point's block of the gradient, and the row of sums after it. -/

@[expose] public section

set_option maxRecDepth 16384

noncomputable section

namespace Cert.MlaBwdIdeal.Value

open Finset Cert.MlaBwdIdeal Cert.MlaBwdIdeal.Gen Idealize.ShloMosaic Idealize.ShloMosaic.TcCoe Idealize.SL.Sem
open Idealize.ShloMosaic.Pipeline (Dat)

variable (m : (ℓ : Loc nD τ sig) → Buf (Elt Ideal) ℓ) {c : Dev nD} (t : Fin cfg0.N) {T : Tab} (f : Ok m c T)

include f

theorem case10A (h : t.val % 8 = 0) (y : S512x1024.Idx) :
    (show FVec Ideal S512x1024 .bf16 from (outsAt0 m c t.val t.isLt).1) y = ((T.dz (512 * t.val + (y 0).val) (y 1).val : ℝ) : EReal) := by
  rw [outsAt0_A m c t h]
  frame_out
  canon_tiles x h <;> rw [h0]
  · exact dz_piece0 m t f x h1
  · exact dz_piece1 m t f x h1
  · exact dz_piece2 m t f x h1
  · exact dz_piece3 m t f x h1

theorem case10B (h : ¬ t.val % 8 = 0) (y : S512x1024.Idx) :
    (show FVec Ideal S512x1024 .bf16 from (outsAt0 m c t.val t.isLt).1) y = ((T.dz (512 * t.val + (y 0).val) (y 1).val : ℝ) : EReal) := by
  rw [outsAt0_B m c t h]
  frame_out
  canon_tiles x h <;> rw [h0]
  · exact dz_piece0 m t f x h1
  · exact dz_piece1 m t f x h1
  · exact dz_piece2 m t f x h1
  · exact dz_piece3 m t f x h1

/-- A grid point's block of the gradient. -/
theorem case10 (y : S512x1024.Idx) :
    (show FVec Ideal S512x1024 .bf16 from (outsAt0 m c t.val t.isLt).1) y = ((T.dz (512 * t.val + (y 0).val) (y 1).val : ℝ) : EReal) :=
  (Decidable.em (t.val % 8 = 0)).elim (fun h => case10A m t f h y) fun h => case10B m t f h y

/-- The first point starts the row of sums, -/
theorem case13A (h : t.val % 8 = 0) (y : S1x512.Idx) :
    (show FVec Ideal S1x512 .f32 from (outsAt0 m c t.val t.isLt).2.2.2) y = ((part T t.val (y 1).val : ℝ) : EReal) := by
  rw [outsAt0_A m c t h]
  frame_out
  simp (disch := decide) only [↓ View.readCov_skip, ↓ View.readCov_cons_toLoadRect, ↓ View.readCov_fill]
  have zero : ∀ y : S1x512.Idx, (k0_pay4 (F := Ideal) y : EReal) = 0 := pay4_apply
  refine View.canon_append_of_piecesOf (Val := Elt Ideal) (s := S1x512) (e := .f32) (fun y => ((part T t.val (y 1).val : ℝ) : EReal)) [_] [_, _]
    (And.intro (fun x => ?_) (And.intro (fun x => ?_) trivial)) y (View.cover_of_tiledL _ ![1, 256] ?_ y)
  · refine (row_k m t f _ x (n := 256 + (x 1).val) rfl).trans ((congrArg₂ _ (zero ((Rect.unit (s := S1x512) _ ![1, 256] _).idx x)) rfl).trans ((zero_add (M := EReal) _).trans ?_))
    exact congrArg (fun n => ((part T t.val n : ℝ) : EReal)) (by simp)
  · refine (row_q m t f _ x (n := (x 1).val) rfl).trans ((congrArg₂ _ (zero ((Rect.unit (s := S1x512) _ ![1, 256] _).idx x)) rfl).trans ((zero_add (M := EReal) _).trans ?_))
    exact congrArg (fun n => ((part T t.val n : ℝ) : EReal)) (by simp)
  · rfl

/-- and the others add to it. -/
theorem case13B (h : ¬ t.val % 8 = 0) (y : S1x512.Idx) :
    (show FVec Ideal S1x512 .f32 from (outsAt0 m c t.val t.isLt).2.2.2) y
      = (show FVec Ideal S1x512 .f32 from (outsAt0 m c (t.val - 1) (Nat.lt_of_le_of_lt (Nat.sub_le _ _) t.isLt)).2.2.2) y + ((part T t.val (y 1).val : ℝ) : EReal) := by
  rw [outsAt0_B m c t h]
  frame_out
  generalize hp : (outsAt0 m c (t.val - 1) _).2.2.2 = prev
  canon_tiles x h
  · refine (row_k m t f _ x h1).trans (congrArg (fun a : EReal => a + _) ?_)
    pointwise [h0, h1]
    exact congrArg prev (by blk_ext [h0, h1])
  · refine (row_q m t f _ x h1).trans (congrArg (fun a : EReal => a + _) ?_)
    pointwise [h0, h1]
    exact congrArg prev (by blk_ext [h0, h1])

end Cert.MlaBwdIdeal.Value
-- ==== Proof.Mla.Claim.lean ====
module

public import proofs.«01_k».proof.Defs
public import proofs.«01_k».proof.Proof.Gen.Pre_mla_finite
public import proofs.«01_k».proof.Proof.Gen.MlaBwdIdeal.Value
public import proofs.«01_k».proof.Proof.Mla.Points
public import proofs.«01_k».proof.Proof.Mlp.Claim

/-! The latent attention projections' backward call computes the reference's gradients. -/

@[expose] public section

set_option maxRecDepth 16384

noncomputable section

namespace Cert.MlaBwdRefIdeal.Read

open Finset Cert.MlaBwdRefIdeal Cert.MlaBwdIdeal.Value Idealize.ShloMosaic Idealize.ShloMosaic.TcCoe Idealize.SL.Sem
open Cert.MlpBwdIdeal.Value (arrayOf array_eq)

variable {x0 x1 : FVec Ideal S4096x256 .f32} {x2 : (⟨1, ![4096]⟩ : Shape).Idx → BitVec 32} {x3 x4 : FVec Ideal S1x256 .f32} {x5 : FVec Ideal S256x768 .f32}
  {x6 : FVec Ideal S256x1024 .f32} {x7 x8 : FVec Ideal S4x4096x192 .f32} {x9 : FVec Ideal S4x4096x128 .f32} {T : Tab}
  (f : Holds x0 x1 x2 x3 x4 x5 x6 x7 x8 x9 T)

include f

theorem dz_array : val_main_v162 (F := Ideal) x0 x1 x2 x3 x4 x5 x6 x7 x8 x9 = arrayOf (a := 4096) (b := 1024) T.dz := by
  have e := fun (r : Fin 4096) (k : Fin 1024) => dz_line f r k
  unfold val_main_v162
  generalize val_main_v161 (F := Ideal) x0 x1 x2 x3 x4 x5 x6 x7 x8 x9 = a at *
  exact array_eq fun r k => e r k

theorem dnw_array : val_main_v163 (F := Ideal) x0 x1 x2 x5 x6 x7 x8 x9 = arrayOf (a := 1) (b := 512) (fun _ => T.dnw 4096) := by
  refine array_eq fun z k => ?_
  rw [Subsingleton.elim z 0]
  exact dnw_line f k

end Cert.MlaBwdRefIdeal.Read

namespace Cert.MlaBwdIdeal.Value

open Finset Cert.MlaBwdIdeal Cert.MlaBwdIdeal.Gen Idealize.ShloMosaic Idealize.ShloMosaic.TcCoe Idealize.SL.Sem
open Cert.Common (real_of_lt)
open Cert.MlpBwdIdeal.Value (arrayOf)

variable (m : (ℓ : Loc nD τ sig) → Buf (Elt Ideal) ℓ) (c : Dev nD) {T : Tab} (f : Ok m c T)

include f

/-- The gradient, as the kernel leaves it. -/
theorem arr10 : (dats m 0 c).arrAt 10 cfg0.N = arrayOf (a := 4096) (b := 1024) T.dz := by
  refine (dats m 0 c).arrAt_eq_of_covers 10 _ (by decide +kernel) fun t hf y => ?_
  blk_simp
  rw [after0_10]
  obtain ⟨x, k, rfl⟩ : ∃ (x : Fin 512) (k : Fin 1024), y = ix2 x k := ⟨y 0, y 1, by ext a; match a with | ⟨0, _⟩ => rfl | ⟨1, _⟩ => rfl⟩
  have e : (win0_10.blk t).view.emb (ix2 x k) = (ix2 ⟨512 * t.val + x.val, rows t x⟩ k : S4096x1024.Idx) := by blk_ext [idx t]
  rw [e]
  exact case10 m t f (ix2 x k)

/-- The row of sums after a grid point: the rows read so far. -/
theorem sums_at (n : ℕ) : ∀ (h : n < cfg0.N) (y : S1x512.Idx), (show FVec Ideal S1x512 .f32 from (outsAt0 m c n h).2.2.2) y
    = ((T.dnw (512 * (n + 1)) (y 1).val : ℝ) : EReal) := by
  induction n with
  | zero =>
    refine fun h y => (case13A m ⟨0, h⟩ f rfl y).trans (congrArg (fun a : ℝ => (a : EReal)) ?_)
    unfold part Tab.dnw
    simp
  | succ n ih =>
    intro h y
    have hN : n + 1 < 8 := h
    refine (case13B m ⟨n + 1, h⟩ f (show ¬ (n + 1) % 8 = 0 by omega) y).trans ?_
    refine (congrArg (fun a : EReal => a + ((part T (n + 1) (y 1).val : ℝ) : EReal)) (ih (by omega) y)).trans ?_
    unfold Tab.dnw
    rw [← EReal.coe_add, show 512 * (n + 1 + 1) = 512 * (n + 1) + 512 by omega, sum_range_add]
    rfl

/-- The row of sums, as the kernel leaves it. -/
theorem arr13 : (dats m 0 c).arrAt 13 cfg0.N = arrayOf (a := 1) (b := 512) (fun _ => T.dnw 4096) := by
  refine (dats m 0 c).arrAt_eq_of_after_last 13 t0_7 (by decide +kernel) _ fun j => ?_
  blk_simp
  rw [after0_13]
  exact sums_at m c f 7 (by decide) j

omit f in
/-- The call's value claim: for finite arguments it computes the derivative of the projections. -/
theorem algebraic : Cert.algebraic_MlaBwdIdeal_MlaBwdRefIdeal_pre_mla_finite := by
  intro m g m' g' hpre hagree
  refine ⟨_, _, (θ_run _ _ _).mono (fun r h c => ⟨(h c).1, (h c).2.2.2⟩) (run_blocks m g), ?_⟩
  refine (θ_run _ _ _).mono (fun r h c => ?_) (Cert.MlaBwdRefIdeal.Value.run m' g')
  obtain ⟨h0, h1, h2⟩ := h c
  obtain ⟨e0, e1, e2, e3, e4, e5, e6, e7, e8, e9⟩ := hagree c
  obtain ⟨p0, p1, p2, p3, p4, p5, p6, p7, p8⟩ := hpre c
  obtain ⟨T, f⟩ := (⟨_, holds _ _ _ _ _ _ _ _ _ _ (fun i => real_of_lt (congrFun p0 i)) (fun i => real_of_lt (congrFun p1 i)) (fun i => real_of_lt (congrFun p2 i))
    (fun i => real_of_lt (congrFun p3 i)) (fun i => real_of_lt (congrFun p4 i)) (fun i => real_of_lt (congrFun p5 i)) (fun i => real_of_lt (congrFun p6 i))
    (fun i => real_of_lt (congrFun p7 i)) (fun i => real_of_lt (congrFun p8 i))⟩ : ∃ T, Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) T)
  have fk : Ok m c T := by
    unfold Ok
    rw [V_main_arg0, V_main_arg1, V_main_arg2, V_main_arg3, V_main_arg4, V_main_arg5, V_main_arg6, V_main_arg7, V_main_arg8, V_main_arg9]
    exact f
  have fr : Holds (m' ((c : Thread nD τ).loc Cert.MlaBwdRefIdeal.main_arg0)) (m' ((c : Thread nD τ).loc Cert.MlaBwdRefIdeal.main_arg1)) (m' ((c : Thread nD τ).loc Cert.MlaBwdRefIdeal.main_arg2))
      (m' ((c : Thread nD τ).loc Cert.MlaBwdRefIdeal.main_arg3)) (m' ((c : Thread nD τ).loc Cert.MlaBwdRefIdeal.main_arg4)) (m' ((c : Thread nD τ).loc Cert.MlaBwdRefIdeal.main_arg5))
      (m' ((c : Thread nD τ).loc Cert.MlaBwdRefIdeal.main_arg6)) (m' ((c : Thread nD τ).loc Cert.MlaBwdRefIdeal.main_arg7)) (m' ((c : Thread nD τ).loc Cert.MlaBwdRefIdeal.main_arg8))
      (m' ((c : Thread nD τ).loc Cert.MlaBwdRefIdeal.main_arg9)) T := by
    rw [e0, e1, e2, e3, e4, e5, e6, e7, e8, e9]
    exact f
  refine ⟨h0.trans ?_, h1.trans ?_, h2⟩
  · exact (Cert.MlaBwdRefIdeal.Read.val_main_v162_eq _).trans ((Cert.MlaBwdRefIdeal.Read.dz_array fr).trans (arr10 m c fk).symm)
  · exact (Cert.MlaBwdRefIdeal.Read.val_main_v163_eq _).trans ((Cert.MlaBwdRefIdeal.Read.dnw_array fr).trans (arr13 m c fk).symm)

end Cert.MlaBwdIdeal.Value
-- ==== Proof.lean ====
module

public import proofs.«01_k».proof.Defs
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.Pre_input_finite
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.In.Claim
public import proofs.«01_k».proof.Proof.Gen.AttnBwd
public import proofs.«01_k».proof.Proof.Gen.AttnBwdIdeal
public import proofs.«01_k».proof.Proof.Gen.AttnBwdRefIdeal
public import proofs.«01_k».proof.Proof.Gen.AttnBwdRefIdeal.Run
public import proofs.«01_k».proof.Proof.Gen.Pre_attn_finite
public import proofs.«01_k».proof.Proof.Attn.Bits
public import proofs.«01_k».proof.Proof.Attn.Claim
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Frame
public import proofs.«01_k».proof.Proof.Gen.MlpBwdRefIdeal
public import proofs.«01_k».proof.Proof.Gen.MlpBwdRefIdeal.Run
public import proofs.«01_k».proof.Proof.Gen.Pre_mlp_finite
public import proofs.«01_k».proof.Proof.Mlp.Claim
public import proofs.«01_k».proof.Proof.Gen.MlpFwd
public import proofs.«01_k».proof.Proof.Gen.MlpFwd.Frame
public import proofs.«01_k».proof.Proof.Gen.MlpFwdIdeal
public import proofs.«01_k».proof.Proof.Gen.MlpFwdIdeal.Frame
public import proofs.«01_k».proof.Proof.Gen.MlpFwdRefIdeal
public import proofs.«01_k».proof.Proof.Gen.MlpFwdRefIdeal.Run
public import proofs.«01_k».proof.Proof.Gen.Pre_mlf_finite
public import proofs.«01_k».proof.Proof.Fwd.Claim
public import proofs.«01_k».proof.Proof.Gen.MlaBwd
public import proofs.«01_k».proof.Proof.Gen.MlaBwd.Frame
public import proofs.«01_k».proof.Proof.Gen.MlaBwdIdeal
public import proofs.«01_k».proof.Proof.Gen.MlaBwdIdeal.Frame
public import proofs.«01_k».proof.Proof.Gen.MlaBwdRefIdeal
public import proofs.«01_k».proof.Proof.Gen.MlaBwdRefIdeal.Run
public import proofs.«01_k».proof.Proof.Gen.Pre_mla_finite
public import proofs.«01_k».proof.Proof.Mla.Claim
public import Idealize.ShloMosaic.Adequacy
public import Idealize.ShloMosaic.Init

@[expose] public section

noncomputable section

namespace Cert.Proof

open Idealize.ShloMosaic Idealize.SL.Sem Cert.InBwd

/-- The reference of the input projection's backward runs, keeps its arguments, and has no counters. -/
theorem frame_in_ref : Cert.quiescent_InBwdRefIdeal := fun m ρ _ =>
  (θ_run _ _ _).mono (fun r h => ⟨fun c => (h c).2.2, sem_eq_zero_of_no_sems (by decide) r.2⟩)
    (Cert.InBwdRefIdeal.Value.run (F := Ideal) m ρ)

/-- The reference of the attention's backward runs, keeps its arguments, and has no counters. -/
theorem frame_attn_ref : Cert.quiescent_AttnBwdRefIdeal := fun m ρ _ =>
  (θ_run _ _ _).mono (fun r h => ⟨fun c => (h c).2.2.2, sem_eq_zero_of_no_sems (by decide) r.2⟩)
    (Cert.AttnBwdRefIdeal.Value.run (F := Ideal) m ρ)

/-- The reference of the feed-forward layer's backward runs, keeps its arguments, and has no counters. -/
theorem frame_mlp_ref : Cert.quiescent_MlpBwdRefIdeal := fun m ρ _ =>
  (θ_run _ _ _).mono (fun r h => ⟨fun c => (h c).2.2.2.2, sem_eq_zero_of_no_sems (by decide) r.2⟩)
    (Cert.MlpBwdRefIdeal.Value.run (F := Ideal) m ρ)

/-- The reference of the latent attention projections' backward runs, keeps its arguments, and has no counters. -/
theorem frame_mla_ref : Cert.quiescent_MlaBwdRefIdeal := fun m ρ _ =>
  (θ_run _ _ _).mono (fun r h => ⟨fun c => (h c).2.2, sem_eq_zero_of_no_sems (by decide) r.2⟩)
    (Cert.MlaBwdRefIdeal.Value.run (F := Ideal) m ρ)

/-- The reference of the feed-forward layer's forward call with the loss runs, keeps its arguments, and has no counters. -/
theorem frame_mlf_ref : Cert.quiescent_MlpFwdRefIdeal := fun m ρ _ =>
  (θ_run _ _ _).mono (fun r h => ⟨fun c => (h c).2.2.2.2, sem_eq_zero_of_no_sems (by decide) r.2⟩)
    (Cert.MlpFwdRefIdeal.Value.run (F := Ideal) m ρ)

/-- Everything the certificate claims. -/
theorem claim : Cert.Claim := ⟨Cert.InBwd.Gen.facts, Cert.InBwdIdeal.Gen.facts, Cert.InBwdRefIdeal.Gen.facts,
  Cert.AttnBwd.Gen.facts, Cert.AttnBwdIdeal.Gen.facts, Cert.AttnBwdRefIdeal.Gen.facts,
  Cert.MlpBwd.Gen.facts, Cert.MlpBwdIdeal.Gen.facts, Cert.MlpBwdRefIdeal.Gen.facts,
  Cert.MlaBwd.Gen.facts, Cert.MlaBwdIdeal.Gen.facts, Cert.MlaBwdRefIdeal.Gen.facts,
  Cert.MlpFwd.Gen.facts, Cert.MlpFwdIdeal.Gen.facts, Cert.MlpFwdRefIdeal.Gen.facts,
  Cert.Pre_input_finite.Gen.facts, Cert.Pre_attn_finite.Gen.facts, Cert.Pre_mlp_finite.Gen.facts, Cert.Pre_mla_finite.Gen.facts, Cert.Pre_mlf_finite.Gen.facts,
  fun m ρ _ => Cert.InBwd.Gen.frame m ρ,
  fun m ρ _ => Cert.InBwdIdeal.Gen.frame m ρ,
  fun m ρ _ => Cert.InBwdIdeal.Gen.frame m ρ,
  frame_in_ref,
  fun m ρ h => frame_in_ref m ρ trivial,
  Cert.AttnBwdIdeal.Run.frame_bits,
  fun m ρ _ => Cert.AttnBwdIdeal.Run.frame_attn (F := Ideal) m ρ,
  fun m ρ _ => Cert.AttnBwdIdeal.Run.frame_attn (F := Ideal) m ρ,
  frame_attn_ref,
  fun m ρ h => frame_attn_ref m ρ trivial,
  fun m ρ _ => Cert.MlpBwd.Gen.frame m ρ,
  fun m ρ _ => Cert.MlpBwdIdeal.Gen.frame m ρ,
  fun m ρ _ => Cert.MlpBwdIdeal.Gen.frame m ρ,
  frame_mlp_ref,
  fun m ρ h => frame_mlp_ref m ρ trivial,
  fun m ρ _ => Cert.MlaBwd.Gen.frame m ρ,
  fun m ρ _ => Cert.MlaBwdIdeal.Gen.frame m ρ,
  fun m ρ _ => Cert.MlaBwdIdeal.Gen.frame m ρ,
  frame_mla_ref,
  fun m ρ h => frame_mla_ref m ρ trivial,
  fun m ρ _ => Cert.MlpFwd.Gen.frame m ρ,
  fun m ρ _ => Cert.MlpFwdIdeal.Gen.frame m ρ,
  fun m ρ _ => Cert.MlpFwdIdeal.Gen.frame m ρ,
  frame_mlf_ref,
  fun m ρ h => frame_mlf_ref m ρ trivial,
  trivial,
  Cert.InBwdIdeal.Value.algebraic,
  IdealRules.named_const.statement Cert.AttnBwdIdeal.κ "ln2" .f32 0x3F317218#32 _ rfl,
  Cert.AttnBwdIdeal.Value.algebraic,
  trivial,
  Cert.MlpBwdIdeal.Value.algebraic,
  trivial,
  Cert.MlaBwdIdeal.Value.algebraic,
  trivial,
  Cert.MlpFwdIdeal.Value.algebraic⟩

end Cert.Proof

end
